-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S_ : Shape := ⟨0, ![]⟩
abbrev S16 : Shape := ⟨1, ![16]⟩
abbrev S4096x512 : Shape := ⟨2, ![4096, 512]⟩
abbrev S1 : Shape := ⟨1, ![1]⟩
abbrev S16x256x512 : Shape := ⟨3, ![16, 256, 512]⟩
abbrev S16x8x128 : Shape := ⟨3, ![16, 8, 128]⟩
abbrev S256x512 : Shape := ⟨2, ![256, 512]⟩
abbrev S1x256x512 : Shape := ⟨3, ![1, 256, 512]⟩
abbrev S1x1x1 : Shape := ⟨3, ![1, 1, 1]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 35
  | .vmem => 10
  | .smem => 2
  | _ => 0

abbrev bufTy : (tb : Table) → Fin (tcTables nBuf tb) → BufTy
  | .hbm, ⟨0, _⟩ => ⟨S256x4096, .bf16⟩
  | .hbm, ⟨1, _⟩ => ⟨S4096x8192, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S_, .i32⟩
  | .hbm, ⟨28, _⟩ => ⟨S_, .i1⟩
  | .hbm, ⟨29, _⟩ => ⟨S16, .i1⟩
  | .hbm, ⟨30, _⟩ => ⟨S16, .i1⟩
  | .hbm, ⟨31, _⟩ => ⟨S16, .i1⟩
  | .hbm, ⟨32, _⟩ => ⟨S16, .i32⟩
  | .hbm, ⟨33, _⟩ => ⟨S16, .i32⟩
  | .hbm, ⟨34, _⟩ => ⟨S4096x512, .f32⟩
  | .local _ .vmem, ⟨0, _⟩ => ⟨S256x4096, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .f32⟩
  | .local _ .vmem, ⟨4, _⟩ => ⟨S256x4096, .bf16⟩
  | .local _ .vmem, ⟨5, _⟩ => ⟨S16x256x512, .bf16⟩
  | .local _ .vmem, ⟨6, _⟩ => ⟨S16x256x512, .fp8e4m3⟩
  | .local _ .vmem, ⟨7, _⟩ => ⟨S16x256x512, .bf16⟩
  | .local _ .vmem, ⟨8, _⟩ => ⟨S16x256x512, .fp8e4m3⟩
  | .local _ .vmem, ⟨9, _⟩ => ⟨S16x8x128, .f32⟩
  | .local _ .smem, ⟨0, _⟩ => ⟨S16, .i32⟩
  | .local _ .smem, ⟨1, _⟩ => ⟨S1, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨1, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v10 : Ref sig .tc := ⟨.hbm, 34, rfl⟩
abbrev main_v9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 16
abbrev τ : Topo := Topo.v7x

variable {F : FTy → Type} [FloatOps F]

abbrev grid0 : Pipeline.Grid := ⟨1, ![16], ![false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v3 : Index := Scalar.indexCast arg0
  ![v3.toNat]
def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_0 : BitVec 32 := 0#32
  let v7 : BitVec 1 := Scalar.cmpi .ne v6 c0_i32_0
  v7

def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_15 : BitVec 32 := 1#32
  let v38 : BitVec 32 := Scalar.addi v2 c1_i32_15
  let c16_i32_16 : BitVec 32 := 16#32
  let c0_i32_17 : BitVec 32 := 0#32
  let v39 : BitVec 1 := Scalar.cmpi .eq c16_i32_16 c0_i32_17
  let c1_i32_18 : BitVec 32 := 1#32
  let v40 : BitVec 32 := Scalar.select v39 c1_i32_18 c16_i32_16
  let v41 : BitVec 32 := Scalar.remsi v38 v40
  let c0_i32_20 : BitVec 32 := 0#32
  let v43 : BitVec 1 := Scalar.cmpi .slt v41 c0_i32_20
  let c0_i32_21 : BitVec 32 := 0#32
  let v44 : BitVec 1 := Scalar.cmpi .slt v40 c0_i32_21
  let v45 : BitVec 1 := Scalar.xori v43 v44
  let c0_i32_19 : BitVec 32 := 0#32
  let v42 : BitVec 1 := Scalar.cmpi .ne v41 c0_i32_19
  let v46 : BitVec 1 := Scalar.andi v45 v42
  let v47 : BitVec 32 := Scalar.addi v41 v40
  let v48 : BitVec 32 := Scalar.select v46 v47 v41
  let c1_i32_23 : BitVec 32 := 1#32
  let v49 : BitVec 32 := Scalar.muli v48 c1_i32_23
  let v50 : BitVec 32 := Scalar.addi c0_i32_24 v49
  v50.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v51 : BitVec 32 := Scalar.addi v2 c2_i32
  let c16_i32_25 : BitVec 32 := 16#32
  let c0_i32_26 : BitVec 32 := 0#32
  let v52 : BitVec 1 := Scalar.cmpi .eq c16_i32_25 c0_i32_26
  let c1_i32_27 : BitVec 32 := 1#32
  let v53 : BitVec 32 := Scalar.select v52 c1_i32_27 c16_i32_25
  let v54 : BitVec 32 := Scalar.remsi v51 v53
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let c0_i32_28 : BitVec 32 := 0#32
  let v55 : BitVec 1 := Scalar.cmpi .ne v54 c0_i32_28
  let v59 : BitVec 1 := Scalar.andi v58 v55
  let v60 : BitVec 32 := Scalar.addi v54 v53
  let v61 : BitVec 32 := Scalar.select v59 v60 v54
  let c1_i32_32 : BitVec 32 := 1#32
  let v62 : BitVec 32 := Scalar.muli v61 c1_i32_32
  let v63 : BitVec 32 := Scalar.addi c0_i32_33 v62
  v63.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v64 : BitVec 32 := Scalar.addi v2 c3_i32
  let c16_i32_34 : BitVec 32 := 16#32
  let c0_i32_35 : BitVec 32 := 0#32
  let v65 : BitVec 1 := Scalar.cmpi .eq c16_i32_34 c0_i32_35
  let c1_i32_36 : BitVec 32 := 1#32
  let v66 : BitVec 32 := Scalar.select v65 c1_i32_36 c16_i32_34
  let v67 : BitVec 32 := Scalar.remsi v64 v66
  let c0_i32_38 : BitVec 32 := 0#32
  let v69 : BitVec 1 := Scalar.cmpi .slt v67 c0_i32_38
  let c0_i32_39 : BitVec 32 := 0#32
  let v70 : BitVec 1 := Scalar.cmpi .slt v66 c0_i32_39
  let v71 : BitVec 1 := Scalar.xori v69 v70
  let c0_i32_37 : BitVec 32 := 0#32
  let v68 : BitVec 1 := Scalar.cmpi .ne v67 c0_i32_37
  let v72 : BitVec 1 := Scalar.andi v71 v68
  let v73 : BitVec 32 := Scalar.addi v67 v66
  let v74 : BitVec 32 := Scalar.select v72 v73 v67
  let c1_i32_41 : BitVec 32 := 1#32
  let v75 : BitVec 32 := Scalar.muli v74 c1_i32_41
  let v76 : BitVec 32 := Scalar.addi c0_i32_42 v75
  v76.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v77 : BitVec 32 := Scalar.addi v2 c4_i32
  let c16_i32_43 : BitVec 32 := 16#32
  let c0_i32_44 : BitVec 32 := 0#32
  let v78 : BitVec 1 := Scalar.cmpi .eq c16_i32_43 c0_i32_44
  let c1_i32_45 : BitVec 32 := 1#32
  let v79 : BitVec 32 := Scalar.select v78 c1_i32_45 c16_i32_43
  let v80 : BitVec 32 := Scalar.remsi v77 v79
  let c0_i32_47 : BitVec 32 := 0#32
  let v82 : BitVec 1 := Scalar.cmpi .slt v80 c0_i32_47
  let c0_i32_48 : BitVec 32 := 0#32
  let v83 : BitVec 1 := Scalar.cmpi .slt v79 c0_i32_48
  let v84 : BitVec 1 := Scalar.xori v82 v83
  let c0_i32_46 : BitVec 32 := 0#32
  let v81 : BitVec 1 := Scalar.cmpi .ne v80 c0_i32_46
  let v85 : BitVec 1 := Scalar.andi v84 v81
  let v86 : BitVec 32 := Scalar.addi v80 v79
  let v87 : BitVec 32 := Scalar.select v85 v86 v80
  let c1_i32_50 : BitVec 32 := 1#32
  let v88 : BitVec 32 := Scalar.muli v87 c1_i32_50
  let v89 : BitVec 32 := Scalar.addi c0_i32_51 v88
  v89.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v90 : BitVec 32 := Scalar.addi v2 c5_i32
  let c16_i32_52 : BitVec 32 := 16#32
  let c0_i32_53 : BitVec 32 := 0#32
  let v91 : BitVec 1 := Scalar.cmpi .eq c16_i32_52 c0_i32_53
  let c1_i32_54 : BitVec 32 := 1#32
  let v92 : BitVec 32 := Scalar.select v91 c1_i32_54 c16_i32_52
  let v93 : BitVec 32 := Scalar.remsi v90 v92
  let c0_i32_56 : BitVec 32 := 0#32
  let v95 : BitVec 1 := Scalar.cmpi .slt v93 c0_i32_56
  let c0_i32_57 : BitVec 32 := 0#32
  let v96 : BitVec 1 := Scalar.cmpi .slt v92 c0_i32_57
  let v97 : BitVec 1 := Scalar.xori v95 v96
  let c0_i32_55 : BitVec 32 := 0#32
  let v94 : BitVec 1 := Scalar.cmpi .ne v93 c0_i32_55
  let v98 : BitVec 1 := Scalar.andi v97 v94
  let v99 : BitVec 32 := Scalar.addi v93 v92
  let v100 : BitVec 32 := Scalar.select v98 v99 v93
  let c1_i32_59 : BitVec 32 := 1#32
  let v101 : BitVec 32 := Scalar.muli v100 c1_i32_59
  let v102 : BitVec 32 := Scalar.addi c0_i32_60 v101
  v102.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v103 : BitVec 32 := Scalar.addi v2 c6_i32
  let c16_i32_61 : BitVec 32 := 16#32
  let c0_i32_62 : BitVec 32 := 0#32
  let v104 : BitVec 1 := Scalar.cmpi .eq c16_i32_61 c0_i32_62
  let c1_i32_63 : BitVec 32 := 1#32
  let v105 : BitVec 32 := Scalar.select v104 c1_i32_63 c16_i32_61
  let v106 : BitVec 32 := Scalar.remsi v103 v105
  let c0_i32_65 : BitVec 32 := 0#32
  let v108 : BitVec 1 := Scalar.cmpi .slt v106 c0_i32_65
  let c0_i32_66 : BitVec 32 := 0#32
  let v109 : BitVec 1 := Scalar.cmpi .slt v105 c0_i32_66
  let v110 : BitVec 1 := Scalar.xori v108 v109
  let c0_i32_64 : BitVec 32 := 0#32
  let v107 : BitVec 1 := Scalar.cmpi .ne v106 c0_i32_64
  let v111 : BitVec 1 := Scalar.andi v110 v107
  let v112 : BitVec 32 := Scalar.addi v106 v105
  let v113 : BitVec 32 := Scalar.select v111 v112 v106
  let c1_i32_68 : BitVec 32 := 1#32
  let v114 : BitVec 32 := Scalar.muli v113 c1_i32_68
  let v115 : BitVec 32 := Scalar.addi c0_i32_69 v114
  v115.toNat
def k0_dev7 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_70 : BitVec 32 := 7#32
  let v116 : BitVec 32 := Scalar.addi v2 c7_i32_70
  let c16_i32_71 : BitVec 32 := 16#32
  let c0_i32_72 : BitVec 32 := 0#32
  let v117 : BitVec 1 := Scalar.cmpi .eq c16_i32_71 c0_i32_72
  let c1_i32_73 : BitVec 32 := 1#32
  let v118 : BitVec 32 := Scalar.select v117 c1_i32_73 c16_i32_71
  let v119 : BitVec 32 := Scalar.remsi v116 v118
  let c0_i32_75 : BitVec 32 := 0#32
  let v121 : BitVec 1 := Scalar.cmpi .slt v119 c0_i32_75
  let c0_i32_76 : BitVec 32 := 0#32
  let v122 : BitVec 1 := Scalar.cmpi .slt v118 c0_i32_76
  let v123 : BitVec 1 := Scalar.xori v121 v122
  let c0_i32_74 : BitVec 32 := 0#32
  let v120 : BitVec 1 := Scalar.cmpi .ne v119 c0_i32_74
  let v124 : BitVec 1 := Scalar.andi v123 v120
  let v125 : BitVec 32 := Scalar.addi v119 v118
  let v126 : BitVec 32 := Scalar.select v124 v125 v119
  let c1_i32_78 : BitVec 32 := 1#32
  let v127 : BitVec 32 := Scalar.muli v126 c1_i32_78
  let v128 : BitVec 32 := Scalar.addi c0_i32_79 v127
  v128.toNat
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v129 : BitVec 32 := Scalar.addi v2 c8_i32
  let c16_i32_80 : BitVec 32 := 16#32
  let c0_i32_81 : BitVec 32 := 0#32
  let v130 : BitVec 1 := Scalar.cmpi .eq c16_i32_80 c0_i32_81
  let c1_i32_82 : BitVec 32 := 1#32
  let v131 : BitVec 32 := Scalar.select v130 c1_i32_82 c16_i32_80
  let v132 : BitVec 32 := Scalar.remsi v129 v131
  let c0_i32_84 : BitVec 32 := 0#32
  let v134 : BitVec 1 := Scalar.cmpi .slt v132 c0_i32_84
  let c0_i32_85 : BitVec 32 := 0#32
  let v135 : BitVec 1 := Scalar.cmpi .slt v131 c0_i32_85
  let v136 : BitVec 1 := Scalar.xori v134 v135
  let c0_i32_83 : BitVec 32 := 0#32
  let v133 : BitVec 1 := Scalar.cmpi .ne v132 c0_i32_83
  let v137 : BitVec 1 := Scalar.andi v136 v133
  let v138 : BitVec 32 := Scalar.addi v132 v131
  let v139 : BitVec 32 := Scalar.select v137 v138 v132
  let c1_i32_87 : BitVec 32 := 1#32
  let v140 : BitVec 32 := Scalar.muli v139 c1_i32_87
  let v141 : BitVec 32 := Scalar.addi c0_i32_88 v140
  v141.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v142 : BitVec 32 := Scalar.addi v2 c9_i32
  let c16_i32_89 : BitVec 32 := 16#32
  let c0_i32_90 : BitVec 32 := 0#32
  let v143 : BitVec 1 := Scalar.cmpi .eq c16_i32_89 c0_i32_90
  let c1_i32_91 : BitVec 32 := 1#32
  let v144 : BitVec 32 := Scalar.select v143 c1_i32_91 c16_i32_89
  let v145 : BitVec 32 := Scalar.remsi v142 v144
  let c0_i32_93 : BitVec 32 := 0#32
  let v147 : BitVec 1 := Scalar.cmpi .slt v145 c0_i32_93
  let c0_i32_94 : BitVec 32 := 0#32
  let v148 : BitVec 1 := Scalar.cmpi .slt v144 c0_i32_94
  let v149 : BitVec 1 := Scalar.xori v147 v148
  let c0_i32_92 : BitVec 32 := 0#32
  let v146 : BitVec 1 := Scalar.cmpi .ne v145 c0_i32_92
  let v150 : BitVec 1 := Scalar.andi v149 v146
  let v151 : BitVec 32 := Scalar.addi v145 v144
  let v152 : BitVec 32 := Scalar.select v150 v151 v145
  let c1_i32_96 : BitVec 32 := 1#32
  let v153 : BitVec 32 := Scalar.muli v152 c1_i32_96
  let v154 : BitVec 32 := Scalar.addi c0_i32_97 v153
  v154.toNat
def k0_dev10 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v155 : BitVec 32 := Scalar.addi v2 c10_i32
  let c16_i32_98 : BitVec 32 := 16#32
  let c0_i32_99 : BitVec 32 := 0#32
  let v156 : BitVec 1 := Scalar.cmpi .eq c16_i32_98 c0_i32_99
  let c1_i32_100 : BitVec 32 := 1#32
  let v157 : BitVec 32 := Scalar.select v156 c1_i32_100 c16_i32_98
  let v158 : BitVec 32 := Scalar.remsi v155 v157
  let c0_i32_102 : BitVec 32 := 0#32
  let v160 : BitVec 1 := Scalar.cmpi .slt v158 c0_i32_102
  let c0_i32_103 : BitVec 32 := 0#32
  let v161 : BitVec 1 := Scalar.cmpi .slt v157 c0_i32_103
  let v162 : BitVec 1 := Scalar.xori v160 v161
  let c0_i32_101 : BitVec 32 := 0#32
  let v159 : BitVec 1 := Scalar.cmpi .ne v158 c0_i32_101
  let v163 : BitVec 1 := Scalar.andi v162 v159
  let v164 : BitVec 32 := Scalar.addi v158 v157
  let v165 : BitVec 32 := Scalar.select v163 v164 v158
  let c1_i32_105 : BitVec 32 := 1#32
  let v166 : BitVec 32 := Scalar.muli v165 c1_i32_105
  let v167 : BitVec 32 := Scalar.addi c0_i32_106 v166
  v167.toNat
def k0_dev11 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v168 : BitVec 32 := Scalar.addi v2 c11_i32
  let c16_i32_107 : BitVec 32 := 16#32
  let c0_i32_108 : BitVec 32 := 0#32
  let v169 : BitVec 1 := Scalar.cmpi .eq c16_i32_107 c0_i32_108
  let c1_i32_109 : BitVec 32 := 1#32
  let v170 : BitVec 32 := Scalar.select v169 c1_i32_109 c16_i32_107
  let v171 : BitVec 32 := Scalar.remsi v168 v170
  let c0_i32_111 : BitVec 32 := 0#32
  let v173 : BitVec 1 := Scalar.cmpi .slt v171 c0_i32_111
  let c0_i32_112 : BitVec 32 := 0#32
  let v174 : BitVec 1 := Scalar.cmpi .slt v170 c0_i32_112
  let v175 : BitVec 1 := Scalar.xori v173 v174
  let c0_i32_110 : BitVec 32 := 0#32
  let v172 : BitVec 1 := Scalar.cmpi .ne v171 c0_i32_110
  let v176 : BitVec 1 := Scalar.andi v175 v172
  let v177 : BitVec 32 := Scalar.addi v171 v170
  let v178 : BitVec 32 := Scalar.select v176 v177 v171
  let c1_i32_114 : BitVec 32 := 1#32
  let v179 : BitVec 32 := Scalar.muli v178 c1_i32_114
  let v180 : BitVec 32 := Scalar.addi c0_i32_115 v179
  v180.toNat
def k0_dev12 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v181 : BitVec 32 := Scalar.addi v2 c12_i32
  let c16_i32_116 : BitVec 32 := 16#32
  let c0_i32_117 : BitVec 32 := 0#32
  let v182 : BitVec 1 := Scalar.cmpi .eq c16_i32_116 c0_i32_117
  let c1_i32_118 : BitVec 32 := 1#32
  let v183 : BitVec 32 := Scalar.select v182 c1_i32_118 c16_i32_116
  let v184 : BitVec 32 := Scalar.remsi v181 v183
  let c0_i32_120 : BitVec 32 := 0#32
  let v186 : BitVec 1 := Scalar.cmpi .slt v184 c0_i32_120
  let c0_i32_121 : BitVec 32 := 0#32
  let v187 : BitVec 1 := Scalar.cmpi .slt v183 c0_i32_121
  let v188 : BitVec 1 := Scalar.xori v186 v187
  let c0_i32_119 : BitVec 32 := 0#32
  let v185 : BitVec 1 := Scalar.cmpi .ne v184 c0_i32_119
  let v189 : BitVec 1 := Scalar.andi v188 v185
  let v190 : BitVec 32 := Scalar.addi v184 v183
  let v191 : BitVec 32 := Scalar.select v189 v190 v184
  let c1_i32_123 : BitVec 32 := 1#32
  let v192 : BitVec 32 := Scalar.muli v191 c1_i32_123
  let v193 : BitVec 32 := Scalar.addi c0_i32_124 v192
  v193.toNat
def k0_dev13 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v194 : BitVec 32 := Scalar.addi v2 c13_i32
  let c16_i32_125 : BitVec 32 := 16#32
  let c0_i32_126 : BitVec 32 := 0#32
  let v195 : BitVec 1 := Scalar.cmpi .eq c16_i32_125 c0_i32_126
  let c1_i32_127 : BitVec 32 := 1#32
  let v196 : BitVec 32 := Scalar.select v195 c1_i32_127 c16_i32_125
  let v197 : BitVec 32 := Scalar.remsi v194 v196
  let c0_i32_129 : BitVec 32 := 0#32
  let v199 : BitVec 1 := Scalar.cmpi .slt v197 c0_i32_129
  let c0_i32_130 : BitVec 32 := 0#32
  let v200 : BitVec 1 := Scalar.cmpi .slt v196 c0_i32_130
  let v201 : BitVec 1 := Scalar.xori v199 v200
  let c0_i32_128 : BitVec 32 := 0#32
  let v198 : BitVec 1 := Scalar.cmpi .ne v197 c0_i32_128
  let v202 : BitVec 1 := Scalar.andi v201 v198
  let v203 : BitVec 32 := Scalar.addi v197 v196
  let v204 : BitVec 32 := Scalar.select v202 v203 v197
  let c1_i32_132 : BitVec 32 := 1#32
  let v205 : BitVec 32 := Scalar.muli v204 c1_i32_132
  let v206 : BitVec 32 := Scalar.addi c0_i32_133 v205
  v206.toNat
def k0_dev14 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v207 : BitVec 32 := Scalar.addi v2 c14_i32
  let c16_i32_134 : BitVec 32 := 16#32
  let c0_i32_135 : BitVec 32 := 0#32
  let v208 : BitVec 1 := Scalar.cmpi .eq c16_i32_134 c0_i32_135
  let c1_i32_136 : BitVec 32 := 1#32
  let v209 : BitVec 32 := Scalar.select v208 c1_i32_136 c16_i32_134
  let v210 : BitVec 32 := Scalar.remsi v207 v209
  let c0_i32_138 : BitVec 32 := 0#32
  let v212 : BitVec 1 := Scalar.cmpi .slt v210 c0_i32_138
  let c0_i32_139 : BitVec 32 := 0#32
  let v213 : BitVec 1 := Scalar.cmpi .slt v209 c0_i32_139
  let v214 : BitVec 1 := Scalar.xori v212 v213
  let c0_i32_137 : BitVec 32 := 0#32
  let v211 : BitVec 1 := Scalar.cmpi .ne v210 c0_i32_137
  let v215 : BitVec 1 := Scalar.andi v214 v211
  let v216 : BitVec 32 := Scalar.addi v210 v209
  let v217 : BitVec 32 := Scalar.select v215 v216 v210
  let c1_i32_141 : BitVec 32 := 1#32
  let v218 : BitVec 32 := Scalar.muli v217 c1_i32_141
  let v219 : BitVec 32 := Scalar.addi c0_i32_142 v218
  v219.toNat
def k0_dev15 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_143 : BitVec 32 := 15#32
  let v220 : BitVec 32 := Scalar.addi v2 c15_i32_143
  let c16_i32_144 : BitVec 32 := 16#32
  let c0_i32_145 : BitVec 32 := 0#32
  let v221 : BitVec 1 := Scalar.cmpi .eq c16_i32_144 c0_i32_145
  let c1_i32_146 : BitVec 32 := 1#32
  let v222 : BitVec 32 := Scalar.select v221 c1_i32_146 c16_i32_144
  let v223 : BitVec 32 := Scalar.remsi v220 v222
  let c0_i32_148 : BitVec 32 := 0#32
  let v225 : BitVec 1 := Scalar.cmpi .slt v223 c0_i32_148
  let c0_i32_149 : BitVec 32 := 0#32
  let v226 : BitVec 1 := Scalar.cmpi .slt v222 c0_i32_149
  let v227 : BitVec 1 := Scalar.xori v225 v226
  let c0_i32_147 : BitVec 32 := 0#32
  let v224 : BitVec 1 := Scalar.cmpi .ne v223 c0_i32_147
  let v228 : BitVec 1 := Scalar.andi v227 v224
  let v229 : BitVec 32 := Scalar.addi v223 v222
  let v230 : BitVec 32 := Scalar.select v228 v229 v223
  let c1_i32_151 : BitVec 32 := 1#32
  let v231 : BitVec 32 := Scalar.muli v230 c1_i32_151
  let v232 : BitVec 32 := Scalar.addi c0_i32_152 v231
  v232.toNat
def k0_cond5 (i : grid0.Coords) : BitVec 1 :=
  let arg0 : BitVec 32 := BitVec.ofNat 32 (i 0).val
  let c15_i32 : BitVec 32 := 15#32
  let v28 : BitVec 1 := Scalar.cmpi .slt arg0 c15_i32
  let v29 : BitVec 32 := Scalar.extui v28
  let c0_i32_11 : BitVec 32 := 0#32
  let v30 : BitVec 1 := Scalar.cmpi .ne v29 c0_i32_11
  v30

def k0_off3 (v4 : BitVec 32) : Fin 3 → Nat :=
  let v37 : Index := Scalar.indexCast v4
  let c0_15 : Index := 0#32
  let c0_16 : Index := 0#32
  ![v37.toNat, 0, 0]

def k0_cond6 (i : grid0.Coords) : BitVec 1 :=
  let arg0 : BitVec 32 := BitVec.ofNat 32 (i 0).val
  let c7_i32 : BitVec 32 := 7#32
  let v31 : BitVec 1 := Scalar.cmpi .slt arg0 c7_i32
  let v32 : BitVec 32 := Scalar.extui v31
  let c0_i32_12 : BitVec 32 := 0#32
  let v33 : BitVec 1 := Scalar.cmpi .ne v32 c0_i32_12
  v33

def k0_off4 (v4 : BitVec 32) : Fin 1 → Nat :=
  ![v4.toNat]
def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_17 : BitVec 32 := 0#32
  let c0_i32_18 : BitVec 32 := 0#32
  ![v2.toNat, 0, 0]
def k0_off7 (v4 : BitVec 32) : Fin 3 → Nat :=
  let c0_i32_19 : BitVec 32 := 0#32
  let c0_i32_20 : BitVec 32 := 0#32
  ![v4.toNat, 0, 0]
def k0_dev16 (v4 : BitVec 32) : Nat :=
  let c0_i32_16 : BitVec 32 := 0#32
  let c1_i32_15 : BitVec 32 := 1#32
  let v37 : BitVec 32 := Scalar.muli v4 c1_i32_15
  let v38 : BitVec 32 := Scalar.addi c0_i32_16 v37
  v38.toNat

def k0_chk1 (i : grid0.Coords) (v4 : BitVec 32) : Prop :=
  (∀ (k0_h5 : k0_cond5 i = 1#1), ∀ a, (k0_off3 v4) a + S1x256x512.size a ≤ S16x256x512.size a) ∧
  (∀ (k0_h5 : k0_cond5 i = 1#1), ∀ (hinb : ∀ a, (k0_off3 v4) a + S1x256x512.size a ≤ S16x256x512.size a), (Rect.unit (s := S16x256x512) (k0_off3 v4) S1x256x512.size hinb).PackedRows (EltTy.packing .bf16)) ∧
  (∀ (k0_h6 : k0_cond6 i = 1#1), ∀ a, (k0_off4 v4) a + S1.size a ≤ S16.size a) ∧
  (∀ (k0_h6 : k0_cond6 i = 1#1), ∀ a, (k0_off7 v4) a + S1x256x512.size a ≤ S16x256x512.size a) ∧
  (∀ (k0_h6 : k0_cond6 i = 1#1), ∀ (hinb : ∀ a, (k0_off7 v4) a + S1x256x512.size a ≤ S16x256x512.size a), (Rect.unit (s := S16x256x512) (k0_off7 v4) S1x256x512.size hinb).WholeWords (EltTy.packing .bf16)) ∧
  (∀ (k0_h6 : k0_cond6 i = 1#1), (k0_dev16 v4) < nD)
theorem k0_off3_inb : ∀ (i : grid0.Coords) (v4 : BitVec 32) (k0_hw1 : k0_chk1 i v4), ∀ (k0_h5 : k0_cond5 i = 1#1), ∀ a, (k0_off3 v4) a + S1x256x512.size a ≤ S16x256x512.size a := fun i v4 k0_hw1 k0_h5 => k0_hw1.1 k0_h5
theorem k0_off3_packedbf16 : ∀ (i : grid0.Coords) (v4 : BitVec 32) (k0_hw1 : k0_chk1 i v4), ∀ (k0_h5 : k0_cond5 i = 1#1), (Rect.unit (s := S16x256x512) (k0_off3 v4) S1x256x512.size (k0_off3_inb i v4 k0_hw1 k0_h5)).PackedRows (EltTy.packing .bf16) := fun i v4 k0_hw1 k0_h5 => k0_hw1.2.1 k0_h5 (k0_off3_inb i v4 k0_hw1 k0_h5)
theorem k0_off4_inb : ∀ (i : grid0.Coords) (v4 : BitVec 32) (k0_hw1 : k0_chk1 i v4), ∀ (k0_h6 : k0_cond6 i = 1#1), ∀ a, (k0_off4 v4) a + S1.size a ≤ S16.size a := fun i v4 k0_hw1 k0_h6 => k0_hw1.2.2.1 k0_h6
theorem k0_off7_inb : ∀ (i : grid0.Coords) (v4 : BitVec 32) (k0_hw1 : k0_chk1 i v4), ∀ (k0_h6 : k0_cond6 i = 1#1), ∀ a, (k0_off7 v4) a + S1x256x512.size a ≤ S16x256x512.size a := fun i v4 k0_hw1 k0_h6 => k0_hw1.2.2.2.1 k0_h6
theorem k0_off7_wordsbf16 : ∀ (i : grid0.Coords) (v4 : BitVec 32) (k0_hw1 : k0_chk1 i v4), ∀ (k0_h6 : k0_cond6 i = 1#1), (Rect.unit (s := S16x256x512) (k0_off7 v4) S1x256x512.size (k0_off7_inb i v4 k0_hw1 k0_h6)).WholeWords (EltTy.packing .bf16) := fun i v4 k0_hw1 k0_h6 => k0_hw1.2.2.2.2.1 k0_h6 (k0_off7_inb i v4 k0_hw1 k0_h6)
theorem k0_dev16_lt : ∀ (i : grid0.Coords) (v4 : BitVec 32) (k0_hw1 : k0_chk1 i v4), ∀ (k0_h6 : k0_cond6 i = 1#1), (k0_dev16 v4) < nD := fun i v4 k0_hw1 k0_h6 => k0_hw1.2.2.2.2.2 k0_h6

def k0_cond7 (i : grid0.Coords) : BitVec 1 :=
  let arg0 : BitVec 32 := BitVec.ofNat 32 (i 0).val
  let c15_i32_13 : BitVec 32 := 15#32
  let v34 : BitVec 1 := Scalar.cmpi .eq arg0 c15_i32_13
  let v35 : BitVec 32 := Scalar.extui v34
  let c0_i32_14 : BitVec 32 := 0#32
  let v36 : BitVec 1 := Scalar.cmpi .ne v35 c0_i32_14
  v36

def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v37 : Index := Scalar.indexCast v2
  let c0_15 : Index := 0#32
  let c0_16 : Index := 0#32
  ![v37.toNat, 0, 0]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v43 : Index := Scalar.indexCast v2
  let c0_18 : Index := 0#32
  let c0_19 : Index := 0#32
  ![v43.toNat, 0, 0]
def k0_off10 (d0 : Dev nD) (c1_i32_20 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v47 : BitVec 32 := Scalar.addi v2 c1_i32_20
  let c16_i32_21 : BitVec 32 := 16#32
  let c0_i32_22 : BitVec 32 := 0#32
  let v48 : BitVec 1 := Scalar.cmpi .eq c16_i32_21 c0_i32_22
  let c1_i32_23 : BitVec 32 := 1#32
  let v49 : BitVec 32 := Scalar.select v48 c1_i32_23 c16_i32_21
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  ![v57.toNat]
def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let c0_i32_30 : BitVec 32 := 0#32
  ![v2.toNat, 0, 0]
def k0_dev17 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v47 : BitVec 32 := Scalar.addi v2 c1_i32_20
  let c16_i32_21 : BitVec 32 := 16#32
  let c0_i32_22 : BitVec 32 := 0#32
  let v48 : BitVec 1 := Scalar.cmpi .eq c16_i32_21 c0_i32_22
  let c1_i32_23 : BitVec 32 := 1#32
  let v49 : BitVec 32 := Scalar.select v48 c1_i32_23 c16_i32_21
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let c1_i32_27 : BitVec 32 := 1#32
  let v58 : BitVec 32 := Scalar.muli v57 c1_i32_27
  let v59 : BitVec 32 := Scalar.addi c0_i32_28 v58
  v59.toNat
def k0_dev18 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v68 : BitVec 32 := Scalar.addi v2 c2_i32
  let c16_i32_33 : BitVec 32 := 16#32
  let c0_i32_34 : BitVec 32 := 0#32
  let v69 : BitVec 1 := Scalar.cmpi .eq c16_i32_33 c0_i32_34
  let c1_i32_35 : BitVec 32 := 1#32
  let v70 : BitVec 32 := Scalar.select v69 c1_i32_35 c16_i32_33
  let v71 : BitVec 32 := Scalar.remsi v68 v70
  let c0_i32_37 : BitVec 32 := 0#32
  let v73 : BitVec 1 := Scalar.cmpi .slt v71 c0_i32_37
  let c0_i32_38 : BitVec 32 := 0#32
  let v74 : BitVec 1 := Scalar.cmpi .slt v70 c0_i32_38
  let v75 : BitVec 1 := Scalar.xori v73 v74
  let c0_i32_36 : BitVec 32 := 0#32
  let v72 : BitVec 1 := Scalar.cmpi .ne v71 c0_i32_36
  let v76 : BitVec 1 := Scalar.andi v75 v72
  let v77 : BitVec 32 := Scalar.addi v71 v70
  let v78 : BitVec 32 := Scalar.select v76 v77 v71
  let c1_i32_39 : BitVec 32 := 1#32
  let v79 : BitVec 32 := Scalar.muli v78 c1_i32_39
  let v80 : BitVec 32 := Scalar.addi c0_i32_40 v79
  v80.toNat
def k0_dev19 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v89 : BitVec 32 := Scalar.addi v2 c3_i32
  let c16_i32_45 : BitVec 32 := 16#32
  let c0_i32_46 : BitVec 32 := 0#32
  let v90 : BitVec 1 := Scalar.cmpi .eq c16_i32_45 c0_i32_46
  let c1_i32_47 : BitVec 32 := 1#32
  let v91 : BitVec 32 := Scalar.select v90 c1_i32_47 c16_i32_45
  let v92 : BitVec 32 := Scalar.remsi v89 v91
  let c0_i32_49 : BitVec 32 := 0#32
  let v94 : BitVec 1 := Scalar.cmpi .slt v92 c0_i32_49
  let c0_i32_50 : BitVec 32 := 0#32
  let v95 : BitVec 1 := Scalar.cmpi .slt v91 c0_i32_50
  let v96 : BitVec 1 := Scalar.xori v94 v95
  let c0_i32_48 : BitVec 32 := 0#32
  let v93 : BitVec 1 := Scalar.cmpi .ne v92 c0_i32_48
  let v97 : BitVec 1 := Scalar.andi v96 v93
  let v98 : BitVec 32 := Scalar.addi v92 v91
  let v99 : BitVec 32 := Scalar.select v97 v98 v92
  let c1_i32_51 : BitVec 32 := 1#32
  let v100 : BitVec 32 := Scalar.muli v99 c1_i32_51
  let v101 : BitVec 32 := Scalar.addi c0_i32_52 v100
  v101.toNat
def k0_dev20 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v110 : BitVec 32 := Scalar.addi v2 c4_i32
  let c16_i32_57 : BitVec 32 := 16#32
  let c0_i32_58 : BitVec 32 := 0#32
  let v111 : BitVec 1 := Scalar.cmpi .eq c16_i32_57 c0_i32_58
  let c1_i32_59 : BitVec 32 := 1#32
  let v112 : BitVec 32 := Scalar.select v111 c1_i32_59 c16_i32_57
  let v113 : BitVec 32 := Scalar.remsi v110 v112
  let c0_i32_61 : BitVec 32 := 0#32
  let v115 : BitVec 1 := Scalar.cmpi .slt v113 c0_i32_61
  let c0_i32_62 : BitVec 32 := 0#32
  let v116 : BitVec 1 := Scalar.cmpi .slt v112 c0_i32_62
  let v117 : BitVec 1 := Scalar.xori v115 v116
  let c0_i32_60 : BitVec 32 := 0#32
  let v114 : BitVec 1 := Scalar.cmpi .ne v113 c0_i32_60
  let v118 : BitVec 1 := Scalar.andi v117 v114
  let v119 : BitVec 32 := Scalar.addi v113 v112
  let v120 : BitVec 32 := Scalar.select v118 v119 v113
  let c1_i32_63 : BitVec 32 := 1#32
  let v121 : BitVec 32 := Scalar.muli v120 c1_i32_63
  let v122 : BitVec 32 := Scalar.addi c0_i32_64 v121
  v122.toNat
def k0_dev21 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v131 : BitVec 32 := Scalar.addi v2 c5_i32
  let c16_i32_69 : BitVec 32 := 16#32
  let c0_i32_70 : BitVec 32 := 0#32
  let v132 : BitVec 1 := Scalar.cmpi .eq c16_i32_69 c0_i32_70
  let c1_i32_71 : BitVec 32 := 1#32
  let v133 : BitVec 32 := Scalar.select v132 c1_i32_71 c16_i32_69
  let v134 : BitVec 32 := Scalar.remsi v131 v133
  let c0_i32_73 : BitVec 32 := 0#32
  let v136 : BitVec 1 := Scalar.cmpi .slt v134 c0_i32_73
  let c0_i32_74 : BitVec 32 := 0#32
  let v137 : BitVec 1 := Scalar.cmpi .slt v133 c0_i32_74
  let v138 : BitVec 1 := Scalar.xori v136 v137
  let c0_i32_72 : BitVec 32 := 0#32
  let v135 : BitVec 1 := Scalar.cmpi .ne v134 c0_i32_72
  let v139 : BitVec 1 := Scalar.andi v138 v135
  let v140 : BitVec 32 := Scalar.addi v134 v133
  let v141 : BitVec 32 := Scalar.select v139 v140 v134
  let c1_i32_75 : BitVec 32 := 1#32
  let v142 : BitVec 32 := Scalar.muli v141 c1_i32_75
  let v143 : BitVec 32 := Scalar.addi c0_i32_76 v142
  v143.toNat
def k0_dev22 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v152 : BitVec 32 := Scalar.addi v2 c6_i32
  let c16_i32_81 : BitVec 32 := 16#32
  let c0_i32_82 : BitVec 32 := 0#32
  let v153 : BitVec 1 := Scalar.cmpi .eq c16_i32_81 c0_i32_82
  let c1_i32_83 : BitVec 32 := 1#32
  let v154 : BitVec 32 := Scalar.select v153 c1_i32_83 c16_i32_81
  let v155 : BitVec 32 := Scalar.remsi v152 v154
  let c0_i32_85 : BitVec 32 := 0#32
  let v157 : BitVec 1 := Scalar.cmpi .slt v155 c0_i32_85
  let c0_i32_86 : BitVec 32 := 0#32
  let v158 : BitVec 1 := Scalar.cmpi .slt v154 c0_i32_86
  let v159 : BitVec 1 := Scalar.xori v157 v158
  let c0_i32_84 : BitVec 32 := 0#32
  let v156 : BitVec 1 := Scalar.cmpi .ne v155 c0_i32_84
  let v160 : BitVec 1 := Scalar.andi v159 v156
  let v161 : BitVec 32 := Scalar.addi v155 v154
  let v162 : BitVec 32 := Scalar.select v160 v161 v155
  let c1_i32_87 : BitVec 32 := 1#32
  let v163 : BitVec 32 := Scalar.muli v162 c1_i32_87
  let v164 : BitVec 32 := Scalar.addi c0_i32_88 v163
  v164.toNat
def k0_dev23 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_93 : BitVec 32 := 7#32
  let v173 : BitVec 32 := Scalar.addi v2 c7_i32_93
  let c16_i32_94 : BitVec 32 := 16#32
  let c0_i32_95 : BitVec 32 := 0#32
  let v174 : BitVec 1 := Scalar.cmpi .eq c16_i32_94 c0_i32_95
  let c1_i32_96 : BitVec 32 := 1#32
  let v175 : BitVec 32 := Scalar.select v174 c1_i32_96 c16_i32_94
  let v176 : BitVec 32 := Scalar.remsi v173 v175
  let c0_i32_98 : BitVec 32 := 0#32
  let v178 : BitVec 1 := Scalar.cmpi .slt v176 c0_i32_98
  let c0_i32_99 : BitVec 32 := 0#32
  let v179 : BitVec 1 := Scalar.cmpi .slt v175 c0_i32_99
  let v180 : BitVec 1 := Scalar.xori v178 v179
  let c0_i32_97 : BitVec 32 := 0#32
  let v177 : BitVec 1 := Scalar.cmpi .ne v176 c0_i32_97
  let v181 : BitVec 1 := Scalar.andi v180 v177
  let v182 : BitVec 32 := Scalar.addi v176 v175
  let v183 : BitVec 32 := Scalar.select v181 v182 v176
  let c1_i32_100 : BitVec 32 := 1#32
  let v184 : BitVec 32 := Scalar.muli v183 c1_i32_100
  let v185 : BitVec 32 := Scalar.addi c0_i32_101 v184
  v185.toNat
def k0_dev24 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v194 : BitVec 32 := Scalar.addi v2 c8_i32
  let c16_i32_106 : BitVec 32 := 16#32
  let c0_i32_107 : BitVec 32 := 0#32
  let v195 : BitVec 1 := Scalar.cmpi .eq c16_i32_106 c0_i32_107
  let c1_i32_108 : BitVec 32 := 1#32
  let v196 : BitVec 32 := Scalar.select v195 c1_i32_108 c16_i32_106
  let v197 : BitVec 32 := Scalar.remsi v194 v196
  let c0_i32_110 : BitVec 32 := 0#32
  let v199 : BitVec 1 := Scalar.cmpi .slt v197 c0_i32_110
  let c0_i32_111 : BitVec 32 := 0#32
  let v200 : BitVec 1 := Scalar.cmpi .slt v196 c0_i32_111
  let v201 : BitVec 1 := Scalar.xori v199 v200
  let c0_i32_109 : BitVec 32 := 0#32
  let v198 : BitVec 1 := Scalar.cmpi .ne v197 c0_i32_109
  let v202 : BitVec 1 := Scalar.andi v201 v198
  let v203 : BitVec 32 := Scalar.addi v197 v196
  let v204 : BitVec 32 := Scalar.select v202 v203 v197
  let c1_i32_112 : BitVec 32 := 1#32
  let v205 : BitVec 32 := Scalar.muli v204 c1_i32_112
  let v206 : BitVec 32 := Scalar.addi c0_i32_113 v205
  v206.toNat
def k0_dev25 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v215 : BitVec 32 := Scalar.addi v2 c9_i32
  let c16_i32_118 : BitVec 32 := 16#32
  let c0_i32_119 : BitVec 32 := 0#32
  let v216 : BitVec 1 := Scalar.cmpi .eq c16_i32_118 c0_i32_119
  let c1_i32_120 : BitVec 32 := 1#32
  let v217 : BitVec 32 := Scalar.select v216 c1_i32_120 c16_i32_118
  let v218 : BitVec 32 := Scalar.remsi v215 v217
  let c0_i32_122 : BitVec 32 := 0#32
  let v220 : BitVec 1 := Scalar.cmpi .slt v218 c0_i32_122
  let c0_i32_123 : BitVec 32 := 0#32
  let v221 : BitVec 1 := Scalar.cmpi .slt v217 c0_i32_123
  let v222 : BitVec 1 := Scalar.xori v220 v221
  let c0_i32_121 : BitVec 32 := 0#32
  let v219 : BitVec 1 := Scalar.cmpi .ne v218 c0_i32_121
  let v223 : BitVec 1 := Scalar.andi v222 v219
  let v224 : BitVec 32 := Scalar.addi v218 v217
  let v225 : BitVec 32 := Scalar.select v223 v224 v218
  let c1_i32_124 : BitVec 32 := 1#32
  let v226 : BitVec 32 := Scalar.muli v225 c1_i32_124
  let v227 : BitVec 32 := Scalar.addi c0_i32_125 v226
  v227.toNat
def k0_dev26 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v236 : BitVec 32 := Scalar.addi v2 c10_i32
  let c16_i32_130 : BitVec 32 := 16#32
  let c0_i32_131 : BitVec 32 := 0#32
  let v237 : BitVec 1 := Scalar.cmpi .eq c16_i32_130 c0_i32_131
  let c1_i32_132 : BitVec 32 := 1#32
  let v238 : BitVec 32 := Scalar.select v237 c1_i32_132 c16_i32_130
  let v239 : BitVec 32 := Scalar.remsi v236 v238
  let c0_i32_134 : BitVec 32 := 0#32
  let v241 : BitVec 1 := Scalar.cmpi .slt v239 c0_i32_134
  let c0_i32_135 : BitVec 32 := 0#32
  let v242 : BitVec 1 := Scalar.cmpi .slt v238 c0_i32_135
  let v243 : BitVec 1 := Scalar.xori v241 v242
  let c0_i32_133 : BitVec 32 := 0#32
  let v240 : BitVec 1 := Scalar.cmpi .ne v239 c0_i32_133
  let v244 : BitVec 1 := Scalar.andi v243 v240
  let v245 : BitVec 32 := Scalar.addi v239 v238
  let v246 : BitVec 32 := Scalar.select v244 v245 v239
  let c1_i32_136 : BitVec 32 := 1#32
  let v247 : BitVec 32 := Scalar.muli v246 c1_i32_136
  let v248 : BitVec 32 := Scalar.addi c0_i32_137 v247
  v248.toNat
def k0_dev27 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v257 : BitVec 32 := Scalar.addi v2 c11_i32
  let c16_i32_142 : BitVec 32 := 16#32
  let c0_i32_143 : BitVec 32 := 0#32
  let v258 : BitVec 1 := Scalar.cmpi .eq c16_i32_142 c0_i32_143
  let c1_i32_144 : BitVec 32 := 1#32
  let v259 : BitVec 32 := Scalar.select v258 c1_i32_144 c16_i32_142
  let v260 : BitVec 32 := Scalar.remsi v257 v259
  let c0_i32_146 : BitVec 32 := 0#32
  let v262 : BitVec 1 := Scalar.cmpi .slt v260 c0_i32_146
  let c0_i32_147 : BitVec 32 := 0#32
  let v263 : BitVec 1 := Scalar.cmpi .slt v259 c0_i32_147
  let v264 : BitVec 1 := Scalar.xori v262 v263
  let c0_i32_145 : BitVec 32 := 0#32
  let v261 : BitVec 1 := Scalar.cmpi .ne v260 c0_i32_145
  let v265 : BitVec 1 := Scalar.andi v264 v261
  let v266 : BitVec 32 := Scalar.addi v260 v259
  let v267 : BitVec 32 := Scalar.select v265 v266 v260
  let c1_i32_148 : BitVec 32 := 1#32
  let v268 : BitVec 32 := Scalar.muli v267 c1_i32_148
  let v269 : BitVec 32 := Scalar.addi c0_i32_149 v268
  v269.toNat
def k0_dev28 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v278 : BitVec 32 := Scalar.addi v2 c12_i32
  let c16_i32_154 : BitVec 32 := 16#32
  let c0_i32_155 : BitVec 32 := 0#32
  let v279 : BitVec 1 := Scalar.cmpi .eq c16_i32_154 c0_i32_155
  let c1_i32_156 : BitVec 32 := 1#32
  let v280 : BitVec 32 := Scalar.select v279 c1_i32_156 c16_i32_154
  let v281 : BitVec 32 := Scalar.remsi v278 v280
  let c0_i32_158 : BitVec 32 := 0#32
  let v283 : BitVec 1 := Scalar.cmpi .slt v281 c0_i32_158
  let c0_i32_159 : BitVec 32 := 0#32
  let v284 : BitVec 1 := Scalar.cmpi .slt v280 c0_i32_159
  let v285 : BitVec 1 := Scalar.xori v283 v284
  let c0_i32_157 : BitVec 32 := 0#32
  let v282 : BitVec 1 := Scalar.cmpi .ne v281 c0_i32_157
  let v286 : BitVec 1 := Scalar.andi v285 v282
  let v287 : BitVec 32 := Scalar.addi v281 v280
  let v288 : BitVec 32 := Scalar.select v286 v287 v281
  let c1_i32_160 : BitVec 32 := 1#32
  let v289 : BitVec 32 := Scalar.muli v288 c1_i32_160
  let v290 : BitVec 32 := Scalar.addi c0_i32_161 v289
  v290.toNat
def k0_dev29 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v299 : BitVec 32 := Scalar.addi v2 c13_i32
  let c16_i32_166 : BitVec 32 := 16#32
  let c0_i32_167 : BitVec 32 := 0#32
  let v300 : BitVec 1 := Scalar.cmpi .eq c16_i32_166 c0_i32_167
  let c1_i32_168 : BitVec 32 := 1#32
  let v301 : BitVec 32 := Scalar.select v300 c1_i32_168 c16_i32_166
  let v302 : BitVec 32 := Scalar.remsi v299 v301
  let c0_i32_170 : BitVec 32 := 0#32
  let v304 : BitVec 1 := Scalar.cmpi .slt v302 c0_i32_170
  let c0_i32_171 : BitVec 32 := 0#32
  let v305 : BitVec 1 := Scalar.cmpi .slt v301 c0_i32_171
  let v306 : BitVec 1 := Scalar.xori v304 v305
  let c0_i32_169 : BitVec 32 := 0#32
  let v303 : BitVec 1 := Scalar.cmpi .ne v302 c0_i32_169
  let v307 : BitVec 1 := Scalar.andi v306 v303
  let v308 : BitVec 32 := Scalar.addi v302 v301
  let v309 : BitVec 32 := Scalar.select v307 v308 v302
  let c1_i32_172 : BitVec 32 := 1#32
  let v310 : BitVec 32 := Scalar.muli v309 c1_i32_172
  let v311 : BitVec 32 := Scalar.addi c0_i32_173 v310
  v311.toNat
def k0_dev30 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v320 : BitVec 32 := Scalar.addi v2 c14_i32
  let c16_i32_178 : BitVec 32 := 16#32
  let c0_i32_179 : BitVec 32 := 0#32
  let v321 : BitVec 1 := Scalar.cmpi .eq c16_i32_178 c0_i32_179
  let c1_i32_180 : BitVec 32 := 1#32
  let v322 : BitVec 32 := Scalar.select v321 c1_i32_180 c16_i32_178
  let v323 : BitVec 32 := Scalar.remsi v320 v322
  let c0_i32_182 : BitVec 32 := 0#32
  let v325 : BitVec 1 := Scalar.cmpi .slt v323 c0_i32_182
  let c0_i32_183 : BitVec 32 := 0#32
  let v326 : BitVec 1 := Scalar.cmpi .slt v322 c0_i32_183
  let v327 : BitVec 1 := Scalar.xori v325 v326
  let c0_i32_181 : BitVec 32 := 0#32
  let v324 : BitVec 1 := Scalar.cmpi .ne v323 c0_i32_181
  let v328 : BitVec 1 := Scalar.andi v327 v324
  let v329 : BitVec 32 := Scalar.addi v323 v322
  let v330 : BitVec 32 := Scalar.select v328 v329 v323
  let c1_i32_184 : BitVec 32 := 1#32
  let v331 : BitVec 32 := Scalar.muli v330 c1_i32_184
  let v332 : BitVec 32 := Scalar.addi c0_i32_185 v331
  v332.toNat
def k0_dev31 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_190 : BitVec 32 := 15#32
  let v341 : BitVec 32 := Scalar.addi v2 c15_i32_190
  let c16_i32_191 : BitVec 32 := 16#32
  let c0_i32_192 : BitVec 32 := 0#32
  let v342 : BitVec 1 := Scalar.cmpi .eq c16_i32_191 c0_i32_192
  let c1_i32_193 : BitVec 32 := 1#32
  let v343 : BitVec 32 := Scalar.select v342 c1_i32_193 c16_i32_191
  let v344 : BitVec 32 := Scalar.remsi v341 v343
  let c0_i32_195 : BitVec 32 := 0#32
  let v346 : BitVec 1 := Scalar.cmpi .slt v344 c0_i32_195
  let c0_i32_196 : BitVec 32 := 0#32
  let v347 : BitVec 1 := Scalar.cmpi .slt v343 c0_i32_196
  let v348 : BitVec 1 := Scalar.xori v346 v347
  let c0_i32_194 : BitVec 32 := 0#32
  let v345 : BitVec 1 := Scalar.cmpi .ne v344 c0_i32_194
  let v349 : BitVec 1 := Scalar.andi v348 v345
  let v350 : BitVec 32 := Scalar.addi v344 v343
  let v351 : BitVec 32 := Scalar.select v349 v350 v344
  let c1_i32_197 : BitVec 32 := 1#32
  let v352 : BitVec 32 := Scalar.muli v351 c1_i32_197
  let v353 : BitVec 32 := Scalar.addi c0_i32_198 v352
  v353.toNat
def k0_off13 (d0 : Dev nD) (c1_i32_203 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v362 : BitVec 32 := Scalar.addi v2 c1_i32_203
  let c16_i32_204 : BitVec 32 := 16#32
  let c0_i32_205 : BitVec 32 := 0#32
  let v363 : BitVec 1 := Scalar.cmpi .eq c16_i32_204 c0_i32_205
  let c1_i32_206 : BitVec 32 := 1#32
  let v364 : BitVec 32 := Scalar.select v363 c1_i32_206 c16_i32_204
  let v365 : BitVec 32 := Scalar.remsi v362 v364
  let c0_i32_208 : BitVec 32 := 0#32
  let v367 : BitVec 1 := Scalar.cmpi .slt v365 c0_i32_208
  let c0_i32_209 : BitVec 32 := 0#32
  let v368 : BitVec 1 := Scalar.cmpi .slt v364 c0_i32_209
  let v369 : BitVec 1 := Scalar.xori v367 v368
  let c0_i32_207 : BitVec 32 := 0#32
  let v366 : BitVec 1 := Scalar.cmpi .ne v365 c0_i32_207
  let v370 : BitVec 1 := Scalar.andi v369 v366
  let v371 : BitVec 32 := Scalar.addi v365 v364
  let v372 : BitVec 32 := Scalar.select v370 v371 v365
  let c0_i32_212 : BitVec 32 := 0#32
  let c0_i32_213 : BitVec 32 := 0#32
  ![v372.toNat, 0, 0]
def k0_off14 (d0 : Dev nD) (c8_i32_404 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v654 : BitVec 32 := Scalar.addi v2 c8_i32_404
  let c16_i32_405 : BitVec 32 := 16#32
  let c0_i32_406 : BitVec 32 := 0#32
  let v655 : BitVec 1 := Scalar.cmpi .eq c16_i32_405 c0_i32_406
  let c1_i32_407 : BitVec 32 := 1#32
  let v656 : BitVec 32 := Scalar.select v655 c1_i32_407 c16_i32_405
  let v657 : BitVec 32 := Scalar.remsi v654 v656
  let c0_i32_409 : BitVec 32 := 0#32
  let v659 : BitVec 1 := Scalar.cmpi .slt v657 c0_i32_409
  let c0_i32_410 : BitVec 32 := 0#32
  let v660 : BitVec 1 := Scalar.cmpi .slt v656 c0_i32_410
  let v661 : BitVec 1 := Scalar.xori v659 v660
  let c0_i32_408 : BitVec 32 := 0#32
  let v658 : BitVec 1 := Scalar.cmpi .ne v657 c0_i32_408
  let v662 : BitVec 1 := Scalar.andi v661 v658
  let v663 : BitVec 32 := Scalar.addi v657 v656
  let v664 : BitVec 32 := Scalar.select v662 v663 v657
  let v665 : Index := Scalar.indexCast v664
  let c0_411 : Index := 0#32
  let c0_412 : Index := 0#32
  ![v665.toNat, 0, 0]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_419 : BitVec 32 := 0#32
  let c0_i32_420 : BitVec 32 := 0#32
  ![v2.toNat, 0, 0]
def k0_off16 (d0 : Dev nD) (c8_i32_404 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v654 : BitVec 32 := Scalar.addi v2 c8_i32_404
  let c16_i32_405 : BitVec 32 := 16#32
  let c0_i32_406 : BitVec 32 := 0#32
  let v655 : BitVec 1 := Scalar.cmpi .eq c16_i32_405 c0_i32_406
  let c1_i32_407 : BitVec 32 := 1#32
  let v656 : BitVec 32 := Scalar.select v655 c1_i32_407 c16_i32_405
  let v657 : BitVec 32 := Scalar.remsi v654 v656
  let c0_i32_409 : BitVec 32 := 0#32
  let v659 : BitVec 1 := Scalar.cmpi .slt v657 c0_i32_409
  let c0_i32_410 : BitVec 32 := 0#32
  let v660 : BitVec 1 := Scalar.cmpi .slt v656 c0_i32_410
  let v661 : BitVec 1 := Scalar.xori v659 v660
  let c0_i32_408 : BitVec 32 := 0#32
  let v658 : BitVec 1 := Scalar.cmpi .ne v657 c0_i32_408
  let v662 : BitVec 1 := Scalar.andi v661 v658
  let v663 : BitVec 32 := Scalar.addi v657 v656
  let v664 : BitVec 32 := Scalar.select v662 v663 v657
  let c0_i32_421 : BitVec 32 := 0#32
  let c0_i32_422 : BitVec 32 := 0#32
  ![v664.toNat, 0, 0]
def k0_dev32 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_404 : BitVec 32 := 8#32
  let v654 : BitVec 32 := Scalar.addi v2 c8_i32_404
  let c16_i32_405 : BitVec 32 := 16#32
  let c0_i32_406 : BitVec 32 := 0#32
  let v655 : BitVec 1 := Scalar.cmpi .eq c16_i32_405 c0_i32_406
  let c1_i32_407 : BitVec 32 := 1#32
  let v656 : BitVec 32 := Scalar.select v655 c1_i32_407 c16_i32_405
  let v657 : BitVec 32 := Scalar.remsi v654 v656
  let c0_i32_409 : BitVec 32 := 0#32
  let v659 : BitVec 1 := Scalar.cmpi .slt v657 c0_i32_409
  let c0_i32_410 : BitVec 32 := 0#32
  let v660 : BitVec 1 := Scalar.cmpi .slt v656 c0_i32_410
  let v661 : BitVec 1 := Scalar.xori v659 v660
  let c0_i32_408 : BitVec 32 := 0#32
  let v658 : BitVec 1 := Scalar.cmpi .ne v657 c0_i32_408
  let v662 : BitVec 1 := Scalar.andi v661 v658
  let v663 : BitVec 32 := Scalar.addi v657 v656
  let v664 : BitVec 32 := Scalar.select v662 v663 v657
  let c1_i32_417 : BitVec 32 := 1#32
  let v680 : BitVec 32 := Scalar.muli v664 c1_i32_417
  let v681 : BitVec 32 := Scalar.addi c0_i32_418 v680
  v681.toNat
def k0_dev33 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_423 : BitVec 32 := 9#32
  let v690 : BitVec 32 := Scalar.addi v2 c9_i32_423
  let c16_i32_424 : BitVec 32 := 16#32
  let c0_i32_425 : BitVec 32 := 0#32
  let v691 : BitVec 1 := Scalar.cmpi .eq c16_i32_424 c0_i32_425
  let c1_i32_426 : BitVec 32 := 1#32
  let v692 : BitVec 32 := Scalar.select v691 c1_i32_426 c16_i32_424
  let v693 : BitVec 32 := Scalar.remsi v690 v692
  let c0_i32_428 : BitVec 32 := 0#32
  let v695 : BitVec 1 := Scalar.cmpi .slt v693 c0_i32_428
  let c0_i32_429 : BitVec 32 := 0#32
  let v696 : BitVec 1 := Scalar.cmpi .slt v692 c0_i32_429
  let v697 : BitVec 1 := Scalar.xori v695 v696
  let c0_i32_427 : BitVec 32 := 0#32
  let v694 : BitVec 1 := Scalar.cmpi .ne v693 c0_i32_427
  let v698 : BitVec 1 := Scalar.andi v697 v694
  let v699 : BitVec 32 := Scalar.addi v693 v692
  let v700 : BitVec 32 := Scalar.select v698 v699 v693
  let c1_i32_436 : BitVec 32 := 1#32
  let v716 : BitVec 32 := Scalar.muli v700 c1_i32_436
  let v717 : BitVec 32 := Scalar.addi c0_i32_437 v716
  v717.toNat
def k0_dev34 (d0 : Dev nD) : Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_442 : BitVec 32 := 10#32
  let v726 : BitVec 32 := Scalar.addi v2 c10_i32_442
  let c16_i32_443 : BitVec 32 := 16#32
  let c0_i32_444 : BitVec 32 := 0#32
  let v727 : BitVec 1 := Scalar.cmpi .eq c16_i32_443 c0_i32_444
  let c1_i32_445 : BitVec 32 := 1#32
  let v728 : BitVec 32 := Scalar.select v727 c1_i32_445 c16_i32_443
  let v729 : BitVec 32 := Scalar.remsi v726 v728
  let c0_i32_447 : BitVec 32 := 0#32
  let v731 : BitVec 1 := Scalar.cmpi .slt v729 c0_i32_447
  let c0_i32_448 : BitVec 32 := 0#32
  let v732 : BitVec 1 := Scalar.cmpi .slt v728 c0_i32_448
  let v733 : BitVec 1 := Scalar.xori v731 v732
  let c0_i32_446 : BitVec 32 := 0#32
  let v730 : BitVec 1 := Scalar.cmpi .ne v729 c0_i32_446
  let v734 : BitVec 1 := Scalar.andi v733 v730
  let v735 : BitVec 32 := Scalar.addi v729 v728
  let v736 : BitVec 32 := Scalar.select v734 v735 v729
  let c1_i32_455 : BitVec 32 := 1#32
  let v752 : BitVec 32 := Scalar.muli v736 c1_i32_455
  let v753 : BitVec 32 := Scalar.addi c0_i32_456 v752
  v753.toNat
def k0_dev35 (d0 : Dev nD) : Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_461 : BitVec 32 := 11#32
  let v762 : BitVec 32 := Scalar.addi v2 c11_i32_461
  let c16_i32_462 : BitVec 32 := 16#32
  let c0_i32_463 : BitVec 32 := 0#32
  let v763 : BitVec 1 := Scalar.cmpi .eq c16_i32_462 c0_i32_463
  let c1_i32_464 : BitVec 32 := 1#32
  let v764 : BitVec 32 := Scalar.select v763 c1_i32_464 c16_i32_462
  let v765 : BitVec 32 := Scalar.remsi v762 v764
  let c0_i32_466 : BitVec 32 := 0#32
  let v767 : BitVec 1 := Scalar.cmpi .slt v765 c0_i32_466
  let c0_i32_467 : BitVec 32 := 0#32
  let v768 : BitVec 1 := Scalar.cmpi .slt v764 c0_i32_467
  let v769 : BitVec 1 := Scalar.xori v767 v768
  let c0_i32_465 : BitVec 32 := 0#32
  let v766 : BitVec 1 := Scalar.cmpi .ne v765 c0_i32_465
  let v770 : BitVec 1 := Scalar.andi v769 v766
  let v771 : BitVec 32 := Scalar.addi v765 v764
  let v772 : BitVec 32 := Scalar.select v770 v771 v765
  let c1_i32_474 : BitVec 32 := 1#32
  let v788 : BitVec 32 := Scalar.muli v772 c1_i32_474
  let v789 : BitVec 32 := Scalar.addi c0_i32_475 v788
  v789.toNat
def k0_dev36 (d0 : Dev nD) : Nat :=
  let c0_i32_494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_480 : BitVec 32 := 12#32
  let v798 : BitVec 32 := Scalar.addi v2 c12_i32_480
  let c16_i32_481 : BitVec 32 := 16#32
  let c0_i32_482 : BitVec 32 := 0#32
  let v799 : BitVec 1 := Scalar.cmpi .eq c16_i32_481 c0_i32_482
  let c1_i32_483 : BitVec 32 := 1#32
  let v800 : BitVec 32 := Scalar.select v799 c1_i32_483 c16_i32_481
  let v801 : BitVec 32 := Scalar.remsi v798 v800
  let c0_i32_485 : BitVec 32 := 0#32
  let v803 : BitVec 1 := Scalar.cmpi .slt v801 c0_i32_485
  let c0_i32_486 : BitVec 32 := 0#32
  let v804 : BitVec 1 := Scalar.cmpi .slt v800 c0_i32_486
  let v805 : BitVec 1 := Scalar.xori v803 v804
  let c0_i32_484 : BitVec 32 := 0#32
  let v802 : BitVec 1 := Scalar.cmpi .ne v801 c0_i32_484
  let v806 : BitVec 1 := Scalar.andi v805 v802
  let v807 : BitVec 32 := Scalar.addi v801 v800
  let v808 : BitVec 32 := Scalar.select v806 v807 v801
  let c1_i32_493 : BitVec 32 := 1#32
  let v824 : BitVec 32 := Scalar.muli v808 c1_i32_493
  let v825 : BitVec 32 := Scalar.addi c0_i32_494 v824
  v825.toNat
def k0_dev37 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_499 : BitVec 32 := 13#32
  let v834 : BitVec 32 := Scalar.addi v2 c13_i32_499
  let c16_i32_500 : BitVec 32 := 16#32
  let c0_i32_501 : BitVec 32 := 0#32
  let v835 : BitVec 1 := Scalar.cmpi .eq c16_i32_500 c0_i32_501
  let c1_i32_502 : BitVec 32 := 1#32
  let v836 : BitVec 32 := Scalar.select v835 c1_i32_502 c16_i32_500
  let v837 : BitVec 32 := Scalar.remsi v834 v836
  let c0_i32_504 : BitVec 32 := 0#32
  let v839 : BitVec 1 := Scalar.cmpi .slt v837 c0_i32_504
  let c0_i32_505 : BitVec 32 := 0#32
  let v840 : BitVec 1 := Scalar.cmpi .slt v836 c0_i32_505
  let v841 : BitVec 1 := Scalar.xori v839 v840
  let c0_i32_503 : BitVec 32 := 0#32
  let v838 : BitVec 1 := Scalar.cmpi .ne v837 c0_i32_503
  let v842 : BitVec 1 := Scalar.andi v841 v838
  let v843 : BitVec 32 := Scalar.addi v837 v836
  let v844 : BitVec 32 := Scalar.select v842 v843 v837
  let c1_i32_512 : BitVec 32 := 1#32
  let v860 : BitVec 32 := Scalar.muli v844 c1_i32_512
  let v861 : BitVec 32 := Scalar.addi c0_i32_513 v860
  v861.toNat
def k0_dev38 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_518 : BitVec 32 := 14#32
  let v870 : BitVec 32 := Scalar.addi v2 c14_i32_518
  let c16_i32_519 : BitVec 32 := 16#32
  let c0_i32_520 : BitVec 32 := 0#32
  let v871 : BitVec 1 := Scalar.cmpi .eq c16_i32_519 c0_i32_520
  let c1_i32_521 : BitVec 32 := 1#32
  let v872 : BitVec 32 := Scalar.select v871 c1_i32_521 c16_i32_519
  let v873 : BitVec 32 := Scalar.remsi v870 v872
  let c0_i32_523 : BitVec 32 := 0#32
  let v875 : BitVec 1 := Scalar.cmpi .slt v873 c0_i32_523
  let c0_i32_524 : BitVec 32 := 0#32
  let v876 : BitVec 1 := Scalar.cmpi .slt v872 c0_i32_524
  let v877 : BitVec 1 := Scalar.xori v875 v876
  let c0_i32_522 : BitVec 32 := 0#32
  let v874 : BitVec 1 := Scalar.cmpi .ne v873 c0_i32_522
  let v878 : BitVec 1 := Scalar.andi v877 v874
  let v879 : BitVec 32 := Scalar.addi v873 v872
  let v880 : BitVec 32 := Scalar.select v878 v879 v873
  let c1_i32_531 : BitVec 32 := 1#32
  let v896 : BitVec 32 := Scalar.muli v880 c1_i32_531
  let v897 : BitVec 32 := Scalar.addi c0_i32_532 v896
  v897.toNat
def k0_dev39 (d0 : Dev nD) : Nat :=
  let c0_i32_551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_537 : BitVec 32 := 15#32
  let v906 : BitVec 32 := Scalar.addi v2 c15_i32_537
  let c16_i32_538 : BitVec 32 := 16#32
  let c0_i32_539 : BitVec 32 := 0#32
  let v907 : BitVec 1 := Scalar.cmpi .eq c16_i32_538 c0_i32_539
  let c1_i32_540 : BitVec 32 := 1#32
  let v908 : BitVec 32 := Scalar.select v907 c1_i32_540 c16_i32_538
  let v909 : BitVec 32 := Scalar.remsi v906 v908
  let c0_i32_542 : BitVec 32 := 0#32
  let v911 : BitVec 1 := Scalar.cmpi .slt v909 c0_i32_542
  let c0_i32_543 : BitVec 32 := 0#32
  let v912 : BitVec 1 := Scalar.cmpi .slt v908 c0_i32_543
  let v913 : BitVec 1 := Scalar.xori v911 v912
  let c0_i32_541 : BitVec 32 := 0#32
  let v910 : BitVec 1 := Scalar.cmpi .ne v909 c0_i32_541
  let v914 : BitVec 1 := Scalar.andi v913 v910
  let v915 : BitVec 32 := Scalar.addi v909 v908
  let v916 : BitVec 32 := Scalar.select v914 v915 v909
  let c1_i32_550 : BitVec 32 := 1#32
  let v932 : BitVec 32 := Scalar.muli v916 c1_i32_550
  let v933 : BitVec 32 := Scalar.addi c0_i32_551 v932
  v933.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v956 : BitVec 32 := Scalar.muli v2 c256_i32
  let v957 : Index := Scalar.indexCast v956
  let c0_560 : Index := 0#32
  ![v957.toNat, 0]
def k0_off18 (d0 : Dev nD) (c1_i32_561 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v959 : BitVec 32 := Scalar.subi v2 c1_i32_561
  let c16_i32_562 : BitVec 32 := 16#32
  let c0_i32_563 : BitVec 32 := 0#32
  let v960 : BitVec 1 := Scalar.cmpi .eq c16_i32_562 c0_i32_563
  let c1_i32_564 : BitVec 32 := 1#32
  let v961 : BitVec 32 := Scalar.select v960 c1_i32_564 c16_i32_562
  let v962 : BitVec 32 := Scalar.remsi v959 v961
  let c0_i32_566 : BitVec 32 := 0#32
  let v964 : BitVec 1 := Scalar.cmpi .slt v962 c0_i32_566
  let c0_i32_567 : BitVec 32 := 0#32
  let v965 : BitVec 1 := Scalar.cmpi .slt v961 c0_i32_567
  let v966 : BitVec 1 := Scalar.xori v964 v965
  let c0_i32_565 : BitVec 32 := 0#32
  let v963 : BitVec 1 := Scalar.cmpi .ne v962 c0_i32_565
  let v967 : BitVec 1 := Scalar.andi v966 v963
  let v968 : BitVec 32 := Scalar.addi v962 v961
  let v969 : BitVec 32 := Scalar.select v967 v968 v962
  ![v969.toNat]
def k0_off19 (d0 : Dev nD) (c1_i32_561 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v959 : BitVec 32 := Scalar.subi v2 c1_i32_561
  let c16_i32_562 : BitVec 32 := 16#32
  let c0_i32_563 : BitVec 32 := 0#32
  let v960 : BitVec 1 := Scalar.cmpi .eq c16_i32_562 c0_i32_563
  let c1_i32_564 : BitVec 32 := 1#32
  let v961 : BitVec 32 := Scalar.select v960 c1_i32_564 c16_i32_562
  let v962 : BitVec 32 := Scalar.remsi v959 v961
  let c0_i32_566 : BitVec 32 := 0#32
  let v964 : BitVec 1 := Scalar.cmpi .slt v962 c0_i32_566
  let c0_i32_567 : BitVec 32 := 0#32
  let v965 : BitVec 1 := Scalar.cmpi .slt v961 c0_i32_567
  let v966 : BitVec 1 := Scalar.xori v964 v965
  let c0_i32_565 : BitVec 32 := 0#32
  let v963 : BitVec 1 := Scalar.cmpi .ne v962 c0_i32_565
  let v967 : BitVec 1 := Scalar.andi v966 v963
  let v968 : BitVec 32 := Scalar.addi v962 v961
  let v969 : BitVec 32 := Scalar.select v967 v968 v962
  let c0_i32_570 : BitVec 32 := 0#32
  let c0_i32_571 : BitVec 32 := 0#32
  ![v969.toNat, 0, 0]
def k0_off20 (d0 : Dev nD) (c1_i32_561 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v959 : BitVec 32 := Scalar.subi v2 c1_i32_561
  let c16_i32_562 : BitVec 32 := 16#32
  let c0_i32_563 : BitVec 32 := 0#32
  let v960 : BitVec 1 := Scalar.cmpi .eq c16_i32_562 c0_i32_563
  let c1_i32_564 : BitVec 32 := 1#32
  let v961 : BitVec 32 := Scalar.select v960 c1_i32_564 c16_i32_562
  let v962 : BitVec 32 := Scalar.remsi v959 v961
  let c0_i32_566 : BitVec 32 := 0#32
  let v964 : BitVec 1 := Scalar.cmpi .slt v962 c0_i32_566
  let c0_i32_567 : BitVec 32 := 0#32
  let v965 : BitVec 1 := Scalar.cmpi .slt v961 c0_i32_567
  let v966 : BitVec 1 := Scalar.xori v964 v965
  let c0_i32_565 : BitVec 32 := 0#32
  let v963 : BitVec 1 := Scalar.cmpi .ne v962 c0_i32_565
  let v967 : BitVec 1 := Scalar.andi v966 v963
  let v968 : BitVec 32 := Scalar.addi v962 v961
  let v969 : BitVec 32 := Scalar.select v967 v968 v962
  let v978 : Index := Scalar.indexCast v969
  let c0_574 : Index := 0#32
  let c0_575 : Index := 0#32
  ![v978.toNat, 0, 0]
def k0_off21 (d0 : Dev nD) (c1_i32_561 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v959 : BitVec 32 := Scalar.subi v2 c1_i32_561
  let c16_i32_562 : BitVec 32 := 16#32
  let c0_i32_563 : BitVec 32 := 0#32
  let v960 : BitVec 1 := Scalar.cmpi .eq c16_i32_562 c0_i32_563
  let c1_i32_564 : BitVec 32 := 1#32
  let v961 : BitVec 32 := Scalar.select v960 c1_i32_564 c16_i32_562
  let v962 : BitVec 32 := Scalar.remsi v959 v961
  let c0_i32_566 : BitVec 32 := 0#32
  let v964 : BitVec 1 := Scalar.cmpi .slt v962 c0_i32_566
  let c0_i32_567 : BitVec 32 := 0#32
  let v965 : BitVec 1 := Scalar.cmpi .slt v961 c0_i32_567
  let v966 : BitVec 1 := Scalar.xori v964 v965
  let c0_i32_565 : BitVec 32 := 0#32
  let v963 : BitVec 1 := Scalar.cmpi .ne v962 c0_i32_565
  let v967 : BitVec 1 := Scalar.andi v966 v963
  let v968 : BitVec 32 := Scalar.addi v962 v961
  let v969 : BitVec 32 := Scalar.select v967 v968 v962
  let c256_i32_578 : BitVec 32 := 256#32
  let v992 : BitVec 32 := Scalar.muli v969 c256_i32_578
  let v993 : Index := Scalar.indexCast v992
  let c0_579 : Index := 0#32
  ![v993.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .local _ .vmem, ⟨0, _⟩ => ⟨S4096x4096, .bf16⟩
  | .local _ .vmem, ⟨1, _⟩ => ⟨S4096x8192, .bf16⟩
  | .local _ .vmem, ⟨2, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.TwinBody.lean ====
module
public import proofs.«01_k».proof.Defs
public import proofs.«01_k».proof.Proof.Gen.Kernel
public import proofs.«01_k».proof.Proof.Gen.KernelIdeal

/-! The two printings of the kernel's body have one text: part by part they are equal over the machine's floats. -/

@[expose] public section

noncomputable section

namespace Cert.Twin

open Idealize.ShloMosaic Idealize.SL.Sem

set_option maxHeartbeats 1000000

/-- Part 1 of the body is the same in both printings. -/
theorem k0_part1_eq : Kernel.k0_part1 (F := Bits) = KernelIdeal.k0_part1 (F := Bits) := by
  unfold Kernel.k0_part1 KernelIdeal.k0_part1
  rfl

/-- Part 2 of the body is the same in both printings. -/
theorem k0_part2_eq : Kernel.k0_part2 (F := Bits) = KernelIdeal.k0_part2 (F := Bits) := by
  unfold Kernel.k0_part2 KernelIdeal.k0_part2
  rfl

/-- Part 3 of the body is the same in both printings. -/
theorem k0_part3_eq : Kernel.k0_part3 (F := Bits) = KernelIdeal.k0_part3 (F := Bits) := by
  unfold Kernel.k0_part3 KernelIdeal.k0_part3
  rfl

/-- Part 4 of the body is the same in both printings. -/
theorem k0_part4_eq : Kernel.k0_part4 (F := Bits) = KernelIdeal.k0_part4 (F := Bits) := by
  unfold Kernel.k0_part4 KernelIdeal.k0_part4
  rfl

/-- Part 5 of the body is the same in both printings. -/
theorem k0_part5_eq : Kernel.k0_part5 (F := Bits) = KernelIdeal.k0_part5 (F := Bits) := by
  unfold Kernel.k0_part5 KernelIdeal.k0_part5
  rfl

/-- Part 6 of the body is the same in both printings. -/
theorem k0_part6_eq : Kernel.k0_part6 (F := Bits) = KernelIdeal.k0_part6 (F := Bits) := by
  unfold Kernel.k0_part6 KernelIdeal.k0_part6
  rfl

/-- Part 7 of the body is the same in both printings. -/
theorem k0_part7_eq : Kernel.k0_part7 (F := Bits) = KernelIdeal.k0_part7 (F := Bits) := by
  unfold Kernel.k0_part7 KernelIdeal.k0_part7
  rfl

/-- Part 8 of the body is the same in both printings. -/
theorem k0_part8_eq : Kernel.k0_part8 (F := Bits) = KernelIdeal.k0_part8 (F := Bits) := by
  unfold Kernel.k0_part8 KernelIdeal.k0_part8
  rfl

/-- Part 9 of the body is the same in both printings. -/
theorem k0_part9_eq : Kernel.k0_part9 (F := Bits) = KernelIdeal.k0_part9 (F := Bits) := by
  unfold Kernel.k0_part9 KernelIdeal.k0_part9
  rfl

/-- Part 10 of the body is the same in both printings. -/
theorem k0_part10_eq : Kernel.k0_part10 (F := Bits) = KernelIdeal.k0_part10 (F := Bits) := by
  unfold Kernel.k0_part10 KernelIdeal.k0_part10
  rfl

/-- Part 11 of the body is the same in both printings. -/
theorem k0_part11_eq : Kernel.k0_part11 (F := Bits) = KernelIdeal.k0_part11 (F := Bits) := by
  unfold Kernel.k0_part11 KernelIdeal.k0_part11
  rfl

/-- Part 12 of the body is the same in both printings. -/
theorem k0_part12_eq : Kernel.k0_part12 (F := Bits) = KernelIdeal.k0_part12 (F := Bits) := by
  unfold Kernel.k0_part12 KernelIdeal.k0_part12
  rfl

/-- Part 13 of the body is the same in both printings. -/
theorem k0_part13_eq : Kernel.k0_part13 (F := Bits) = KernelIdeal.k0_part13 (F := Bits) := by
  unfold Kernel.k0_part13 KernelIdeal.k0_part13
  rfl

/-- Part 14 of the body is the same in both printings. -/
theorem k0_part14_eq : Kernel.k0_part14 (F := Bits) = KernelIdeal.k0_part14 (F := Bits) := by
  unfold Kernel.k0_part14 KernelIdeal.k0_part14
  rfl

/-- Part 15 of the body is the same in both printings. -/
theorem k0_part15_eq : Kernel.k0_part15 (F := Bits) = KernelIdeal.k0_part15 (F := Bits) := by
  unfold Kernel.k0_part15 KernelIdeal.k0_part15
  rfl

/-- Part 16 of the body is the same in both printings. -/
theorem k0_part16_eq : Kernel.k0_part16 (F := Bits) = KernelIdeal.k0_part16 (F := Bits) := by
  unfold Kernel.k0_part16 KernelIdeal.k0_part16
  rfl

/-- Part 17 of the body is the same in both printings. -/
theorem k0_part17_eq : Kernel.k0_part17 (F := Bits) = KernelIdeal.k0_part17 (F := Bits) := by
  unfold Kernel.k0_part17 KernelIdeal.k0_part17
  rfl

/-- Part 18 of the body is the same in both printings. -/
theorem k0_part18_eq : Kernel.k0_part18 (F := Bits) = KernelIdeal.k0_part18 (F := Bits) := by
  unfold Kernel.k0_part18 KernelIdeal.k0_part18
  rfl

/-- Part 19 of the body is the same in both printings. -/
theorem k0_part19_eq : Kernel.k0_part19 (F := Bits) = KernelIdeal.k0_part19 (F := Bits) := by
  unfold Kernel.k0_part19 KernelIdeal.k0_part19
  rfl

/-- Part 20 of the body is the same in both printings. -/
theorem k0_part20_eq : Kernel.k0_part20 (F := Bits) = KernelIdeal.k0_part20 (F := Bits) := by
  unfold Kernel.k0_part20 KernelIdeal.k0_part20
  rfl

/-- Part 21 of the body is the same in both printings. -/
theorem k0_part21_eq : Kernel.k0_part21 (F := Bits) = KernelIdeal.k0_part21 (F := Bits) := by
  unfold Kernel.k0_part21 KernelIdeal.k0_part21
  rfl

/-- Part 22 of the body is the same in both printings. -/
theorem k0_part22_eq : Kernel.k0_part22 (F := Bits) = KernelIdeal.k0_part22 (F := Bits) := by
  unfold Kernel.k0_part22 KernelIdeal.k0_part22
  rfl

/-- Part 23 of the body is the same in both printings. -/
theorem k0_part23_eq : Kernel.k0_part23 (F := Bits) = KernelIdeal.k0_part23 (F := Bits) := by
  unfold Kernel.k0_part23 KernelIdeal.k0_part23
  rfl

/-- Part 24 of the body is the same in both printings. -/
theorem k0_part24_eq : Kernel.k0_part24 (F := Bits) = KernelIdeal.k0_part24 (F := Bits) := by
  unfold Kernel.k0_part24 KernelIdeal.k0_part24
  rfl

/-- Part 25 of the body is the same in both printings. -/
theorem k0_part25_eq : Kernel.k0_part25 (F := Bits) = KernelIdeal.k0_part25 (F := Bits) := by
  unfold Kernel.k0_part25 KernelIdeal.k0_part25
  rfl

/-- Part 26 of the body is the same in both printings. -/
theorem k0_part26_eq : Kernel.k0_part26 (F := Bits) = KernelIdeal.k0_part26 (F := Bits) := by
  unfold Kernel.k0_part26 KernelIdeal.k0_part26
  rfl

/-- Part 27 of the body is the same in both printings. -/
theorem k0_part27_eq : Kernel.k0_part27 (F := Bits) = KernelIdeal.k0_part27 (F := Bits) := by
  unfold Kernel.k0_part27 KernelIdeal.k0_part27
  rfl

/-- Part 28 of the body is the same in both printings. -/
theorem k0_part28_eq : Kernel.k0_part28 (F := Bits) = KernelIdeal.k0_part28 (F := Bits) := by
  unfold Kernel.k0_part28 KernelIdeal.k0_part28
  rfl

/-- Part 29 of the body is the same in both printings. -/
theorem k0_part29_eq : Kernel.k0_part29 (F := Bits) = KernelIdeal.k0_part29 (F := Bits) := by
  unfold Kernel.k0_part29 KernelIdeal.k0_part29
  rfl

/-- Part 30 of the body is the same in both printings. -/
theorem k0_part30_eq : Kernel.k0_part30 (F := Bits) = KernelIdeal.k0_part30 (F := Bits) := by
  unfold Kernel.k0_part30 KernelIdeal.k0_part30
  rfl

/-- Part 31 of the body is the same in both printings. -/
theorem k0_part31_eq : Kernel.k0_part31 (F := Bits) = KernelIdeal.k0_part31 (F := Bits) := by
  unfold Kernel.k0_part31 KernelIdeal.k0_part31
  rfl

/-- Part 32 of the body is the same in both printings. -/
theorem k0_part32_eq : Kernel.k0_part32 (F := Bits) = KernelIdeal.k0_part32 (F := Bits) := by
  unfold Kernel.k0_part32 KernelIdeal.k0_part32
  rfl

/-- Part 33 of the body is the same in both printings. -/
theorem k0_part33_eq : Kernel.k0_part33 (F := Bits) = KernelIdeal.k0_part33 (F := Bits) := by
  unfold Kernel.k0_part33 KernelIdeal.k0_part33
  rfl

/-- Part 34 of the body is the same in both printings. -/
theorem k0_part34_eq : Kernel.k0_part34 (F := Bits) = KernelIdeal.k0_part34 (F := Bits) := by
  unfold Kernel.k0_part34 KernelIdeal.k0_part34
  rfl

/-- Part 35 of the body is the same in both printings. -/
theorem k0_part35_eq : Kernel.k0_part35 (F := Bits) = KernelIdeal.k0_part35 (F := Bits) := by
  unfold Kernel.k0_part35 KernelIdeal.k0_part35
  rfl

/-- Part 36 of the body is the same in both printings. -/
theorem k0_part36_eq : Kernel.k0_part36 (F := Bits) = KernelIdeal.k0_part36 (F := Bits) := by
  unfold Kernel.k0_part36 KernelIdeal.k0_part36
  rfl

/-- Part 37 of the body is the same in both printings. -/
theorem k0_part37_eq : Kernel.k0_part37 (F := Bits) = KernelIdeal.k0_part37 (F := Bits) := by
  unfold Kernel.k0_part37 KernelIdeal.k0_part37
  rfl

/-- Part 38 of the body is the same in both printings. -/
theorem k0_part38_eq : Kernel.k0_part38 (F := Bits) = KernelIdeal.k0_part38 (F := Bits) := by
  unfold Kernel.k0_part38 KernelIdeal.k0_part38
  rfl

/-- Part 39 of the body is the same in both printings. -/
theorem k0_part39_eq : Kernel.k0_part39 (F := Bits) = KernelIdeal.k0_part39 (F := Bits) := by
  unfold Kernel.k0_part39 KernelIdeal.k0_part39
  rfl

/-- Part 40 of the body is the same in both printings. -/
theorem k0_part40_eq : Kernel.k0_part40 (F := Bits) = KernelIdeal.k0_part40 (F := Bits) := by
  unfold Kernel.k0_part40 KernelIdeal.k0_part40
  rfl

/-- Part 41 of the body is the same in both printings. -/
theorem k0_part41_eq : Kernel.k0_part41 (F := Bits) = KernelIdeal.k0_part41 (F := Bits) := by
  unfold Kernel.k0_part41 KernelIdeal.k0_part41
  rfl

/-- Part 42 of the body is the same in both printings. -/
theorem k0_part42_eq : Kernel.k0_part42 (F := Bits) = KernelIdeal.k0_part42 (F := Bits) := by
  unfold Kernel.k0_part42 KernelIdeal.k0_part42
  rfl

/-- Part 43 of the body is the same in both printings. -/
theorem k0_part43_eq : Kernel.k0_part43 (F := Bits) = KernelIdeal.k0_part43 (F := Bits) := by
  unfold Kernel.k0_part43 KernelIdeal.k0_part43
  rfl

/-- Part 44 of the body is the same in both printings. -/
theorem k0_part44_eq : Kernel.k0_part44 (F := Bits) = KernelIdeal.k0_part44 (F := Bits) := by
  unfold Kernel.k0_part44 KernelIdeal.k0_part44
  rfl

/-- Part 45 of the body is the same in both printings. -/
theorem k0_part45_eq : Kernel.k0_part45 (F := Bits) = KernelIdeal.k0_part45 (F := Bits) := by
  unfold Kernel.k0_part45 KernelIdeal.k0_part45
  rfl

/-- Part 46 of the body is the same in both printings. -/
theorem k0_part46_eq : Kernel.k0_part46 (F := Bits) = KernelIdeal.k0_part46 (F := Bits) := by
  unfold Kernel.k0_part46 KernelIdeal.k0_part46
  rfl

/-- Part 47 of the body is the same in both printings. -/
theorem k0_part47_eq : Kernel.k0_part47 (F := Bits) = KernelIdeal.k0_part47 (F := Bits) := by
  unfold Kernel.k0_part47 KernelIdeal.k0_part47
  rfl

/-- Part 48 of the body is the same in both printings. -/
theorem k0_part48_eq : Kernel.k0_part48 (F := Bits) = KernelIdeal.k0_part48 (F := Bits) := by
  unfold Kernel.k0_part48 KernelIdeal.k0_part48
  rfl

/-- Part 49 of the body is the same in both printings. -/
theorem k0_part49_eq : Kernel.k0_part49 (F := Bits) = KernelIdeal.k0_part49 (F := Bits) := by
  unfold Kernel.k0_part49 KernelIdeal.k0_part49
  rfl

/-- Part 50 of the body is the same in both printings. -/
theorem k0_part50_eq : Kernel.k0_part50 (F := Bits) = KernelIdeal.k0_part50 (F := Bits) := by
  unfold Kernel.k0_part50 KernelIdeal.k0_part50
  rfl

/-- Part 51 of the body is the same in both printings. -/
theorem k0_part51_eq : Kernel.k0_part51 (F := Bits) = KernelIdeal.k0_part51 (F := Bits) := by
  unfold Kernel.k0_part51 KernelIdeal.k0_part51
  rfl

/-- Part 52 of the body is the same in both printings. -/
theorem k0_part52_eq : Kernel.k0_part52 (F := Bits) = KernelIdeal.k0_part52 (F := Bits) := by
  unfold Kernel.k0_part52 KernelIdeal.k0_part52
  rfl

/-- Part 53 of the body is the same in both printings. -/
theorem k0_part53_eq : Kernel.k0_part53 (F := Bits) = KernelIdeal.k0_part53 (F := Bits) := by
  unfold Kernel.k0_part53 KernelIdeal.k0_part53
  rfl

/-- Part 54 of the body is the same in both printings. -/
theorem k0_part54_eq : Kernel.k0_part54 (F := Bits) = KernelIdeal.k0_part54 (F := Bits) := by
  unfold Kernel.k0_part54 KernelIdeal.k0_part54
  rfl

/-- Part 55 of the body is the same in both printings. -/
theorem k0_part55_eq : Kernel.k0_part55 (F := Bits) = KernelIdeal.k0_part55 (F := Bits) := by
  unfold Kernel.k0_part55 KernelIdeal.k0_part55
  rfl

/-- Part 56 of the body is the same in both printings. -/
theorem k0_part56_eq : Kernel.k0_part56 (F := Bits) = KernelIdeal.k0_part56 (F := Bits) := by
  unfold Kernel.k0_part56 KernelIdeal.k0_part56
  rfl

/-- The kernel's body is the same in both printings. -/
theorem cc0_body_eq : Kernel.cc0_body (F := Bits) = KernelIdeal.cc0_body (F := Bits) := by
  unfold Kernel.cc0_body KernelIdeal.cc0_body
  rfl

end Cert.Twin

end
-- ==== Proof.Twin.lean ====
module
public import proofs.«01_k».proof.Proof.TwinBody

/-! The two printings of the whole program are equal over the machine's floats. -/

@[expose] public section

noncomputable section

namespace Cert.Twin

open Idealize.ShloMosaic Idealize.SL.Sem

set_option maxHeartbeats 1000000

/-- The host's programs are equal. -/
theorem main_eq : Kernel.main (F := Bits) = KernelIdeal.main (F := Bits) := by
  unfold Kernel.main KernelIdeal.main
  rfl

/-- The tables of the kernels' bodies are equal. -/
theorem defs0_eq : Kernel.defs₀ (F := Bits) = KernelIdeal.defs₀ (F := Bits) := by
  unfold Kernel.defs₀ KernelIdeal.defs₀
  rw [cc0_body_eq]
  refine congrArg Defs.onTc ?_
  funext x y
  match x, y with
  | 0, (t, s) => rfl
  | ⟨n + 1, h⟩, _ => exact absurd h (Nat.not_lt.2 (Nat.le_add_left _ _))

/-- The tables of all bodies are equal. -/
theorem defs_eq : Kernel.defs (F := Bits) = KernelIdeal.defs (F := Bits) := by
  unfold Kernel.defs KernelIdeal.defs
  rw [defs0_eq]
  rfl

end Cert.Twin

end
-- ==== Proof.Mesh.lean ====
module
public import proofs.«01_k».proof.Proof.Gen.KernelIdeal

/-! The kernel's index arithmetic in closed form. Device `c` of the ring of sixteen talks to
`c + s` and hears from `c - s`; every offset, peer and condition of the body is one of these. -/

@[expose] public section

noncomputable section

namespace Cert.KernelIdeal.Ring

open Idealize.ShloMosaic Idealize.ShloMosaic.TcCoe Cert.KernelIdeal Cert.KernelIdeal.Gen

/-- The word of a step of the ring. -/
abbrev wd (s : Fin 16) : BitVec 32 := BitVec.ofNat 32 s.val

/-- The closed form of offset 10 at the step `s`. -/
theorem off10 : ∀ (c : Dev nD) (s : Fin 16), k0_off10 c (wd s) = ![(c + s).val] := by decide +kernel

/-- The closed form of offset 13 at the step `s`. -/
theorem off13 : ∀ (c : Dev nD) (s : Fin 16), k0_off13 c (wd s) = ![(c + s).val, 0, 0] := by decide +kernel

/-- The closed form of offset 14 at the step `s`. -/
theorem off14 : ∀ (c : Dev nD) (s : Fin 16), k0_off14 c (wd s) = ![(c + s).val, 0, 0] := by decide +kernel

/-- The closed form of offset 16 at the step `s`. -/
theorem off16 : ∀ (c : Dev nD) (s : Fin 16), k0_off16 c (wd s) = ![(c + s).val, 0, 0] := by decide +kernel

/-- The closed form of offset 18 at the step `s`. -/
theorem off18 : ∀ (c : Dev nD) (s : Fin 16), k0_off18 c (wd s) = ![(c - s).val] := by decide +kernel

/-- The closed form of offset 19 at the step `s`. -/
theorem off19 : ∀ (c : Dev nD) (s : Fin 16), k0_off19 c (wd s) = ![(c - s).val, 0, 0] := by decide +kernel

/-- The closed form of offset 20 at the step `s`. -/
theorem off20 : ∀ (c : Dev nD) (s : Fin 16), k0_off20 c (wd s) = ![(c - s).val, 0, 0] := by decide +kernel

/-- The closed form of offset 21 at the step `s`. -/
theorem off21 : ∀ (c : Dev nD) (s : Fin 16), k0_off21 c (wd s) = ![256 * (c - s).val, 0] := by decide +kernel

/-- The closed form of offset 3 at the word of a device. -/
theorem off3 : ∀ s : Dev nD, k0_off3 (BitVec.ofNat 32 s.val) = ![s.val, 0, 0] := by decide +kernel

/-- The closed form of offset 4 at the word of a device. -/
theorem off4 : ∀ s : Dev nD, k0_off4 (BitVec.ofNat 32 s.val) = ![s.val] := by decide +kernel

/-- The closed form of offset 7 at the word of a device. -/
theorem off7 : ∀ s : Dev nD, k0_off7 (BitVec.ofNat 32 s.val) = ![s.val, 0, 0] := by decide +kernel

/-- The peer a table word names. -/
theorem dev16 : ∀ s : Dev nD, k0_dev16 (BitVec.ofNat 32 s.val) = s.val := by decide +kernel

/-- The peer of remote operation 1: `1` steps ahead. -/
theorem dev1 : ∀ c : Dev nD, k0_dev1 c = (c + (1 : Fin 16)).val := by decide +kernel

/-- The peer of remote operation 2: `2` steps ahead. -/
theorem dev2 : ∀ c : Dev nD, k0_dev2 c = (c + (2 : Fin 16)).val := by decide +kernel

/-- The peer of remote operation 3: `3` steps ahead. -/
theorem dev3 : ∀ c : Dev nD, k0_dev3 c = (c + (3 : Fin 16)).val := by decide +kernel

/-- The peer of remote operation 4: `4` steps ahead. -/
theorem dev4 : ∀ c : Dev nD, k0_dev4 c = (c + (4 : Fin 16)).val := by decide +kernel

/-- The peer of remote operation 5: `5` steps ahead. -/
theorem dev5 : ∀ c : Dev nD, k0_dev5 c = (c + (5 : Fin 16)).val := by decide +kernel

/-- The peer of remote operation 6: `6` steps ahead. -/
theorem dev6 : ∀ c : Dev nD, k0_dev6 c = (c + (6 : Fin 16)).val := by decide +kernel

/-- The peer of remote operation 7: `7` steps ahead. -/
theorem dev7 : ∀ c : Dev nD, k0_dev7 c = (c + (7 : Fin 16)).val := by decide +kernel

/-- The peer of remote operation 8: `8` steps ahead. -/
theorem dev8 : ∀ c : Dev nD, k0_dev8 c = (c + (8 : Fin 16)).val := by decide +kernel

/-- The peer of remote operation 9: `9` steps ahead. -/
theorem dev9 : ∀ c : Dev nD, k0_dev9 c = (c + (9 : Fin 16)).val := by decide +kernel

/-- The peer of remote operation 10: `10` steps ahead. -/
theorem dev10 : ∀ c : Dev nD, k0_dev10 c = (c + (10 : Fin 16)).val := by decide +kernel

/-- The peer of remote operation 11: `11` steps ahead. -/
theorem dev11 : ∀ c : Dev nD, k0_dev11 c = (c + (11 : Fin 16)).val := by decide +kernel

/-- The peer of remote operation 12: `12` steps ahead. -/
theorem dev12 : ∀ c : Dev nD, k0_dev12 c = (c + (12 : Fin 16)).val := by decide +kernel

/-- The peer of remote operation 13: `13` steps ahead. -/
theorem dev13 : ∀ c : Dev nD, k0_dev13 c = (c + (13 : Fin 16)).val := by decide +kernel

/-- The peer of remote operation 14: `14` steps ahead. -/
theorem dev14 : ∀ c : Dev nD, k0_dev14 c = (c + (14 : Fin 16)).val := by decide +kernel

/-- The peer of remote operation 15: `15` steps ahead. -/
theorem dev15 : ∀ c : Dev nD, k0_dev15 c = (c + (15 : Fin 16)).val := by decide +kernel

/-- The peer of remote operation 17: `1` steps ahead. -/
theorem dev17 : ∀ c : Dev nD, k0_dev17 c = (c + (1 : Fin 16)).val := by decide +kernel

/-- The peer of remote operation 18: `2` steps ahead. -/
theorem dev18 : ∀ c : Dev nD, k0_dev18 c = (c + (2 : Fin 16)).val := by decide +kernel

/-- The peer of remote operation 19: `3` steps ahead. -/
theorem dev19 : ∀ c : Dev nD, k0_dev19 c = (c + (3 : Fin 16)).val := by decide +kernel

/-- The peer of remote operation 20: `4` steps ahead. -/
theorem dev20 : ∀ c : Dev nD, k0_dev20 c = (c + (4 : Fin 16)).val := by decide +kernel

/-- The peer of remote operation 21: `5` steps ahead. -/
theorem dev21 : ∀ c : Dev nD, k0_dev21 c = (c + (5 : Fin 16)).val := by decide +kernel

/-- The peer of remote operation 22: `6` steps ahead. -/
theorem dev22 : ∀ c : Dev nD, k0_dev22 c = (c + (6 : Fin 16)).val := by decide +kernel

/-- The peer of remote operation 23: `7` steps ahead. -/
theorem dev23 : ∀ c : Dev nD, k0_dev23 c = (c + (7 : Fin 16)).val := by decide +kernel

/-- The peer of remote operation 24: `8` steps ahead. -/
theorem dev24 : ∀ c : Dev nD, k0_dev24 c = (c + (8 : Fin 16)).val := by decide +kernel

/-- The peer of remote operation 25: `9` steps ahead. -/
theorem dev25 : ∀ c : Dev nD, k0_dev25 c = (c + (9 : Fin 16)).val := by decide +kernel

/-- The peer of remote operation 26: `10` steps ahead. -/
theorem dev26 : ∀ c : Dev nD, k0_dev26 c = (c + (10 : Fin 16)).val := by decide +kernel

/-- The peer of remote operation 27: `11` steps ahead. -/
theorem dev27 : ∀ c : Dev nD, k0_dev27 c = (c + (11 : Fin 16)).val := by decide +kernel

/-- The peer of remote operation 28: `12` steps ahead. -/
theorem dev28 : ∀ c : Dev nD, k0_dev28 c = (c + (12 : Fin 16)).val := by decide +kernel

/-- The peer of remote operation 29: `13` steps ahead. -/
theorem dev29 : ∀ c : Dev nD, k0_dev29 c = (c + (13 : Fin 16)).val := by decide +kernel

/-- The peer of remote operation 30: `14` steps ahead. -/
theorem dev30 : ∀ c : Dev nD, k0_dev30 c = (c + (14 : Fin 16)).val := by decide +kernel

/-- The peer of remote operation 31: `15` steps ahead. -/
theorem dev31 : ∀ c : Dev nD, k0_dev31 c = (c + (15 : Fin 16)).val := by decide +kernel

/-- The peer of remote operation 32: `8` steps ahead. -/
theorem dev32 : ∀ c : Dev nD, k0_dev32 c = (c + (8 : Fin 16)).val := by decide +kernel

/-- The peer of remote operation 33: `9` steps ahead. -/
theorem dev33 : ∀ c : Dev nD, k0_dev33 c = (c + (9 : Fin 16)).val := by decide +kernel

/-- The peer of remote operation 34: `10` steps ahead. -/
theorem dev34 : ∀ c : Dev nD, k0_dev34 c = (c + (10 : Fin 16)).val := by decide +kernel

/-- The peer of remote operation 35: `11` steps ahead. -/
theorem dev35 : ∀ c : Dev nD, k0_dev35 c = (c + (11 : Fin 16)).val := by decide +kernel

/-- The peer of remote operation 36: `12` steps ahead. -/
theorem dev36 : ∀ c : Dev nD, k0_dev36 c = (c + (12 : Fin 16)).val := by decide +kernel

/-- The peer of remote operation 37: `13` steps ahead. -/
theorem dev37 : ∀ c : Dev nD, k0_dev37 c = (c + (13 : Fin 16)).val := by decide +kernel

/-- The peer of remote operation 38: `14` steps ahead. -/
theorem dev38 : ∀ c : Dev nD, k0_dev38 c = (c + (14 : Fin 16)).val := by decide +kernel

/-- The peer of remote operation 39: `15` steps ahead. -/
theorem dev39 : ∀ c : Dev nD, k0_dev39 c = (c + (15 : Fin 16)).val := by decide +kernel

/-- The first point of the grid is the one of the handshake. -/
theorem cond1 : ∀ i : grid0.Coords, k0_cond1 i = 1#1 ↔ (i 0).val = 0 := by decide +kernel
/-- Every point but the last stores a block to send. -/
theorem cond5 : ∀ i : grid0.Coords, k0_cond5 i = 1#1 ↔ (i 0).val < 15 := by decide +kernel
/-- The first seven points send a block at once. -/
theorem cond6 : ∀ i : grid0.Coords, k0_cond6 i = 1#1 ↔ (i 0).val < 7 := by decide +kernel
/-- The last point quantises, exchanges and writes out. -/
theorem cond7 : ∀ i : grid0.Coords, k0_cond7 i = 1#1 ↔ (i 0).val = 15 := by decide +kernel
/-- What the kernel assumes of a table word holds of the word of a device. -/
theorem chk1 : ∀ (i : grid0.Coords) (s : Dev nD), k0_chk1 i (BitVec.ofNat 32 s.val) := by decide +kernel

end Cert.KernelIdeal.Ring

end
-- ==== Proof.Cells.lean ====
module
public import proofs.«01_k».proof.Proof.Mesh
public import proofs.«01_k».proof.Proof.Gen.KernelIdeal.Skeleton
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic

/-! Buffers, semaphore cells and canonical contents of the exchange.

Every value a copy carries is a function of the inputs alone, so the contents of every buffer are
named once here: `SEND`, `ASM`, `F8SEND`, `F8ASM`, `SB` and `OUT`. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Buffers -/

/-- The kept copy of the device's own row block. -/
abbrev xbM : Memref sig .tc .vmem S256x4096 .bf16 := Memref.whole cc0_scratch0
/-- The near blocks received. -/
abbrev asmM : Memref sig .tc .vmem S16x256x512 .bf16 := Memref.whole cc0_scratch1
/-- The quantised far blocks received. -/
abbrev f8M : Memref sig .tc .vmem S16x256x512 .fp8e4m3 := Memref.whole cc0_scratch2
/-- The product blocks to send. -/
abbrev sendM : Memref sig .tc .vmem S16x256x512 .bf16 := Memref.whole cc0_scratch3
/-- The quantised blocks to send. -/
abbrev f8sM : Memref sig .tc .vmem S16x256x512 .fp8e4m3 := Memref.whole cc0_scratch4
/-- The maxima of all devices. -/
abbrev scalM : Memref sig .tc .vmem S16x8x128 .f32 := Memref.whole cc0_scratch5
/-- The running maximum. -/
abbrev amaxM : Memref sig .tc .smem S1 .f32 := Memref.whole cc0_scratch6

theorem inb3 (n : Fin 16) : ∀ a, (![n.val, 0, 0] : Fin 3 → Nat) a + S1x256x512.size a ≤ S16x256x512.size a := by
  revert n; decide
theorem inb8 (n : Fin 16) : ∀ a, (![n.val, 0, 0] : Fin 3 → Nat) a + S1x8x128.size a ≤ S16x8x128.size a := by
  revert n; decide

/-- The rectangle of slot `n` of a block buffer. -/
abbrev rect3 (n : Fin 16) : Rect S16x256x512 := Rect.unit (s := S16x256x512) ![n.val, 0, 0] S1x256x512.size (inb3 n)
/-- The rectangle of slot `n` of the buffer of maxima. -/
abbrev rect8 (n : Fin 16) : Rect S16x8x128 := Rect.unit (s := S16x8x128) ![n.val, 0, 0] S1x8x128.size (inb8 n)

/-- Slot `n` of a buffer of sixteen blocks. -/
abbrev slot {e : EltTy} (A : Memref sig .tc .vmem S16x256x512 e) (n : Fin 16) : Memref sig .tc .vmem S256x512 e :=
  (A.slice (rect3 n) (fun _ => rfl)).squeeze S256x512 squeezes_S1x256x512_S256x512
/-- Slot `n` of the buffer of maxima. -/
abbrev slot8 (A : Memref sig .tc .vmem S16x8x128 .f32) (n : Fin 16) : Memref sig .tc .vmem S8x128 .f32 :=
  (A.slice (rect8 n) (fun _ => rfl)).squeeze S8x128 squeezes_S1x8x128_S8x128

/-! ## Semaphores -/

/-- The barrier semaphore. -/
abbrev barS : Sem sig := sig.barrier 0 rfl
/-- The semaphore of kind `k` at index `n`: kinds 0 and 1 are the sends and receives of near
    blocks, 2 and 3 of far blocks, 4 and 5 of the maxima. -/
def cell (k : Fin 6) (n : Fin 16) : DmaSem sig := ⟨4 + 16 * k.val + n.val, by have := k.isLt; have := n.isLt; show _ < 100; omega⟩
/-- The kind of a DMA semaphore. -/
def kindOf (q : DmaSem sig) : ℕ := (q.val - 4) / 16
/-- Its index. -/
def idxOf (q : DmaSem sig) : Fin 16 := ⟨(q.val - 4) % 16, Nat.mod_lt _ (by decide)⟩

theorem kindOf_cell (k : Fin 6) (n : Fin 16) : kindOf (cell k n) = k.val := by revert k n; decide
theorem idxOf_cell (k : Fin 6) (n : Fin 16) : idxOf (cell k n) = n := by revert k n; decide
theorem cell_inj : Function.Injective (fun p : Fin 6 × Fin 16 => cell p.1 p.2) := fun p p' h => by
  have h1 := congrArg kindOf h; have h2 := congrArg idxOf h
  simp only [kindOf_cell, idxOf_cell] at h1 h2
  exact Prod.ext (Fin.ext h1) h2

/-- The cell of a device's barrier. -/
abbrev barCell (c : Dev nD) : GSem nD τ sig := ((c : Thread nD τ), .reg barS)
/-- The cell of kind `k`, index `n` on device `c`. -/
abbrev dCell (c : Dev nD) (k : Fin 6) (n : Fin 16) : GSem nD τ sig := ((c : Thread nD τ), .dma (cell k n))

/-! ## Contents -/

/-- The inputs a run works from: each device's row block of the left operand, and the column blocks
    of the right operand it holds. -/
structure Inp (F : FTy → Type) where
  X : Dev nD → Vec F S256x4096 .bf16
  W : Dev nD → Fin 16 → Vec F S4096x512 .bf16

variable (I : Inp F)

/-- Sixteen blocks side by side in one buffer. -/
def spread {α : Type} (P : Fin 16 → S1x256x512.Idx → α) : S16x256x512.Idx → α :=
  fun i => P (i 0) (fun | 0 => (0 : Fin 1) | 1 => i 1 | 2 => i 2)
/-- The same for the small blocks of the maxima. -/
def spread8 {α : Type} (P : Fin 16 → S1x8x128.Idx → α) : S16x8x128.Idx → α :=
  fun i => P (i 0) (fun | 0 => (0 : Fin 1) | 1 => i 1 | 2 => i 2)

/-- The row block as the kernel keeps it. -/
def XB (c : Dev nD) : Vec F S256x4096 .bf16 := k0_pay37 (I.X c)
/-- The product of device `c`'s rows with column block `n`. -/
def BB (c : Dev nD) (n : Fin 16) : Vec F S1x256x512 .bf16 := k0_pay41 (I.W c n) (XB I c)
/-- The running maximum of device `c` after `t + 1` blocks. -/
def AM (c : Dev nD) : ℕ → Elt F .f32
  | 0 => k0_pay39 (I.W c (c + 1)) (XB I c)
  | t + 1 => k0_pay40 (I.W c (c + Fin.ofNat 16 (t + 2))) (XB I c) (AM c t)
/-- The buffer of maxima when complete. -/
def SB : Vec F S16x8x128 .f32 := spread8 fun n => k0_pay2 (AM I n 15)
/-- The common scale. -/
def SC : F .f32 := k0_pay4 (SB I)
/-- Its inverse. -/
def IV : F .f32 := k0_pay5 (SB I)
/-- The quantised block. -/
def F8 (c : Dev nD) (n : Fin 16) : Vec F S1x256x512 .fp8e4m3 := k0_pay12 (IV I) (BB I c n)
/-- The buffer of blocks to send. -/
def SEND (c : Dev nD) : Vec F S16x256x512 .bf16 := spread fun n => BB I c n
/-- The buffer of near blocks received. -/
def ASM (c : Dev nD) : Vec F S16x256x512 .bf16 := spread fun n => BB I n c
/-- The buffer of quantised blocks to send. -/
def F8SEND (c : Dev nD) : Vec F S16x256x512 .fp8e4m3 := spread fun n => F8 I c n
/-- The buffer of quantised blocks received. -/
def F8ASM (c : Dev nD) : Vec F S16x256x512 .fp8e4m3 := spread fun n => F8 I n c
/-- The block of the result that comes from device `n`: near ones are quantised where they land. -/
def OB (c : Dev nD) (n : Fin 16) : Vec F S256x512 .f32 :=
  if (c - n).val ≤ 7 then k0_pay17 (SC I) (IV I) (BB I n c) else k0_pay29 (SC I) (F8 I n c)
/-- The result of device `c`. -/
def OUT (c : Dev nD) : Vec F S4096x512 .f32 := fun i =>
  OB I c ⟨(i 0).val / 256, by have := (i 0).isLt; change (i 0).val < 4096 at this; omega⟩
    (fun | 0 => (⟨(i 0).val % 256, Nat.mod_lt _ (by decide)⟩ : Fin 256) | 1 => i 1)

theorem one_idx (x : S1x256x512.Idx) : (fun | 0 => (0 : Fin 1) | 1 => x 1 | 2 => x 2 : S1x256x512.Idx) = x := by
  funext a
  match a with
  | 0 => exact Subsingleton.elim (α := Fin 1) _ _
  | 1 => rfl
  | 2 => rfl

/-- Slot `n` of sixteen blocks reads as block `n`. -/
theorem spread_at {α : Type} (P : Fin 16 → S1x256x512.Idx → α) (n : Fin 16) (x : S1x256x512.Idx) :
    spread P ((rect3 n).emb x) = P n x := by
  have h0 : (rect3 n).emb x 0 = n := by
    apply Fin.ext
    have : (x 0).val = 0 := by have := (x 0).isLt; change (x 0).val < 1 at this; omega
    show n.val + 1 * (x 0).val = n.val
    omega
  have h1 : (rect3 n).emb x 1 = x 1 := by apply Fin.ext; show 0 + 1 * (x 1).val = _; omega
  have h2 : (rect3 n).emb x 2 = x 2 := by apply Fin.ext; show 0 + 1 * (x 2).val = _; omega
  unfold spread
  rw [h0]
  congr 1
  rw [← one_idx x]
  funext a
  match a with
  | 0 => rfl
  | 1 => exact h1
  | 2 => exact h2

theorem one_idx8 (x : S1x8x128.Idx) : (fun | 0 => (0 : Fin 1) | 1 => x 1 | 2 => x 2 : S1x8x128.Idx) = x := by
  funext a
  match a with
  | 0 => exact Subsingleton.elim (α := Fin 1) _ _
  | 1 => rfl
  | 2 => rfl

/-- Slot `n` of the buffer of maxima reads as its block `n`. -/
theorem spread8_at {α : Type} (P : Fin 16 → S1x8x128.Idx → α) (n : Fin 16) (x : S1x8x128.Idx) :
    spread8 P ((rect8 n).emb x) = P n x := by
  have h0 : (rect8 n).emb x 0 = n := by
    apply Fin.ext
    have : (x 0).val = 0 := by have := (x 0).isLt; change (x 0).val < 1 at this; omega
    show n.val + 1 * (x 0).val = n.val
    omega
  have h1 : (rect8 n).emb x 1 = x 1 := by apply Fin.ext; show 0 + 1 * (x 1).val = _; omega
  have h2 : (rect8 n).emb x 2 = x 2 := by apply Fin.ext; show 0 + 1 * (x 2).val = _; omega
  unfold spread8
  rw [h0]
  congr 1
  rw [← one_idx8 x]
  funext a
  match a with
  | 0 => rfl
  | 1 => exact h1
  | 2 => exact h2

/-! ## Points-tos of slots -/

/-- A DMA cell has one duty; a barrier cell one for each other device. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-- Slot `n` of buffer `A` on device `c`, at contents `f`. -/
abbrev pts {e : EltTy} (A : Memref sig .tc .vmem S16x256x512 e) (c : Dev nD) (n : Fin 16)
    (f : Buf (Elt F) ((slot A n).view.loc (c : Thread nD τ))) : sProp 𝕄 :=
  (slot A n).view.loc (c : Thread nD τ) ↦[(slot A n).view.set]{fullShare} f
/-- Slot `n` of the maxima on device `c`, at contents `f`, at a share. -/
abbrev pts8 (c : Dev nD) (n : Fin 16) (q : PosShare TreeShare)
    (f : Buf (Elt F) ((slot8 scalM n).view.loc (c : Thread nD τ))) : sProp 𝕄 :=
  (slot8 scalM n).view.loc (c : Thread nD τ) ↦[(slot8 scalM n).view.set]{q} f
/-- Slot `n` of buffer `A` on device `c`, at some contents. -/
def any {e : EltTy} (A : Memref sig .tc .vmem S16x256x512 e) (c : Dev nD) (n : Fin 16) : sProp 𝕄 := iprop(∃ f, pts (F := F) A c n f)
/-- Slot `n` of the maxima on device `c`, at some contents. -/
def any8 (c : Dev nD) (n : Fin 16) : sProp 𝕄 := iprop(∃ f, pts8 (F := F) c n fullShare f)

/-- The units a near block credits. -/
abbrev N16 : ℕ := (slot asmM 0).view.dmaCredit
/-- The units a quantised block credits. -/
abbrev N8 : ℕ := (slot f8M 0).view.dmaCredit
/-- The units a block of the maxima credits. -/
abbrev NS : ℕ := (slot8 scalM 0).view.dmaCredit

/-! ## The schedule -/

/-- What device `e` hands device `c` with its barrier unit: the slots of `c` in `e`'s buffers, and
    that the receiving cells are open. -/
def barPay (c e : Dev nD) : sProp 𝕄 :=
  iprop((any8 (F := F) e c ∗ reached ER (dCell e 5 c) 0)
    ∗ if (e - c).val ≤ 7 then iprop(any (F := F) asmM e c ∗ reached ER (dCell e 1 c) 0)
      else iprop(any (F := F) f8M e c ∗ reached ER (dCell e 3 c) 0))

/-- Whether a cell is used. -/
def used (c : Dev nD) (k : ℕ) (n : Fin 16) : Prop :=
  match k with
  | 0 => 1 ≤ (n - c).val ∧ (n - c).val ≤ 7
  | 1 => 1 ≤ (c - n).val ∧ (c - n).val ≤ 7
  | 2 => 8 ≤ (n - c).val
  | 3 => 8 ≤ (c - n).val
  | 4 => n ≠ c
  | 5 => n ≠ c
  | _ => False

instance (c : Dev nD) (k : ℕ) (n : Fin 16) : Decidable (used c k n) := by unfold used; split <;> infer_instance

/-- The units of a DMA cell. -/
def amt (k : ℕ) : ℕ := match k with | 0 => N16 | 1 => N16 | 2 => N8 | 3 => N8 | _ => NS

/-- What a copy hands to a DMA cell. -/
def dmaPay (c : Dev nD) (k : ℕ) (n : Fin 16) : sProp 𝕄 :=
  match k with
  | 0 => pts sendM c n (SEND I c)
  | 1 => pts asmM c n (ASM I c)
  | 2 => pts f8sM c n (F8SEND I c)
  | 3 => pts f8M c n (F8ASM I c)
  | 4 => pts8 c c (Transfers.shareTok fullShare 16 n) (SB I)
  | 5 => pts8 c n fullShare (SB I)
  | _ => iprop(emp)

/-- One round on every cell: the barrier cell of a device has one duty for each other device; a used
    DMA cell has one duty. -/
def rd : Rounds.Schedule (GSem nD τ sig) (Dev nD) 𝕄 where
  duties g r := if r = 0 ∧ g.1.2 = .tc then
      (match g.2 with
        | .reg _ => Finset.univ.erase g.1.1
        | .dma q => if used g.1.1 (kindOf q) (idxOf q) then {0} else ∅)
    else ∅
  unitless _ := False
  amount g _ _ := match g.2 with | .reg _ => 1 | .dma q => amt (kindOf q)
  payload g _ d := match g.2 with | .reg _ => barPay g.1.1 d | .dma q => dmaPay I g.1.1 (kindOf q) (idxOf q)
  amount_pos g _ d _ := by
    split
    · exact Nat.one_pos
    · unfold amt; split <;> exact View.dmaCredit_pos _ (by decide)

end Cert.KernelIdeal.Ring

end
-- ==== Proof.Sched.lean ====
module
public import proofs.«01_k».proof.Proof.Cells

/-! What the schedule says of each cell, the levels of the cells, and what a device owes. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

instance any_storable {e : EltTy} (A : Memref sig .tc .vmem S16x256x512 e) (c : Dev nD) (n : Fin 16) :
    BI.Storable (upEmb : UEmb _ 𝕄) (any (F := F) A c n) := by unfold any pts; infer_instance
instance any8_storable (c : Dev nD) (n : Fin 16) : BI.Storable (upEmb : UEmb _ 𝕄) (any8 (F := F) c n) := by
  unfold any8 pts8; infer_instance

instance barPay_storable (c e : Dev nD) : BI.Storable (upEmb : UEmb _ 𝕄) (barPay (F := F) c e) := by
  unfold barPay
  split <;> infer_instance

instance dmaPay_storable (c : Dev nD) (k : ℕ) (n : Fin 16) : BI.Storable (upEmb : UEmb _ 𝕄) (dmaPay I c k n) := by
  unfold dmaPay pts pts8
  split <;> infer_instance

instance rd_payload_storable (g : GSem nD τ sig) (r : ℕ) (d : Dev nD) :
    BI.Storable (upEmb : UEmb _ 𝕄) ((rd I).payload g r d) := by
  show BI.Storable upEmb (match g.2 with | .reg _ => barPay g.1.1 d | .dma q => dmaPay I g.1.1 (kindOf q) (idxOf q))
  split <;> infer_instance

section
variable (c : Dev nD) (k : Fin 6) (n : Fin 16)

/-- A barrier cell has a duty for each other device. -/
theorem duties_bar : (rd I).duties (barCell c) 0 = Finset.univ.erase c := by
  dsimp only [rd]; rw [if_pos ⟨rfl, rfl⟩]
/-- A used DMA cell has one duty. -/
theorem duties_d (h : used c k.val n) : (rd I).duties (dCell c k n) 0 = {0} := by
  dsimp only [rd]; rw [if_pos ⟨rfl, rfl⟩, kindOf_cell, idxOf_cell, if_pos h]
/-- No cell has a duty after its first round. -/
theorem duties_later (g : GSem nD τ sig) : ∀ r, 1 ≤ r → (rd I).duties g r = ∅ :=
  fun r hr => by dsimp only [rd]; rw [if_neg (fun h => by omega)]
theorem amount_bar (d : Dev nD) : (rd I).amount (barCell c) 0 d = 1 := rfl
theorem amount_d (d : Dev nD) : (rd I).amount (dCell c k n) 0 d = amt k.val := by dsimp only [rd]; rw [kindOf_cell]
theorem payload_bar (d : Dev nD) : (rd I).payload (barCell c) 0 d = barPay c d := rfl
theorem payload_d (d : Dev nD) : (rd I).payload (dCell c k n) 0 d = dmaPay I c k.val n := by
  dsimp only [rd]; rw [kindOf_cell, idxOf_cell]
/-- A barrier cell expects fifteen units. -/
theorem expect_bar : (rd I).expect (barCell c) 0 = 15 := by
  unfold Schedule.expect Schedule.amountOf
  rw [duties_bar, Finset.sum_congr rfl (fun d _ => amount_bar I c d), Finset.sum_const, Finset.card_erase_of_mem (Finset.mem_univ _)]
  decide
theorem expect_d (h : used c k.val n) : (rd I).expect (dCell c k n) 0 = amt k.val := by
  unfold Schedule.expect Schedule.amountOf; rw [duties_d I c k n h, Finset.sum_singleton, amount_d]
theorem rest_bar : bigSep ((rd I).duties (barCell c) 0 \ ∅) (fun d => (rd I).payload (barCell c) 0 d)
    = bigSep (Finset.univ.erase c) (fun d => barPay (F := F) c d) := by
  rw [Finset.sdiff_empty, duties_bar]; rfl
theorem rest_d (h : used c k.val n) : bigSep ((rd I).duties (dCell c k n) 0 \ ∅) (fun d => (rd I).payload (dCell c k n) 0 d)
    = dmaPay I c k.val n := by
  rw [Finset.sdiff_empty, duties_d I c k n h, bigSep_singleton, payload_d]

end

/-! ## Ranges of steps -/

/-- The steps from `a` up to `b`. -/
def rg (a b : ℕ) : Finset (Fin 16) := Finset.univ.filter fun s => a ≤ s.val ∧ s.val < b

theorem mem_rg {a b : ℕ} {s : Fin 16} : s ∈ rg a b ↔ a ≤ s.val ∧ s.val < b := by simp [rg]

theorem rg_empty (b : ℕ) : rg b b = ∅ := by
  ext s; rw [mem_rg]; simp only [Finset.notMem_empty, iff_false]; omega

theorem rg_step {a b : ℕ} (h : a < b) (h16 : a < 16) : rg a b = insert ⟨a, h16⟩ (rg (a + 1) b) := by
  ext s; rw [Finset.mem_insert, mem_rg, mem_rg, Fin.ext_iff]; simp only; omega

theorem notMem_step {a b : ℕ} (h16 : a < 16) : (⟨a, h16⟩ : Fin 16) ∉ rg (a + 1) b := by
  rw [mem_rg]; simp only; omega

/-! ## What is owed -/

/-- What a device owes over the steps from `a` up to `b`. -/
def dues (f : Fin 16 → CellTallies nD τ sig Unit) (a b : ℕ) : CellTallies nD τ sig Unit := ∑ s ∈ rg a b, f s

theorem dues_nil (f : Fin 16 → CellTallies nD τ sig Unit) (b : ℕ) : dues f b b = 0 := by
  unfold dues; rw [rg_empty, Finset.sum_empty]
theorem dues_step (f : Fin 16 → CellTallies nD τ sig Unit) {a b : ℕ} (h : a < b) (h16 : a < 16) :
    dues f a b = dues f (a + 1) b + f ⟨a, h16⟩ := by
  unfold dues; rw [rg_step h h16, Finset.sum_insert (notMem_step h16), add_comm]

/-- A barrier unit owed to the device `s` steps ahead. -/
abbrev bT (c : Dev nD) (s : Fin 16) : CellTallies nD τ sig Unit := tallyAt (barCell (c + s)) () 1
/-- A near block owed to it. -/
abbrev nT (c : Dev nD) (s : Fin 16) : CellTallies nD τ sig Unit := tallyAt (dCell (c + s) 1 c) () N16
/-- A far block owed to it. -/
abbrev fT (c : Dev nD) (s : Fin 16) : CellTallies nD τ sig Unit := tallyAt (dCell (c + s) 3 c) () N8
/-- A maximum owed to it. -/
abbrev sT (c : Dev nD) (s : Fin 16) : CellTallies nD τ sig Unit := tallyAt (dCell (c + s) 5 c) () NS

/-- What is owed once the handshake is over and the near blocks below step `a` are sent. -/
def owedFrom (c : Dev nD) (a : ℕ) : CellTallies nD τ sig Unit := dues (nT c) a 8 + (dues (sT c) 1 16 + dues (fT c) 8 16)
/-- What a device owes at launch. -/
def O₀ (c : Dev nD) : CellTallies nD τ sig Unit := dues (bT c) 1 16 + owedFrom c 1

/-! ## Levels -/

/-- Every cell of a core has a level. -/
def L (g : GSem nD τ sig) : Finset Unit := if g.1.2 = .tc then {()} else ∅
/-- Barrier cells at 1, the maxima at 2, the blocks at 3, the rest at 0. -/
def lv (g : GSem nD τ sig) (_ : Unit) : ℕ :=
  match g.2 with
  | .reg _ => 1
  | .dma q => if q.val < 4 then 0 else if kindOf q = 5 then 2 else 3

theorem L_of_ne (g : GSem nD τ sig) (h : g.1.2 ≠ .tc) : L g = ∅ := if_neg h
theorem L_tc (c : Dev nD) (sm : SemLoc sig) : L ((c : Thread nD τ), sm) = {()} := if_pos rfl

/-- All that is owed lies above level `n`. -/
def Above (n : ℕ) (O : CellTallies nD τ sig Unit) : Prop := ∀ g u, 0 < O g u → u ∈ L g ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem Above.tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases h' : g = ((c : Thread nD τ), sm) ∧ u = ()
  · rw [h'.1, L_tc]; exact ⟨Finset.mem_singleton_self _, h⟩
  · rw [if_neg h'] at hg; exact absurd hg (Nat.lt_irrefl 0)
theorem Above.dues {n : ℕ} {f : Fin 16 → CellTallies nD τ sig Unit} (h : ∀ s, Above n (f s)) (a b : ℕ) : Above n (dues f a b) := by
  unfold Ring.dues
  refine Finset.sum_induction f (Above n) (fun _ _ => Above.add) (Above.zero n) (fun s _ => h s)
theorem Above.mono {n n' : ℕ} (hn : n' ≤ n) {O : CellTallies nD τ sig Unit} (h : Above n O) : Above n' O :=
  fun g u hg => ⟨(h g u hg).1, lt_of_le_of_lt hn (h g u hg).2⟩

theorem lv_cell (c : Dev nD) (k : Fin 6) (n : Fin 16) : lv (dCell c k n) () = if k = 5 then 2 else 3 := by
  show (if (cell k n).val < 4 then 0 else if kindOf (cell k n) = 5 then 2 else 3) = _
  rw [kindOf_cell, if_neg (by show ¬ (4 + 16 * k.val + n.val < 4); omega)]
  revert k; decide

theorem above_n (c : Dev nD) (s : Fin 16) : Above 2 (nT c s) := Above.tally _ _ _ (by rw [lv_cell]; decide)
theorem above_f (c : Dev nD) (s : Fin 16) : Above 2 (fT c s) := Above.tally _ _ _ (by rw [lv_cell]; decide)
theorem above_s (c : Dev nD) (s : Fin 16) : Above 1 (sT c s) := Above.tally _ _ _ (by rw [lv_cell]; decide)
theorem above_b (c : Dev nD) (s : Fin 16) : Above 0 (bT c s) := Above.tally _ _ _ Nat.one_pos
theorem above_owedFrom (c : Dev nD) (a : ℕ) : Above 1 (owedFrom c a) :=
  (Above.mono (by decide) (Above.dues (above_n c) a 8)).add ((Above.dues (above_s c) 1 16).add (Above.mono (by decide) (Above.dues (above_f c) 8 16)))
theorem above_O₀ (c : Dev nD) : Above 0 (O₀ c) := (Above.dues (above_b c) 1 16).add (Above.mono (by decide) (above_owedFrom c 1))

/-- A device may wait on a cell while all it owes lies above the cell's level. -/
theorem mayWait (c : Dev nD) (sm : SemLoc sig) (n : ℕ) (h : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact h)
    (fun g u hg => (hO g u hg).2)

end Cert.KernelIdeal.Ring

end
-- ==== Proof.Steps.lean ====
module
public import proofs.«01_k».proof.Proof.Sched

/-! One lemma for each kind of operation of the body: a signal, the handshake's wait, a copy to a
peer, a wait for a copy, and the load and store of a slot. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

abbrev 𝒱₀ : Variants := Variants.none

/-- The weakest precondition of a program of the kernel on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`. -/
def Ow (c : Dev nD) (O : CellTallies nD τ sig Unit) : sProp 𝕄 := iprop(∃ W, owes (c : Thread nD τ) O W)

/-- The invariants of all cells, and that the barrier cells are open. -/
def recs (K : GSem nD τ sig → ℕ) : sProp 𝕄 :=
  iprop((bigSep Finset.univ fun c : Dev nD => iprop(cellInv ER (rd I) (K (barCell c)) (barCell c) ∗ reached ER (barCell c) 0))
    ∗ bigSep Finset.univ fun p : Dev nD × Fin 6 × Fin 16 => cellInv ER (rd I) (K (dCell p.1 p.2.1 p.2.2)) (dCell p.1 p.2.1 p.2.2))

instance recs_persistent (K : GSem nD τ sig → ℕ) : BI.Persistent (recs I K) := by unfold recs; infer_instance

theorem recs_bar (K : GSem nD τ sig → ℕ) (c : Dev nD) :
    recs I K ⊢ iprop(cellInv ER (rd I) (K (barCell c)) (barCell c) ∗ reached ER (barCell c) 0) := by
  unfold recs
  iintro ⟨H, -⟩
  have e : (bigSep Finset.univ fun c : Dev nD => iprop(cellInv ER (rd I) (K (barCell c)) (barCell c) ∗ reached ER (barCell c) 0))
      ⊢ (iprop(cellInv ER (rd I) (K (barCell c)) (barCell c) ∗ reached ER (barCell c) 0) : sProp 𝕄) := bigSep_elim (Finset.mem_univ c)
  iapply e
  iexact H

theorem recs_d (K : GSem nD τ sig → ℕ) (c : Dev nD) (k : Fin 6) (n : Fin 16) :
    recs I K ⊢ cellInv ER (rd I) (K (dCell c k n)) (dCell c k n) := by
  unfold recs
  iintro ⟨-, H⟩
  have e : (bigSep Finset.univ fun p : Dev nD × Fin 6 × Fin 16 => cellInv ER (rd I) (K (dCell p.1 p.2.1 p.2.2)) (dCell p.1 p.2.1 p.2.2))
      ⊢ (cellInv ER (rd I) (K (dCell c k n)) (dCell c k n) : sProp 𝕄) := bigSep_elim (i := (c, k, n)) (Finset.mem_univ _)
  iapply e
  iexact H

variable (K : GSem nD τ sig → ℕ) (c : Dev nD)

theorem ne_add : ∀ c s : Fin 16, s ≠ 0 → c ≠ c + s := by decide +kernel

/-- A signal of one unit to the barrier of the device `s` steps ahead. -/
theorem step_signal (s : Fin 16) (hs : s ≠ 0) {dv : Dev nD} (hdv : dv = c + s) {n : ℤ} (hn : n = ((1 : ℕ) : ℤ))
    (O : CellTallies nD τ sig Unit) {α : Type} {k : PUnit → Prog (TpuEff nD τ sig (Elt F) Λ₀ .tc) α} {Q : α → sProp 𝕄} :
    iprop(recs I K ∗ Ow c (O + bT c s) ∗ dutyTok ER (barCell (c + s)) 0 c ∗ barPay (c + s) c)
      ⊢ iprop((Ow c O -∗ WP c (k ⟨⟩) Q) -∗ WP c (.op (.semSignal (dv : Thread nD τ) barS n) k) Q) := by
  subst hdv hn
  unfold Ow
  iintro ⟨#Hr, ⟨%W, HO⟩, Ht, Hp⟩ Hk
  ihave #Hb := (recs_bar I K (c + s)) $$ Hr
  icases Hb with ⟨#Hi, #Hre⟩
  iapply (Rounds.wp_signal 𝒱₀ ER (rd I) (c : Thread nD τ) none (dst := ((c + s : Dev nD) : Thread nD τ)) (sem := barS) (r := 0) (d := c) (κ := K (barCell (c + s)))
      (by rw [duties_bar]; refine Finset.mem_erase.mpr ⟨?_, Finset.mem_univ _⟩; exact ne_add c s hs) (amount_bar I (c + s) c) () O rfl) $$ [HO Ht Hp]
  · isplitr; · iexact Hi
    isplitl [HO]; · iexact HO
    isplitl [Ht]; · iexact Ht
    isplitl [Hp]; · rw [payload_bar]; iexact Hp
    iexact Hre
  iintro HO
  iapply Hk
  iexists W; iexact HO

/-- The wait for the fifteen units of the handshake. -/
theorem step_barwait {n : ℤ} (hn : n = ((15 : ℕ) : ℤ)) (O : CellTallies nD τ sig Unit) (hO : Above 1 O) {α : Type}
    {k : PUnit → Prog (TpuEff nD τ sig (Elt F) Λ₀ .tc) α} {Q : α → sProp 𝕄} :
    iprop(recs I K ∗ levAts L lv ∗ cred (tallyAt (barCell c) () 15) ∗ Ow c O ∗ atPos ER (barCell c) 0 ∅ 0)
      ⊢ iprop((iprop(Ow c O ∗ semVal (barCell c) 0 ∗ bigSep (Finset.univ.erase c) (fun d => barPay (F := F) c d)) -∗ WP c (k ⟨⟩) Q)
        -∗ WP c (.op (.semWait barS n) k) Q) := by
  subst hn
  unfold Ow
  iintro ⟨#Hr, #Hl, Hc, ⟨%W, HO⟩, Hat⟩ Hk
  ihave #Hb := (recs_bar I K c) $$ Hr
  icases Hb with ⟨#Hi, -⟩
  iapply (Rounds.wp_wait_rest_token 𝒱₀ ER (rd I) (c : Thread nD τ) none (κ := K (barCell c))
      (wpE_semWait_eq 𝒱₀ (c : Thread nD τ) none Set.univ) (Set.mem_univ _) () (O := O) (W := W) (R := 0) (m := 0) (T := ∅)
      ((Nat.zero_add 15).trans (expect_bar I c).symm)) $$ [Hc HO Hat]
  · isplitr; · iexact Hi
    isplitl [Hc]; · iexact Hc
    isplitl [HO]; · iexact HO
    isplitr; · iapply (mayWait c _ 1 (le_refl 1) hO); iexact Hl
    iexact Hat
  iintro ⟨HO, Hat, -, Hp⟩
  iapply (fupd_wp _ _ _ _ _)
  imod (Rounds.cell_close ER (rd I) (Set.mem_univ (K (barCell c))) id (duties_later I (barCell c))) $$ [Hat] with Hv
  · isplitr; · iexact Hi
    iexact Hat
  imodintro
  iapply Hk
  isplitl [HO]; · iexists _; iexact HO
  isplitl [Hv]; · iexact Hv
  ihave Hq := (Entails.of_eq (rest_bar I c)) $$ Hp
  iexact Hq

/-- A wait for a copy, on the cell of kind `k` and index `n`. -/
theorem step_wait (kd : Fin 6) (n : Fin 16) (hu : used c kd.val n) {q : DmaSem sig} (hq : q = cell kd n) (O : CellTallies nD τ sig Unit)
    (m : ℕ) (hm : lv (dCell c kd n) () ≤ m) (hO : Above m O)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt kd.val) {α : Type}
    {k : PUnit → Prog (TpuEff nD τ sig (Elt F) Λ₀ .tc) α} {Q : α → sProp 𝕄} :
    iprop(recs I K ∗ levAts L lv ∗ cred (tallyAt (dCell c kd n) () (amt kd.val)) ∗ Ow c O ∗ atPos ER (dCell c kd n) 0 ∅ 0)
      ⊢ iprop((iprop(Ow c O ∗ semVal (dCell c kd n) 0 ∗ dmaPay I c kd.val n) -∗ WP c (k ⟨⟩) Q)
        -∗ WP c (.op (.waitDma2 q src dst hsrc hdst) k) Q) := by
  subst hq
  unfold Ow
  iintro ⟨#Hr, #Hl, Hc, ⟨%W, HO⟩, Hat⟩ Hk
  ihave #Hi := (recs_d I K c kd n) $$ Hr
  iapply (Rounds.wp_wait_rest_token 𝒱₀ ER (rd I) (c : Thread nD τ) none (κ := K (dCell c kd n)) (k' := dst.view.dmaCredit)
      (wpE_waitDma2_eq 𝒱₀ (c : Thread nD τ) none Set.univ) (Set.mem_univ _) () (O := O) (W := W) (R := 0) (m := 0) (T := ∅)
      ((Nat.zero_add _).trans (hN.trans (expect_d I c kd n hu).symm))) $$ [Hc HO Hat]
  · isplitr; · iexact Hi
    isplitl [Hc]; · rw [hN]; iexact Hc
    isplitl [HO]; · iexact HO
    isplitr; · iapply (mayWait c _ m hm hO); iexact Hl
    iexact Hat
  iintro ⟨HO, Hat, -, Hp⟩
  iapply (fupd_wp _ _ _ _ _)
  imod (Rounds.cell_close ER (rd I) (Set.mem_univ (K (dCell c kd n))) id (duties_later I (dCell c kd n))) $$ [Hat] with Hv
  · isplitr; · iexact Hi
    iexact Hat
  imodintro
  iapply Hk
  isplitl [HO]; · iexists _; iexact HO
  isplitl [Hv]; · iexact Hv
  ihave Hq := (Entails.of_eq (rest_d I c kd n hu)) $$ Hp
  iexact Hq

/-- A copied block, where source and destination read the same, leaves the destination's contents. -/
theorem copy_canon {sp sp' : Space} {s : Shape} {e : EltTy} {c' : Dev nD} {src : Memref sig .tc sp s e} {dst : Memref sig .tc sp' s e}
    (fs : src.view.ty.Contents (Elt F)) (fd g : dst.view.ty.Contents (Elt F)) (h : src.view.read (Elt F) fs = dst.view.read (Elt F) g)
    {q : PosShare TreeShare} :
    (dst.view.loc (c' : Thread nD τ) ↦[dst.view.set]{q} (dst.view.write (Elt F) fd (src.view.read (Elt F) fs) Finset.univ) : sProp 𝕄)
      = dst.view.loc (c' : Thread nD τ) ↦[dst.view.set]{q} g := by
  refine pointsTo_congr fun i hi => ?_
  obtain ⟨x, -, rfl⟩ := Finset.mem_map.mp hi
  rw [View.write_emb_of_mem _ _ (Finset.mem_univ x), h]
  unfold View.read
  rw [cast_cast, cast_eq]

/-- A copy to the device `s` steps ahead, between two cells of the schedule. -/
theorem step_send (s : Fin 16) (k₁ k₂ : Fin 6) (hu₁ : used c k₁.val (c + s)) (hu₂ : used (c + s) k₂.val c)
    {q₁ q₂ : DmaSem sig} (h₁ : q₁ = cell k₁ (c + s)) (h₂ : q₂ = cell k₂ c) {dv : Dev nD} (hdv : dv = c + s)
    {sp sp' : Space} {sh : Shape} {e : EltTy} {src : Memref sig .tc sp sh e} {dst : Memref sig .tc sp' sh e} {hsc : dst.view.ref.isScScratch = false}
    {hsrc : src.view.WordExact} {hdst : dst.view.WordExact} {hsem : DmaTarget.Typed sp (.dma q₂) (.remote ((dv : Dev nD) : Thread nD τ) dst (.dma q₁) hsc)}
    (N : ℕ) (hN : dst.view.amount (.dma q₂) = N) (hk₁ : amt k₁.val = N) (hk₂ : amt k₂.val = N) (O : CellTallies nD τ sig Unit)
    {q : PosShare TreeShare} (fs : Buf (Elt F) (src.view.loc (c : Thread nD τ))) (fd g : Buf (Elt F) (dst.view.loc ((c + s : Dev nD) : Thread nD τ)))
    (hpay₁ : (src.view.loc (c : Thread nD τ) ↦[src.view.set]{q} fs) ⊢ dmaPay I c k₁.val (c + s))
    (hpay₂ : (dst.view.loc ((c + s : Dev nD) : Thread nD τ) ↦[dst.view.set]{fullShare} g) ⊢ dmaPay I (c + s) k₂.val c)
    (hread : src.view.read (Elt F) fs = dst.view.read (Elt F) g) {α : Type}
    {k : PUnit → Prog (TpuEff nD τ sig (Elt F) Λ₀ .tc) α} {Q : α → sProp 𝕄} :
    iprop(recs I K ∗ (src.view.loc (c : Thread nD τ) ↦[src.view.set]{q} fs) ∗ (dst.view.loc ((c + s : Dev nD) : Thread nD τ) ↦[dst.view.set]{fullShare} fd)
        ∗ Ow c (O + tallyAt (dCell (c + s) k₂ c) () N)
        ∗ dutyTok ER (dCell c k₁ (c + s)) 0 0 ∗ reached ER (dCell c k₁ (c + s)) 0
        ∗ dutyTok ER (dCell (c + s) k₂ c) 0 0 ∗ reached ER (dCell (c + s) k₂ c) 0)
      ⊢ iprop(((cred (tallyAt (dCell c k₁ (c + s)) () N) ∗ Ow c O) -∗ WP c (k ⟨⟩) Q)
        -∗ WP c (.op (.enqueueDma src (.remote (dv : Thread nD τ) dst (.dma q₁) hsc) (.dma q₂) hsrc hdst hsem) k) Q) := by
  subst h₁ h₂ hdv
  unfold Ow
  iintro ⟨#Hr, Hs, Hd, ⟨%W, HO⟩, Ht₁, #Hr₁, Ht₂, #Hr₂⟩ Hk
  ihave #Hi₁ := (recs_d I K c k₁ (c + s)) $$ Hr
  ihave #Hi₂ := (recs_d I K (c + s) k₂ c) $$ Hr
  iapply (Rounds.wp_send_pointsTo 𝒱₀ ER (rd I) (c : Thread nD τ) none (c' := ((c + s : Dev nD) : Thread nD τ)) (src := src) (dst := dst)
      (sS := .dma (cell k₁ (c + s))) (sem := .dma (cell k₂ c)) (q := q) (fs := fs) (κ₁ := K (dCell c k₁ (c + s))) (κ₂ := K (dCell (c + s) k₂ c))
      (r₁ := 0) (r₂ := 0) (d₁ := 0) (d₂ := 0) (fd := fd)
      (by rw [duties_d I c k₁ (c + s) hu₁]; exact Finset.mem_singleton_self _) (by rw [duties_d I (c + s) k₂ c hu₂]; exact Finset.mem_singleton_self _)
      () () N hN ((amount_d I c k₁ (c + s) 0).trans hk₁) ((amount_d I (c + s) k₂ c 0).trans hk₂) O rfl (W := W)
      (by rw [payload_d]; exact hpay₁)
      (by rw [payload_d, copy_canon fs fd g hread]; exact hpay₂)) $$ [Hs Hd HO Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

end Cert.KernelIdeal.Ring

end
-- ==== Proof.Slots.lean ====
module
public import proofs.«01_k».proof.Proof.Steps

/-! Slots and semaphores as the body names them: each array element the body slices is a cell or a slot
of `Cells.lean`, and loads and stores of a slot move between the contents named there. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

theorem inb1 (n : Fin 16) : ∀ a, (![n.val] : Fin 1 → Nat) a + S1.size a ≤ S16.size a := by revert n; decide
theorem inbO (n : Fin 16) : ∀ a, (![256 * n.val, 0] : Fin 2 → Nat) a + S256x512.size a ≤ S4096x512.size a := by revert n; decide

theorem sem7_at : ∀ n : Fin 16, ((cc0_scratch7.slice (Rect.unit (s := S16) ![n.val] S1.size (inb1 n))).squeeze S_ squeezes_S1_S_).sem = cell 0 n := by
  decide +kernel
/-- Element `n` of semaphore array 0 is the cell of kind 0. -/
theorem sem7 (n : Fin 16) {off : Fin 1 → ℕ} (h : off = ![n.val]) {inb : ∀ a, off a + S1.size a ≤ S16.size a} :
    ((cc0_scratch7.slice (Rect.unit (s := S16) off S1.size inb)).squeeze S_ squeezes_S1_S_).sem = cell 0 n := by
  subst h; exact sem7_at n

theorem sem8_at : ∀ n : Fin 16, ((cc0_scratch8.slice (Rect.unit (s := S16) ![n.val] S1.size (inb1 n))).squeeze S_ squeezes_S1_S_).sem = cell 1 n := by
  decide +kernel
/-- Element `n` of semaphore array 1 is the cell of kind 1. -/
theorem sem8 (n : Fin 16) {off : Fin 1 → ℕ} (h : off = ![n.val]) {inb : ∀ a, off a + S1.size a ≤ S16.size a} :
    ((cc0_scratch8.slice (Rect.unit (s := S16) off S1.size inb)).squeeze S_ squeezes_S1_S_).sem = cell 1 n := by
  subst h; exact sem8_at n

theorem sem9_at : ∀ n : Fin 16, ((cc0_scratch9.slice (Rect.unit (s := S16) ![n.val] S1.size (inb1 n))).squeeze S_ squeezes_S1_S_).sem = cell 2 n := by
  decide +kernel
/-- Element `n` of semaphore array 2 is the cell of kind 2. -/
theorem sem9 (n : Fin 16) {off : Fin 1 → ℕ} (h : off = ![n.val]) {inb : ∀ a, off a + S1.size a ≤ S16.size a} :
    ((cc0_scratch9.slice (Rect.unit (s := S16) off S1.size inb)).squeeze S_ squeezes_S1_S_).sem = cell 2 n := by
  subst h; exact sem9_at n

theorem sem10_at : ∀ n : Fin 16, ((cc0_scratch10.slice (Rect.unit (s := S16) ![n.val] S1.size (inb1 n))).squeeze S_ squeezes_S1_S_).sem = cell 3 n := by
  decide +kernel
/-- Element `n` of semaphore array 3 is the cell of kind 3. -/
theorem sem10 (n : Fin 16) {off : Fin 1 → ℕ} (h : off = ![n.val]) {inb : ∀ a, off a + S1.size a ≤ S16.size a} :
    ((cc0_scratch10.slice (Rect.unit (s := S16) off S1.size inb)).squeeze S_ squeezes_S1_S_).sem = cell 3 n := by
  subst h; exact sem10_at n

theorem sem11_at : ∀ n : Fin 16, ((cc0_scratch11.slice (Rect.unit (s := S16) ![n.val] S1.size (inb1 n))).squeeze S_ squeezes_S1_S_).sem = cell 4 n := by
  decide +kernel
/-- Element `n` of semaphore array 4 is the cell of kind 4. -/
theorem sem11 (n : Fin 16) {off : Fin 1 → ℕ} (h : off = ![n.val]) {inb : ∀ a, off a + S1.size a ≤ S16.size a} :
    ((cc0_scratch11.slice (Rect.unit (s := S16) off S1.size inb)).squeeze S_ squeezes_S1_S_).sem = cell 4 n := by
  subst h; exact sem11_at n

theorem sem12_at : ∀ n : Fin 16, ((cc0_scratch12.slice (Rect.unit (s := S16) ![n.val] S1.size (inb1 n))).squeeze S_ squeezes_S1_S_).sem = cell 5 n := by
  decide +kernel
/-- Element `n` of semaphore array 5 is the cell of kind 5. -/
theorem sem12 (n : Fin 16) {off : Fin 1 → ℕ} (h : off = ![n.val]) {inb : ∀ a, off a + S1.size a ≤ S16.size a} :
    ((cc0_scratch12.slice (Rect.unit (s := S16) off S1.size inb)).squeeze S_ squeezes_S1_S_).sem = cell 5 n := by
  subst h; exact sem12_at n

/-- A slot sliced at the offset of index `n` is slot `n`. -/
theorem slot_eq {e : EltTy} (A : Memref sig .tc .vmem S16x256x512 e) (n : Fin 16) {off : Fin 3 → ℕ} (h : off = ![n.val, 0, 0])
    {inb : ∀ a, off a + S1x256x512.size a ≤ S16x256x512.size a} :
    (A.slice (Rect.unit (s := S16x256x512) off S1x256x512.size inb) (fun _ => rfl)).squeeze S256x512 squeezes_S1x256x512_S256x512 = slot A n := by
  subst h; rfl
/-- The same for the buffer of maxima. -/
theorem slot8_eq (A : Memref sig .tc .vmem S16x8x128 .f32) (n : Fin 16) {off : Fin 3 → ℕ} (h : off = ![n.val, 0, 0])
    {inb : ∀ a, off a + S1x8x128.size a ≤ S16x8x128.size a} :
    (A.slice (Rect.unit (s := S16x8x128) off S1x8x128.size inb) (fun _ => rfl)).squeeze S8x128 squeezes_S1x8x128_S8x128 = slot8 A n := by
  subst h; rfl

/-! ## Rectangles of a buffer -/

/-- The rectangle `r` of buffer `m` on device `c`, at contents `f` and share `q`. -/
abbrev ptsR {sp : CoreSpace} {s : Shape} {e : EltTy} (m : Memref sig .tc sp s e) (r : Rect s) (c : Dev nD) (q : PosShare TreeShare)
    (f : Buf (Elt F) ((m.access r).loc (c : Thread nD τ))) : sProp 𝕄 :=
  (m.access r).loc (c : Thread nD τ) ↦[(m.access r).set]{q} f

/-- A rectangle overwritten by `w` holds any contents that read `w` there. -/
theorem write_canon {sp : CoreSpace} {s : Shape} {e : EltTy} (m : Memref sig .tc sp s e) (r : Rect s) (c : Dev nD)
    (f g : Buf (Elt F) ((m.access r).loc (c : Thread nD τ))) (w : r.shape.Idx → Elt F e) (h : (m.access r).read (Elt F) g = w) :
    ptsR m r c fullShare ((m.access r).write (Elt F) f w Finset.univ) = ptsR m r c fullShare g := by
  refine pointsTo_congr fun i hi => ?_
  obtain ⟨x, -, rfl⟩ := Finset.mem_map.mp hi
  rw [View.write_emb_of_mem _ _ (Finset.mem_univ x), ← h]
  unfold View.read
  rw [cast_cast, cast_eq]

section
variable (c : Dev nD) {α : Type}

/-- A load of a rectangle. -/
theorem load_at {sp : CoreSpace} {s : Shape} {e : EltTy} (m : Memref sig .tc sp s e) (r : Rect s) {hl : m.view.LoadsAt r.toLoadRect}
    {q : PosShare TreeShare} {f : Buf (Elt F) ((m.access r).loc (c : Thread nD τ))} {v : r.shape.Idx → Elt F e} (hv : (m.access r).read (Elt F) f = v)
    {k : (r.shape.Idx → Elt F e) → Prog (TpuEff nD τ sig (Elt F) Λ₀ .tc) α} {Q : α → sProp 𝕄} :
    ptsR m r c q f ⊢ iprop((ptsR m r c q f -∗ WP c (k v) Q) -∗ WP c (.op (.load m r.toLoadRect hl) k) Q) := by
  subst hv
  exact wp_load_rect 𝒱₀ (c : Thread nD τ) none Set.univ (Finset.Subset.refl _)

/-- A store of a rectangle, to the contents named. -/
theorem store_at {sp : CoreSpace} {s : Shape} {e : EltTy} (m : Memref sig .tc sp s e) (r : Rect s) {w : r.shape.Idx → Elt F e}
    {hx : (m.access r).Stores Finset.univ} {hm : Finset.univ = Finset.univ ∨ ∀ a, r.stride a = 1}
    {f : Buf (Elt F) ((m.access r).loc (c : Thread nD τ))} (g : Buf (Elt F) ((m.access r).loc (c : Thread nD τ))) (hw : (m.access r).read (Elt F) g = w)
    {k : PUnit → Prog (TpuEff nD τ sig (Elt F) Λ₀ .tc) α} {Q : α → sProp 𝕄} :
    ptsR m r c fullShare f ⊢ iprop((ptsR m r c fullShare g -∗ WP c (k ⟨⟩) Q) -∗ WP c (.op (.store m r w Finset.univ hx hm) k) Q) := by
  iintro H Hk
  iapply (wp_store 𝒱₀ (c : Thread nD τ) none Set.univ (m := m) (r := r) (w := w) (Mk := Finset.univ) (Finset.Subset.refl (m.access r).set)) $$ H
  iintro H
  ihave H2 := (Entails.of_eq (write_canon m r c f g w hw)) $$ H
  iapply Hk
  iexact H2

theorem pts_eq {e : EltTy} (A : Memref sig .tc .vmem S16x256x512 e) (n : Fin 16) (f : Buf (Elt F) ((slot A n).view.loc (c : Thread nD τ))) :
    pts A c n f = ptsR A (rect3 n) c fullShare f := by
  unfold pts ptsR
  rw [show (slot A n).view.set = (A.access (rect3 n)).set from View.set_reshape ..]
theorem pts8_eq (n : Fin 16) (q : PosShare TreeShare) (f : Buf (Elt F) ((slot8 scalM n).view.loc (c : Thread nD τ))) :
    pts8 c n q f = ptsR scalM (rect8 n) c q f := by
  unfold pts8 ptsR
  rw [show (slot8 scalM n).view.set = (scalM.access (rect8 n)).set from View.set_reshape ..]

/-- A load of slot `n`. -/
theorem load_slot {e : EltTy} (A : Memref sig .tc .vmem S16x256x512 e) (n : Fin 16) {off : Fin 3 → ℕ} (h : off = ![n.val, 0, 0])
    {inb : ∀ a, off a + S1x256x512.size a ≤ S16x256x512.size a} {hl : A.view.LoadsAt (Rect.unit (s := S16x256x512) off S1x256x512.size inb).toLoadRect}
    {f : Buf (Elt F) ((slot A n).view.loc (c : Thread nD τ))} {v : S1x256x512.Idx → Elt F e} (hv : (A.access (rect3 n)).read (Elt F) f = v)
    {k : (S1x256x512.Idx → Elt F e) → Prog (TpuEff nD τ sig (Elt F) Λ₀ .tc) α} {Q : α → sProp 𝕄} :
    pts A c n f ⊢ iprop((pts A c n f -∗ WP c (k v) Q) -∗ WP c (.op (.load A (Rect.unit (s := S16x256x512) off S1x256x512.size inb).toLoadRect hl) k) Q) := by
  subst h
  rw [pts_eq]
  exact load_at c A (rect3 n) hv

/-- A load of slot `n` whose value is not used. -/
theorem load_dead {e : EltTy} (A : Memref sig .tc .vmem S16x256x512 e) (n : Fin 16) {off : Fin 3 → ℕ} (h : off = ![n.val, 0, 0])
    {inb : ∀ a, off a + S1x256x512.size a ≤ S16x256x512.size a} {hl : A.view.LoadsAt (Rect.unit (s := S16x256x512) off S1x256x512.size inb).toLoadRect}
    {k : (S1x256x512.Idx → Elt F e) → Prog (TpuEff nD τ sig (Elt F) Λ₀ .tc) α} {Q : α → sProp 𝕄} :
    any A c n ⊢ iprop((∀ v, any A c n -∗ WP c (k v) Q) -∗ WP c (.op (.load A (Rect.unit (s := S16x256x512) off S1x256x512.size inb).toLoadRect hl) k) Q) := by
  unfold any
  iintro ⟨%f, H⟩ Hk
  iapply (load_slot c A n h (f := f) rfl) $$ H
  iintro H
  iapply Hk
  iexists f; iexact H

/-- A store of slot `n`. -/
theorem store_slot {e : EltTy} (A : Memref sig .tc .vmem S16x256x512 e) (n : Fin 16) {off : Fin 3 → ℕ} (h : off = ![n.val, 0, 0])
    {inb : ∀ a, off a + S1x256x512.size a ≤ S16x256x512.size a} {w : S1x256x512.Idx → Elt F e}
    {hx : (A.access (Rect.unit (s := S16x256x512) off S1x256x512.size inb)).Stores Finset.univ}
    {hm : Finset.univ = Finset.univ ∨ ∀ a, (Rect.unit (s := S16x256x512) off S1x256x512.size inb).stride a = 1}
    (g : Buf (Elt F) ((slot A n).view.loc (c : Thread nD τ))) (hw : (A.access (rect3 n)).read (Elt F) g = w)
    {k : PUnit → Prog (TpuEff nD τ sig (Elt F) Λ₀ .tc) α} {Q : α → sProp 𝕄} :
    any A c n ⊢ iprop((pts A c n g -∗ WP c (k ⟨⟩) Q)
      -∗ WP c (.op (.store A (Rect.unit (s := S16x256x512) off S1x256x512.size inb) w Finset.univ hx hm) k) Q) := by
  subst h
  unfold any
  iintro ⟨%f, H⟩
  ihave H := (Entails.of_eq (pts_eq c A n f)) $$ H
  rw [pts_eq]
  iapply (store_at c A (rect3 n) (f := f) g hw) $$ H

end

/-! ## What the named contents read at a slot -/

theorem read_spread {e : EltTy} (A : Memref sig .tc .vmem S16x256x512 e) (n : Fin 16) (P : Fin 16 → S1x256x512.Idx → Elt F e)
    (f : A.view.ty.Contents (Elt F)) (hf : ∀ x, A.view.read (Elt F) f x = spread P x) : (A.access (rect3 n)).read (Elt F) f = P n := by
  funext x
  exact (hf _).trans (spread_at P n x)
theorem read_send (c : Dev nD) (n : Fin 16) : (sendM.access (rect3 n)).read (Elt F) (SEND I c) = BB I c n :=
  read_spread sendM n (fun n => BB I c n) (SEND I c) fun _ => rfl
theorem read_asm (c : Dev nD) (n : Fin 16) : (asmM.access (rect3 n)).read (Elt F) (ASM I c) = BB I n c :=
  read_spread asmM n (fun n => BB I n c) (ASM I c) fun _ => rfl
theorem read_f8s (c : Dev nD) (n : Fin 16) : (f8sM.access (rect3 n)).read (Elt F) (F8SEND I c) = F8 I c n :=
  read_spread f8sM n (fun n => F8 I c n) (F8SEND I c) fun _ => rfl
theorem read_f8 (c : Dev nD) (n : Fin 16) : (f8M.access (rect3 n)).read (Elt F) (F8ASM I c) = F8 I n c :=
  read_spread f8M n (fun n => F8 I n c) (F8ASM I c) fun _ => rfl
theorem read_sb (n : Fin 16) : (scalM.access (rect8 n)).read (Elt F) (SB I) = k0_pay2 (AM I n 15) := by
  funext x
  exact spread8_at (fun n => k0_pay2 (AM I n 15)) n x

theorem slot_read {e : EltTy} (A : Memref sig .tc .vmem S16x256x512 e) (n : Fin 16) (f : A.view.ty.Contents (Elt F)) :
    (slot A n).view.read (Elt F) f
      = fun z => (A.access (rect3 n)).read (Elt F) f (Shape.reshapeEquiv squeezes_S1x256x512_S256x512.numel_eq z) := rfl

/-- A near block reads the same where it is sent from and where it lands. -/
theorem send_asm (c n : Fin 16) : (slot sendM n).view.read (Elt F) (SEND I c) = (slot asmM c).view.read (Elt F) (ASM I n) := by
  rw [slot_read, slot_read, read_send, read_asm]
/-- So does a far block. -/
theorem f8s_f8 (c n : Fin 16) : (slot f8sM n).view.read (Elt F) (F8SEND I c) = (slot f8M c).view.read (Elt F) (F8ASM I n) := by
  rw [slot_read, slot_read, read_f8s, read_f8]

end Cert.KernelIdeal.Ring

end
-- ==== Proof.State.lean ====
module
public import proofs.«01_k».proof.Proof.Slots

/-! The state of a device at its last grid point: how far each of its loops has come, and what each
finished or pending step holds. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

/-! ## Steps from `a` up to `b` -/

/-- What the steps from `a` up to `b` hold. -/
def seg (Φ : Fin 16 → sProp 𝕄) (a b : ℕ) : sProp 𝕄 := bigSep (rg a b) Φ

theorem seg_nil (Φ : Fin 16 → sProp 𝕄) (b : ℕ) : seg Φ b b = iprop(emp) := by unfold seg; rw [rg_empty, bigSep_empty]; rfl
/-- The first step of a range. -/
theorem seg_pop (Φ : Fin 16 → sProp 𝕄) {a b : ℕ} (h : a < b) (h16 : a < 16) : seg Φ a b = iprop(Φ ⟨a, h16⟩ ∗ seg Φ (a + 1) b) := by
  unfold seg; rw [rg_step h h16]; exact bigSep_insert (notMem_step h16)
/-- One more step at the end of a range. -/
theorem seg_snoc (Φ : Fin 16 → sProp 𝕄) {l a : ℕ} (h : l ≤ a) (h16 : a < 16) : seg Φ l (a + 1) = iprop(Φ ⟨a, h16⟩ ∗ seg Φ l a) := by
  unfold seg
  rw [show rg l (a + 1) = insert ⟨a, h16⟩ (rg l a) from by ext s; rw [Finset.mem_insert, mem_rg, mem_rg, Fin.ext_iff]; simp only; omega]
  exact bigSep_insert (by rw [mem_rg]; simp only; omega)
/-- One step of a range, and the others. -/
theorem seg_get (Φ : Fin 16 → sProp 𝕄) {l a : ℕ} (j : Fin 16) (h : l ≤ j.val) (h' : j.val < a) :
    seg Φ l a = iprop(Φ j ∗ bigSep ((rg l a).erase j) Φ) := by
  unfold seg; exact bigSep_erase (mem_rg.mpr ⟨h, h'⟩)

/-! ## What a step holds -/

variable (K : GSem nD τ sig → ℕ) (c : Dev nD)

/-- The invariants and the levels, which every step may use. -/
def Env : sProp 𝕄 := iprop(recs I K ∗ levAts L lv)
instance Env_persistent : BI.Persistent (Env I K) := by unfold Env; infer_instance

/-- The position on a cell before its round. -/
abbrev ATP (k : Fin 6) (n : Fin 16) : sProp 𝕄 := atPos ER (dCell c k n) 0 ∅ 0
/-- A cell to wait on. -/
def Wt (k : Fin 6) (n : Fin 16) : sProp 𝕄 := iprop(cred (tallyAt (dCell c k n) () (amt k.val)) ∗ ATP (F := F) c k n)
/-- A cell waited on, with what the copy delivered. -/
def Dn (k : Fin 6) (n : Fin 16) : sProp 𝕄 := iprop(semVal (dCell c k n) 0 ∗ dmaPay I c k.val n)
/-- The right to copy to the device `s` steps ahead, with kinds `k₁` and `k₂`. -/
def mine (s : Fin 16) (k₁ k₂ : Fin 6) : sProp 𝕄 :=
  iprop(dutyTok ER (dCell c k₁ (c + s)) 0 0 ∗ reached ER (dCell c k₁ (c + s)) 0
    ∗ dutyTok ER (dCell (c + s) k₂ c) 0 0 ∗ reached ER (dCell (c + s) k₂ c) 0)

/-- A near block not yet sent. -/
def NA (s : Fin 16) : sProp 𝕄 := iprop(any (F := F) asmM (c + s) c ∗ mine c s 0 1 ∗ ATP (F := F) c 0 (c + s))
/-- What a far block needs beside its slot in the send buffer. -/
def FR (s : Fin 16) : sProp 𝕄 := iprop(any (F := F) f8M (c + s) c ∗ mine c s 2 3 ∗ ATP (F := F) c 2 (c + s))
/-- A far block in the send buffer. -/
def FA (s : Fin 16) : sProp 𝕄 := iprop(pts sendM c (c + s) (SEND I c) ∗ any (F := F) f8sM c (c + s) ∗ FR (F := F) c s)
/-- A far block quantised. -/
def FB (s : Fin 16) : sProp 𝕄 := iprop(pts sendM c (c + s) (SEND I c) ∗ pts f8sM c (c + s) (F8SEND I c) ∗ FR (F := F) c s)
/-- A far block sent. -/
def FC (s : Fin 16) : sProp 𝕄 := iprop(pts sendM c (c + s) (SEND I c) ∗ Wt (F := F) c 2 (c + s))
/-- A far block whose send is complete. -/
def FD (s : Fin 16) : sProp 𝕄 := iprop(pts sendM c (c + s) (SEND I c) ∗ Dn I c 2 (c + s))
/-- What sending the maximum needs beside its share. -/
def SA0 (s : Fin 16) : sProp 𝕄 := iprop(any8 (F := F) (c + s) c ∗ mine c s 4 5 ∗ ATP (F := F) c 4 (c + s))
/-- A maximum not yet sent. -/
def SA (s : Fin 16) : sProp 𝕄 := iprop(pts8 c c (Transfers.shareTok fullShare 16 (c + s)) (SB I) ∗ SA0 (F := F) c s)

/-- The output's staging buffer. -/
abbrev outM : Memref sig .tc .vmem S4096x512 .f32 := Memref.whole cc0_stg2_0
/-- The rows of the output that come from device `n`. -/
abbrev rectO (n : Fin 16) : Rect S4096x512 := Rect.unit (s := S4096x512) ![256 * n.val, 0] S256x512.size (inbO n)
/-- An output block not yet written. -/
def OA (s : Fin 16) : sProp 𝕄 := iprop(∃ f, ptsR (F := F) outM (rectO (c - s)) c fullShare f)
/-- An output block written. -/
def OD (s : Fin 16) : sProp 𝕄 := ptsR outM (rectO (c - s)) c fullShare (OUT I c)

/-! ## The loops -/

/-- What is still owed. -/
def CO (a f : ℕ) : sProp 𝕄 := Ow (F := F) c (dues (sT c) a 16 + dues (fT c) f 16)
/-- The sends of the maximum. -/
def CS (a w : ℕ) : sProp 𝕄 := iprop(seg (SA I c) a 16 ∗ seg (fun s => Wt (F := F) c 4 (c + s)) w a ∗ seg (fun s => Dn I c 4 (c + s)) 1 w)
/-- The maxima received. -/
def CR (w : ℕ) : sProp 𝕄 := iprop(seg (fun s => Wt (F := F) c 5 (c + s)) w 16 ∗ seg (fun s => Dn I c 5 (c + s)) 1 w)
/-- The far sends. -/
def CP (p f w : ℕ) : sProp 𝕄 := iprop(seg (FA I c) p 16 ∗ seg (FB I c) f p ∗ seg (FC I c) w f ∗ seg (FD I c) 8 w)
/-- The near blocks received. -/
def CN (r : ℕ) : sProp 𝕄 := iprop(seg (fun s => Wt (F := F) c 1 (c - s)) r 8 ∗ seg (fun s => Dn I c 1 (c - s)) 1 r)
/-- The far blocks received. -/
def CG (r : ℕ) : sProp 𝕄 := iprop(seg (fun s => Wt (F := F) c 3 (c - s)) r 16 ∗ seg (fun s => Dn I c 3 (c - s)) 8 r)
/-- The output written. -/
def CX (o : ℕ) : sProp 𝕄 := iprop(seg (OA (F := F) c) o 16 ∗ seg (OD I c) 0 o)
/-- The near sends waited on. -/
def CY (w : ℕ) : sProp 𝕄 := iprop(seg (fun s => Wt (F := F) c 0 (c + s)) w 8 ∗ seg (fun s => Dn I c 0 (c + s)) 1 w)
/-- The device's own near block. -/
def CA : sProp 𝕄 := pts asmM c c (ASM I c)
/-- What is left of the device's own maximum while the others read it. -/
def CB : sProp 𝕄 := pts8 c c (Transfers.shareDrop fullShare 16) (SB I)

/-- All of it. -/
def S15 (a w4 w5 p f w2 r1 r3 o w0 : ℕ) : sProp 𝕄 :=
  iprop(CO (F := F) c a f ∗ CS I c a w4 ∗ CR I c w5 ∗ CP I c p f w2 ∗ CN I c r1 ∗ CG I c r3 ∗ CX I c o ∗ CY I c w0 ∗ CA I c ∗ CB I c)

/-! ## Facts of the ring -/

theorem used_near_snd : ∀ (c s : Fin 16), 1 ≤ s.val → s.val ≤ 7 → used c 0 (c + s) := by decide +kernel
theorem used_near_rcv : ∀ (c s : Fin 16), 1 ≤ s.val → s.val ≤ 7 → used (c + s) 1 c := by decide +kernel
theorem used_near_rcv' : ∀ (c s : Fin 16), 1 ≤ s.val → s.val ≤ 7 → used c 1 (c - s) := by decide +kernel
theorem used_far_snd : ∀ (c s : Fin 16), 8 ≤ s.val → used c 2 (c + s) := by decide +kernel
theorem used_far_rcv : ∀ (c s : Fin 16), 8 ≤ s.val → used (c + s) 3 c := by decide +kernel
theorem used_far_rcv' : ∀ (c s : Fin 16), 8 ≤ s.val → used c 3 (c - s) := by decide +kernel
theorem used_s_snd : ∀ (c s : Fin 16), 1 ≤ s.val → used c 4 (c + s) := by decide +kernel
theorem used_s_rcv : ∀ (c s : Fin 16), 1 ≤ s.val → used (c + s) 5 c := by decide +kernel
theorem used_s_rcv' : ∀ (c s : Fin 16), 1 ≤ s.val → used c 5 (c + s) := by decide +kernel

/-- A near block of the result. -/
theorem OB_near (s : Fin 16) (h : s.val ≤ 7) : OB I c (c - s) = k0_pay17 (SC I) (IV I) (BB I (c - s) c) := by
  unfold OB
  rw [if_pos (by revert h; revert c s; decide +kernel)]
/-- A far block of the result. -/
theorem OB_far (s : Fin 16) (h : 8 ≤ s.val) : OB I c (c - s) = k0_pay29 (SC I) (F8 I (c - s) c) := by
  unfold OB
  rw [if_neg (by revert h; revert c s; decide +kernel)]

/-- The rows from device `n` read as its block. -/
theorem read_out (n : Fin 16) : (outM.access (rectO n)).read (Elt F) (OUT I c) = OB I c n := by
  funext x
  have hx0 : (x 0).val < 256 := (x 0).isLt
  have h0 : ((rectO n).emb x 0).val = 256 * n.val + (x 0).val := by show 256 * n.val + 1 * (x 0).val = _; omega
  have h1 : (rectO n).emb x 1 = x 1 := by apply Fin.ext; show 0 + 1 * (x 1).val = _; omega
  show OUT I c ((rectO n).emb x) = _
  unfold OUT
  have hn : (⟨((rectO n).emb x 0).val / 256, by have := ((rectO n).emb x 0).isLt; change ((rectO n).emb x 0).val < 4096 at this; omega⟩ : Fin 16) = n := by
    apply Fin.ext; show ((rectO n).emb x 0).val / 256 = n.val; omega
  rw [hn]
  congr 1
  funext a
  match a with
  | 0 => apply Fin.ext; show ((rectO n).emb x 0).val % 256 = (x 0).val; omega
  | 1 => exact h1

end Cert.KernelIdeal.Ring

end
-- ==== Proof.Loops.lean ====
module
public import proofs.«01_k».proof.Proof.State

/-! One step of each loop of the last grid point. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD)

theorem owe_s {a f : ℕ} (h : a < 16) : dues (sT c) a 16 + dues (fT c) f 16
    = (dues (sT c) (a + 1) 16 + dues (fT c) f 16) + tallyAt (dCell (c + ⟨a, h⟩) 5 c) () NS := by
  rw [dues_step (sT c) h h]; exact add_right_comm _ _ _
theorem owe_f {a f : ℕ} (h : f < 16) : dues (sT c) a 16 + dues (fT c) f 16
    = (dues (sT c) a 16 + dues (fT c) (f + 1) 16) + tallyAt (dCell (c + ⟨f, h⟩) 3 c) () N8 := by
  rw [dues_step (fT c) h h]; exact (add_assoc _ _ _).symm
theorem owe_end : Above 3 (dues (sT c) 16 16 + dues (fT c) 16 16) := by
  rw [dues_nil, dues_nil]; exact (Above.zero 3).add (Above.zero 3)
theorem owe_recv : Above 2 (dues (sT c) 16 16 + dues (fT c) 8 16) := by
  rw [dues_nil]; exact (Above.zero 2).add (Above.dues (above_f c) 8 16)
theorem lv_le (k : Fin 6) (n : Fin 16) : lv (dCell c k n) () ≤ 3 := by rw [lv_cell]; split <;> decide
theorem lv_recv (n : Fin 16) : lv (dCell c 5 n) () ≤ 2 := by rw [lv_cell]; decide

/-- A wait turns a cell to wait on into one waited on. -/
theorem wait_cell (kd : Fin 6) (n : Fin 16) (hu : used c kd.val n) {q : DmaSem sig} (hq : q = cell kd n) (O : CellTallies nD τ sig Unit)
    (m : ℕ) (hm : lv (dCell c kd n) () ≤ m) (hO : Above m O)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt kd.val) {α : Type}
    {k : PUnit → Prog (TpuEff nD τ sig (Elt F) Λ₀ .tc) α} {Q : α → sProp 𝕄} :
    iprop(Env I K ∗ Ow c O ∗ Wt c kd n) ⊢ iprop((iprop(Ow c O ∗ Dn I c kd n) -∗ WP c (k ⟨⟩) Q)
        -∗ WP c (.op (.waitDma2 q src dst hsrc hdst) k) Q) := by
  unfold Env Wt Dn
  iintro ⟨⟨#Hr, #Hl⟩, HO, Hc, Hat⟩ Hk
  iapply (step_wait I K c kd n hu hq O m hm hO hN) $$ [Hc HO Hat]
  · isplitr; · iexact Hr
    isplitr; · iexact Hl
    isplitl [Hc]; · iexact Hc
    isplitl [HO]; · iexact HO
    iexact Hat
  iexact Hk

/-- A copy of the maximum to the device `s` steps ahead. -/
theorem send_max (s : Fin 16) (hu₁ : used c 4 (c + s)) (hu₂ : used (c + s) 5 c) {q₁ q₂ : DmaSem sig} (h₁ : q₁ = cell 4 (c + s)) (h₂ : q₂ = cell 5 c)
    {dv : Dev nD} (hdv : dv = c + s) {src dst : Memref sig .tc .vmem S8x128 .f32} (hs : src = slot8 scalM c) (hd : dst = slot8 scalM c) {hsc : dst.view.ref.isScScratch = false}
    {hsrc : src.view.WordExact} {hdst : dst.view.WordExact} {hsem : DmaTarget.Typed .vmem (.dma q₂) (.remote ((dv : Dev nD) : Thread nD τ) dst (.dma q₁) hsc)}
    (O : CellTallies nD τ sig Unit) {α : Type} {k : PUnit → Prog (TpuEff nD τ sig (Elt F) Λ₀ .tc) α} {Q : α → sProp 𝕄} :
    iprop(recs I K ∗ Ow c (O + tallyAt (dCell (c + s) 5 c) () NS) ∗ SA I c s) ⊢ iprop((iprop(Ow c O ∗ Wt c 4 (c + s)) -∗ WP c (k ⟨⟩) Q)
        -∗ WP c (.op (.enqueueDma src (.remote (dv : Thread nD τ) dst (.dma q₁) hsc) (.dma q₂) hsrc hdst hsem) k) Q) := by
  subst hs hd
  unfold SA SA0 mine any8 Wt
  iintro ⟨#Hr, HO, ⟨Hs, ⟨%fd, Hd⟩, ⟨Ht, #Hre, Ht', #Hre'⟩, Hat⟩⟩ Hk
  iapply (step_send I K c s 4 5 hu₁ hu₂ h₁ h₂ hdv (src := slot8 scalM c) (dst := slot8 scalM c) (hsc := hsc) (hsrc := hsrc) (hdst := hdst) (hsem := hsem) NS rfl rfl rfl O (q := Transfers.shareTok fullShare 16 (c + s)) (SB I) fd (SB I) .rfl .rfl rfl (k := k) (Q := Q)) $$ [HO Hs Hd Ht Ht']
  · isplitr; · iexact Hr
    isplitl [Hs]; · iexact Hs
    isplitl [Hd]; · iexact Hd
    isplitl [HO]; · iexact HO
    isplitl [Ht]; · iexact Ht
    isplitr; · iexact Hre
    isplitl [Ht']; · iexact Ht'
    iexact Hre'
  iintro ⟨Hc, HO⟩
  iapply Hk
  isplitl [HO]; · iexact HO
  isplitl [Hc]; · iexact Hc
  iexact Hat

/-- A copy of a quantised block to the device `s` steps ahead. -/
theorem send_far (s : Fin 16) (hu₁ : used c 2 (c + s)) (hu₂ : used (c + s) 3 c) {q₁ q₂ : DmaSem sig} (h₁ : q₁ = cell 2 (c + s)) (h₂ : q₂ = cell 3 c)
    {dv : Dev nD} (hdv : dv = c + s) {src dst : Memref sig .tc .vmem S256x512 .fp8e4m3} (hs : src = slot f8sM (c + s)) (hd : dst = slot f8M c) {hsc : dst.view.ref.isScScratch = false}
    {hsrc : src.view.WordExact} {hdst : dst.view.WordExact} {hsem : DmaTarget.Typed .vmem (.dma q₂) (.remote ((dv : Dev nD) : Thread nD τ) dst (.dma q₁) hsc)}
    (O : CellTallies nD τ sig Unit) {α : Type} {k : PUnit → Prog (TpuEff nD τ sig (Elt F) Λ₀ .tc) α} {Q : α → sProp 𝕄} :
    iprop(recs I K ∗ Ow c (O + tallyAt (dCell (c + s) 3 c) () N8) ∗ FB I c s) ⊢ iprop((iprop(Ow c O ∗ FC I c s) -∗ WP c (k ⟨⟩) Q)
        -∗ WP c (.op (.enqueueDma src (.remote (dv : Thread nD τ) dst (.dma q₁) hsc) (.dma q₂) hsrc hdst hsem) k) Q) := by
  subst hs hd
  unfold FB FR FC mine any Wt
  iintro ⟨#Hr, HO, ⟨Hb, Hs, ⟨%fd, Hd⟩, ⟨Ht, #Hre, Ht', #Hre'⟩, Hat⟩⟩ Hk
  iapply (step_send I K c s 2 3 hu₁ hu₂ h₁ h₂ hdv (src := slot f8sM (c + s)) (dst := slot f8M c) (hsc := hsc) (hsrc := hsrc) (hdst := hdst) (hsem := hsem) N8 rfl rfl rfl O (q := fullShare) (F8SEND I c) fd (F8ASM I (c + s)) .rfl .rfl (f8s_f8 I c _) (k := k) (Q := Q)) $$ [HO Hs Hd Ht Ht']
  · isplitr; · iexact Hr
    isplitl [Hs]; · iexact Hs
    isplitl [Hd]; · iexact Hd
    isplitl [HO]; · iexact HO
    isplitl [Ht]; · iexact Ht
    isplitr; · iexact Hre
    isplitl [Ht']; · iexact Ht'
    iexact Hre'
  iintro ⟨Hc, HO⟩
  iapply Hk
  isplitl [HO]; · iexact HO
  isplitl [Hb]; · iexact Hb
  isplitl [Hc]; · iexact Hc
  iexact Hat

/-- A copy of a near block to the device `s` steps ahead. -/
theorem send_near (s : Fin 16) (hu₁ : used c 0 (c + s)) (hu₂ : used (c + s) 1 c) {q₁ q₂ : DmaSem sig} (h₁ : q₁ = cell 0 (c + s)) (h₂ : q₂ = cell 1 c)
    {dv : Dev nD} (hdv : dv = c + s) {src dst : Memref sig .tc .vmem S256x512 .bf16} (hs : src = slot sendM (c + s)) (hd : dst = slot asmM c) {hsc : dst.view.ref.isScScratch = false}
    {hsrc : src.view.WordExact} {hdst : dst.view.WordExact} {hsem : DmaTarget.Typed .vmem (.dma q₂) (.remote ((dv : Dev nD) : Thread nD τ) dst (.dma q₁) hsc)}
    (O : CellTallies nD τ sig Unit) {α : Type} {k : PUnit → Prog (TpuEff nD τ sig (Elt F) Λ₀ .tc) α} {Q : α → sProp 𝕄} :
    iprop(recs I K ∗ Ow c (O + tallyAt (dCell (c + s) 1 c) () N16) ∗ pts sendM c (c + s) (SEND I c) ∗ NA c s) ⊢ iprop((iprop(Ow c O ∗ Wt c 0 (c + s)) -∗ WP c (k ⟨⟩) Q)
        -∗ WP c (.op (.enqueueDma src (.remote (dv : Thread nD τ) dst (.dma q₁) hsc) (.dma q₂) hsrc hdst hsem) k) Q) := by
  subst hs hd
  unfold NA mine any Wt
  iintro ⟨#Hr, HO, Hs, ⟨⟨%fd, Hd⟩, ⟨Ht, #Hre, Ht', #Hre'⟩, Hat⟩⟩ Hk
  iapply (step_send I K c s 0 1 hu₁ hu₂ h₁ h₂ hdv (src := slot sendM (c + s)) (dst := slot asmM c) (hsc := hsc) (hsrc := hsrc) (hdst := hdst) (hsem := hsem) N16 rfl rfl rfl O (q := fullShare) (SEND I c) fd (ASM I (c + s)) .rfl .rfl (send_asm I c _) (k := k) (Q := Q)) $$ [HO Hs Hd Ht Ht']
  · isplitr; · iexact Hr
    isplitl [Hs]; · iexact Hs
    isplitl [Hd]; · iexact Hd
    isplitl [HO]; · iexact HO
    isplitl [Ht]; · iexact Ht
    isplitr; · iexact Hre
    isplitl [Ht']; · iexact Ht'
    iexact Hre'
  iintro ⟨Hc, HO⟩
  iapply Hk
  isplitl [HO]; · iexact HO
  isplitl [Hc]; · iexact Hc
  iexact Hat

theorem c_wait5 {w5 : ℕ} (h16 : w5 < 16) (hlo : 1 ≤ w5) (h : w5 < 16) {q : DmaSem sig} (hq : q = cell 5 (c + ⟨w5, h16⟩)) {sp' : Space} {sh' : Shape} {e' : EltTy} {src : Memref sig .tc sp' sh' e'} {n' : Fin 16} {dst : Memref sig .tc .vmem S8x128 .f32} (hd : dst = slot8 scalM n')
    {hsrc : src.view.WordExact} {hdst : dst.view.WordExact} {α : Type}
    {k : PUnit → Prog (TpuEff nD τ sig (Elt F) Λ₀ .tc) α} {Q : α → sProp 𝕄} :
    iprop(Env I K ∗ CO (F := F) c 16 8 ∗ CR I c w5) ⊢ iprop((iprop(CO (F := F) c 16 8 ∗ CR I c (w5 + 1)) -∗ WP c (k ⟨⟩) Q) -∗ WP c (.op (.waitDma2 q src dst hsrc hdst) k) Q) := by
  subst hd
  unfold CO CR
  rw [seg_pop (fun s => Wt (F := F) c 5 (c + s)) h h16, seg_snoc (fun s => Dn I c 5 (c + s)) hlo h16]
  iintro ⟨#He, HO, ⟨Hw, Hm⟩, Hd⟩ Hk
  iapply (wait_cell I K c 5 (c + ⟨w5, h16⟩) (used_s_rcv' c _ hlo) hq _ 2 (lv_recv c _) (owe_recv c) (hsrc := hsrc) (hdst := hdst) rfl) $$ [HO Hw]
  · isplitr; · iexact He
    isplitl [HO]; · iexact HO
    iexact Hw
  iintro ⟨HO, Hx⟩
  iapply Hk
  isplitl [HO]; · iexact HO
  isplitl [Hm]; · iexact Hm
  isplitl [Hx]; · iexact Hx
  iexact Hd

/-- A wait for a maximum. -/
theorem s_wait5 {w4 w5 p w2 r1 r3 o w0 : ℕ} (h16 : w5 < 16) (hlo : 1 ≤ w5) (h : w5 < 16) {q : DmaSem sig} (hq : q = cell 5 (c + ⟨w5, h16⟩)) {sp' : Space} {sh' : Shape} {e' : EltTy} {src : Memref sig .tc sp' sh' e'} {n' : Fin 16} {dst : Memref sig .tc .vmem S8x128 .f32} (hd : dst = slot8 scalM n')
    {hsrc : src.view.WordExact} {hdst : dst.view.WordExact} {α : Type}
    {k : PUnit → Prog (TpuEff nD τ sig (Elt F) Λ₀ .tc) α} {Q : α → sProp 𝕄} :
    iprop(Env I K ∗ S15 I c 16 w4 w5 p 8 w2 r1 r3 o w0) ⊢ iprop((S15 I c 16 w4 (w5 + 1) p 8 w2 r1 r3 o w0 -∗ WP c (k ⟨⟩) Q) -∗ WP c (.op (.waitDma2 q src dst hsrc hdst) k) Q) := by
  unfold S15
  iintro ⟨#He, HO, HS, HR, HP, HN, HG, HX, HY, HA, HB⟩ Hk
  iapply (c_wait5 I K c h16 hlo h hq hd) $$ [HO HR]
  · isplitr; · iexact He
    isplitl [HO]; · iexact HO
    iexact HR
  iintro ⟨HO, HR⟩
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_wait4 {w4 : ℕ} (h16 : w4 < 16) (hlo : 1 ≤ w4)  {q : DmaSem sig} (hq : q = cell 4 (c + ⟨w4, h16⟩)) {sp' : Space} {sh' : Shape} {e' : EltTy} {src : Memref sig .tc sp' sh' e'} {n' : Fin 16} {dst : Memref sig .tc .vmem S8x128 .f32} (hd : dst = slot8 scalM n')
    {hsrc : src.view.WordExact} {hdst : dst.view.WordExact} {α : Type}
    {k : PUnit → Prog (TpuEff nD τ sig (Elt F) Λ₀ .tc) α} {Q : α → sProp 𝕄} :
    iprop(Env I K ∗ CO (F := F) c 16 16 ∗ CS I c 16 w4) ⊢ iprop((iprop(CO (F := F) c 16 16 ∗ CS I c 16 (w4 + 1)) -∗ WP c (k ⟨⟩) Q) -∗ WP c (.op (.waitDma2 q src dst hsrc hdst) k) Q) := by
  subst hd
  unfold CO CS
  rw [seg_pop (fun s => Wt (F := F) c 4 (c + s)) h16 h16, seg_snoc (fun s => Dn I c 4 (c + s)) hlo h16]
  iintro ⟨#He, HO, Ha, ⟨Hw, Hm⟩, Hd⟩ Hk
  iapply (wait_cell I K c 4 (c + ⟨w4, h16⟩) (used_s_snd c _ hlo) hq _ 3 (lv_le c 4 _) (owe_end c) (hsrc := hsrc) (hdst := hdst) rfl) $$ [HO Hw]
  · isplitr; · iexact He
    isplitl [HO]; · iexact HO
    iexact Hw
  iintro ⟨HO, Hx⟩
  iapply Hk
  isplitl [HO]; · iexact HO
  isplitl [Ha]; · iexact Ha
  isplitl [Hm]; · iexact Hm
  isplitl [Hx]; · iexact Hx
  iexact Hd

/-- A wait for the send of a maximum. -/
theorem s_wait4 {w4 w5 p w2 r1 r3 o w0 : ℕ} (h16 : w4 < 16) (hlo : 1 ≤ w4)  {q : DmaSem sig} (hq : q = cell 4 (c + ⟨w4, h16⟩)) {sp' : Space} {sh' : Shape} {e' : EltTy} {src : Memref sig .tc sp' sh' e'} {n' : Fin 16} {dst : Memref sig .tc .vmem S8x128 .f32} (hd : dst = slot8 scalM n')
    {hsrc : src.view.WordExact} {hdst : dst.view.WordExact} {α : Type}
    {k : PUnit → Prog (TpuEff nD τ sig (Elt F) Λ₀ .tc) α} {Q : α → sProp 𝕄} :
    iprop(Env I K ∗ S15 I c 16 w4 w5 p 16 w2 r1 r3 o w0) ⊢ iprop((S15 I c 16 (w4 + 1) w5 p 16 w2 r1 r3 o w0 -∗ WP c (k ⟨⟩) Q) -∗ WP c (.op (.waitDma2 q src dst hsrc hdst) k) Q) := by
  unfold S15
  iintro ⟨#He, HO, HS, HR, HP, HN, HG, HX, HY, HA, HB⟩ Hk
  iapply (c_wait4 I K c h16 hlo hq hd) $$ [HO HS]
  · isplitr; · iexact He
    isplitl [HO]; · iexact HO
    iexact HS
  iintro ⟨HO, HS⟩
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_wait2 {p w2 : ℕ} (h16 : w2 < 16) (hlo : 8 ≤ w2)  {q : DmaSem sig} (hq : q = cell 2 (c + ⟨w2, h16⟩)) {sp' : Space} {sh' : Shape} {e' : EltTy} {src : Memref sig .tc sp' sh' e'} {n' : Fin 16} {dst : Memref sig .tc .vmem S256x512 .fp8e4m3} (hd : dst = slot f8sM n')
    {hsrc : src.view.WordExact} {hdst : dst.view.WordExact} {α : Type}
    {k : PUnit → Prog (TpuEff nD τ sig (Elt F) Λ₀ .tc) α} {Q : α → sProp 𝕄} :
    iprop(Env I K ∗ CO (F := F) c 16 16 ∗ CP I c p 16 w2) ⊢ iprop((iprop(CO (F := F) c 16 16 ∗ CP I c p 16 (w2 + 1)) -∗ WP c (k ⟨⟩) Q) -∗ WP c (.op (.waitDma2 q src dst hsrc hdst) k) Q) := by
  subst hd
  unfold CO CP
  rw [seg_pop (FC I c) h16 h16, seg_snoc (FD I c) hlo h16]
  unfold FC FD
  iintro ⟨#He, HO, Ha, Hb, ⟨⟨Hs, Hw⟩, Hm⟩, Hd⟩ Hk
  iapply (wait_cell I K c 2 (c + ⟨w2, h16⟩) (used_far_snd c _ hlo) hq _ 3 (lv_le c 2 _) (owe_end c) (hsrc := hsrc) (hdst := hdst) rfl) $$ [HO Hw]
  · isplitr; · iexact He
    isplitl [HO]; · iexact HO
    iexact Hw
  iintro ⟨HO, Hx⟩
  iapply Hk
  isplitl [HO]; · iexact HO
  isplitl [Ha]; · iexact Ha
  isplitl [Hb]; · iexact Hb
  isplitl [Hm]; · iexact Hm
  isplitl [Hs Hx]
  · isplitl [Hs]; · iexact Hs
    iexact Hx
  iexact Hd

/-- A wait for the send of a far block. -/
theorem s_wait2 {w4 w5 p w2 r1 r3 o w0 : ℕ} (h16 : w2 < 16) (hlo : 8 ≤ w2)  {q : DmaSem sig} (hq : q = cell 2 (c + ⟨w2, h16⟩)) {sp' : Space} {sh' : Shape} {e' : EltTy} {src : Memref sig .tc sp' sh' e'} {n' : Fin 16} {dst : Memref sig .tc .vmem S256x512 .fp8e4m3} (hd : dst = slot f8sM n')
    {hsrc : src.view.WordExact} {hdst : dst.view.WordExact} {α : Type}
    {k : PUnit → Prog (TpuEff nD τ sig (Elt F) Λ₀ .tc) α} {Q : α → sProp 𝕄} :
    iprop(Env I K ∗ S15 I c 16 w4 w5 p 16 w2 r1 r3 o w0) ⊢ iprop((S15 I c 16 w4 w5 p 16 (w2 + 1) r1 r3 o w0 -∗ WP c (k ⟨⟩) Q) -∗ WP c (.op (.waitDma2 q src dst hsrc hdst) k) Q) := by
  unfold S15
  iintro ⟨#He, HO, HS, HR, HP, HN, HG, HX, HY, HA, HB⟩ Hk
  iapply (c_wait2 I K c h16 hlo hq hd) $$ [HO HP]
  · isplitr; · iexact He
    isplitl [HO]; · iexact HO
    iexact HP
  iintro ⟨HO, HP⟩
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_wait0 {w0 : ℕ} (h16 : w0 < 16) (hlo : 1 ≤ w0) (h : w0 < 8) {q : DmaSem sig} (hq : q = cell 0 (c + ⟨w0, h16⟩)) {sp' : Space} {sh' : Shape} {e' : EltTy} {src : Memref sig .tc sp' sh' e'} {n' : Fin 16} {dst : Memref sig .tc .vmem S256x512 .bf16} (hd : dst = slot sendM n')
    {hsrc : src.view.WordExact} {hdst : dst.view.WordExact} {α : Type}
    {k : PUnit → Prog (TpuEff nD τ sig (Elt F) Λ₀ .tc) α} {Q : α → sProp 𝕄} :
    iprop(Env I K ∗ CO (F := F) c 16 16 ∗ CY I c w0) ⊢ iprop((iprop(CO (F := F) c 16 16 ∗ CY I c (w0 + 1)) -∗ WP c (k ⟨⟩) Q) -∗ WP c (.op (.waitDma2 q src dst hsrc hdst) k) Q) := by
  subst hd
  unfold CO CY
  rw [seg_pop (fun s => Wt (F := F) c 0 (c + s)) h h16, seg_snoc (fun s => Dn I c 0 (c + s)) hlo h16]
  iintro ⟨#He, HO, ⟨Hw, Hm⟩, Hd⟩ Hk
  iapply (wait_cell I K c 0 (c + ⟨w0, h16⟩) (used_near_snd c _ hlo (Nat.le_of_lt_succ h)) hq _ 3 (lv_le c 0 _) (owe_end c) (hsrc := hsrc) (hdst := hdst) rfl) $$ [HO Hw]
  · isplitr; · iexact He
    isplitl [HO]; · iexact HO
    iexact Hw
  iintro ⟨HO, Hx⟩
  iapply Hk
  isplitl [HO]; · iexact HO
  isplitl [Hm]; · iexact Hm
  isplitl [Hx]; · iexact Hx
  iexact Hd

/-- A wait for the send of a near block. -/
theorem s_wait0 {w4 w5 p w2 r1 r3 o w0 : ℕ} (h16 : w0 < 16) (hlo : 1 ≤ w0) (h : w0 < 8) {q : DmaSem sig} (hq : q = cell 0 (c + ⟨w0, h16⟩)) {sp' : Space} {sh' : Shape} {e' : EltTy} {src : Memref sig .tc sp' sh' e'} {n' : Fin 16} {dst : Memref sig .tc .vmem S256x512 .bf16} (hd : dst = slot sendM n')
    {hsrc : src.view.WordExact} {hdst : dst.view.WordExact} {α : Type}
    {k : PUnit → Prog (TpuEff nD τ sig (Elt F) Λ₀ .tc) α} {Q : α → sProp 𝕄} :
    iprop(Env I K ∗ S15 I c 16 w4 w5 p 16 w2 r1 r3 o w0) ⊢ iprop((S15 I c 16 w4 w5 p 16 w2 r1 r3 o (w0 + 1) -∗ WP c (k ⟨⟩) Q) -∗ WP c (.op (.waitDma2 q src dst hsrc hdst) k) Q) := by
  unfold S15
  iintro ⟨#He, HO, HS, HR, HP, HN, HG, HX, HY, HA, HB⟩ Hk
  iapply (c_wait0 I K c h16 hlo h hq hd) $$ [HO HY]
  · isplitr; · iexact He
    isplitl [HO]; · iexact HO
    iexact HY
  iintro ⟨HO, HY⟩
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_wait1 {r1 : ℕ} (h16 : r1 < 16) (hlo : 1 ≤ r1) (h : r1 < 8) {q : DmaSem sig} (hq : q = cell 1 (c - ⟨r1, h16⟩)) {sp' : Space} {sh' : Shape} {e' : EltTy} {src : Memref sig .tc sp' sh' e'} {n' : Fin 16} {dst : Memref sig .tc .vmem S256x512 .bf16} (hd : dst = slot asmM n')
    {hsrc : src.view.WordExact} {hdst : dst.view.WordExact} {α : Type}
    {k : PUnit → Prog (TpuEff nD τ sig (Elt F) Λ₀ .tc) α} {Q : α → sProp 𝕄} :
    iprop(Env I K ∗ CO (F := F) c 16 16 ∗ CN I c r1) ⊢ iprop((iprop(CO (F := F) c 16 16 ∗ CN I c (r1 + 1)) -∗ WP c (k ⟨⟩) Q) -∗ WP c (.op (.waitDma2 q src dst hsrc hdst) k) Q) := by
  subst hd
  unfold CO CN
  rw [seg_pop (fun s => Wt (F := F) c 1 (c - s)) h h16, seg_snoc (fun s => Dn I c 1 (c - s)) hlo h16]
  iintro ⟨#He, HO, ⟨Hw, Hm⟩, Hd⟩ Hk
  iapply (wait_cell I K c 1 (c - ⟨r1, h16⟩) (used_near_rcv' c _ hlo (Nat.le_of_lt_succ h)) hq _ 3 (lv_le c 1 _) (owe_end c) (hsrc := hsrc) (hdst := hdst) rfl) $$ [HO Hw]
  · isplitr; · iexact He
    isplitl [HO]; · iexact HO
    iexact Hw
  iintro ⟨HO, Hx⟩
  iapply Hk
  isplitl [HO]; · iexact HO
  isplitl [Hm]; · iexact Hm
  isplitl [Hx]; · iexact Hx
  iexact Hd

/-- A wait for a near block. -/
theorem s_wait1 {w4 w5 p w2 r1 r3 o w0 : ℕ} (h16 : r1 < 16) (hlo : 1 ≤ r1) (h : r1 < 8) {q : DmaSem sig} (hq : q = cell 1 (c - ⟨r1, h16⟩)) {sp' : Space} {sh' : Shape} {e' : EltTy} {src : Memref sig .tc sp' sh' e'} {n' : Fin 16} {dst : Memref sig .tc .vmem S256x512 .bf16} (hd : dst = slot asmM n')
    {hsrc : src.view.WordExact} {hdst : dst.view.WordExact} {α : Type}
    {k : PUnit → Prog (TpuEff nD τ sig (Elt F) Λ₀ .tc) α} {Q : α → sProp 𝕄} :
    iprop(Env I K ∗ S15 I c 16 w4 w5 p 16 w2 r1 r3 o w0) ⊢ iprop((S15 I c 16 w4 w5 p 16 w2 (r1 + 1) r3 o w0 -∗ WP c (k ⟨⟩) Q) -∗ WP c (.op (.waitDma2 q src dst hsrc hdst) k) Q) := by
  unfold S15
  iintro ⟨#He, HO, HS, HR, HP, HN, HG, HX, HY, HA, HB⟩ Hk
  iapply (c_wait1 I K c h16 hlo h hq hd) $$ [HO HN]
  · isplitr; · iexact He
    isplitl [HO]; · iexact HO
    iexact HN
  iintro ⟨HO, HN⟩
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_wait3 {r3 : ℕ} (h16 : r3 < 16) (hlo : 8 ≤ r3) (h : r3 < 16) {q : DmaSem sig} (hq : q = cell 3 (c - ⟨r3, h16⟩)) {sp' : Space} {sh' : Shape} {e' : EltTy} {src : Memref sig .tc sp' sh' e'} {n' : Fin 16} {dst : Memref sig .tc .vmem S256x512 .fp8e4m3} (hd : dst = slot f8M n')
    {hsrc : src.view.WordExact} {hdst : dst.view.WordExact} {α : Type}
    {k : PUnit → Prog (TpuEff nD τ sig (Elt F) Λ₀ .tc) α} {Q : α → sProp 𝕄} :
    iprop(Env I K ∗ CO (F := F) c 16 16 ∗ CG I c r3) ⊢ iprop((iprop(CO (F := F) c 16 16 ∗ CG I c (r3 + 1)) -∗ WP c (k ⟨⟩) Q) -∗ WP c (.op (.waitDma2 q src dst hsrc hdst) k) Q) := by
  subst hd
  unfold CO CG
  rw [seg_pop (fun s => Wt (F := F) c 3 (c - s)) h h16, seg_snoc (fun s => Dn I c 3 (c - s)) hlo h16]
  iintro ⟨#He, HO, ⟨Hw, Hm⟩, Hd⟩ Hk
  iapply (wait_cell I K c 3 (c - ⟨r3, h16⟩) (used_far_rcv' c _ hlo) hq _ 3 (lv_le c 3 _) (owe_end c) (hsrc := hsrc) (hdst := hdst) rfl) $$ [HO Hw]
  · isplitr; · iexact He
    isplitl [HO]; · iexact HO
    iexact Hw
  iintro ⟨HO, Hx⟩
  iapply Hk
  isplitl [HO]; · iexact HO
  isplitl [Hm]; · iexact Hm
  isplitl [Hx]; · iexact Hx
  iexact Hd

/-- A wait for a far block. -/
theorem s_wait3 {w4 w5 p w2 r1 r3 o w0 : ℕ} (h16 : r3 < 16) (hlo : 8 ≤ r3) (h : r3 < 16) {q : DmaSem sig} (hq : q = cell 3 (c - ⟨r3, h16⟩)) {sp' : Space} {sh' : Shape} {e' : EltTy} {src : Memref sig .tc sp' sh' e'} {n' : Fin 16} {dst : Memref sig .tc .vmem S256x512 .fp8e4m3} (hd : dst = slot f8M n')
    {hsrc : src.view.WordExact} {hdst : dst.view.WordExact} {α : Type}
    {k : PUnit → Prog (TpuEff nD τ sig (Elt F) Λ₀ .tc) α} {Q : α → sProp 𝕄} :
    iprop(Env I K ∗ S15 I c 16 w4 w5 p 16 w2 r1 r3 o w0) ⊢ iprop((S15 I c 16 w4 w5 p 16 w2 r1 (r3 + 1) o w0 -∗ WP c (k ⟨⟩) Q) -∗ WP c (.op (.waitDma2 q src dst hsrc hdst) k) Q) := by
  unfold S15
  iintro ⟨#He, HO, HS, HR, HP, HN, HG, HX, HY, HA, HB⟩ Hk
  iapply (c_wait3 I K c h16 hlo h hq hd) $$ [HO HG]
  · isplitr; · iexact He
    isplitl [HO]; · iexact HO
    iexact HG
  iintro ⟨HO, HG⟩
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_ssend {a w4 f : ℕ} (h16 : a < 16) (hlo : 1 ≤ a) (hw : w4 ≤ a) {q₁ q₂ : DmaSem sig} (h₁ : q₁ = cell 4 (c + ⟨a, h16⟩)) (h₂ : q₂ = cell 5 c) {dv : Dev nD} (hdv : dv = c + ⟨a, h16⟩)
    {src dst : Memref sig .tc .vmem S8x128 .f32} (hs : src = slot8 scalM c) (hd : dst = slot8 scalM c) {hsc : dst.view.ref.isScScratch = false}
    {hsrc : src.view.WordExact} {hdst : dst.view.WordExact} {hsem : DmaTarget.Typed .vmem (.dma q₂) (.remote ((dv : Dev nD) : Thread nD τ) dst (.dma q₁) hsc)} {α : Type}
    {k : PUnit → Prog (TpuEff nD τ sig (Elt F) Λ₀ .tc) α} {Q : α → sProp 𝕄} :
    iprop(Env I K ∗ CO (F := F) c a f ∗ CS I c a w4) ⊢ iprop((iprop(CO (F := F) c (a + 1) f ∗ CS I c (a + 1) w4) -∗ WP c (k ⟨⟩) Q) -∗ WP c (.op (.enqueueDma src (.remote (dv : Thread nD τ) dst (.dma q₁) hsc) (.dma q₂) hsrc hdst hsem) k) Q) := by
  have hu₁ := used_s_snd c ⟨a, h16⟩ hlo
  have hu₂ := used_s_rcv c ⟨a, h16⟩ hlo
  unfold CO CS
  rw [owe_s c h16, seg_pop (SA I c) h16 h16, seg_snoc (fun s => Wt (F := F) c 4 (c + s)) hw h16]
  unfold Env
  iintro ⟨⟨#Hr, -⟩, HO, ⟨Ha', Ha⟩, Hm, Hdn⟩ Hk
  iapply (send_max I K c ⟨a, h16⟩ hu₁ hu₂ h₁ h₂ hdv hs hd _) $$ [HO Ha']
  · isplitr; · iexact Hr
    isplitl [HO]; · iexact HO
    iexact Ha'
  iintro ⟨HO, Hc⟩
  iapply Hk
  isplitl [HO]; · iexact HO
  isplitl [Ha]; · iexact Ha
  isplitl [Hc Hm]
  · isplitl [Hc]; · iexact Hc
    iexact Hm
  iexact Hdn

/-- A send of the maximum. -/
theorem s_ssend {a w4 w5 p f w2 r1 r3 o w0 : ℕ} (h16 : a < 16) (hlo : 1 ≤ a) (hw : w4 ≤ a) {q₁ q₂ : DmaSem sig} (h₁ : q₁ = cell 4 (c + ⟨a, h16⟩)) (h₂ : q₂ = cell 5 c) {dv : Dev nD} (hdv : dv = c + ⟨a, h16⟩)
    {src dst : Memref sig .tc .vmem S8x128 .f32} (hs : src = slot8 scalM c) (hd : dst = slot8 scalM c) {hsc : dst.view.ref.isScScratch = false}
    {hsrc : src.view.WordExact} {hdst : dst.view.WordExact} {hsem : DmaTarget.Typed .vmem (.dma q₂) (.remote ((dv : Dev nD) : Thread nD τ) dst (.dma q₁) hsc)} {α : Type}
    {k : PUnit → Prog (TpuEff nD τ sig (Elt F) Λ₀ .tc) α} {Q : α → sProp 𝕄} :
    iprop(Env I K ∗ S15 I c a w4 w5 p f w2 r1 r3 o w0) ⊢ iprop((S15 I c (a + 1) w4 w5 p f w2 r1 r3 o w0 -∗ WP c (k ⟨⟩) Q) -∗ WP c (.op (.enqueueDma src (.remote (dv : Thread nD τ) dst (.dma q₁) hsc) (.dma q₂) hsrc hdst hsem) k) Q) := by
  unfold S15
  iintro ⟨#He, HO, HS, HR, HP, HN, HG, HX, HY, HA, HB⟩ Hk
  iapply (c_ssend I K c h16 hlo hw h₁ h₂ hdv hs hd) $$ [HO HS]
  · isplitr; · iexact He
    isplitl [HO]; · iexact HO
    iexact HS
  iintro ⟨HO, HS⟩
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_fsend {a f w2 : ℕ} (h16 : f < 16) (hlo : 8 ≤ f) (hw : w2 ≤ f) {q₁ q₂ : DmaSem sig} (h₁ : q₁ = cell 2 (c + ⟨f, h16⟩)) (h₂ : q₂ = cell 3 c) {dv : Dev nD} (hdv : dv = c + ⟨f, h16⟩)
    {src dst : Memref sig .tc .vmem S256x512 .fp8e4m3} (hs : src = slot f8sM (c + ⟨f, h16⟩)) (hd : dst = slot f8M c) {hsc : dst.view.ref.isScScratch = false}
    {hsrc : src.view.WordExact} {hdst : dst.view.WordExact} {hsem : DmaTarget.Typed .vmem (.dma q₂) (.remote ((dv : Dev nD) : Thread nD τ) dst (.dma q₁) hsc)} {α : Type}
    {k : PUnit → Prog (TpuEff nD τ sig (Elt F) Λ₀ .tc) α} {Q : α → sProp 𝕄} :
    iprop(Env I K ∗ CO (F := F) c a f ∗ CP I c (f + 1) f w2) ⊢ iprop((iprop(CO (F := F) c a (f + 1) ∗ CP I c (f + 1) (f + 1) w2) -∗ WP c (k ⟨⟩) Q) -∗ WP c (.op (.enqueueDma src (.remote (dv : Thread nD τ) dst (.dma q₁) hsc) (.dma q₂) hsrc hdst hsem) k) Q) := by
  have hu₁ := used_far_snd c ⟨f, h16⟩ hlo
  have hu₂ := used_far_rcv c ⟨f, h16⟩ hlo
  unfold CO CP
  rw [owe_f c h16, seg_pop (FB I c) (Nat.lt_succ_self f) h16, seg_snoc (FC I c) hw h16]
  unfold Env
  iintro ⟨⟨#Hr, -⟩, HO, Ha, ⟨Hb, He⟩, Hm, Hdn⟩ Hk
  iapply (send_far I K c ⟨f, h16⟩ hu₁ hu₂ h₁ h₂ hdv hs hd _) $$ [HO Hb]
  · isplitr; · iexact Hr
    isplitl [HO]; · iexact HO
    iexact Hb
  iintro ⟨HO, Hc⟩
  iapply Hk
  isplitl [HO]; · iexact HO
  isplitl [Ha]; · iexact Ha
  isplitl [He]; · iexact He
  isplitl [Hc Hm]
  · isplitl [Hc]; · iexact Hc
    iexact Hm
  iexact Hdn

/-- A send of a far block. -/
theorem s_fsend {a w4 w5 f w2 r1 r3 o w0 : ℕ} (h16 : f < 16) (hlo : 8 ≤ f) (hw : w2 ≤ f) {q₁ q₂ : DmaSem sig} (h₁ : q₁ = cell 2 (c + ⟨f, h16⟩)) (h₂ : q₂ = cell 3 c) {dv : Dev nD} (hdv : dv = c + ⟨f, h16⟩)
    {src dst : Memref sig .tc .vmem S256x512 .fp8e4m3} (hs : src = slot f8sM (c + ⟨f, h16⟩)) (hd : dst = slot f8M c) {hsc : dst.view.ref.isScScratch = false}
    {hsrc : src.view.WordExact} {hdst : dst.view.WordExact} {hsem : DmaTarget.Typed .vmem (.dma q₂) (.remote ((dv : Dev nD) : Thread nD τ) dst (.dma q₁) hsc)} {α : Type}
    {k : PUnit → Prog (TpuEff nD τ sig (Elt F) Λ₀ .tc) α} {Q : α → sProp 𝕄} :
    iprop(Env I K ∗ S15 I c a w4 w5 (f + 1) f w2 r1 r3 o w0) ⊢ iprop((S15 I c a w4 w5 (f + 1) (f + 1) w2 r1 r3 o w0 -∗ WP c (k ⟨⟩) Q) -∗ WP c (.op (.enqueueDma src (.remote (dv : Thread nD τ) dst (.dma q₁) hsc) (.dma q₂) hsrc hdst hsem) k) Q) := by
  unfold S15
  iintro ⟨#He, HO, HS, HR, HP, HN, HG, HX, HY, HA, HB⟩ Hk
  iapply (c_fsend I K c h16 hlo hw h₁ h₂ hdv hs hd) $$ [HO HP]
  · isplitr; · iexact He
    isplitl [HO]; · iexact HO
    iexact HP
  iintro ⟨HO, HP⟩
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_lsend {p f w2 : ℕ} (h16 : p < 16) {off : Fin 3 → ℕ} (hoff : off = ![(c + ⟨p, h16⟩).val, 0, 0])
    {inb : ∀ a, off a + S1x256x512.size a ≤ S16x256x512.size a} {hl : sendM.view.LoadsAt (Rect.unit (s := S16x256x512) off S1x256x512.size inb).toLoadRect} {α : Type}
    {k : (S1x256x512.Idx → Elt F .bf16) → Prog (TpuEff nD τ sig (Elt F) Λ₀ .tc) α} {Q : α → sProp 𝕄} :
    iprop(Env I K ∗ CP I c p f w2) ⊢ iprop((CP I c p f w2 -∗ WP c (k (BB I c (c + ⟨p, h16⟩))) Q) -∗ WP c (.op (.load sendM (Rect.unit (s := S16x256x512) off S1x256x512.size inb).toLoadRect hl) k) Q) := by
  unfold CP
  rw [seg_pop (FA I c) h16 h16]
  unfold FA
  iintro ⟨-, ⟨⟨Hb, Hs⟩, Ha⟩, He⟩ Hk
  iapply (load_slot c sendM (c + ⟨p, h16⟩) hoff (read_send I c _)) $$ Hb
  iintro Hb
  iapply Hk
  isplitl [Hb Hs Ha]
  · isplitl [Hb Hs]
    · isplitl [Hb]; · iexact Hb
      iexact Hs
    iexact Ha
  iexact He

/-- A load of a far block to send. -/
theorem s_lsend {a w4 w5 p f w2 r1 r3 o w0 : ℕ} (h16 : p < 16) {off : Fin 3 → ℕ} (hoff : off = ![(c + ⟨p, h16⟩).val, 0, 0])
    {inb : ∀ a, off a + S1x256x512.size a ≤ S16x256x512.size a} {hl : sendM.view.LoadsAt (Rect.unit (s := S16x256x512) off S1x256x512.size inb).toLoadRect} {α : Type}
    {k : (S1x256x512.Idx → Elt F .bf16) → Prog (TpuEff nD τ sig (Elt F) Λ₀ .tc) α} {Q : α → sProp 𝕄} :
    iprop(Env I K ∗ S15 I c a w4 w5 p f w2 r1 r3 o w0) ⊢ iprop((S15 I c a w4 w5 p f w2 r1 r3 o w0 -∗ WP c (k (BB I c (c + ⟨p, h16⟩))) Q) -∗ WP c (.op (.load sendM (Rect.unit (s := S16x256x512) off S1x256x512.size inb).toLoadRect hl) k) Q) := by
  unfold S15
  iintro ⟨#He, HO, HS, HR, HP, HN, HG, HX, HY, HA, HB⟩ Hk
  iapply (c_lsend I K c h16 hoff) $$ [HP]
  · isplitr; · iexact He
    iexact HP
  iintro HP
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_lf8 {p f w2 : ℕ} (h16 : p < 16) {off : Fin 3 → ℕ} (hoff : off = ![(c + ⟨p, h16⟩).val, 0, 0])
    {inb : ∀ a, off a + S1x256x512.size a ≤ S16x256x512.size a} {hl : f8sM.view.LoadsAt (Rect.unit (s := S16x256x512) off S1x256x512.size inb).toLoadRect} {α : Type}
    {k : (S1x256x512.Idx → Elt F .fp8e4m3) → Prog (TpuEff nD τ sig (Elt F) Λ₀ .tc) α} {Q : α → sProp 𝕄} :
    iprop(Env I K ∗ CP I c p f w2) ⊢ iprop((∀ v, CP I c p f w2 -∗ WP c (k v) Q) -∗ WP c (.op (.load f8sM (Rect.unit (s := S16x256x512) off S1x256x512.size inb).toLoadRect hl) k) Q) := by
  unfold CP
  rw [seg_pop (FA I c) h16 h16]
  unfold FA
  iintro ⟨-, ⟨⟨Hb, Hs, Hr⟩, Ha⟩, He⟩ Hk
  iapply (load_dead c f8sM (c + ⟨p, h16⟩) hoff) $$ Hs
  iintro %v Hs
  iapply Hk
  isplitl [Hb Hs Hr Ha]
  · isplitl [Hb Hs Hr]
    · isplitl [Hb]; · iexact Hb
      isplitl [Hs]; · iexact Hs
      iexact Hr
    iexact Ha
  iexact He

/-- A load of a slot about to be stored. -/
theorem s_lf8 {a w4 w5 p f w2 r1 r3 o w0 : ℕ} (h16 : p < 16) {off : Fin 3 → ℕ} (hoff : off = ![(c + ⟨p, h16⟩).val, 0, 0])
    {inb : ∀ a, off a + S1x256x512.size a ≤ S16x256x512.size a} {hl : f8sM.view.LoadsAt (Rect.unit (s := S16x256x512) off S1x256x512.size inb).toLoadRect} {α : Type}
    {k : (S1x256x512.Idx → Elt F .fp8e4m3) → Prog (TpuEff nD τ sig (Elt F) Λ₀ .tc) α} {Q : α → sProp 𝕄} :
    iprop(Env I K ∗ S15 I c a w4 w5 p f w2 r1 r3 o w0) ⊢ iprop((∀ v, S15 I c a w4 w5 p f w2 r1 r3 o w0 -∗ WP c (k v) Q) -∗ WP c (.op (.load f8sM (Rect.unit (s := S16x256x512) off S1x256x512.size inb).toLoadRect hl) k) Q) := by
  unfold S15
  iintro ⟨#He, HO, HS, HR, HP, HN, HG, HX, HY, HA, HB⟩ Hk
  iapply (c_lf8 I K c h16 hoff) $$ [HP]
  · isplitr; · iexact He
    iexact HP
  iintro %v HP
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_sf8 {p f w2 : ℕ} (h16 : p < 16) (hfp : f ≤ p) {off : Fin 3 → ℕ} (hoff : off = ![(c + ⟨p, h16⟩).val, 0, 0])
    {inb : ∀ a, off a + S1x256x512.size a ≤ S16x256x512.size a} {w : S1x256x512.Idx → Elt F .fp8e4m3} (hv : w = F8 I c (c + ⟨p, h16⟩))
    {hx : (f8sM.access (Rect.unit (s := S16x256x512) off S1x256x512.size inb)).Stores Finset.univ}
    {hm : Finset.univ = Finset.univ ∨ ∀ a, (Rect.unit (s := S16x256x512) off S1x256x512.size inb).stride a = 1} {α : Type}
    {k : PUnit → Prog (TpuEff nD τ sig (Elt F) Λ₀ .tc) α} {Q : α → sProp 𝕄} :
    iprop(Env I K ∗ CP I c p f w2) ⊢ iprop((CP I c (p + 1) f w2 -∗ WP c (k ⟨⟩) Q) -∗ WP c (.op (.store f8sM (Rect.unit (s := S16x256x512) off S1x256x512.size inb) w Finset.univ hx hm) k) Q) := by
  unfold CP
  rw [seg_pop (FA I c) h16 h16, seg_snoc (FB I c) hfp h16]
  unfold FA FB
  iintro ⟨-, ⟨⟨Hb, Hs, Hr⟩, Ha⟩, Hp, He⟩ Hk
  iapply (store_slot c f8sM (c + ⟨p, h16⟩) hoff (F8SEND I c) ((read_f8s I c _).trans hv.symm)) $$ Hs
  iintro Hs
  iapply Hk
  isplitl [Ha]; · iexact Ha
  isplitl [Hb Hs Hr Hp]
  · isplitl [Hb Hs Hr]
    · isplitl [Hb]; · iexact Hb
      isplitl [Hs]; · iexact Hs
      iexact Hr
    iexact Hp
  iexact He

/-- The store of a quantised block. -/
theorem s_sf8 {a w4 w5 p f w2 r1 r3 o w0 : ℕ} (h16 : p < 16) (hfp : f ≤ p) {off : Fin 3 → ℕ} (hoff : off = ![(c + ⟨p, h16⟩).val, 0, 0])
    {inb : ∀ a, off a + S1x256x512.size a ≤ S16x256x512.size a} {w : S1x256x512.Idx → Elt F .fp8e4m3} (hv : w = F8 I c (c + ⟨p, h16⟩))
    {hx : (f8sM.access (Rect.unit (s := S16x256x512) off S1x256x512.size inb)).Stores Finset.univ}
    {hm : Finset.univ = Finset.univ ∨ ∀ a, (Rect.unit (s := S16x256x512) off S1x256x512.size inb).stride a = 1} {α : Type}
    {k : PUnit → Prog (TpuEff nD τ sig (Elt F) Λ₀ .tc) α} {Q : α → sProp 𝕄} :
    iprop(Env I K ∗ S15 I c a w4 w5 p f w2 r1 r3 o w0) ⊢ iprop((S15 I c a w4 w5 (p + 1) f w2 r1 r3 o w0 -∗ WP c (k ⟨⟩) Q) -∗ WP c (.op (.store f8sM (Rect.unit (s := S16x256x512) off S1x256x512.size inb) w Finset.univ hx hm) k) Q) := by
  unfold S15
  iintro ⟨#He, HO, HS, HR, HP, HN, HG, HX, HY, HA, HB⟩ Hk
  iapply (c_sf8 I K c h16 hfp hoff hv) $$ [HP]
  · isplitr; · iexact He
    iexact HP
  iintro HP
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_lown {off : Fin 3 → ℕ} (hoff : off = ![(c).val, 0, 0])
    {inb : ∀ a, off a + S1x256x512.size a ≤ S16x256x512.size a} {hl : asmM.view.LoadsAt (Rect.unit (s := S16x256x512) off S1x256x512.size inb).toLoadRect} {α : Type}
    {k : (S1x256x512.Idx → Elt F .bf16) → Prog (TpuEff nD τ sig (Elt F) Λ₀ .tc) α} {Q : α → sProp 𝕄} :
    iprop(Env I K ∗ CA I c) ⊢ iprop((CA I c -∗ WP c (k (BB I c c)) Q) -∗ WP c (.op (.load asmM (Rect.unit (s := S16x256x512) off S1x256x512.size inb).toLoadRect hl) k) Q) := by
  unfold CA
  iintro ⟨-, Hb⟩ Hk
  iapply (load_slot c asmM c hoff (read_asm I c c)) $$ Hb
  iexact Hk

/-- A load of the device's own near block. -/
theorem s_lown {a w4 w5 p f w2 r1 r3 o w0 : ℕ} {off : Fin 3 → ℕ} (hoff : off = ![(c).val, 0, 0])
    {inb : ∀ a, off a + S1x256x512.size a ≤ S16x256x512.size a} {hl : asmM.view.LoadsAt (Rect.unit (s := S16x256x512) off S1x256x512.size inb).toLoadRect} {α : Type}
    {k : (S1x256x512.Idx → Elt F .bf16) → Prog (TpuEff nD τ sig (Elt F) Λ₀ .tc) α} {Q : α → sProp 𝕄} :
    iprop(Env I K ∗ S15 I c a w4 w5 p f w2 r1 r3 o w0) ⊢ iprop((S15 I c a w4 w5 p f w2 r1 r3 o w0 -∗ WP c (k (BB I c c)) Q) -∗ WP c (.op (.load asmM (Rect.unit (s := S16x256x512) off S1x256x512.size inb).toLoadRect hl) k) Q) := by
  unfold S15
  iintro ⟨#He, HO, HS, HR, HP, HN, HG, HX, HY, HA, HB⟩ Hk
  iapply (c_lown I K c hoff) $$ [HA]
  · isplitr; · iexact He
    iexact HA
  iintro HA
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_lnear {r1 : ℕ} (j : Fin 16) (hlo : 1 ≤ j.val) (hj : j.val < r1) {off : Fin 3 → ℕ} (hoff : off = ![(c - j).val, 0, 0])
    {inb : ∀ a, off a + S1x256x512.size a ≤ S16x256x512.size a} {hl : asmM.view.LoadsAt (Rect.unit (s := S16x256x512) off S1x256x512.size inb).toLoadRect} {α : Type}
    {k : (S1x256x512.Idx → Elt F .bf16) → Prog (TpuEff nD τ sig (Elt F) Λ₀ .tc) α} {Q : α → sProp 𝕄} :
    iprop(Env I K ∗ CN I c r1) ⊢ iprop((CN I c r1 -∗ WP c (k (BB I (c - j) c)) Q) -∗ WP c (.op (.load asmM (Rect.unit (s := S16x256x512) off S1x256x512.size inb).toLoadRect hl) k) Q) := by
  unfold CN
  rw [seg_get (fun s => Dn I c 1 (c - s)) j hlo hj]
  have e : dmaPay I c (1 : Fin 6).val (c - j) = pts asmM c (c - j) (ASM I c) := rfl
  unfold Dn
  rw [e]
  iintro ⟨-, Hw, ⟨Hv, Hb⟩, Ha⟩ Hk
  iapply (load_slot c asmM (c - j) hoff (read_asm I c _)) $$ Hb
  iintro Hb
  iapply Hk
  isplitl [Hw]; · iexact Hw
  isplitl [Hv Hb]
  · isplitl [Hv]; · iexact Hv
    iexact Hb
  iexact Ha

/-- A load of a near block received. -/
theorem s_lnear {a w4 w5 p f w2 r1 r3 o w0 : ℕ} (j : Fin 16) (hlo : 1 ≤ j.val) (hj : j.val < r1) {off : Fin 3 → ℕ} (hoff : off = ![(c - j).val, 0, 0])
    {inb : ∀ a, off a + S1x256x512.size a ≤ S16x256x512.size a} {hl : asmM.view.LoadsAt (Rect.unit (s := S16x256x512) off S1x256x512.size inb).toLoadRect} {α : Type}
    {k : (S1x256x512.Idx → Elt F .bf16) → Prog (TpuEff nD τ sig (Elt F) Λ₀ .tc) α} {Q : α → sProp 𝕄} :
    iprop(Env I K ∗ S15 I c a w4 w5 p f w2 r1 r3 o w0) ⊢ iprop((S15 I c a w4 w5 p f w2 r1 r3 o w0 -∗ WP c (k (BB I (c - j) c)) Q) -∗ WP c (.op (.load asmM (Rect.unit (s := S16x256x512) off S1x256x512.size inb).toLoadRect hl) k) Q) := by
  unfold S15
  iintro ⟨#He, HO, HS, HR, HP, HN, HG, HX, HY, HA, HB⟩ Hk
  iapply (c_lnear I K c j hlo hj hoff) $$ [HN]
  · isplitr; · iexact He
    iexact HN
  iintro HN
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_lfar {r3 : ℕ} (j : Fin 16) (hlo : 8 ≤ j.val) (hj : j.val < r3) {off : Fin 3 → ℕ} (hoff : off = ![(c - j).val, 0, 0])
    {inb : ∀ a, off a + S1x256x512.size a ≤ S16x256x512.size a} {hl : f8M.view.LoadsAt (Rect.unit (s := S16x256x512) off S1x256x512.size inb).toLoadRect} {α : Type}
    {k : (S1x256x512.Idx → Elt F .fp8e4m3) → Prog (TpuEff nD τ sig (Elt F) Λ₀ .tc) α} {Q : α → sProp 𝕄} :
    iprop(Env I K ∗ CG I c r3) ⊢ iprop((CG I c r3 -∗ WP c (k (F8 I (c - j) c)) Q) -∗ WP c (.op (.load f8M (Rect.unit (s := S16x256x512) off S1x256x512.size inb).toLoadRect hl) k) Q) := by
  unfold CG
  rw [seg_get (fun s => Dn I c 3 (c - s)) j hlo hj]
  have e : dmaPay I c (3 : Fin 6).val (c - j) = pts f8M c (c - j) (F8ASM I c) := rfl
  unfold Dn
  rw [e]
  iintro ⟨-, Hw, ⟨Hv, Hb⟩, Ha⟩ Hk
  iapply (load_slot c f8M (c - j) hoff (read_f8 I c _)) $$ Hb
  iintro Hb
  iapply Hk
  isplitl [Hw]; · iexact Hw
  isplitl [Hv Hb]
  · isplitl [Hv]; · iexact Hv
    iexact Hb
  iexact Ha

/-- A load of a far block received. -/
theorem s_lfar {a w4 w5 p f w2 r1 r3 o w0 : ℕ} (j : Fin 16) (hlo : 8 ≤ j.val) (hj : j.val < r3) {off : Fin 3 → ℕ} (hoff : off = ![(c - j).val, 0, 0])
    {inb : ∀ a, off a + S1x256x512.size a ≤ S16x256x512.size a} {hl : f8M.view.LoadsAt (Rect.unit (s := S16x256x512) off S1x256x512.size inb).toLoadRect} {α : Type}
    {k : (S1x256x512.Idx → Elt F .fp8e4m3) → Prog (TpuEff nD τ sig (Elt F) Λ₀ .tc) α} {Q : α → sProp 𝕄} :
    iprop(Env I K ∗ S15 I c a w4 w5 p f w2 r1 r3 o w0) ⊢ iprop((S15 I c a w4 w5 p f w2 r1 r3 o w0 -∗ WP c (k (F8 I (c - j) c)) Q) -∗ WP c (.op (.load f8M (Rect.unit (s := S16x256x512) off S1x256x512.size inb).toLoadRect hl) k) Q) := by
  unfold S15
  iintro ⟨#He, HO, HS, HR, HP, HN, HG, HX, HY, HA, HB⟩ Hk
  iapply (c_lfar I K c j hlo hj hoff) $$ [HG]
  · isplitr; · iexact He
    iexact HG
  iintro HG
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_lout {o : ℕ} (h16 : o < 16) {off : Fin 2 → ℕ} (hoff : off = ![256 * (c - ⟨o, h16⟩).val, 0]) {inb : ∀ a, off a + S256x512.size a ≤ S4096x512.size a} {hl : outM.view.LoadsAt (Rect.unit (s := S4096x512) off S256x512.size inb).toLoadRect} {α : Type}
    {k : (S256x512.Idx → Elt F .f32) → Prog (TpuEff nD τ sig (Elt F) Λ₀ .tc) α} {Q : α → sProp 𝕄} :
    iprop(Env I K ∗ CX I c o) ⊢ iprop((∀ v, CX I c o -∗ WP c (k v) Q) -∗ WP c (.op (.load outM (Rect.unit (s := S4096x512) off S256x512.size inb).toLoadRect hl) k) Q) := by
  unfold CX
  rw [seg_pop (OA (F := F) c) h16 h16]
  unfold OA
  generalize c - ⟨o, h16⟩ = n at *
  subst hoff
  iintro ⟨-, ⟨⟨%g, Hb⟩, Ha⟩, He⟩ Hk
  iapply (load_at c outM (rectO n) (f := g) rfl) $$ Hb
  iintro Hb
  iapply Hk
  isplitl [Hb Ha]
  · isplitl [Hb]; · iexists g; iexact Hb
    iexact Ha
  iexact He

/-- A load of output rows about to be stored. -/
theorem s_lout {a w4 w5 p f w2 r1 r3 o w0 : ℕ} (h16 : o < 16) {off : Fin 2 → ℕ} (hoff : off = ![256 * (c - ⟨o, h16⟩).val, 0]) {inb : ∀ a, off a + S256x512.size a ≤ S4096x512.size a} {hl : outM.view.LoadsAt (Rect.unit (s := S4096x512) off S256x512.size inb).toLoadRect} {α : Type}
    {k : (S256x512.Idx → Elt F .f32) → Prog (TpuEff nD τ sig (Elt F) Λ₀ .tc) α} {Q : α → sProp 𝕄} :
    iprop(Env I K ∗ S15 I c a w4 w5 p f w2 r1 r3 o w0) ⊢ iprop((∀ v, S15 I c a w4 w5 p f w2 r1 r3 o w0 -∗ WP c (k v) Q) -∗ WP c (.op (.load outM (Rect.unit (s := S4096x512) off S256x512.size inb).toLoadRect hl) k) Q) := by
  unfold S15
  iintro ⟨#He, HO, HS, HR, HP, HN, HG, HX, HY, HA, HB⟩ Hk
  iapply (c_lout I K c h16 hoff) $$ [HX]
  · isplitr; · iexact He
    iexact HX
  iintro %v HX
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

theorem c_sout {o : ℕ} (h16 : o < 16) {off : Fin 2 → ℕ} (hoff : off = ![256 * (c - ⟨o, h16⟩).val, 0]) {inb : ∀ a, off a + S256x512.size a ≤ S4096x512.size a} {w : S256x512.Idx → Elt F .f32} (hv : w = OB I c (c - ⟨o, h16⟩))
    {hx : (outM.access (Rect.unit (s := S4096x512) off S256x512.size inb)).Stores Finset.univ}
    {hm : Finset.univ = Finset.univ ∨ ∀ a, (Rect.unit (s := S4096x512) off S256x512.size inb).stride a = 1} {α : Type}
    {k : PUnit → Prog (TpuEff nD τ sig (Elt F) Λ₀ .tc) α} {Q : α → sProp 𝕄} :
    iprop(Env I K ∗ CX I c o) ⊢ iprop((CX I c (o + 1) -∗ WP c (k ⟨⟩) Q) -∗ WP c (.op (.store outM (Rect.unit (s := S4096x512) off S256x512.size inb) w Finset.univ hx hm) k) Q) := by
  unfold CX
  rw [seg_pop (OA (F := F) c) h16 h16, seg_snoc (OD I c) (Nat.zero_le o) h16]
  unfold OA OD
  generalize c - ⟨o, h16⟩ = n at *
  subst hoff
  iintro ⟨-, ⟨⟨%g, Hb⟩, Ha⟩, He⟩ Hk
  iapply (store_at c outM (rectO n) (f := g) (OUT I c) ((read_out I c _).trans hv.symm)) $$ Hb
  iintro Hb
  iapply Hk
  isplitl [Ha]; · iexact Ha
  isplitl [Hb]; · iexact Hb
  iexact He

/-- The store of output rows. -/
theorem s_sout {a w4 w5 p f w2 r1 r3 o w0 : ℕ} (h16 : o < 16) {off : Fin 2 → ℕ} (hoff : off = ![256 * (c - ⟨o, h16⟩).val, 0]) {inb : ∀ a, off a + S256x512.size a ≤ S4096x512.size a} {w : S256x512.Idx → Elt F .f32} (hv : w = OB I c (c - ⟨o, h16⟩))
    {hx : (outM.access (Rect.unit (s := S4096x512) off S256x512.size inb)).Stores Finset.univ}
    {hm : Finset.univ = Finset.univ ∨ ∀ a, (Rect.unit (s := S4096x512) off S256x512.size inb).stride a = 1} {α : Type}
    {k : PUnit → Prog (TpuEff nD τ sig (Elt F) Λ₀ .tc) α} {Q : α → sProp 𝕄} :
    iprop(Env I K ∗ S15 I c a w4 w5 p f w2 r1 r3 o w0) ⊢ iprop((S15 I c a w4 w5 p f w2 r1 r3 (o + 1) w0 -∗ WP c (k ⟨⟩) Q) -∗ WP c (.op (.store outM (Rect.unit (s := S4096x512) off S256x512.size inb) w Finset.univ hx hm) k) Q) := by
  unfold S15
  iintro ⟨#He, HO, HS, HR, HP, HN, HG, HX, HY, HA, HB⟩ Hk
  iapply (c_sout I K c h16 hoff hv) $$ [HX]
  · isplitr; · iexact He
    iexact HX
  iintro HX
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

end Cert.KernelIdeal.Ring

end
-- ==== Proof.Whole.lean ====
module
public import Idealize.ShloMosaic.Lib.Ring
public import proofs.«01_k».proof.Proof.Loops

/-! A buffer of sixteen blocks held whole, and block by block; sums over the ring's steps; the load of all the maxima. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

/-- Slots of different devices do not meet. -/
theorem rect3_disj (n n' : Fin 16) (h : n ≠ n') : Disjoint (rect3 n).set (rect3 n').set :=
  Idealize.ShloMosaic.Ring.lead_disjoint (s := S16x256x512) (NB := 16) 0 1 (fun n : Fin 16 => ![n.val, 0, 0]) S1x256x512.size inb3 (fun b => (Nat.one_mul _).symm) rfl n n' h
/-- The slots are the whole buffer. -/
theorem rect3_cover : Finset.univ.biUnion (fun n => (rect3 n).set) = Finset.univ :=
  Idealize.ShloMosaic.Ring.lead_cover (s := S16x256x512) (NB := 16) 0 1 (fun n : Fin 16 => ![n.val, 0, 0]) S1x256x512.size inb3 (fun b => (Nat.one_mul _).symm)
    (by intro b a ha; fin_cases a; exact absurd rfl ha; rfl; rfl) rfl (by intro a ha; fin_cases a; exact absurd rfl ha; rfl; rfl) rfl
theorem rect8_disj (n n' : Fin 16) (h : n ≠ n') : Disjoint (rect8 n).set (rect8 n').set :=
  Idealize.ShloMosaic.Ring.lead_disjoint (s := S16x8x128) (NB := 16) 0 1 (fun n : Fin 16 => ![n.val, 0, 0]) S1x8x128.size inb8 (fun b => (Nat.one_mul _).symm) rfl n n' h
theorem rect8_cover : Finset.univ.biUnion (fun n => (rect8 n).set) = Finset.univ :=
  Idealize.ShloMosaic.Ring.lead_cover (s := S16x8x128) (NB := 16) 0 1 (fun n : Fin 16 => ![n.val, 0, 0]) S1x8x128.size inb8 (fun b => (Nat.one_mul _).symm)
    (by intro b a ha; fin_cases a; exact absurd rfl ha; rfl; rfl) rfl (by intro a ha; fin_cases a; exact absurd rfl ha; rfl; rfl) rfl
theorem rectO_disj (n n' : Fin 16) (h : n ≠ n') : Disjoint (rectO n).set (rectO n').set :=
  Idealize.ShloMosaic.Ring.lead_disjoint (s := S4096x512) (NB := 16) 0 256 (fun n : Fin 16 => ![256 * n.val, 0]) S256x512.size inbO (fun b => rfl) rfl n n' h
theorem rectO_cover : Finset.univ.biUnion (fun n => (rectO n).set) = Finset.univ :=
  Idealize.ShloMosaic.Ring.lead_cover (s := S4096x512) (NB := 16) 0 256 (fun n : Fin 16 => ![256 * n.val, 0]) S256x512.size inbO (fun b => rfl)
    (by intro b a ha; fin_cases a; exact absurd rfl ha; rfl) rfl (by intro a ha; fin_cases a; exact absurd rfl ha; rfl) rfl

section Cut
variable {s : Shape} {e : EltTy} (A : Memref sig .tc .vmem s e) (R : Fin 16 → Rect s)
  (hd : ∀ n n', n ≠ n' → Disjoint (R n).set (R n').set) (hc : Finset.univ.biUnion (fun n => (R n).set) = Finset.univ) (c : Dev nD) (q : PosShare TreeShare)

include hd in
theorem cut_disj : ∀ n ∈ (Finset.univ : Finset (Fin 16)), ∀ n' ∈ (Finset.univ : Finset (Fin 16)), n ≠ n' → Disjoint (A.access (R n)).set (A.access (R n')).set := by
  intro n _ n' _ h
  rw [show (A.access (R n)).set = (R n).set.map A.view.emb from View.set_slice .., show (A.access (R n')).set = (R n').set.map A.view.emb from View.set_slice ..]
  exact (Finset.disjoint_map _).mpr (hd n n' h)
include hc in
theorem cut_cover : Finset.univ.biUnion (fun n => (A.access (R n)).set) = A.view.set := by
  ext i
  rw [Finset.mem_biUnion]
  constructor
  · rintro ⟨n, -, h⟩; exact View.set_slice_subset _ _ h
  · intro h
    obtain ⟨x, -, rfl⟩ := Finset.mem_map.mp h
    obtain ⟨n, hn, hx⟩ := Finset.mem_biUnion.mp (hc ▸ Finset.mem_univ x)
    exact ⟨n, hn, by rw [show (A.access (R n)).set = (R n).set.map A.view.emb from View.set_slice ..]; exact Finset.mem_map_of_mem _ hx⟩

include hd hc in
/-- A buffer held whole is held rectangle by rectangle. -/
theorem cut (f : Buf (Elt F) (A.view.loc (c : Thread nD τ))) :
    (A.view.loc (c : Thread nD τ) ↦[A.view.set]{q} f : sProp 𝕄) = bigSep Finset.univ fun n => ptsR A (R n) c q f := by
  have e := pointsTo_biUnion (Name := ℕ) (U := UU) (Lvl := ℕ) (Ix := Unit) Finset.univ (fun n => (A.access (R n)).set) (cut_disj A R hd) (q := q) (f := f) (ℓ := A.view.loc (c : Thread nD τ))
  rw [cut_cover A R hc] at e
  exact e

include hd hc in
/-- The rectangles of a buffer, each at some contents, join. -/
theorem uncut (f₀ : Buf (Elt F) (A.view.loc (c : Thread nD τ))) :
    (bigSep Finset.univ fun n => iprop(∃ f, ptsR A (R n) c q f)) ⊢ (iprop(∃ g, A.view.loc (c : Thread nD τ) ↦[A.view.set]{q} g) : sProp 𝕄) := by
  have : Nonempty (Buf (Elt F) (A.view.loc (c : Thread nD τ))) := ⟨f₀⟩
  refine (Idealize.SL.BI.bigSep_exists_pi Finset.univ (fun n (f : Buf (Elt F) (A.view.loc (c : Thread nD τ))) => (ptsR A (R n) c q f : sProp 𝕄))).trans ?_
  iintro ⟨%fs, H⟩
  have e := pointsTo_biUnion_join (Name := ℕ) (U := UU) (Lvl := ℕ) (Ix := Unit) Finset.univ (fun n => (A.access (R n)).set) fs f₀ (cut_disj A R hd) (q := q) (ℓ := A.view.loc (c : Thread nD τ))
  rw [cut_cover A R hc] at e
  ihave H' := e $$ H
  icases H' with ⟨%g, -, H⟩
  iexists g; iexact H
end Cut

variable (c : Dev nD)
theorem any_intro {e : EltTy} (A : Memref sig .tc .vmem S16x256x512 e) (n : Fin 16) (f : Buf (Elt F) (A.view.loc (c : Thread nD τ))) :
    pts A c n f ⊢ any A c n := by
  unfold any; iintro H; iexists f; iexact H
theorem any_elim {e : EltTy} (A : Memref sig .tc .vmem S16x256x512 e) (n : Fin 16) : any (F := F) A c n ⊢ iprop(∃ f, ptsR A (rect3 n) c fullShare f) := by
  unfold any; iintro ⟨%f, H⟩; iexists f; rw [← pts_eq]; iexact H
theorem any8_intro (n : Fin 16) (f : Buf (Elt F) (scalM.view.loc (c : Thread nD τ))) : pts8 c n fullShare f ⊢ any8 c n := by
  unfold any8; iintro H; iexists f; iexact H
theorem any8_elim (n : Fin 16) : any8 (F := F) c n ⊢ iprop(∃ f, ptsR scalM (rect8 n) c fullShare f) := by
  unfold any8; iintro ⟨%f, H⟩; iexists f; rw [← pts8_eq]; iexact H
/-- A block buffer held whole is held slot by slot. -/
theorem cut3 {e : EltTy} (A : Memref sig .tc .vmem S16x256x512 e) (f : Buf (Elt F) (A.view.loc (c : Thread nD τ))) :
    (A.view.loc (c : Thread nD τ) ↦[A.view.set]{fullShare} f : sProp 𝕄) = bigSep Finset.univ fun n => pts A c n f := by
  rw [cut A rect3 rect3_disj rect3_cover c fullShare f]
  exact bigSep_congr fun n _ => (pts_eq c A n f).symm
theorem cut3_any {e : EltTy} (A : Memref sig .tc .vmem S16x256x512 e) (f : Buf (Elt F) (A.view.loc (c : Thread nD τ))) :
    (A.view.loc (c : Thread nD τ) ↦[A.view.set]{fullShare} f : sProp 𝕄) ⊢ bigSep Finset.univ fun n => any A c n := by
  rw [cut3]
  exact bigSep_mono fun n _ => any_intro c A n f
/-- The slots, each at some contents, are the buffer at some contents. -/
theorem uncut3 {e : EltTy} (A : Memref sig .tc .vmem S16x256x512 e) (f₀ : Buf (Elt F) (A.view.loc (c : Thread nD τ))) :
    (bigSep Finset.univ fun n => any A c n) ⊢ (iprop(∃ g, A.view.loc (c : Thread nD τ) ↦[A.view.set]{fullShare} g) : sProp 𝕄) := by
  refine BIBase.Entails.trans (bigSep_mono fun n _ => any_elim c A n) (uncut A rect3 rect3_disj rect3_cover c fullShare f₀)
theorem cut8 (q : PosShare TreeShare) (f : Buf (Elt F) (scalM.view.loc (c : Thread nD τ))) :
    (scalM.view.loc (c : Thread nD τ) ↦[scalM.view.set]{q} f : sProp 𝕄) = bigSep Finset.univ fun n => pts8 c n q f := by
  rw [cut scalM rect8 rect8_disj rect8_cover c q f]
  exact bigSep_congr fun n _ => (pts8_eq c n q f).symm
theorem cut8_any (f : Buf (Elt F) (scalM.view.loc (c : Thread nD τ))) :
    (scalM.view.loc (c : Thread nD τ) ↦[scalM.view.set]{fullShare} f : sProp 𝕄) ⊢ bigSep Finset.univ fun n => any8 c n := by
  rw [cut8]
  exact bigSep_mono fun n _ => any8_intro c n f
theorem uncut8 (f₀ : Buf (Elt F) (scalM.view.loc (c : Thread nD τ))) :
    (bigSep Finset.univ fun n => any8 c n) ⊢ (iprop(∃ g, scalM.view.loc (c : Thread nD τ) ↦[scalM.view.set]{fullShare} g) : sProp 𝕄) := by
  refine BIBase.Entails.trans (bigSep_mono fun n _ => any8_elim c n) (uncut scalM rect8 rect8_disj rect8_cover c fullShare f₀)

/-! ## Sums over the steps of the ring -/

theorem rg_all : rg 0 16 = Finset.univ := by decide
theorem seg_join (Φ : Fin 16 → sProp 𝕄) {a b d : ℕ} (h : a ≤ b) (h' : b ≤ d) : seg Φ a d = iprop(seg Φ a b ∗ seg Φ b d) := by
  unfold seg
  rw [show rg a d = rg a b ∪ rg b d from by ext s; rw [Finset.mem_union, mem_rg, mem_rg, mem_rg]; omega]
  exact bigSep_union (by rw [Finset.disjoint_left]; intro s; rw [mem_rg, mem_rg]; omega)
theorem seg_mono {Φ Ψ : Fin 16 → sProp 𝕄} {a b : ℕ} (h : ∀ s : Fin 16, a ≤ s.val → s.val < b → Φ s ⊢ Ψ s) : seg Φ a b ⊢ seg Ψ a b := by
  unfold seg; exact bigSep_mono fun s hs => h s (mem_rg.mp hs).1 (mem_rg.mp hs).2
theorem seg_congr {Φ Ψ : Fin 16 → sProp 𝕄} {a b : ℕ} (h : ∀ s : Fin 16, a ≤ s.val → s.val < b → Φ s = Ψ s) : seg Φ a b = seg Ψ a b := by
  unfold seg; exact bigSep_congr fun s hs => h s (mem_rg.mp hs).1 (mem_rg.mp hs).2
/-- The device `s` steps ahead. -/
def addE (c : Fin 16) : Fin 16 ≃ Fin 16 where
  toFun s := c + s
  invFun d := d - c
  left_inv := (by decide +kernel : ∀ c s : Fin 16, c + s - c = s) c
  right_inv := (by decide +kernel : ∀ c d : Fin 16, c + (d - c) = d) c
/-- The device `s` steps back. -/
def subE (c : Fin 16) : Fin 16 ≃ Fin 16 where
  toFun s := c - s
  invFun d := c - d
  left_inv := (by decide +kernel : ∀ c s : Fin 16, c - (c - s) = s) c
  right_inv := (by decide +kernel : ∀ c s : Fin 16, c - (c - s) = s) c
theorem add_z : ∀ c : Fin 16, c + ⟨0, by decide⟩ = c := by decide
theorem sub_z : ∀ c : Fin 16, c - ⟨0, by decide⟩ = c := by decide
/-- A sum over the devices is one over the steps ahead. -/
theorem seg_add (Φ : Fin 16 → sProp 𝕄) : bigSep Finset.univ Φ = seg (fun s => Φ (c + s)) 0 16 := by
  unfold seg; rw [rg_all]
  exact bigSep_univ_equiv (addE c) Φ
/-- A sum over the devices is one over the steps back. -/
theorem seg_sub (Φ : Fin 16 → sProp 𝕄) : bigSep Finset.univ Φ = seg (fun s => Φ (c - s)) 0 16 := by
  unfold seg; rw [rg_all]
  exact bigSep_univ_equiv (subE c) Φ
theorem seg_sep (Φ Ψ : Fin 16 → sProp 𝕄) (a b : ℕ) : seg (fun s => iprop(Φ s ∗ Ψ s)) a b = iprop(seg Φ a b ∗ seg Ψ a b) := by
  unfold seg; exact bigSep_sep' ..

/-! ## The load of all the maxima -/

theorem eq_of {A B : sProp 𝕄} (h : A ⊢ B) (h' : B ⊢ A) : A = B := BI.equiv_iff.mp ⟨h, h'⟩
theorem comm_eq (A B : sProp 𝕄) : iprop(A ∗ B) = iprop(B ∗ A) := by
  apply eq_of
  · iintro ⟨H1, H2⟩; isplitl [H2]; · iexact H2
    iexact H1
  · iintro ⟨H1, H2⟩; isplitl [H2]; · iexact H2
    iexact H1
theorem pair_eq {A B D T : sProp 𝕄} (e : B = iprop(D ∗ T)) : iprop(A ∗ B) = iprop((A ∗ T) ∗ D) := by
  rw [e]
  apply eq_of
  · iintro ⟨H1, H2, H3⟩
    isplitl [H1 H3]
    · isplitl [H1]; · iexact H1
      iexact H3
    iexact H2
  · iintro ⟨⟨H1, H3⟩, H2⟩
    isplitl [H1]; · iexact H1
    isplitl [H2]; · iexact H2
    iexact H3
theorem toks_eq {ℓ : Loc nD τ sig} {S : Finset (Idx ℓ)} (f : Buf (Elt F) ℓ) : (ℓ ↦[S]{fullShare} f : sProp 𝕄)
    = iprop((ℓ ↦[S]{Transfers.shareDrop fullShare 16} f) ∗ bigSep Finset.univ fun i : Fin 16 => ℓ ↦[S]{Transfers.shareTok fullShare 16 i} f) :=
  eq_of (Transfers.pointsTo_toks fullShare 16).1 (Transfers.pointsTo_toks fullShare 16).2
/-- The rectangle that is all of the buffer. -/
abbrev rectS : Rect S16x8x128 := Rect.unit (s := S16x8x128) ![0, 0, 0] S16x8x128.size inb_S16x8x128_S16x8x128_0_0_0
theorem rectS_set : (scalM.access rectS).set = scalM.view.set := by
  rw [show (scalM.access rectS).set = rectS.set.map scalM.view.emb from View.set_slice ..]
  rw [show rectS.set = Finset.univ from by
    ext i; simp only [Finset.mem_univ, iff_true]
    refine Rect.mem_set_unit.mpr fun a => ?_
    have := (i a).isLt
    fin_cases a <;> exact ⟨Nat.zero_le _, by simpa using this⟩]
  rfl
theorem rectS_read (f : Vec F S16x8x128 .f32) : (scalM.access rectS).read (Elt F) f = f := by
  funext x
  show f (rectS.emb x) = f x
  congr 1
  funext a
  apply Fin.ext
  fin_cases a <;> show 0 + 1 * _ = _ <;> omega
/-- The slots received and the device's own are the buffer of maxima. -/
theorem scal_whole : iprop(seg (fun s => pts8 (F := F) c (c + s) (Transfers.shareDrop fullShare 16) (SB I)) 1 16 ∗ pts8 c c (Transfers.shareDrop fullShare 16) (SB I))
    = (scalM.view.loc (c : Thread nD τ) ↦[scalM.view.set]{Transfers.shareDrop fullShare 16} (SB I) : sProp 𝕄) := by
  rw [cut8, seg_add c, seg_pop _ (by decide : (0 : ℕ) < 16) (by decide)]
  rw [add_z c]
  exact comm_eq _ _

/-- A maximum received: the share that is read, and the others. -/
theorem dn5 (n : Fin 16) : Dn I c 5 n = iprop((semVal (dCell c 5 n) 0 ∗ bigSep Finset.univ fun i : Fin 16 => pts8 c n (Transfers.shareTok fullShare 16 i) (SB I))
    ∗ pts8 c n (Transfers.shareDrop fullShare 16) (SB I)) := by
  exact pair_eq (toks_eq (ℓ := (slot8 scalM n).view.loc (c : Thread nD τ)) (S := (slot8 scalM n).view.set) (SB I))

theorem c_lscal {hl : scalM.view.LoadsAt (Rect.unit (s := S16x8x128) ![0, 0, 0] S16x8x128.size inb_S16x8x128_S16x8x128_0_0_0).toLoadRect} {α : Type}
    {k : (S16x8x128.Idx → Elt F .f32) → Prog (TpuEff nD τ sig (Elt F) Λ₀ .tc) α} {Q : α → sProp 𝕄} :
    iprop(CR I c 16 ∗ CB I c) ⊢ iprop(((CR I c 16 ∗ CB I c) -∗ WP c (k (SB I)) Q)
      -∗ WP c (.op (.load scalM (Rect.unit (s := S16x8x128) ![0, 0, 0] S16x8x128.size inb_S16x8x128_S16x8x128_0_0_0).toLoadRect hl) k) Q) := by
  have e1 : seg (fun s => Dn I c 5 (c + s)) 1 16 = iprop(seg (fun s => iprop(semVal (dCell c 5 (c + s)) 0 ∗ bigSep Finset.univ fun i : Fin 16 => pts8 c (c + s) (Transfers.shareTok fullShare 16 i) (SB I))) 1 16
      ∗ seg (fun s => pts8 (F := F) c (c + s) (Transfers.shareDrop fullShare 16) (SB I)) 1 16) := by
    rw [← seg_sep]
    refine seg_congr fun s _ _ => ?_
    exact dn5 I c (c + s)
  unfold CR CB
  rw [e1]
  iintro ⟨⟨Hn, Ht, Hd⟩, Hb⟩ Hk
  ihave Hw := (BIBase.Entails.of_eq (scal_whole I c)) $$ [Hd Hb]
  · isplitl [Hd]; · iexact Hd
    iexact Hb
  ihave Hw := (BIBase.Entails.of_eq (congrArg (fun S => (scalM.view.loc (c : Thread nD τ) ↦[S]{Transfers.shareDrop fullShare 16} (SB I) : sProp 𝕄)) rectS_set.symm)) $$ Hw
  iapply (load_at c scalM rectS (rectS_read (SB I))) $$ Hw
  iintro Hw
  iapply Hk
  ihave Hw' := (BIBase.Entails.of_eq ((congrArg (fun S => (scalM.view.loc (c : Thread nD τ) ↦[S]{Transfers.shareDrop fullShare 16} (SB I) : sProp 𝕄)) rectS_set).trans (scal_whole I c).symm)) $$ Hw
  icases Hw' with ⟨Hd, Hb⟩
  isplitr [Hb]
  · isplitl [Hn]; · iexact Hn
    isplitl [Ht]; · iexact Ht
    iexact Hd
  iexact Hb

end Cert.KernelIdeal.Ring

end
-- ==== Proof.Values.lean ====
module
public import proofs.«01_k».proof.Proof.Whole

/-! Values at the last grid point. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD)

theorem near_val (s : Fin 16) (h : s.val ≤ 7) : k0_pay17 (SC I) (IV I) (BB I (c - s) c) = OB I c (c - s) := (OB_near I c s h).symm
theorem far_val (s : Fin 16) (h : 8 ≤ s.val) : k0_pay29 (SC I) (F8 I (c - s) c) = OB I c (c - s) := (OB_far I c s h).symm
theorem own_val : k0_pay17 (SC I) (IV I) (BB I c c) = OB I c (c - ⟨0, by decide⟩) := by
  rw [OB_near I c ⟨0, by decide⟩ (by decide), sub_z]
theorem own_off : ∀ c : Dev nD, k0_off17 c = ![256 * (c - (⟨0, by decide⟩ : Fin 16)).val, 0] := by decide +kernel

theorem wp_done {α : Type} {a : α} {Q : α → sProp 𝕄} : Q a ⊢ WP c (Prog.ret a) Q := by
  unfold WP; rw [wp_ret]; iintro H; imodintro; iexact H

/-- The load of all the maxima. -/
theorem s_lscal {a w4 p f w2 r1 r3 o w0 : ℕ} {hl : scalM.view.LoadsAt (Rect.unit (s := S16x8x128) ![0, 0, 0] S16x8x128.size inb_S16x8x128_S16x8x128_0_0_0).toLoadRect} {α : Type}
    {k : (S16x8x128.Idx → Elt F .f32) → Prog (TpuEff nD τ sig (Elt F) Λ₀ .tc) α} {Q : α → sProp 𝕄} :
    iprop(Env I K ∗ S15 I c a w4 16 p f w2 r1 r3 o w0) ⊢ iprop((S15 I c a w4 16 p f w2 r1 r3 o w0 -∗ WP c (k (SB I)) Q)
      -∗ WP c (.op (.load scalM (Rect.unit (s := S16x8x128) ![0, 0, 0] S16x8x128.size inb_S16x8x128_S16x8x128_0_0_0).toLoadRect hl) k) Q) := by
  unfold S15
  iintro ⟨#He, HO, HS, HR, HP, HN, HG, HX, HY, HA, HB⟩ Hk
  iapply (c_lscal I c) $$ [HR HB]
  · isplitl [HR]; · iexact HR
    iexact HB
  iintro ⟨HR, HB⟩
  iapply Hk
  isplitl [HO]; · iexact HO
  isplitl [HS]; · iexact HS
  isplitl [HR]; · iexact HR
  isplitl [HP]; · iexact HP
  isplitl [HN]; · iexact HN
  isplitl [HG]; · iexact HG
  isplitl [HX]; · iexact HX
  isplitl [HY]; · iexact HY
  isplitl [HA]; · iexact HA
  iexact HB

end Cert.KernelIdeal.Ring

end
-- ==== Proof.First.lean ====
module
public import proofs.«01_k».proof.Proof.Values

/-! The first part of the last grid point: the device keeps its own block and sends its maximum. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD)

/-- The one element of the running maximum. -/
abbrev rectA : Rect S1 := Rect.unit (s := S1) ![0] S1.size inb_S1_S1_0
/-- The running maximum holds `x`. -/
def AX (x : Elt F .f32) : sProp 𝕄 := ptsR amaxM rectA c fullShare (fun _ => x)

/-- What the last grid point starts with. -/
def S7 : sProp 𝕄 :=
  iprop(CO (F := F) c 1 8 ∗ seg (SA0 (F := F) c) 1 16 ∗ CR I c 1 ∗ CP I c 8 8 8 ∗ CN I c 1 ∗ CG I c 8 ∗ CX I c 0 ∗ CY I c 1
    ∗ any (F := F) asmM c c ∗ any8 (F := F) c c ∗ AX c (AM I c 15))
/-- What is left over of it once the maximum is shared out. -/
def R7 : sProp 𝕄 := iprop(AX c (AM I c 15) ∗ pts8 c c (Transfers.shareTok fullShare 16 c) (SB I))

/-- A store of the maximum in its slot. -/
theorem store_slot8 (n : Fin 16) {off : Fin 3 → ℕ} (h : off = ![n.val, 0, 0])
    {inb : ∀ a, off a + S1x8x128.size a ≤ S16x8x128.size a} {w : S1x8x128.Idx → Elt F .f32}
    {hx : (scalM.access (Rect.unit (s := S16x8x128) off S1x8x128.size inb)).Stores Finset.univ}
    {hm : Finset.univ = Finset.univ ∨ ∀ a, (Rect.unit (s := S16x8x128) off S1x8x128.size inb).stride a = 1}
    (g : Buf (Elt F) ((slot8 scalM n).view.loc (c : Thread nD τ))) (hw : (scalM.access (rect8 n)).read (Elt F) g = w) {α : Type}
    {k : PUnit → Prog (TpuEff nD τ sig (Elt F) Λ₀ .tc) α} {Q : α → sProp 𝕄} :
    any8 c n ⊢ iprop((pts8 c n fullShare g -∗ WP c (k ⟨⟩) Q)
      -∗ WP c (.op (.store scalM (Rect.unit (s := S16x8x128) off S1x8x128.size inb) w Finset.univ hx hm) k) Q) := by
  subst h
  unfold any8
  iintro ⟨%f, H⟩
  ihave H := (Entails.of_eq (pts8_eq c n fullShare f)) $$ H
  rw [pts8_eq]
  iapply (store_at c scalM (rect8 n) (f := f) g hw) $$ H
/-- A load of its slot whose value is not used. -/
theorem load_dead8 (n : Fin 16) {off : Fin 3 → ℕ} (h : off = ![n.val, 0, 0])
    {inb : ∀ a, off a + S1x8x128.size a ≤ S16x8x128.size a} {hl : scalM.view.LoadsAt (Rect.unit (s := S16x8x128) off S1x8x128.size inb).toLoadRect} {α : Type}
    {k : (S1x8x128.Idx → Elt F .f32) → Prog (TpuEff nD τ sig (Elt F) Λ₀ .tc) α} {Q : α → sProp 𝕄} :
    any8 c n ⊢ iprop((∀ v, any8 c n -∗ WP c (k v) Q) -∗ WP c (.op (.load scalM (Rect.unit (s := S16x8x128) off S1x8x128.size inb).toLoadRect hl) k) Q) := by
  subst h
  unfold any8
  iintro ⟨%f, H⟩ Hk
  ihave H := (Entails.of_eq (pts8_eq c n fullShare f)) $$ H
  iapply (load_at c scalM (rect8 n) (f := f) rfl) $$ H
  iintro H
  iapply Hk
  iexists f; rw [pts8_eq]; iexact H
/-- A load of the running maximum. -/
theorem load_ax (x : Elt F .f32) {hl : amaxM.view.LoadsAt rectA.toLoadRect} {α : Type}
    {k : (S1.Idx → Elt F .f32) → Prog (TpuEff nD τ sig (Elt F) Λ₀ .tc) α} {Q : α → sProp 𝕄} :
    AX c x ⊢ iprop((AX c x -∗ WP c (k fun _ => x) Q) -∗ WP c (.op (.load amaxM rectA.toLoadRect hl) k) Q) := by
  unfold AX
  exact load_at c amaxM rectA rfl

theorem tok_self : (bigSep Finset.univ fun i : Fin 16 => pts8 c c (Transfers.shareTok fullShare 16 i) (SB I))
    = iprop(pts8 c c (Transfers.shareTok fullShare 16 c) (SB I) ∗ seg (fun s => pts8 c c (Transfers.shareTok fullShare 16 (c + s)) (SB I)) 1 16) := by
  rw [seg_add c, seg_pop _ (by decide : (0 : ℕ) < 16) (by decide), add_z c]

/-- The maximum stored and shared out, with what its sends need. -/
theorem to_SA : iprop(pts8 c c fullShare (SB I) ∗ seg (SA0 (F := F) c) 1 16)
    ⊢ iprop(CS I c 1 1 ∗ CB I c ∗ pts8 c c (Transfers.shareTok fullShare 16 c) (SB I)) := by
  unfold CS CB
  rw [seg_nil, seg_nil]
  rw [show seg (SA I c) 1 16 = iprop(seg (fun s => pts8 c c (Transfers.shareTok fullShare 16 (c + s)) (SB I)) 1 16 ∗ seg (SA0 (F := F) c) 1 16) from by
    rw [← seg_sep]; rfl]
  iintro ⟨H, HS⟩
  ihave H := (Entails.of_eq (toks_eq (ℓ := (slot8 scalM c).view.loc (c : Thread nD τ)) (S := (slot8 scalM c).view.set) (SB I))) $$ H
  icases H with ⟨HD, HT⟩
  ihave HT := (Entails.of_eq (tok_self I c)) $$ HT
  icases HT with ⟨H1, HT⟩
  isplitl [HT HS]
  · isplitl [HT HS]
    · isplitl [HT]; · iexact HT
      iexact HS
    isplitl []; · iempintro
    iempintro
  isplitl [HD]; · iexact HD
  iexact H1

variable (i : grid0.Coords) (h1 : (Memref.whole main_v9 : Memref sig .tc .smem S16 .i32).IsWhole)
  (a2 : Memref sig .tc .vmem S256x4096 .bf16) (h2 : a2.IsWhole) (a3 : Memref sig .tc .vmem S4096x512 .bf16) (h3 : a3.IsWhole)
  (h4 : outM.IsWhole) (h5 : xbM.IsWhole) (h6 : asmM.IsWhole) (h7 : f8M.IsWhole) (h8 : sendM.IsWhole) (h9 : f8sM.IsWhole) (h10 : scalM.IsWhole) (h11 : amaxM.IsWhole)

/-- Part 7. -/
theorem part7 (v2 : BitVec 32) (v15 : FVec F S256x512 .bf16) (hv : k0_pay1 v15 = BB I c c) (k0_h7 : k0_cond7 i = 1#1) {Q : (Σ' (v70 : BitVec 32), BitVec 32) → sProp 𝕄} :
    iprop(Env I K ∗ S7 I c) ⊢ iprop((∀ r, R7 I c -∗ S15 I c 2 1 1 8 8 8 1 8 0 1 -∗ Q r) -∗ WP c (k0_part7 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 v15 k0_h7) Q) := by
  rw [k0_part7_eq_skeleton]
  unfold k0_part7_skel smemLoad smemLoadElt
  simp only [Prog.lift, Prog.bind_op, Prog.bind_ret, Prog.pure_eq_ret]
  unfold S7
  iintro ⟨#He, HO, HSA, HR, HP, HN, HG, HX, HY, HA, HB, HM⟩ Hk
  iapply (load_dead c asmM c (k0_off8_eq c)) $$ HA
  iintro %v HA
  iapply (store_slot c asmM c (k0_off8_eq c) (ASM I c) ((read_asm I c c).trans hv.symm)) $$ HA
  iintro HA
  iapply (load_ax c (AM I c 15)) $$ HM
  iintro HM
  iapply (load_dead8 c c (k0_off9_eq c)) $$ HB
  iintro %v HB
  iapply (store_slot8 c c (k0_off9_eq c) (SB I) (read_sb I c)) $$ HB
  iintro HB
  ihave H := (to_SA I c) $$ [HB HSA]
  · isplitl [HB]; · iexact HB
    iexact HSA
  icases H with ⟨HS, HB, HT⟩
  iapply (s_ssend I K c (a := 1) (w4 := 1) (w5 := 1) (p := 8) (f := 8) (w2 := 8) (r1 := 1) (r3 := 8) (o := 0) (w0 := 1) (by decide) (by decide) (by decide) (sem11 (c + ⟨1, by decide⟩) (off10 c ⟨1, by decide⟩)) (sem12 c (k0_off11_eq c)) (Fin.ext (dev17 c)) (slot8_eq scalM c (k0_off12_eq c)) (slot8_eq scalM c (k0_off12_eq c))) $$ [HO HS HR HP HN HG HX HY HA HB]
  · isplitr; · iexact He
    unfold S15
    isplitl [HO]; · iexact HO
    isplitl [HS]; · iexact HS
    isplitl [HR]; · iexact HR
    isplitl [HP]; · iexact HP
    isplitl [HN]; · iexact HN
    isplitl [HG]; · iexact HG
    isplitl [HX]; · iexact HX
    isplitl [HY]; · iexact HY
    isplitl [HA]; · unfold CA; iexact HA
    iexact HB
  iintro HS
  iapply (wp_done c)
  iapply Hk $$ %_ [HM HT] HS
  unfold R7
  isplitl [HM]; · iexact HM
  iexact HT

end Cert.KernelIdeal.Ring

end
-- ==== Proof.Bar.lean ====
module
public import proofs.«01_k».proof.Proof.First

/-! The handshake at the first grid point: a device tells every other that it has entered, and waits for all of them. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD) (i : grid0.Coords) (h1 : (Memref.whole main_v9 : Memref sig .tc .smem S16 .i32).IsWhole)
  (a2 : Memref sig .tc .vmem S256x4096 .bf16) (h2 : a2.IsWhole) (a3 : Memref sig .tc .vmem S4096x512 .bf16) (h3 : a3.IsWhole)
  (h4 : outM.IsWhole) (h5 : xbM.IsWhole) (h6 : asmM.IsWhole) (h7 : f8M.IsWhole) (h8 : sendM.IsWhole) (h9 : f8sM.IsWhole) (h10 : scalM.IsWhole) (h11 : amaxM.IsWhole)

/-- The right to tell the device `s` steps ahead, with what it is handed. -/
def BT (s : Fin 16) : sProp 𝕄 := iprop(dutyTok ER (barCell (c + s)) 0 c ∗ barPay (F := F) (c + s) c)
/-- The devices from step `a` on are still to be told. -/
def SG (a : ℕ) : sProp 𝕄 := iprop(Ow (F := F) c (dues (bT c) a 16 + owedFrom c 1) ∗ seg (BT (F := F) c) a 16)

/-- Telling one device. -/
theorem s_sig {a : ℕ} (h16 : a < 16) (ha : 1 ≤ a) {dv : Dev nD} (hdv : dv = c + ⟨a, h16⟩) {n : ℤ} (hn : n = 1) {b : Sem sig} (hb : b = barS) {α : Type}
    {k : PUnit → Prog (TpuEff nD τ sig (Elt F) Λ₀ .tc) α} {Q : α → sProp 𝕄} :
    iprop(Env I K ∗ SG (F := F) c a) ⊢ iprop((SG (F := F) c (a + 1) -∗ WP c (k ⟨⟩) Q) -∗ WP c (.op (.semSignal (dv : Thread nD τ) b n) k) Q) := by
  subst hb
  unfold SG Env
  rw [seg_pop _ h16 h16, dues_step _ h16 h16, add_right_comm]
  have hs : (⟨a, h16⟩ : Fin 16) ≠ 0 := fun h => by have := congrArg Fin.val h; simp at this; omega
  generalize (⟨a, h16⟩ : Fin 16) = s at *
  iintro ⟨⟨#Hr, -⟩, HO, ⟨HT, HS⟩⟩ Hk
  unfold BT
  icases HT with ⟨HT, HP⟩
  iapply (step_signal I K c s hs hdv (hn.trans rfl) (dues (bT c) (a + 1) 16 + owedFrom c 1)) $$ [HO HT HP]
  · isplitr; · iexact Hr
    isplitl [HO]; · iexact HO
    isplitl [HT]; · iexact HT
    iexact HP
  iintro HO
  iapply Hk
  isplitl [HO]; · iexact HO
  iexact HS

/-- Part 1: telling devices. -/
theorem part1 (v2 : BitVec 32) (k0_h1 : k0_cond1 i = 1#1) {Q : (Σ' (v37 : Sems sig S_) (v66 : BitVec 32) (v67 : BitVec 32) (v68 : BitVec 1), BitVec 32) → sProp 𝕄} :
    iprop(Env I K ∗ SG (F := F) c 1) ⊢ iprop((∀ r, ⌜r.1.sem = barS⌝ -∗ SG (F := F) c 3 -∗ Q r) -∗ WP c (k0_part1 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h1) Q) := by
  rw [k0_part1_eq_skeleton]
  unfold k0_part1_skel semSignalWord
  simp only [Prog.lift, Prog.bind_op, Prog.bind_ret, Prog.pure_eq_ret]
  iintro ⟨#He, HS⟩ Hk
  iapply (s_sig I K c (a := 1) (by decide) (by decide) (Fin.ext (dev1 c)) rfl rfl) $$ [HS]
  · isplitr; · iexact He
    iexact HS
  iintro HS
  iapply (s_sig I K c (a := 2) (by decide) (by decide) (Fin.ext (dev2 c)) rfl rfl) $$ [HS]
  · isplitr; · iexact He
    iexact HS
  iintro HS
  iapply (wp_done c)
  iapply Hk $$ %_ [] HS
  ipureintro; rfl

/-- Part 2: telling devices. -/
theorem part2 (v2 : BitVec 32) (k0_h1 : k0_cond1 i = 1#1) (v37 : Sems sig S_) (v66 : BitVec 32) (v67 : BitVec 32) (v68 : BitVec 1) (c0_i32_38 : BitVec 32) (hv : v37.sem = barS) {Q : (PUnit) → sProp 𝕄} :
    iprop(Env I K ∗ SG (F := F) c 3) ⊢ iprop((∀ r, SG (F := F) c 5 -∗ Q r) -∗ WP c (k0_part2 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h1 v37 v66 v67 v68 c0_i32_38) Q) := by
  rw [k0_part2_eq_skeleton]
  unfold k0_part2_skel semSignalWord
  simp only [Prog.lift, Prog.bind_op, Prog.bind_ret, Prog.pure_eq_ret]
  iintro ⟨#He, HS⟩ Hk
  iapply (s_sig I K c (a := 3) (by decide) (by decide) (Fin.ext (dev3 c)) rfl hv) $$ [HS]
  · isplitr; · iexact He
    iexact HS
  iintro HS
  iapply (s_sig I K c (a := 4) (by decide) (by decide) (Fin.ext (dev4 c)) rfl hv) $$ [HS]
  · isplitr; · iexact He
    iexact HS
  iintro HS
  iapply (wp_done c)
  iapply Hk $$ %_ HS

/-- Part 3: telling devices. -/
theorem part3 (v2 : BitVec 32) (k0_h1 : k0_cond1 i = 1#1) (v37 : Sems sig S_) (hv : v37.sem = barS) {Q : (Σ' (v131 : BitVec 32) (v132 : BitVec 32) (v133 : BitVec 1), BitVec 32) → sProp 𝕄} :
    iprop(Env I K ∗ SG (F := F) c 5) ⊢ iprop((∀ r, SG (F := F) c 8 -∗ Q r) -∗ WP c (k0_part3 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h1 v37) Q) := by
  rw [k0_part3_eq_skeleton]
  unfold k0_part3_skel semSignalWord
  simp only [Prog.lift, Prog.bind_op, Prog.bind_ret, Prog.pure_eq_ret]
  iintro ⟨#He, HS⟩ Hk
  iapply (s_sig I K c (a := 5) (by decide) (by decide) (Fin.ext (dev5 c)) rfl hv) $$ [HS]
  · isplitr; · iexact He
    iexact HS
  iintro HS
  iapply (s_sig I K c (a := 6) (by decide) (by decide) (Fin.ext (dev6 c)) rfl hv) $$ [HS]
  · isplitr; · iexact He
    iexact HS
  iintro HS
  iapply (s_sig I K c (a := 7) (by decide) (by decide) (Fin.ext (dev7 c)) rfl hv) $$ [HS]
  · isplitr; · iexact He
    iexact HS
  iintro HS
  iapply (wp_done c)
  iapply Hk $$ %_ HS

/-- Part 4: telling devices. -/
theorem part4 (v2 : BitVec 32) (k0_h1 : k0_cond1 i = 1#1) (v37 : Sems sig S_) (v131 : BitVec 32) (v132 : BitVec 32) (v133 : BitVec 1) (c0_i32_84 : BitVec 32) (hv : v37.sem = barS) {Q : (PUnit) → sProp 𝕄} :
    iprop(Env I K ∗ SG (F := F) c 8) ⊢ iprop((∀ r, SG (F := F) c 10 -∗ Q r) -∗ WP c (k0_part4 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h1 v37 v131 v132 v133 c0_i32_84) Q) := by
  rw [k0_part4_eq_skeleton]
  unfold k0_part4_skel semSignalWord
  simp only [Prog.lift, Prog.bind_op, Prog.bind_ret, Prog.pure_eq_ret]
  iintro ⟨#He, HS⟩ Hk
  iapply (s_sig I K c (a := 8) (by decide) (by decide) (Fin.ext (dev8 c)) rfl hv) $$ [HS]
  · isplitr; · iexact He
    iexact HS
  iintro HS
  iapply (s_sig I K c (a := 9) (by decide) (by decide) (Fin.ext (dev9 c)) rfl hv) $$ [HS]
  · isplitr; · iexact He
    iexact HS
  iintro HS
  iapply (wp_done c)
  iapply Hk $$ %_ HS

/-- Part 5: telling devices. -/
theorem part5 (v2 : BitVec 32) (k0_h1 : k0_cond1 i = 1#1) (v37 : Sems sig S_) (hv : v37.sem = barS) {Q : (Σ' (v196 : BitVec 32) (v197 : BitVec 32) (v198 : BitVec 1), BitVec 32) → sProp 𝕄} :
    iprop(Env I K ∗ SG (F := F) c 10) ⊢ iprop((∀ r, SG (F := F) c 13 -∗ Q r) -∗ WP c (k0_part5 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h1 v37) Q) := by
  rw [k0_part5_eq_skeleton]
  unfold k0_part5_skel semSignalWord
  simp only [Prog.lift, Prog.bind_op, Prog.bind_ret, Prog.pure_eq_ret]
  iintro ⟨#He, HS⟩ Hk
  iapply (s_sig I K c (a := 10) (by decide) (by decide) (Fin.ext (dev10 c)) rfl hv) $$ [HS]
  · isplitr; · iexact He
    iexact HS
  iintro HS
  iapply (s_sig I K c (a := 11) (by decide) (by decide) (Fin.ext (dev11 c)) rfl hv) $$ [HS]
  · isplitr; · iexact He
    iexact HS
  iintro HS
  iapply (s_sig I K c (a := 12) (by decide) (by decide) (Fin.ext (dev12 c)) rfl hv) $$ [HS]
  · isplitr; · iexact He
    iexact HS
  iintro HS
  iapply (wp_done c)
  iapply Hk $$ %_ HS

/-- Part 6: telling devices. -/
theorem part6 (v2 : BitVec 32) (k0_h1 : k0_cond1 i = 1#1) (v37 : Sems sig S_) (v196 : BitVec 32) (v197 : BitVec 32) (v198 : BitVec 1) (c0_i32_129 : BitVec 32) (hv : v37.sem = barS) {Q : (PUnit) → sProp 𝕄} :
    iprop(Env I K ∗ SG (F := F) c 13) ⊢ iprop((∀ r, SG (F := F) c 15 -∗ Q r) -∗ WP c (k0_part6 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h1 v37 v196 v197 v198 c0_i32_129) Q) := by
  rw [k0_part6_eq_skeleton]
  unfold k0_part6_skel semSignalWord
  simp only [Prog.lift, Prog.bind_op, Prog.bind_ret, Prog.pure_eq_ret]
  iintro ⟨#He, HS⟩ Hk
  iapply (s_sig I K c (a := 13) (by decide) (by decide) (Fin.ext (dev13 c)) rfl hv) $$ [HS]
  · isplitr; · iexact He
    iexact HS
  iintro HS
  iapply (s_sig I K c (a := 14) (by decide) (by decide) (Fin.ext (dev14 c)) rfl hv) $$ [HS]
  · isplitr; · iexact He
    iexact HS
  iintro HS
  iapply (wp_done c)
  iapply Hk $$ %_ HS

end Cert.KernelIdeal.Ring

end
-- ==== Proof.Mid.lean ====
module
public import proofs.«01_k».proof.Proof.Bar

/-! What a device holds between the first grid points, and what the handshake gives it. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD)

/-- The right to copy to the device `s` steps ahead, before that device has said that it is ready. -/
def MR (s : Fin 16) (k₁ k₂ : Fin 6) : sProp 𝕄 :=
  iprop(dutyTok ER (dCell c k₁ (c + s)) 0 0 ∗ reached ER (dCell c k₁ (c + s)) 0 ∗ dutyTok ER (dCell (c + s) k₂ c) 0 0)
/-- That right for a near block, a far block and the maximum, with the position on the cell of the send. -/
def M1 (s : Fin 16) : sProp 𝕄 := iprop(MR (F := F) c s 0 1 ∗ ATP (F := F) c 0 (c + s))
def M2 (s : Fin 16) : sProp 𝕄 := iprop(MR (F := F) c s 2 3 ∗ ATP (F := F) c 2 (c + s))
def M3 (s : Fin 16) : sProp 𝕄 := iprop(MR (F := F) c s 4 5 ∗ ATP (F := F) c 4 (c + s))
/-- What a device holds before the handshake, beside what it hands out. -/
def S0 : sProp 𝕄 :=
  iprop(cred (tallyAt (barCell c) () 15) ∗ atPos ER (barCell c) 0 ∅ 0 ∗ seg (M1 (F := F) c) 1 8 ∗ seg (M2 (F := F) c) 8 16 ∗ seg (M3 (F := F) c) 1 16)
/-- What it holds after the handshake, with the near blocks below step `a` sent and the blocks below step `p` computed. -/
def MID (a p : ℕ) : sProp 𝕄 :=
  iprop(seg (NA (F := F) c) a 8 ∗ seg (fun s => Wt (F := F) c 0 (c + s)) 1 a ∗ seg (fun s => any (F := F) sendM c (c + s)) p 16
    ∗ seg (fun s => pts sendM c (c + s) (SEND I c)) 8 p ∗ seg (FR (F := F) c) 8 16 ∗ seg (SA0 (F := F) c) 1 16)
/-- What the last grid point needs beside that. -/
def RCV : sProp 𝕄 :=
  iprop(seg (fun s => Wt (F := F) c 1 (c - s)) 1 8 ∗ seg (fun s => Wt (F := F) c 3 (c - s)) 8 16 ∗ seg (fun s => Wt (F := F) c 5 (c + s)) 1 16
    ∗ seg (fun s => any (F := F) f8sM c (c + s)) 8 16 ∗ any (F := F) asmM c c ∗ any8 (F := F) c c)

/-- The slot for the maximum, as the device `s` steps ahead hands it out. -/
def B3 (s : Fin 16) : sProp 𝕄 := iprop(any8 (F := F) (c + s) c ∗ reached ER (dCell (c + s) 5 c) 0)
def B1 (s : Fin 16) : sProp 𝕄 := iprop(any (F := F) asmM (c + s) c ∗ reached ER (dCell (c + s) 1 c) 0)
def B2 (s : Fin 16) : sProp 𝕄 := iprop(any (F := F) f8M (c + s) c ∗ reached ER (dCell (c + s) 3 c) 0)

theorem add_sub_self : ∀ c s : Fin 16, c + s - c = s := by decide +kernel
theorem erase_eq : ∀ c : Fin 16, (Finset.univ.erase c : Finset (Fin 16)) = (rg 1 16).map (addE c).toEmbedding := by decide +kernel

theorem bar_seg : bigSep (Finset.univ.erase c) (fun d => barPay (F := F) c d) = seg (fun s => barPay (F := F) c (c + s)) 1 16 := by
  unfold seg
  rw [erase_eq c, bigSep_map]
  rfl

/-- What the other devices hand out, by kind. -/
theorem bar_split : seg (fun s => barPay (F := F) c (c + s)) 1 16 = iprop(seg (B3 (F := F) c) 1 16 ∗ seg (B1 (F := F) c) 1 8 ∗ seg (B2 (F := F) c) 8 16) := by
  have e : seg (fun s => barPay (F := F) c (c + s)) 1 16
      = seg (fun s => iprop(B3 (F := F) c s ∗ if s.val ≤ 7 then B1 (F := F) c s else B2 (F := F) c s)) 1 16 := by
    refine seg_congr fun s _ _ => ?_
    unfold barPay B1 B2 B3
    rw [add_sub_self c s]
  rw [e, seg_sep, seg_join (fun s => if s.val ≤ 7 then B1 (F := F) c s else B2 (F := F) c s) (by decide : 1 ≤ 8) (by decide : 8 ≤ 16),
    seg_congr (a := 1) (b := 8) (Ψ := B1 (F := F) c) fun s _ h => if_pos (by omega),
    seg_congr (a := 8) (b := 16) (Ψ := B2 (F := F) c) fun s h _ => if_neg (by omega)]

theorem to_NA (s : Fin 16) : iprop(B1 (F := F) c s ∗ M1 (F := F) c s) ⊢ NA (F := F) c s := by
  unfold B1 M1 NA MR mine
  iintro ⟨⟨H1, H2⟩, ⟨⟨H3, H4, H5⟩, H6⟩⟩
  isplitl [H1]; · iexact H1
  isplitr [H6]
  · isplitl [H3]; · iexact H3
    isplitl [H4]; · iexact H4
    isplitl [H5]; · iexact H5
    iexact H2
  iexact H6
theorem to_FR (s : Fin 16) : iprop(B2 (F := F) c s ∗ M2 (F := F) c s) ⊢ FR (F := F) c s := by
  unfold B2 M2 FR MR mine
  iintro ⟨⟨H1, H2⟩, ⟨⟨H3, H4, H5⟩, H6⟩⟩
  isplitl [H1]; · iexact H1
  isplitr [H6]
  · isplitl [H3]; · iexact H3
    isplitl [H4]; · iexact H4
    isplitl [H5]; · iexact H5
    iexact H2
  iexact H6
theorem to_SA0 (s : Fin 16) : iprop(B3 (F := F) c s ∗ M3 (F := F) c s) ⊢ SA0 (F := F) c s := by
  unfold B3 M3 SA0 MR mine
  iintro ⟨⟨H1, H2⟩, ⟨⟨H3, H4, H5⟩, H6⟩⟩
  isplitl [H1]; · iexact H1
  isplitr [H6]
  · isplitl [H3]; · iexact H3
    isplitl [H4]; · iexact H4
    isplitl [H5]; · iexact H5
    iexact H2
  iexact H6

theorem seg_both {A B D : Fin 16 → sProp 𝕄} {a b : ℕ} (h : ∀ s, iprop(A s ∗ B s) ⊢ D s) : iprop(seg A a b ∗ seg B a b) ⊢ seg D a b := by
  rw [← seg_sep]; exact seg_mono fun s _ _ => h s

/-- The handshake done, every block and the maximum may be sent. -/
theorem to_MID : iprop(bigSep (Finset.univ.erase c) (fun d => barPay (F := F) c d) ∗ seg (M1 (F := F) c) 1 8 ∗ seg (M2 (F := F) c) 8 16 ∗ seg (M3 (F := F) c) 1 16
      ∗ seg (fun s => any (F := F) sendM c (c + s)) 1 16)
    ⊢ MID I c 1 1 := by
  rw [bar_seg, bar_split]
  unfold MID
  rw [seg_nil]
  iintro ⟨⟨H3, H1, H2⟩, G1, G2, G3, HS⟩
  isplitl [H1 G1]
  · iapply (seg_both (to_NA c)); isplitl [H1]; · iexact H1
    iexact G1
  isplitl []; · iempintro
  isplitl [HS]; · iexact HS
  isplitl []; · rw [show seg (fun s => pts sendM c (c + s) (SEND I c)) 8 1 = iprop(emp) from by unfold seg; rw [show rg 8 1 = ∅ from by decide, bigSep_empty]; rfl]; iempintro
  isplitl [H2 G2]
  · iapply (seg_both (to_FR c)); isplitl [H2]; · iexact H2
    iexact G2
  iapply (seg_both (to_SA0 c)); isplitl [H3]; · iexact H3
  iexact G3

/-! ## Steps of a grid point -/

/-- The first step of a range, named by its number. -/
theorem seg_popF (Φ : Fin 16 → sProp 𝕄) (s : Fin 16) {b : ℕ} (h : s.val < b) : seg Φ s.val b = iprop(Φ s ∗ seg Φ (s.val + 1) b) := seg_pop Φ h s.isLt
theorem seg_snocF (Φ : Fin 16 → sProp 𝕄) (s : Fin 16) {l : ℕ} (h : l ≤ s.val) : seg Φ l (s.val + 1) = iprop(Φ s ∗ seg Φ l s.val) := seg_snoc Φ h s.isLt

/-- A block computed and stored. -/
theorem c_block (s : Fin 16) {off off' : Fin 3 → ℕ} (h : off = ![(c + s).val, 0, 0]) (h' : off' = ![(c + s).val, 0, 0]) {p : ℕ} (hp : p = s.val)
    {inb : ∀ a, off a + S1x256x512.size a ≤ S16x256x512.size a} {hl : sendM.view.LoadsAt (Rect.unit (s := S16x256x512) off S1x256x512.size inb).toLoadRect}
    {inb' : ∀ a, off' a + S1x256x512.size a ≤ S16x256x512.size a} {w : S1x256x512.Idx → Elt F .bf16}
    {hx : (sendM.access (Rect.unit (s := S16x256x512) off' S1x256x512.size inb')).Stores Finset.univ}
    {hm : Finset.univ = Finset.univ ∨ ∀ a, (Rect.unit (s := S16x256x512) off' S1x256x512.size inb').stride a = 1} (hw : BB I c (c + s) = w) {α : Type}
    {k : PUnit → Prog (TpuEff nD τ sig (Elt F) Λ₀ .tc) α} {Q : α → sProp 𝕄} :
    seg (fun s => any (F := F) sendM c (c + s)) p 16 ⊢ iprop((iprop(pts sendM c (c + s) (SEND I c) ∗ seg (fun s => any (F := F) sendM c (c + s)) (p + 1) 16) -∗ WP c (k ⟨⟩) Q)
      -∗ WP c (.op (.load sendM (Rect.unit (s := S16x256x512) off S1x256x512.size inb).toLoadRect hl) fun _ =>
        .op (.store sendM (Rect.unit (s := S16x256x512) off' S1x256x512.size inb') w Finset.univ hx hm) k) Q) := by
  subst hp
  rw [seg_popF _ s s.isLt]
  iintro ⟨H, HS⟩ Hk
  iapply (load_dead c sendM (c + s) h) $$ H
  iintro %v H
  iapply (store_slot c sendM (c + s) h' (SEND I c) ((read_send I c (c + s)).trans hw)) $$ H
  iintro H
  iapply Hk
  isplitl [H]; · iexact H
  iexact HS

/-- A near block stored and sent at once. -/
theorem mid_near (s : Fin 16) (hs : 1 ≤ s.val) (hs' : s.val ≤ 7) {off off' : Fin 3 → ℕ} (h : off = ![(c + s).val, 0, 0]) (h' : off' = ![(c + s).val, 0, 0])
    {inb : ∀ a, off a + S1x256x512.size a ≤ S16x256x512.size a} {hl : sendM.view.LoadsAt (Rect.unit (s := S16x256x512) off S1x256x512.size inb).toLoadRect}
    {inb' : ∀ a, off' a + S1x256x512.size a ≤ S16x256x512.size a} {w : S1x256x512.Idx → Elt F .bf16}
    {hx : (sendM.access (Rect.unit (s := S16x256x512) off' S1x256x512.size inb')).Stores Finset.univ}
    {hm : Finset.univ = Finset.univ ∨ ∀ a, (Rect.unit (s := S16x256x512) off' S1x256x512.size inb').stride a = 1} (hw : BB I c (c + s) = w)
    {q₁ q₂ : DmaSem sig} (h₁ : q₁ = cell 0 (c + s)) (h₂ : q₂ = cell 1 c)
    {dv : Dev nD} (hdv : dv = c + s) {src dst : Memref sig .tc .vmem S256x512 .bf16} (hsr : src = slot sendM (c + s)) (hds : dst = slot asmM c) {hsc : dst.view.ref.isScScratch = false}
    {hsrc : src.view.WordExact} {hdst : dst.view.WordExact} {hsem : DmaTarget.Typed .vmem (.dma q₂) (.remote ((dv : Dev nD) : Thread nD τ) dst (.dma q₁) hsc)} {α : Type}
    {k : PUnit → Prog (TpuEff nD τ sig (Elt F) Λ₀ .tc) α} {Q : α → sProp 𝕄} :
    iprop(Env I K ∗ Ow (F := F) c (owedFrom c s.val) ∗ MID I c s.val s.val) ⊢ iprop((iprop(Ow (F := F) c (owedFrom c (s.val + 1)) ∗ MID I c (s.val + 1) (s.val + 1)) -∗ WP c (k ⟨⟩) Q)
      -∗ WP c (.op (.load sendM (Rect.unit (s := S16x256x512) off S1x256x512.size inb).toLoadRect hl) fun _ =>
        .op (.store sendM (Rect.unit (s := S16x256x512) off' S1x256x512.size inb') w Finset.univ hx hm) fun _ =>
        .op (.enqueueDma src (.remote (dv : Thread nD τ) dst (.dma q₁) hsc) (.dma q₂) hsrc hdst hsem) k) Q) := by
  have eo : owedFrom c s.val = owedFrom c (s.val + 1) + tallyAt (dCell (c + s) 1 c) () N16 := by
    unfold owedFrom
    rw [dues_step (nT c) (by omega : s.val < 8) s.isLt]
    exact add_right_comm _ _ _
  have ee : seg (fun s => pts sendM c (c + s) (SEND I c)) 8 (s.val + 1) = seg (fun s => pts sendM c (c + s) (SEND I c)) 8 s.val := by
    unfold seg
    rw [show rg 8 (s.val + 1) = rg 8 s.val from by ext x; rw [mem_rg, mem_rg]; omega]
  unfold Env MID
  rw [eo, ee, seg_popF (NA (F := F) c) s (by omega : s.val < 8), seg_snocF (fun s => Wt (F := F) c 0 (c + s)) s hs]
  iintro ⟨⟨#Hr, -⟩, HO, ⟨HN, HNs⟩, HW, HA, HP, HF, HS⟩ Hk
  iapply (c_block I c s h h' rfl hw) $$ HA
  iintro ⟨HB, HA⟩
  iapply (send_near I K c s (used_near_snd c s hs hs') (used_near_rcv c s hs hs') h₁ h₂ hdv hsr hds (owedFrom c (s.val + 1))) $$ [HO HB HN]
  · isplitr; · iexact Hr
    isplitl [HO]; · iexact HO
    isplitl [HB]; · iexact HB
    iexact HN
  iintro ⟨HO, HW1⟩
  iapply Hk
  isplitl [HO]; · iexact HO
  isplitl [HNs]; · iexact HNs
  isplitl [HW1 HW]
  · isplitl [HW1]; · iexact HW1
    iexact HW
  isplitl [HA]; · iexact HA
  isplitl [HP]; · iexact HP
  isplitl [HF]; · iexact HF
  iexact HS

/-- A far block stored. -/
theorem mid_far (s : Fin 16) (hs : 8 ≤ s.val) {off off' : Fin 3 → ℕ} (h : off = ![(c + s).val, 0, 0]) (h' : off' = ![(c + s).val, 0, 0])
    {inb : ∀ a, off a + S1x256x512.size a ≤ S16x256x512.size a} {hl : sendM.view.LoadsAt (Rect.unit (s := S16x256x512) off S1x256x512.size inb).toLoadRect}
    {inb' : ∀ a, off' a + S1x256x512.size a ≤ S16x256x512.size a} {w : S1x256x512.Idx → Elt F .bf16}
    {hx : (sendM.access (Rect.unit (s := S16x256x512) off' S1x256x512.size inb')).Stores Finset.univ}
    {hm : Finset.univ = Finset.univ ∨ ∀ a, (Rect.unit (s := S16x256x512) off' S1x256x512.size inb').stride a = 1} (hw : BB I c (c + s) = w) {α : Type}
    {k : PUnit → Prog (TpuEff nD τ sig (Elt F) Λ₀ .tc) α} {Q : α → sProp 𝕄} :
    MID I c 8 s.val ⊢ iprop((MID I c 8 (s.val + 1) -∗ WP c (k ⟨⟩) Q)
      -∗ WP c (.op (.load sendM (Rect.unit (s := S16x256x512) off S1x256x512.size inb).toLoadRect hl) fun _ =>
        .op (.store sendM (Rect.unit (s := S16x256x512) off' S1x256x512.size inb') w Finset.univ hx hm) k) Q) := by
  unfold MID
  rw [seg_snocF (fun s => pts sendM c (c + s) (SEND I c)) s hs]
  iintro ⟨HN, HW, HA, HP, HF, HS⟩ Hk
  iapply (c_block I c s h h' rfl hw) $$ HA
  iintro ⟨HB, HA⟩
  iapply Hk
  isplitl [HN]; · iexact HN
  isplitl [HW]; · iexact HW
  isplitl [HA]; · iexact HA
  isplitl [HB HP]
  · isplitl [HB]; · iexact HB
    iexact HP
  isplitl [HF]; · iexact HF
  iexact HS

/-- What the last grid point starts with. -/
theorem to_S7 : iprop(Ow (F := F) c (owedFrom c 8) ∗ MID I c 8 16 ∗ RCV (F := F) c ∗ CX I c 0 ∗ AX c (AM I c 15)) ⊢ S7 I c := by
  have eF : seg (FA I c) 8 16 = iprop(seg (fun s => pts sendM c (c + s) (SEND I c)) 8 16 ∗ seg (fun s => any (F := F) f8sM c (c + s)) 8 16 ∗ seg (FR (F := F) c) 8 16) := by
    rw [← seg_sep, ← seg_sep]; rfl
  unfold MID RCV S7 CO CR CP CN CG CY
  rw [eF, show owedFrom c 8 = dues (sT c) 1 16 + dues (fT c) 8 16 from by unfold owedFrom; rw [dues_nil, zero_add]]
  simp only [seg_nil]
  iintro ⟨HO, ⟨HN, HW, HA, HP, HF, HS⟩, ⟨H1, H3, H5, H8, Ha, Hb⟩, HX, HM⟩
  isplitl [HO]; · iexact HO
  isplitl [HS]; · iexact HS
  isplitl [H5]
  · isplitl [H5]; · iexact H5
    iempintro
  isplitl [HP H8 HF]
  · isplitl [HP H8 HF]
    · isplitl [HP]; · iexact HP
      isplitl [H8]; · iexact H8
      iexact HF
    isplitl []; · iempintro
    isplitl []; · iempintro
    iempintro
  isplitl [H1]
  · isplitl [H1]; · iexact H1
    iempintro
  isplitl [H3]
  · isplitl [H3]; · iexact H3
    iempintro
  isplitl [HX]; · iexact HX
  isplitl [HW]
  · isplitl [HW]; · iexact HW
    iempintro
  isplitl [Ha]; · iexact Ha
  isplitl [Hb]; · iexact Hb
  iexact HM

end Cert.KernelIdeal.Ring

end
-- ==== Proof.Parts1.lean ====
module
public import proofs.«01_k».proof.Proof.Values

/-! Parts 8 to 23 of the last grid point. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD) (i : grid0.Coords) (h1 : (Memref.whole main_v9 : Memref sig .tc .smem S16 .i32).IsWhole)
  (a2 : Memref sig .tc .vmem S256x4096 .bf16) (h2 : a2.IsWhole) (a3 : Memref sig .tc .vmem S4096x512 .bf16) (h3 : a3.IsWhole)
  (h4 : outM.IsWhole) (h5 : xbM.IsWhole) (h6 : asmM.IsWhole) (h7 : f8M.IsWhole) (h8 : sendM.IsWhole) (h9 : f8sM.IsWhole) (h10 : scalM.IsWhole) (h11 : amaxM.IsWhole)

/-- Part 8 of the last grid point. -/
theorem part8 (v2 : BitVec 32) (k0_h7 : k0_cond7 i = 1#1) (v70 : BitVec 32) (v71 : BitVec 32) {Q : (PUnit) → sProp 𝕄} :
    iprop(Env I K ∗ S15 I c 2 1 1 8 8 8 1 8 0 1) ⊢ iprop((∀ r, S15 I c 3 1 1 8 8 8 1 8 0 1 -∗ Q r) -∗ WP c (k0_part8 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v70 v71) Q) := by
  rw [k0_part8_eq_skeleton]
  unfold k0_part8_skel
  simp only [Prog.lift, Prog.bind_op, Prog.bind_ret, Prog.pure_eq_ret]
  iintro ⟨#He, HS⟩ Hk
  iapply (s_ssend I K c (a := 2) (w4 := 1) (by decide) (by decide) (by decide) (sem11 (c + ⟨2, by decide⟩) (off10 c ⟨2, by decide⟩)) (sem12 c (k0_off11_eq c)) (Fin.ext (dev18 c)) (slot8_eq scalM c (k0_off12_eq c)) (slot8_eq scalM c (k0_off12_eq c))) $$ [HS]
  · isplitr; · iexact He
    iexact HS
  iintro HS
  iapply (wp_done c)
  iapply Hk $$ %_ HS

/-- Part 9 of the last grid point. -/
theorem part9 (v2 : BitVec 32) (k0_h7 : k0_cond7 i = 1#1) {Q : (PUnit) → sProp 𝕄} :
    iprop(Env I K ∗ S15 I c 3 1 1 8 8 8 1 8 0 1) ⊢ iprop((∀ r, S15 I c 5 1 1 8 8 8 1 8 0 1 -∗ Q r) -∗ WP c (k0_part9 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7) Q) := by
  rw [k0_part9_eq_skeleton]
  unfold k0_part9_skel
  simp only [Prog.lift, Prog.bind_op, Prog.bind_ret, Prog.pure_eq_ret]
  iintro ⟨#He, HS⟩ Hk
  iapply (s_ssend I K c (a := 3) (w4 := 1) (by decide) (by decide) (by decide) (sem11 (c + ⟨3, by decide⟩) (off10 c ⟨3, by decide⟩)) (sem12 c (k0_off11_eq c)) (Fin.ext (dev19 c)) (slot8_eq scalM c (k0_off12_eq c)) (slot8_eq scalM c (k0_off12_eq c))) $$ [HS]
  · isplitr; · iexact He
    iexact HS
  iintro HS
  iapply (s_ssend I K c (a := 4) (w4 := 1) (by decide) (by decide) (by decide) (sem11 (c + ⟨4, by decide⟩) (off10 c ⟨4, by decide⟩)) (sem12 c (k0_off11_eq c)) (Fin.ext (dev20 c)) (slot8_eq scalM c (k0_off12_eq c)) (slot8_eq scalM c (k0_off12_eq c))) $$ [HS]
  · isplitr; · iexact He
    iexact HS
  iintro HS
  iapply (wp_done c)
  iapply Hk $$ %_ HS

/-- Part 10 of the last grid point. -/
theorem part10 (v2 : BitVec 32) (k0_h7 : k0_cond7 i = 1#1) {Q : (Σ' (v175 : BitVec 32) (v176 : BitVec 32) (v177 : BitVec 1) (v178 : BitVec 1), BitVec 32) → sProp 𝕄} :
    iprop(Env I K ∗ S15 I c 5 1 1 8 8 8 1 8 0 1) ⊢ iprop((∀ r, S15 I c 7 1 1 8 8 8 1 8 0 1 -∗ Q r) -∗ WP c (k0_part10 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7) Q) := by
  rw [k0_part10_eq_skeleton]
  unfold k0_part10_skel
  simp only [Prog.lift, Prog.bind_op, Prog.bind_ret, Prog.pure_eq_ret]
  iintro ⟨#He, HS⟩ Hk
  iapply (s_ssend I K c (a := 5) (w4 := 1) (by decide) (by decide) (by decide) (sem11 (c + ⟨5, by decide⟩) (off10 c ⟨5, by decide⟩)) (sem12 c (k0_off11_eq c)) (Fin.ext (dev21 c)) (slot8_eq scalM c (k0_off12_eq c)) (slot8_eq scalM c (k0_off12_eq c))) $$ [HS]
  · isplitr; · iexact He
    iexact HS
  iintro HS
  iapply (s_ssend I K c (a := 6) (w4 := 1) (by decide) (by decide) (by decide) (sem11 (c + ⟨6, by decide⟩) (off10 c ⟨6, by decide⟩)) (sem12 c (k0_off11_eq c)) (Fin.ext (dev22 c)) (slot8_eq scalM c (k0_off12_eq c)) (slot8_eq scalM c (k0_off12_eq c))) $$ [HS]
  · isplitr; · iexact He
    iexact HS
  iintro HS
  iapply (wp_done c)
  iapply Hk $$ %_ HS

/-- Part 11 of the last grid point. -/
theorem part11 (v2 : BitVec 32) (k0_h7 : k0_cond7 i = 1#1) (v175 : BitVec 32) (v176 : BitVec 32) (v177 : BitVec 1) (v178 : BitVec 1) (c0_i32_99 : BitVec 32) {Q : (Σ' (v215 : BitVec 32), BitVec 32) → sProp 𝕄} :
    iprop(Env I K ∗ S15 I c 7 1 1 8 8 8 1 8 0 1) ⊢ iprop((∀ r, S15 I c 9 1 1 8 8 8 1 8 0 1 -∗ Q r) -∗ WP c (k0_part11 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v175 v176 v177 v178 c0_i32_99) Q) := by
  rw [k0_part11_eq_skeleton]
  unfold k0_part11_skel
  simp only [Prog.lift, Prog.bind_op, Prog.bind_ret, Prog.pure_eq_ret]
  iintro ⟨#He, HS⟩ Hk
  iapply (s_ssend I K c (a := 7) (w4 := 1) (by decide) (by decide) (by decide) (sem11 (c + ⟨7, by decide⟩) (off10 c ⟨7, by decide⟩)) (sem12 c (k0_off11_eq c)) (Fin.ext (dev23 c)) (slot8_eq scalM c (k0_off12_eq c)) (slot8_eq scalM c (k0_off12_eq c))) $$ [HS]
  · isplitr; · iexact He
    iexact HS
  iintro HS
  iapply (s_ssend I K c (a := 8) (w4 := 1) (by decide) (by decide) (by decide) (sem11 (c + ⟨8, by decide⟩) (off10 c ⟨8, by decide⟩)) (sem12 c (k0_off11_eq c)) (Fin.ext (dev24 c)) (slot8_eq scalM c (k0_off12_eq c)) (slot8_eq scalM c (k0_off12_eq c))) $$ [HS]
  · isplitr; · iexact He
    iexact HS
  iintro HS
  iapply (wp_done c)
  iapply Hk $$ %_ HS

/-- Part 12 of the last grid point. -/
theorem part12 (v2 : BitVec 32) (k0_h7 : k0_cond7 i = 1#1) (v215 : BitVec 32) (c16_i32_118 : BitVec 32) {Q : (PUnit) → sProp 𝕄} :
    iprop(Env I K ∗ S15 I c 9 1 1 8 8 8 1 8 0 1) ⊢ iprop((∀ r, S15 I c 10 1 1 8 8 8 1 8 0 1 -∗ Q r) -∗ WP c (k0_part12 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v215 c16_i32_118) Q) := by
  rw [k0_part12_eq_skeleton]
  unfold k0_part12_skel
  simp only [Prog.lift, Prog.bind_op, Prog.bind_ret, Prog.pure_eq_ret]
  iintro ⟨#He, HS⟩ Hk
  iapply (s_ssend I K c (a := 9) (w4 := 1) (by decide) (by decide) (by decide) (sem11 (c + ⟨9, by decide⟩) (off10 c ⟨9, by decide⟩)) (sem12 c (k0_off11_eq c)) (Fin.ext (dev25 c)) (slot8_eq scalM c (k0_off12_eq c)) (slot8_eq scalM c (k0_off12_eq c))) $$ [HS]
  · isplitr; · iexact He
    iexact HS
  iintro HS
  iapply (wp_done c)
  iapply Hk $$ %_ HS

/-- Part 13 of the last grid point. -/
theorem part13 (v2 : BitVec 32) (k0_h7 : k0_cond7 i = 1#1) {Q : (BitVec 32) → sProp 𝕄} :
    iprop(Env I K ∗ S15 I c 10 1 1 8 8 8 1 8 0 1) ⊢ iprop((∀ r, S15 I c 12 1 1 8 8 8 1 8 0 1 -∗ Q r) -∗ WP c (k0_part13 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7) Q) := by
  rw [k0_part13_eq_skeleton]
  unfold k0_part13_skel
  simp only [Prog.lift, Prog.bind_op, Prog.bind_ret, Prog.pure_eq_ret]
  iintro ⟨#He, HS⟩ Hk
  iapply (s_ssend I K c (a := 10) (w4 := 1) (by decide) (by decide) (by decide) (sem11 (c + ⟨10, by decide⟩) (off10 c ⟨10, by decide⟩)) (sem12 c (k0_off11_eq c)) (Fin.ext (dev26 c)) (slot8_eq scalM c (k0_off12_eq c)) (slot8_eq scalM c (k0_off12_eq c))) $$ [HS]
  · isplitr; · iexact He
    iexact HS
  iintro HS
  iapply (s_ssend I K c (a := 11) (w4 := 1) (by decide) (by decide) (by decide) (sem11 (c + ⟨11, by decide⟩) (off10 c ⟨11, by decide⟩)) (sem12 c (k0_off11_eq c)) (Fin.ext (dev27 c)) (slot8_eq scalM c (k0_off12_eq c)) (slot8_eq scalM c (k0_off12_eq c))) $$ [HS]
  · isplitr; · iexact He
    iexact HS
  iintro HS
  iapply (wp_done c)
  iapply Hk $$ %_ HS

/-- Part 14 of the last grid point. -/
theorem part14 (v2 : BitVec 32) (k0_h7 : k0_cond7 i = 1#1) (v288 : BitVec 32) {Q : (Σ' (v322 : BitVec 32), BitVec 32) → sProp 𝕄} :
    iprop(Env I K ∗ S15 I c 12 1 1 8 8 8 1 8 0 1) ⊢ iprop((∀ r, S15 I c 14 1 1 8 8 8 1 8 0 1 -∗ Q r) -∗ WP c (k0_part14 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v288) Q) := by
  rw [k0_part14_eq_skeleton]
  unfold k0_part14_skel
  simp only [Prog.lift, Prog.bind_op, Prog.bind_ret, Prog.pure_eq_ret]
  iintro ⟨#He, HS⟩ Hk
  iapply (s_ssend I K c (a := 12) (w4 := 1) (by decide) (by decide) (by decide) (sem11 (c + ⟨12, by decide⟩) (off10 c ⟨12, by decide⟩)) (sem12 c (k0_off11_eq c)) (Fin.ext (dev28 c)) (slot8_eq scalM c (k0_off12_eq c)) (slot8_eq scalM c (k0_off12_eq c))) $$ [HS]
  · isplitr; · iexact He
    iexact HS
  iintro HS
  iapply (s_ssend I K c (a := 13) (w4 := 1) (by decide) (by decide) (by decide) (sem11 (c + ⟨13, by decide⟩) (off10 c ⟨13, by decide⟩)) (sem12 c (k0_off11_eq c)) (Fin.ext (dev29 c)) (slot8_eq scalM c (k0_off12_eq c)) (slot8_eq scalM c (k0_off12_eq c))) $$ [HS]
  · isplitr; · iexact He
    iexact HS
  iintro HS
  iapply (wp_done c)
  iapply Hk $$ %_ HS

/-- Part 15 of the last grid point. -/
theorem part15 (v2 : BitVec 32) (k0_h7 : k0_cond7 i = 1#1) (v322 : BitVec 32) (v323 : BitVec 32) {Q : (PUnit) → sProp 𝕄} :
    iprop(Env I K ∗ S15 I c 14 1 1 8 8 8 1 8 0 1) ⊢ iprop((∀ r, S15 I c 15 1 1 8 8 8 1 8 0 1 -∗ Q r) -∗ WP c (k0_part15 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v322 v323) Q) := by
  rw [k0_part15_eq_skeleton]
  unfold k0_part15_skel
  simp only [Prog.lift, Prog.bind_op, Prog.bind_ret, Prog.pure_eq_ret]
  iintro ⟨#He, HS⟩ Hk
  iapply (s_ssend I K c (a := 14) (w4 := 1) (by decide) (by decide) (by decide) (sem11 (c + ⟨14, by decide⟩) (off10 c ⟨14, by decide⟩)) (sem12 c (k0_off11_eq c)) (Fin.ext (dev30 c)) (slot8_eq scalM c (k0_off12_eq c)) (slot8_eq scalM c (k0_off12_eq c))) $$ [HS]
  · isplitr; · iexact He
    iexact HS
  iintro HS
  iapply (wp_done c)
  iapply Hk $$ %_ HS

/-- Part 16 of the last grid point. -/
theorem part16 (v2 : BitVec 32) (k0_h7 : k0_cond7 i = 1#1) {Q : (PUnit) → sProp 𝕄} :
    iprop(Env I K ∗ S15 I c 15 1 1 8 8 8 1 8 0 1) ⊢ iprop((∀ r, S15 I c 16 1 2 8 8 8 1 8 0 1 -∗ Q r) -∗ WP c (k0_part16 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7) Q) := by
  rw [k0_part16_eq_skeleton]
  unfold k0_part16_skel
  simp only [Prog.lift, Prog.bind_op, Prog.bind_ret, Prog.pure_eq_ret]
  iintro ⟨#He, HS⟩ Hk
  iapply (s_ssend I K c (a := 15) (w4 := 1) (by decide) (by decide) (by decide) (sem11 (c + ⟨15, by decide⟩) (off10 c ⟨15, by decide⟩)) (sem12 c (k0_off11_eq c)) (Fin.ext (dev31 c)) (slot8_eq scalM c (k0_off12_eq c)) (slot8_eq scalM c (k0_off12_eq c))) $$ [HS]
  · isplitr; · iexact He
    iexact HS
  iintro HS
  iapply (s_wait5 I K c (w5 := 1) (by decide) (by decide) (by decide) (sem12 (c + ⟨1, by decide⟩) (off10 c ⟨1, by decide⟩)) (slot8_eq scalM (c + ⟨1, by decide⟩) (off13 c ⟨1, by decide⟩))) $$ [HS]
  · isplitr; · iexact He
    iexact HS
  iintro HS
  iapply (wp_done c)
  iapply Hk $$ %_ HS

/-- Part 17 of the last grid point. -/
theorem part17 (v2 : BitVec 32) (k0_h7 : k0_cond7 i = 1#1) {Q : (Σ' (v429 : BitVec 32), BitVec 32) → sProp 𝕄} :
    iprop(Env I K ∗ S15 I c 16 1 2 8 8 8 1 8 0 1) ⊢ iprop((∀ r, S15 I c 16 1 4 8 8 8 1 8 0 1 -∗ Q r) -∗ WP c (k0_part17 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7) Q) := by
  rw [k0_part17_eq_skeleton]
  unfold k0_part17_skel
  simp only [Prog.lift, Prog.bind_op, Prog.bind_ret, Prog.pure_eq_ret]
  iintro ⟨#He, HS⟩ Hk
  iapply (s_wait5 I K c (w5 := 2) (by decide) (by decide) (by decide) (sem12 (c + ⟨2, by decide⟩) (off10 c ⟨2, by decide⟩)) (slot8_eq scalM (c + ⟨2, by decide⟩) (off13 c ⟨2, by decide⟩))) $$ [HS]
  · isplitr; · iexact He
    iexact HS
  iintro HS
  iapply (s_wait5 I K c (w5 := 3) (by decide) (by decide) (by decide) (sem12 (c + ⟨3, by decide⟩) (off10 c ⟨3, by decide⟩)) (slot8_eq scalM (c + ⟨3, by decide⟩) (off13 c ⟨3, by decide⟩))) $$ [HS]
  · isplitr; · iexact He
    iexact HS
  iintro HS
  iapply (wp_done c)
  iapply Hk $$ %_ HS

/-- Part 18 of the last grid point. -/
theorem part18 (v2 : BitVec 32) (k0_h7 : k0_cond7 i = 1#1) (v429 : BitVec 32) (c1_i32_249 : BitVec 32) {Q : (Σ' (v459 : BitVec 32) (v460 : BitVec 32) (v461 : BitVec 1) (v462 : BitVec 1), BitVec 32) → sProp 𝕄} :
    iprop(Env I K ∗ S15 I c 16 1 4 8 8 8 1 8 0 1) ⊢ iprop((∀ r, S15 I c 16 1 6 8 8 8 1 8 0 1 -∗ Q r) -∗ WP c (k0_part18 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v429 c1_i32_249) Q) := by
  rw [k0_part18_eq_skeleton]
  unfold k0_part18_skel
  simp only [Prog.lift, Prog.bind_op, Prog.bind_ret, Prog.pure_eq_ret]
  iintro ⟨#He, HS⟩ Hk
  iapply (s_wait5 I K c (w5 := 4) (by decide) (by decide) (by decide) (sem12 (c + ⟨4, by decide⟩) (off10 c ⟨4, by decide⟩)) (slot8_eq scalM (c + ⟨4, by decide⟩) (off13 c ⟨4, by decide⟩))) $$ [HS]
  · isplitr; · iexact He
    iexact HS
  iintro HS
  iapply (s_wait5 I K c (w5 := 5) (by decide) (by decide) (by decide) (sem12 (c + ⟨5, by decide⟩) (off10 c ⟨5, by decide⟩)) (slot8_eq scalM (c + ⟨5, by decide⟩) (off13 c ⟨5, by decide⟩))) $$ [HS]
  · isplitr; · iexact He
    iexact HS
  iintro HS
  iapply (wp_done c)
  iapply Hk $$ %_ HS

/-- Part 19 of the last grid point. -/
theorem part19 (v2 : BitVec 32) (k0_h7 : k0_cond7 i = 1#1) (v459 : BitVec 32) (v460 : BitVec 32) (v461 : BitVec 1) (v462 : BitVec 1) (c0_i32_274 : BitVec 32) {Q : (Σ' (v495 : BitVec 32), BitVec 32) → sProp 𝕄} :
    iprop(Env I K ∗ S15 I c 16 1 6 8 8 8 1 8 0 1) ⊢ iprop((∀ r, S15 I c 16 1 8 8 8 8 1 8 0 1 -∗ Q r) -∗ WP c (k0_part19 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v459 v460 v461 v462 c0_i32_274) Q) := by
  rw [k0_part19_eq_skeleton]
  unfold k0_part19_skel
  simp only [Prog.lift, Prog.bind_op, Prog.bind_ret, Prog.pure_eq_ret]
  iintro ⟨#He, HS⟩ Hk
  iapply (s_wait5 I K c (w5 := 6) (by decide) (by decide) (by decide) (sem12 (c + ⟨6, by decide⟩) (off10 c ⟨6, by decide⟩)) (slot8_eq scalM (c + ⟨6, by decide⟩) (off13 c ⟨6, by decide⟩))) $$ [HS]
  · isplitr; · iexact He
    iexact HS
  iintro HS
  iapply (s_wait5 I K c (w5 := 7) (by decide) (by decide) (by decide) (sem12 (c + ⟨7, by decide⟩) (off10 c ⟨7, by decide⟩)) (slot8_eq scalM (c + ⟨7, by decide⟩) (off13 c ⟨7, by decide⟩))) $$ [HS]
  · isplitr; · iexact He
    iexact HS
  iintro HS
  iapply (wp_done c)
  iapply Hk $$ %_ HS

/-- Part 20 of the last grid point. -/
theorem part20 (v2 : BitVec 32) (k0_h7 : k0_cond7 i = 1#1) (v495 : BitVec 32) (v497 : BitVec 32) {Q : (BitVec 32) → sProp 𝕄} :
    iprop(Env I K ∗ S15 I c 16 1 8 8 8 8 1 8 0 1) ⊢ iprop((∀ r, S15 I c 16 1 10 8 8 8 1 8 0 1 -∗ Q r) -∗ WP c (k0_part20 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v495 v497) Q) := by
  rw [k0_part20_eq_skeleton]
  unfold k0_part20_skel
  simp only [Prog.lift, Prog.bind_op, Prog.bind_ret, Prog.pure_eq_ret]
  iintro ⟨#He, HS⟩ Hk
  iapply (s_wait5 I K c (w5 := 8) (by decide) (by decide) (by decide) (sem12 (c + ⟨8, by decide⟩) (off10 c ⟨8, by decide⟩)) (slot8_eq scalM (c + ⟨8, by decide⟩) (off13 c ⟨8, by decide⟩))) $$ [HS]
  · isplitr; · iexact He
    iexact HS
  iintro HS
  iapply (s_wait5 I K c (w5 := 9) (by decide) (by decide) (by decide) (sem12 (c + ⟨9, by decide⟩) (off10 c ⟨9, by decide⟩)) (slot8_eq scalM (c + ⟨9, by decide⟩) (off13 c ⟨9, by decide⟩))) $$ [HS]
  · isplitr; · iexact He
    iexact HS
  iintro HS
  iapply (wp_done c)
  iapply Hk $$ %_ HS

/-- Part 21 of the last grid point. -/
theorem part21 (v2 : BitVec 32) (k0_h7 : k0_cond7 i = 1#1) (c10_i32_320 : BitVec 32) {Q : (PUnit) → sProp 𝕄} :
    iprop(Env I K ∗ S15 I c 16 1 10 8 8 8 1 8 0 1) ⊢ iprop((∀ r, S15 I c 16 1 11 8 8 8 1 8 0 1 -∗ Q r) -∗ WP c (k0_part21 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 c10_i32_320) Q) := by
  rw [k0_part21_eq_skeleton]
  unfold k0_part21_skel
  simp only [Prog.lift, Prog.bind_op, Prog.bind_ret, Prog.pure_eq_ret]
  iintro ⟨#He, HS⟩ Hk
  iapply (s_wait5 I K c (w5 := 10) (by decide) (by decide) (by decide) (sem12 (c + ⟨10, by decide⟩) (off10 c ⟨10, by decide⟩)) (slot8_eq scalM (c + ⟨10, by decide⟩) (off13 c ⟨10, by decide⟩))) $$ [HS]
  · isplitr; · iexact He
    iexact HS
  iintro HS
  iapply (wp_done c)
  iapply Hk $$ %_ HS

/-- Part 22 of the last grid point. -/
theorem part22 (v2 : BitVec 32) (k0_h7 : k0_cond7 i = 1#1) {Q : (PUnit) → sProp 𝕄} :
    iprop(Env I K ∗ S15 I c 16 1 11 8 8 8 1 8 0 1) ⊢ iprop((∀ r, S15 I c 16 1 13 8 8 8 1 8 0 1 -∗ Q r) -∗ WP c (k0_part22 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7) Q) := by
  rw [k0_part22_eq_skeleton]
  unfold k0_part22_skel
  simp only [Prog.lift, Prog.bind_op, Prog.bind_ret, Prog.pure_eq_ret]
  iintro ⟨#He, HS⟩ Hk
  iapply (s_wait5 I K c (w5 := 11) (by decide) (by decide) (by decide) (sem12 (c + ⟨11, by decide⟩) (off10 c ⟨11, by decide⟩)) (slot8_eq scalM (c + ⟨11, by decide⟩) (off13 c ⟨11, by decide⟩))) $$ [HS]
  · isplitr; · iexact He
    iexact HS
  iintro HS
  iapply (s_wait5 I K c (w5 := 12) (by decide) (by decide) (by decide) (sem12 (c + ⟨12, by decide⟩) (off10 c ⟨12, by decide⟩)) (slot8_eq scalM (c + ⟨12, by decide⟩) (off13 c ⟨12, by decide⟩))) $$ [HS]
  · isplitr; · iexact He
    iexact HS
  iintro HS
  iapply (wp_done c)
  iapply Hk $$ %_ HS

/-- Part 23 of the last grid point. -/
theorem part23 (v2 : BitVec 32) (k0_h7 : k0_cond7 i = 1#1) {Q : (Σ' (v630 : BitVec 32) (v631 : BitVec 32), BitVec 1) → sProp 𝕄} :
    iprop(Env I K ∗ S15 I c 16 1 13 8 8 8 1 8 0 1) ⊢ iprop((∀ r, S15 I c 16 1 15 8 8 8 1 8 0 1 -∗ Q r) -∗ WP c (k0_part23 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7) Q) := by
  rw [k0_part23_eq_skeleton]
  unfold k0_part23_skel
  simp only [Prog.lift, Prog.bind_op, Prog.bind_ret, Prog.pure_eq_ret]
  iintro ⟨#He, HS⟩ Hk
  iapply (s_wait5 I K c (w5 := 13) (by decide) (by decide) (by decide) (sem12 (c + ⟨13, by decide⟩) (off10 c ⟨13, by decide⟩)) (slot8_eq scalM (c + ⟨13, by decide⟩) (off13 c ⟨13, by decide⟩))) $$ [HS]
  · isplitr; · iexact He
    iexact HS
  iintro HS
  iapply (s_wait5 I K c (w5 := 14) (by decide) (by decide) (by decide) (sem12 (c + ⟨14, by decide⟩) (off10 c ⟨14, by decide⟩)) (slot8_eq scalM (c + ⟨14, by decide⟩) (off13 c ⟨14, by decide⟩))) $$ [HS]
  · isplitr; · iexact He
    iexact HS
  iintro HS
  iapply (wp_done c)
  iapply Hk $$ %_ HS

end Cert.KernelIdeal.Ring

end
-- ==== Proof.Parts2.lean ====
module
public import proofs.«01_k».proof.Proof.Values

/-! Parts 24 to 32 of the last grid point. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD) (i : grid0.Coords) (h1 : (Memref.whole main_v9 : Memref sig .tc .smem S16 .i32).IsWhole)
  (a2 : Memref sig .tc .vmem S256x4096 .bf16) (h2 : a2.IsWhole) (a3 : Memref sig .tc .vmem S4096x512 .bf16) (h3 : a3.IsWhole)
  (h4 : outM.IsWhole) (h5 : xbM.IsWhole) (h6 : asmM.IsWhole) (h7 : f8M.IsWhole) (h8 : sendM.IsWhole) (h9 : f8sM.IsWhole) (h10 : scalM.IsWhole) (h11 : amaxM.IsWhole)

/-- Part 24 of the last grid point. -/
theorem part24 (v2 : BitVec 32) (k0_h7 : k0_cond7 i = 1#1) (v630 : BitVec 32) (v631 : BitVec 32) (v636 : BitVec 1) {Q : (Σ' (v652 : F .f32) (v653 : F .f32) (v664 : BitVec 32) (cst_414 : F .f32), FVec F S256x512 .f32) → sProp 𝕄} :
    iprop(Env I K ∗ S15 I c 16 1 15 8 8 8 1 8 0 1) ⊢ iprop((∀ r, ⌜r.1 = SC I ∧ r.2.1 = IV I ∧ k0_pay7 r.2.2.2.1 r.2.2.2.2 = F8 I c (c + ⟨8, by decide⟩)⌝ -∗ S15 I c 16 1 16 8 8 8 1 8 0 1 -∗ Q r) -∗ WP c (k0_part24 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v630 v631 v636) Q) := by
  rw [k0_part24_eq_skeleton]
  unfold k0_part24_skel
  simp only [Prog.lift, Prog.bind_op, Prog.bind_ret, Prog.pure_eq_ret]
  iintro ⟨#He, HS⟩ Hk
  iapply (s_wait5 I K c (w5 := 15) (by decide) (by decide) (by decide) (sem12 (c + ⟨15, by decide⟩) (off10 c ⟨15, by decide⟩)) (slot8_eq scalM (c + ⟨15, by decide⟩) (off13 c ⟨15, by decide⟩))) $$ [HS]
  · isplitr; · iexact He
    iexact HS
  iintro HS
  iapply (s_lscal I K c) $$ [HS]
  · isplitr; · iexact He
    iexact HS
  iintro HS
  iapply (s_lsend I K c (p := 8) (by decide) (off14 c ⟨8, by decide⟩)) $$ [HS]
  · isplitr; · iexact He
    iexact HS
  iintro HS
  iapply (wp_done c)
  iapply Hk $$ %_ [] HS
  ipureintro; exact ⟨rfl, rfl, rfl⟩

/-- Part 25 of the last grid point. -/
theorem part25 (v2 : BitVec 32) (k0_h7 : k0_cond7 i = 1#1) (v664 : BitVec 32) (cst_414 : F .f32) (v672 : FVec F S256x512 .f32) (hv : k0_pay7 cst_414 v672 = F8 I c (c + ⟨8, by decide⟩)) {Q : (Σ' (v700 : BitVec 32), FVec F S256x512 .fp8e4m3) → sProp 𝕄} :
    iprop(Env I K ∗ S15 I c 16 1 16 8 8 8 1 8 0 1) ⊢ iprop((∀ r, ⌜k0_pay9 r.2 = F8 I c (c + ⟨9, by decide⟩)⌝ -∗ S15 I c 16 1 16 9 9 8 1 8 0 1 -∗ Q r) -∗ WP c (k0_part25 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (IV I) v664 cst_414 v672) Q) := by
  rw [k0_part25_eq_skeleton]
  unfold k0_part25_skel
  simp only [Prog.lift, Prog.bind_op, Prog.bind_ret, Prog.pure_eq_ret]
  iintro ⟨#He, HS⟩ Hk
  iapply (s_lf8 I K c (p := 8) (by decide) (off14 c ⟨8, by decide⟩)) $$ [HS]
  · isplitr; · iexact He
    iexact HS
  iintro %v HS
  iapply (s_sf8 I K c (p := 8) (f := 8) (by decide) (by decide) (off14 c ⟨8, by decide⟩) hv) $$ [HS]
  · isplitr; · iexact He
    iexact HS
  iintro HS
  iapply (s_fsend I K c (f := 8) (w2 := 8) (by decide) (by decide) (by decide) (sem9 (c + ⟨8, by decide⟩) (off10 c ⟨8, by decide⟩)) (sem10 c (k0_off11_eq c)) (Fin.ext (dev32 c)) (slot_eq f8sM (c + ⟨8, by decide⟩) (off16 c ⟨8, by decide⟩)) (slot_eq f8M c (k0_off15_eq c))) $$ [HS]
  · isplitr; · iexact He
    iexact HS
  iintro HS
  iapply (s_lsend I K c (p := 9) (by decide) (off14 c ⟨9, by decide⟩)) $$ [HS]
  · isplitr; · iexact He
    iexact HS
  iintro HS
  iapply (wp_done c)
  iapply Hk $$ %_ [] HS
  ipureintro; exact rfl

/-- Part 26 of the last grid point. -/
theorem part26 (v2 : BitVec 32) (k0_h7 : k0_cond7 i = 1#1) (v700 : BitVec 32) (v711 : FVec F S256x512 .fp8e4m3) (hv : k0_pay9 v711 = F8 I c (c + ⟨9, by decide⟩)) {Q : (Σ' (v736 : BitVec 32), FVec F S256x512 .fp8e4m3) → sProp 𝕄} :
    iprop(Env I K ∗ S15 I c 16 1 16 9 9 8 1 8 0 1) ⊢ iprop((∀ r, ⌜k0_pay11 r.2 = F8 I c (c + ⟨10, by decide⟩)⌝ -∗ S15 I c 16 1 16 10 10 8 1 8 0 1 -∗ Q r) -∗ WP c (k0_part26 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (IV I) v700 v711) Q) := by
  rw [k0_part26_eq_skeleton]
  unfold k0_part26_skel
  simp only [Prog.lift, Prog.bind_op, Prog.bind_ret, Prog.pure_eq_ret]
  iintro ⟨#He, HS⟩ Hk
  iapply (s_lf8 I K c (p := 9) (by decide) (off14 c ⟨9, by decide⟩)) $$ [HS]
  · isplitr; · iexact He
    iexact HS
  iintro %v HS
  iapply (s_sf8 I K c (p := 9) (f := 9) (by decide) (by decide) (off14 c ⟨9, by decide⟩) hv) $$ [HS]
  · isplitr; · iexact He
    iexact HS
  iintro HS
  iapply (s_fsend I K c (f := 9) (w2 := 8) (by decide) (by decide) (by decide) (sem9 (c + ⟨9, by decide⟩) (off10 c ⟨9, by decide⟩)) (sem10 c (k0_off11_eq c)) (Fin.ext (dev33 c)) (slot_eq f8sM (c + ⟨9, by decide⟩) (off16 c ⟨9, by decide⟩)) (slot_eq f8M c (k0_off15_eq c))) $$ [HS]
  · isplitr; · iexact He
    iexact HS
  iintro HS
  iapply (s_lsend I K c (p := 10) (by decide) (off14 c ⟨10, by decide⟩)) $$ [HS]
  · isplitr; · iexact He
    iexact HS
  iintro HS
  iapply (wp_done c)
  iapply Hk $$ %_ [] HS
  ipureintro; exact rfl

/-- Part 27 of the last grid point. -/
theorem part27 (v2 : BitVec 32) (k0_h7 : k0_cond7 i = 1#1) (v736 : BitVec 32) (v747 : FVec F S256x512 .fp8e4m3) (hv : k0_pay11 v747 = F8 I c (c + ⟨10, by decide⟩)) {Q : (Σ' (v772 : BitVec 32), FVec F S1x256x512 .fp8e4m3) → sProp 𝕄} :
    iprop(Env I K ∗ S15 I c 16 1 16 10 10 8 1 8 0 1) ⊢ iprop((∀ r, ⌜r.2 = F8 I c (c + ⟨11, by decide⟩)⌝ -∗ S15 I c 16 1 16 11 11 8 1 8 0 1 -∗ Q r) -∗ WP c (k0_part27 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (IV I) v736 v747) Q) := by
  rw [k0_part27_eq_skeleton]
  unfold k0_part27_skel
  simp only [Prog.lift, Prog.bind_op, Prog.bind_ret, Prog.pure_eq_ret]
  iintro ⟨#He, HS⟩ Hk
  iapply (s_lf8 I K c (p := 10) (by decide) (off14 c ⟨10, by decide⟩)) $$ [HS]
  · isplitr; · iexact He
    iexact HS
  iintro %v HS
  iapply (s_sf8 I K c (p := 10) (f := 10) (by decide) (by decide) (off14 c ⟨10, by decide⟩) hv) $$ [HS]
  · isplitr; · iexact He
    iexact HS
  iintro HS
  iapply (s_fsend I K c (f := 10) (w2 := 8) (by decide) (by decide) (by decide) (sem9 (c + ⟨10, by decide⟩) (off10 c ⟨10, by decide⟩)) (sem10 c (k0_off11_eq c)) (Fin.ext (dev34 c)) (slot_eq f8sM (c + ⟨10, by decide⟩) (off16 c ⟨10, by decide⟩)) (slot_eq f8M c (k0_off15_eq c))) $$ [HS]
  · isplitr; · iexact He
    iexact HS
  iintro HS
  iapply (s_lsend I K c (p := 11) (by decide) (off14 c ⟨11, by decide⟩)) $$ [HS]
  · isplitr; · iexact He
    iexact HS
  iintro HS
  iapply (s_lf8 I K c (p := 11) (by decide) (off14 c ⟨11, by decide⟩)) $$ [HS]
  · isplitr; · iexact He
    iexact HS
  iintro %v HS
  iapply (wp_done c)
  iapply Hk $$ %_ [] HS
  ipureintro; exact rfl

/-- Part 28 of the last grid point. -/
theorem part28 (v2 : BitVec 32) (k0_h7 : k0_cond7 i = 1#1) (v772 : BitVec 32) (v787 : FVec F S1x256x512 .fp8e4m3) (hv : v787 = F8 I c (c + ⟨11, by decide⟩)) {Q : (BitVec 32) → sProp 𝕄} :
    iprop(Env I K ∗ S15 I c 16 1 16 11 11 8 1 8 0 1) ⊢ iprop((∀ r, S15 I c 16 1 16 13 12 8 1 8 0 1 -∗ Q r) -∗ WP c (k0_part28 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (IV I) v772 v787) Q) := by
  rw [k0_part28_eq_skeleton]
  unfold k0_part28_skel
  simp only [Prog.lift, Prog.bind_op, Prog.bind_ret, Prog.pure_eq_ret]
  iintro ⟨#He, HS⟩ Hk
  iapply (s_sf8 I K c (p := 11) (f := 11) (by decide) (by decide) (off14 c ⟨11, by decide⟩) hv) $$ [HS]
  · isplitr; · iexact He
    iexact HS
  iintro HS
  iapply (s_fsend I K c (f := 11) (w2 := 8) (by decide) (by decide) (by decide) (sem9 (c + ⟨11, by decide⟩) (off10 c ⟨11, by decide⟩)) (sem10 c (k0_off11_eq c)) (Fin.ext (dev35 c)) (slot_eq f8sM (c + ⟨11, by decide⟩) (off16 c ⟨11, by decide⟩)) (slot_eq f8M c (k0_off15_eq c))) $$ [HS]
  · isplitr; · iexact He
    iexact HS
  iintro HS
  iapply (s_lsend I K c (p := 12) (by decide) (off14 c ⟨12, by decide⟩)) $$ [HS]
  · isplitr; · iexact He
    iexact HS
  iintro HS
  iapply (s_lf8 I K c (p := 12) (by decide) (off14 c ⟨12, by decide⟩)) $$ [HS]
  · isplitr; · iexact He
    iexact HS
  iintro %v HS
  iapply (s_sf8 I K c (p := 12) (f := 12) (by decide) (by decide) (off14 c ⟨12, by decide⟩) (show _ = F8 I c (c + ⟨12, by decide⟩) from rfl)) $$ [HS]
  · isplitr; · iexact He
    iexact HS
  iintro HS
  iapply (wp_done c)
  iapply Hk $$ %_ HS

/-- Part 29 of the last grid point. -/
theorem part29 (v2 : BitVec 32) (k0_h7 : k0_cond7 i = 1#1) (v824 : BitVec 32) {Q : (PUnit) → sProp 𝕄} :
    iprop(Env I K ∗ S15 I c 16 1 16 13 12 8 1 8 0 1) ⊢ iprop((∀ r, S15 I c 16 1 16 14 13 8 1 8 0 1 -∗ Q r) -∗ WP c (k0_part29 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (IV I) v824) Q) := by
  rw [k0_part29_eq_skeleton]
  unfold k0_part29_skel
  simp only [Prog.lift, Prog.bind_op, Prog.bind_ret, Prog.pure_eq_ret]
  iintro ⟨#He, HS⟩ Hk
  iapply (s_fsend I K c (f := 12) (w2 := 8) (by decide) (by decide) (by decide) (sem9 (c + ⟨12, by decide⟩) (off10 c ⟨12, by decide⟩)) (sem10 c (k0_off11_eq c)) (Fin.ext (dev36 c)) (slot_eq f8sM (c + ⟨12, by decide⟩) (off16 c ⟨12, by decide⟩)) (slot_eq f8M c (k0_off15_eq c))) $$ [HS]
  · isplitr; · iexact He
    iexact HS
  iintro HS
  iapply (s_lsend I K c (p := 13) (by decide) (off14 c ⟨13, by decide⟩)) $$ [HS]
  · isplitr; · iexact He
    iexact HS
  iintro HS
  iapply (s_lf8 I K c (p := 13) (by decide) (off14 c ⟨13, by decide⟩)) $$ [HS]
  · isplitr; · iexact He
    iexact HS
  iintro %v HS
  iapply (s_sf8 I K c (p := 13) (f := 13) (by decide) (by decide) (off14 c ⟨13, by decide⟩) (show _ = F8 I c (c + ⟨13, by decide⟩) from rfl)) $$ [HS]
  · isplitr; · iexact He
    iexact HS
  iintro HS
  iapply (wp_done c)
  iapply Hk $$ %_ HS

/-- Part 30 of the last grid point. -/
theorem part30 (v2 : BitVec 32) (k0_h7 : k0_cond7 i = 1#1) {Q : (PUnit) → sProp 𝕄} :
    iprop(Env I K ∗ S15 I c 16 1 16 14 13 8 1 8 0 1) ⊢ iprop((∀ r, S15 I c 16 1 16 15 14 8 1 8 0 1 -∗ Q r) -∗ WP c (k0_part30 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (IV I)) Q) := by
  rw [k0_part30_eq_skeleton]
  unfold k0_part30_skel
  simp only [Prog.lift, Prog.bind_op, Prog.bind_ret, Prog.pure_eq_ret]
  iintro ⟨#He, HS⟩ Hk
  iapply (s_fsend I K c (f := 13) (w2 := 8) (by decide) (by decide) (by decide) (sem9 (c + ⟨13, by decide⟩) (off10 c ⟨13, by decide⟩)) (sem10 c (k0_off11_eq c)) (Fin.ext (dev37 c)) (slot_eq f8sM (c + ⟨13, by decide⟩) (off16 c ⟨13, by decide⟩)) (slot_eq f8M c (k0_off15_eq c))) $$ [HS]
  · isplitr; · iexact He
    iexact HS
  iintro HS
  iapply (s_lsend I K c (p := 14) (by decide) (off14 c ⟨14, by decide⟩)) $$ [HS]
  · isplitr; · iexact He
    iexact HS
  iintro HS
  iapply (s_lf8 I K c (p := 14) (by decide) (off14 c ⟨14, by decide⟩)) $$ [HS]
  · isplitr; · iexact He
    iexact HS
  iintro %v HS
  iapply (s_sf8 I K c (p := 14) (f := 14) (by decide) (by decide) (off14 c ⟨14, by decide⟩) (show _ = F8 I c (c + ⟨14, by decide⟩) from rfl)) $$ [HS]
  · isplitr; · iexact He
    iexact HS
  iintro HS
  iapply (wp_done c)
  iapply Hk $$ %_ HS

/-- Part 31 of the last grid point. -/
theorem part31 (v2 : BitVec 32) (k0_h7 : k0_cond7 i = 1#1) {Q : (PUnit) → sProp 𝕄} :
    iprop(Env I K ∗ S15 I c 16 1 16 15 14 8 1 8 0 1) ⊢ iprop((∀ r, S15 I c 16 1 16 16 15 8 1 8 0 1 -∗ Q r) -∗ WP c (k0_part31 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (IV I)) Q) := by
  rw [k0_part31_eq_skeleton]
  unfold k0_part31_skel
  simp only [Prog.lift, Prog.bind_op, Prog.bind_ret, Prog.pure_eq_ret]
  iintro ⟨#He, HS⟩ Hk
  iapply (s_fsend I K c (f := 14) (w2 := 8) (by decide) (by decide) (by decide) (sem9 (c + ⟨14, by decide⟩) (off10 c ⟨14, by decide⟩)) (sem10 c (k0_off11_eq c)) (Fin.ext (dev38 c)) (slot_eq f8sM (c + ⟨14, by decide⟩) (off16 c ⟨14, by decide⟩)) (slot_eq f8M c (k0_off15_eq c))) $$ [HS]
  · isplitr; · iexact He
    iexact HS
  iintro HS
  iapply (s_lsend I K c (p := 15) (by decide) (off14 c ⟨15, by decide⟩)) $$ [HS]
  · isplitr; · iexact He
    iexact HS
  iintro HS
  iapply (s_lf8 I K c (p := 15) (by decide) (off14 c ⟨15, by decide⟩)) $$ [HS]
  · isplitr; · iexact He
    iexact HS
  iintro %v HS
  iapply (s_sf8 I K c (p := 15) (f := 15) (by decide) (by decide) (off14 c ⟨15, by decide⟩) (show _ = F8 I c (c + ⟨15, by decide⟩) from rfl)) $$ [HS]
  · isplitr; · iexact He
    iexact HS
  iintro HS
  iapply (wp_done c)
  iapply Hk $$ %_ HS

/-- Part 32 of the last grid point. -/
theorem part32 (v2 : BitVec 32) (k0_h7 : k0_cond7 i = 1#1) {Q : (BitVec 32) → sProp 𝕄} :
    iprop(Env I K ∗ S15 I c 16 1 16 16 15 8 1 8 0 1) ⊢ iprop((∀ r, S15 I c 16 1 16 16 16 8 1 8 1 1 -∗ Q r) -∗ WP c (k0_part32 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) (IV I)) Q) := by
  rw [k0_part32_eq_skeleton]
  unfold k0_part32_skel
  simp only [Prog.lift, Prog.bind_op, Prog.bind_ret, Prog.pure_eq_ret]
  iintro ⟨#He, HS⟩ Hk
  iapply (s_fsend I K c (f := 15) (w2 := 8) (by decide) (by decide) (by decide) (sem9 (c + ⟨15, by decide⟩) (off10 c ⟨15, by decide⟩)) (sem10 c (k0_off11_eq c)) (Fin.ext (dev39 c)) (slot_eq f8sM (c + ⟨15, by decide⟩) (off16 c ⟨15, by decide⟩)) (slot_eq f8M c (k0_off15_eq c))) $$ [HS]
  · isplitr; · iexact He
    iexact HS
  iintro HS
  iapply (s_lown I K c (k0_off8_eq c)) $$ [HS]
  · isplitr; · iexact He
    iexact HS
  iintro HS
  iapply (s_lout I K c (o := 0) (by decide) (own_off c)) $$ [HS]
  · isplitr; · iexact He
    iexact HS
  iintro %v HS
  iapply (s_sout I K c (o := 0) (by decide) (own_off c) (own_val I c)) $$ [HS]
  · isplitr; · iexact He
    iexact HS
  iintro HS
  iapply (wp_done c)
  iapply Hk $$ %_ HS

end Cert.KernelIdeal.Ring

end
-- ==== Proof.Parts3.lean ====
module
public import proofs.«01_k».proof.Proof.Values

/-! Parts 33 to 45 of the last grid point. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD) (i : grid0.Coords) (h1 : (Memref.whole main_v9 : Memref sig .tc .smem S16 .i32).IsWhole)
  (a2 : Memref sig .tc .vmem S256x4096 .bf16) (h2 : a2.IsWhole) (a3 : Memref sig .tc .vmem S4096x512 .bf16) (h3 : a3.IsWhole)
  (h4 : outM.IsWhole) (h5 : xbM.IsWhole) (h6 : asmM.IsWhole) (h7 : f8M.IsWhole) (h8 : sendM.IsWhole) (h9 : f8sM.IsWhole) (h10 : scalM.IsWhole) (h11 : amaxM.IsWhole)

/-- Part 33 of the last grid point. -/
theorem part33 (v2 : BitVec 32) (k0_h7 : k0_cond7 i = 1#1) (v969 : BitVec 32) {Q : (BitVec 32) → sProp 𝕄} :
    iprop(Env I K ∗ S15 I c 16 1 16 16 16 8 1 8 1 1) ⊢ iprop((∀ r, S15 I c 16 1 16 16 16 8 3 8 2 1 -∗ Q r) -∗ WP c (k0_part33 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) (IV I) v969) Q) := by
  rw [k0_part33_eq_skeleton]
  unfold k0_part33_skel
  simp only [Prog.lift, Prog.bind_op, Prog.bind_ret, Prog.pure_eq_ret]
  iintro ⟨#He, HS⟩ Hk
  iapply (s_wait1 I K c (r1 := 1) (by decide) (by decide) (by decide) (sem8 (c - ⟨1, by decide⟩) (off18 c ⟨1, by decide⟩)) (slot_eq asmM (c - ⟨1, by decide⟩) (off19 c ⟨1, by decide⟩))) $$ [HS]
  · isplitr; · iexact He
    iexact HS
  iintro HS
  iapply (s_lnear I K c (r1 := 2) ⟨1, by decide⟩ (by decide) (by decide) (off20 c ⟨1, by decide⟩)) $$ [HS]
  · isplitr; · iexact He
    iexact HS
  iintro HS
  iapply (s_lout I K c (o := 1) (by decide) (off21 c ⟨1, by decide⟩)) $$ [HS]
  · isplitr; · iexact He
    iexact HS
  iintro %v HS
  iapply (s_sout I K c (o := 1) (by decide) (off21 c ⟨1, by decide⟩) (near_val I c ⟨1, by decide⟩ (Nat.le_of_ble_eq_true rfl))) $$ [HS]
  · isplitr; · iexact He
    iexact HS
  iintro HS
  iapply (s_wait1 I K c (r1 := 2) (by decide) (by decide) (by decide) (sem8 (c - ⟨2, by decide⟩) (off18 c ⟨2, by decide⟩)) (slot_eq asmM (c - ⟨2, by decide⟩) (off19 c ⟨2, by decide⟩))) $$ [HS]
  · isplitr; · iexact He
    iexact HS
  iintro HS
  iapply (wp_done c)
  iapply Hk $$ %_ HS

/-- Part 34 of the last grid point. -/
theorem part34 (v2 : BitVec 32) (k0_h7 : k0_cond7 i = 1#1) (v1005 : BitVec 32) {Q : (BitVec 32) → sProp 𝕄} :
    iprop(Env I K ∗ S15 I c 16 1 16 16 16 8 3 8 2 1) ⊢ iprop((∀ r, S15 I c 16 1 16 16 16 8 4 8 3 1 -∗ Q r) -∗ WP c (k0_part34 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) (IV I) v1005) Q) := by
  rw [k0_part34_eq_skeleton]
  unfold k0_part34_skel
  simp only [Prog.lift, Prog.bind_op, Prog.bind_ret, Prog.pure_eq_ret]
  iintro ⟨#He, HS⟩ Hk
  iapply (s_lnear I K c (r1 := 3) ⟨2, by decide⟩ (by decide) (by decide) (off20 c ⟨2, by decide⟩)) $$ [HS]
  · isplitr; · iexact He
    iexact HS
  iintro HS
  iapply (s_lout I K c (o := 2) (by decide) (off21 c ⟨2, by decide⟩)) $$ [HS]
  · isplitr; · iexact He
    iexact HS
  iintro %v HS
  iapply (s_sout I K c (o := 2) (by decide) (off21 c ⟨2, by decide⟩) (near_val I c ⟨2, by decide⟩ (Nat.le_of_ble_eq_true rfl))) $$ [HS]
  · isplitr; · iexact He
    iexact HS
  iintro HS
  iapply (s_wait1 I K c (r1 := 3) (by decide) (by decide) (by decide) (sem8 (c - ⟨3, by decide⟩) (off18 c ⟨3, by decide⟩)) (slot_eq asmM (c - ⟨3, by decide⟩) (off19 c ⟨3, by decide⟩))) $$ [HS]
  · isplitr; · iexact He
    iexact HS
  iintro HS
  iapply (wp_done c)
  iapply Hk $$ %_ HS

/-- Part 35 of the last grid point. -/
theorem part35 (v2 : BitVec 32) (k0_h7 : k0_cond7 i = 1#1) (v1041 : BitVec 32) {Q : (Σ' (v1077 : BitVec 32), FVec F S256x512 .f32) → sProp 𝕄} :
    iprop(Env I K ∗ S15 I c 16 1 16 16 16 8 4 8 3 1) ⊢ iprop((∀ r, ⌜k0_pay22 (SC I) (IV I) r.2 = OB I c (c - ⟨4, by decide⟩)⌝ -∗ S15 I c 16 1 16 16 16 8 5 8 4 1 -∗ Q r) -∗ WP c (k0_part35 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) (IV I) v1041) Q) := by
  rw [k0_part35_eq_skeleton]
  unfold k0_part35_skel
  simp only [Prog.lift, Prog.bind_op, Prog.bind_ret, Prog.pure_eq_ret]
  iintro ⟨#He, HS⟩ Hk
  iapply (s_lnear I K c (r1 := 4) ⟨3, by decide⟩ (by decide) (by decide) (off20 c ⟨3, by decide⟩)) $$ [HS]
  · isplitr; · iexact He
    iexact HS
  iintro HS
  iapply (s_lout I K c (o := 3) (by decide) (off21 c ⟨3, by decide⟩)) $$ [HS]
  · isplitr; · iexact He
    iexact HS
  iintro %v HS
  iapply (s_sout I K c (o := 3) (by decide) (off21 c ⟨3, by decide⟩) (near_val I c ⟨3, by decide⟩ (Nat.le_of_ble_eq_true rfl))) $$ [HS]
  · isplitr; · iexact He
    iexact HS
  iintro HS
  iapply (s_wait1 I K c (r1 := 4) (by decide) (by decide) (by decide) (sem8 (c - ⟨4, by decide⟩) (off18 c ⟨4, by decide⟩)) (slot_eq asmM (c - ⟨4, by decide⟩) (off19 c ⟨4, by decide⟩))) $$ [HS]
  · isplitr; · iexact He
    iexact HS
  iintro HS
  iapply (s_lnear I K c (r1 := 5) ⟨4, by decide⟩ (by decide) (by decide) (off20 c ⟨4, by decide⟩)) $$ [HS]
  · isplitr; · iexact He
    iexact HS
  iintro HS
  iapply (wp_done c)
  iapply Hk $$ %_ [] HS
  ipureintro; exact near_val I c ⟨4, by decide⟩ (by decide)

/-- Part 36 of the last grid point. -/
theorem part36 (v2 : BitVec 32) (k0_h7 : k0_cond7 i = 1#1) (v1077 : BitVec 32) (v1089 : FVec F S256x512 .f32) (hv : k0_pay22 (SC I) (IV I) v1089 = OB I c (c - ⟨4, by decide⟩)) {Q : (Σ' (v1113 : BitVec 32) (v1127 : FVec F S256x512 .f32), F .f32) → sProp 𝕄} :
    iprop(Env I K ∗ S15 I c 16 1 16 16 16 8 5 8 4 1) ⊢ iprop((∀ r, ⌜k0_pay24 (SC I) r.2.1 r.2.2 = OB I c (c - ⟨5, by decide⟩)⌝ -∗ S15 I c 16 1 16 16 16 8 6 8 5 1 -∗ Q r) -∗ WP c (k0_part36 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) (IV I) v1077 v1089) Q) := by
  rw [k0_part36_eq_skeleton]
  unfold k0_part36_skel
  simp only [Prog.lift, Prog.bind_op, Prog.bind_ret, Prog.pure_eq_ret]
  iintro ⟨#He, HS⟩ Hk
  iapply (s_lout I K c (o := 4) (by decide) (off21 c ⟨4, by decide⟩)) $$ [HS]
  · isplitr; · iexact He
    iexact HS
  iintro %v HS
  iapply (s_sout I K c (o := 4) (by decide) (off21 c ⟨4, by decide⟩) hv) $$ [HS]
  · isplitr; · iexact He
    iexact HS
  iintro HS
  iapply (s_wait1 I K c (r1 := 5) (by decide) (by decide) (by decide) (sem8 (c - ⟨5, by decide⟩) (off18 c ⟨5, by decide⟩)) (slot_eq asmM (c - ⟨5, by decide⟩) (off19 c ⟨5, by decide⟩))) $$ [HS]
  · isplitr; · iexact He
    iexact HS
  iintro HS
  iapply (s_lnear I K c (r1 := 6) ⟨5, by decide⟩ (by decide) (by decide) (off20 c ⟨5, by decide⟩)) $$ [HS]
  · isplitr; · iexact He
    iexact HS
  iintro HS
  iapply (wp_done c)
  iapply Hk $$ %_ [] HS
  ipureintro; exact near_val I c ⟨5, by decide⟩ (by decide)

/-- Part 37 of the last grid point. -/
theorem part37 (v2 : BitVec 32) (k0_h7 : k0_cond7 i = 1#1) (v1113 : BitVec 32) (v1127 : FVec F S256x512 .f32) (cst_652 : F .f32) (hv : k0_pay24 (SC I) v1127 cst_652 = OB I c (c - ⟨5, by decide⟩)) {Q : (Σ' (v1149 : BitVec 32) (cst_672 : F .f32), FVec F S256x512 .f32) → sProp 𝕄} :
    iprop(Env I K ∗ S15 I c 16 1 16 16 16 8 6 8 5 1) ⊢ iprop((∀ r, ⌜k0_pay26 (SC I) r.2.1 r.2.2 = OB I c (c - ⟨6, by decide⟩)⌝ -∗ S15 I c 16 1 16 16 16 8 7 8 6 1 -∗ Q r) -∗ WP c (k0_part37 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) (IV I) v1113 v1127 cst_652) Q) := by
  rw [k0_part37_eq_skeleton]
  unfold k0_part37_skel
  simp only [Prog.lift, Prog.bind_op, Prog.bind_ret, Prog.pure_eq_ret]
  iintro ⟨#He, HS⟩ Hk
  iapply (s_lout I K c (o := 5) (by decide) (off21 c ⟨5, by decide⟩)) $$ [HS]
  · isplitr; · iexact He
    iexact HS
  iintro %v HS
  iapply (s_sout I K c (o := 5) (by decide) (off21 c ⟨5, by decide⟩) hv) $$ [HS]
  · isplitr; · iexact He
    iexact HS
  iintro HS
  iapply (s_wait1 I K c (r1 := 6) (by decide) (by decide) (by decide) (sem8 (c - ⟨6, by decide⟩) (off18 c ⟨6, by decide⟩)) (slot_eq asmM (c - ⟨6, by decide⟩) (off19 c ⟨6, by decide⟩))) $$ [HS]
  · isplitr; · iexact He
    iexact HS
  iintro HS
  iapply (s_lnear I K c (r1 := 7) ⟨6, by decide⟩ (by decide) (by decide) (off20 c ⟨6, by decide⟩)) $$ [HS]
  · isplitr; · iexact He
    iexact HS
  iintro HS
  iapply (wp_done c)
  iapply Hk $$ %_ [] HS
  ipureintro; exact near_val I c ⟨6, by decide⟩ (by decide)

/-- Part 38 of the last grid point. -/
theorem part38 (v2 : BitVec 32) (k0_h7 : k0_cond7 i = 1#1) (v1149 : BitVec 32) (cst_672 : F .f32) (v1165 : FVec F S256x512 .f32) (hv : k0_pay26 (SC I) cst_672 v1165 = OB I c (c - ⟨6, by decide⟩)) {Q : (Σ' (v1185 : BitVec 32), FVec F S256x512 .fp8e4m3) → sProp 𝕄} :
    iprop(Env I K ∗ S15 I c 16 1 16 16 16 8 7 8 6 1) ⊢ iprop((∀ r, ⌜k0_pay28 (SC I) r.2 = OB I c (c - ⟨7, by decide⟩)⌝ -∗ S15 I c 16 1 16 16 16 8 8 8 7 1 -∗ Q r) -∗ WP c (k0_part38 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) (IV I) v1149 cst_672 v1165) Q) := by
  rw [k0_part38_eq_skeleton]
  unfold k0_part38_skel
  simp only [Prog.lift, Prog.bind_op, Prog.bind_ret, Prog.pure_eq_ret]
  iintro ⟨#He, HS⟩ Hk
  iapply (s_lout I K c (o := 6) (by decide) (off21 c ⟨6, by decide⟩)) $$ [HS]
  · isplitr; · iexact He
    iexact HS
  iintro %v HS
  iapply (s_sout I K c (o := 6) (by decide) (off21 c ⟨6, by decide⟩) hv) $$ [HS]
  · isplitr; · iexact He
    iexact HS
  iintro HS
  iapply (s_wait1 I K c (r1 := 7) (by decide) (by decide) (by decide) (sem8 (c - ⟨7, by decide⟩) (off18 c ⟨7, by decide⟩)) (slot_eq asmM (c - ⟨7, by decide⟩) (off19 c ⟨7, by decide⟩))) $$ [HS]
  · isplitr; · iexact He
    iexact HS
  iintro HS
  iapply (s_lnear I K c (r1 := 8) ⟨7, by decide⟩ (by decide) (by decide) (off20 c ⟨7, by decide⟩)) $$ [HS]
  · isplitr; · iexact He
    iexact HS
  iintro HS
  iapply (wp_done c)
  iapply Hk $$ %_ [] HS
  ipureintro; exact near_val I c ⟨7, by decide⟩ (by decide)

/-- Part 39 of the last grid point. -/
theorem part39 (v2 : BitVec 32) (k0_h7 : k0_cond7 i = 1#1) (v1185 : BitVec 32) (v1204 : FVec F S256x512 .fp8e4m3) (hv : k0_pay28 (SC I) v1204 = OB I c (c - ⟨7, by decide⟩)) {Q : (Σ' (v1239 : BitVec 32) (c16_i32_712 : BitVec 32), BitVec 32) → sProp 𝕄} :
    iprop(Env I K ∗ S15 I c 16 1 16 16 16 8 8 8 7 1) ⊢ iprop((∀ r, S15 I c 16 1 16 16 16 8 8 9 9 1 -∗ Q r) -∗ WP c (k0_part39 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) v1185 v1204) Q) := by
  rw [k0_part39_eq_skeleton]
  unfold k0_part39_skel
  simp only [Prog.lift, Prog.bind_op, Prog.bind_ret, Prog.pure_eq_ret]
  iintro ⟨#He, HS⟩ Hk
  iapply (s_lout I K c (o := 7) (by decide) (off21 c ⟨7, by decide⟩)) $$ [HS]
  · isplitr; · iexact He
    iexact HS
  iintro %v HS
  iapply (s_sout I K c (o := 7) (by decide) (off21 c ⟨7, by decide⟩) hv) $$ [HS]
  · isplitr; · iexact He
    iexact HS
  iintro HS
  iapply (s_wait3 I K c (r3 := 8) (by decide) (by decide) (by decide) (sem10 (c - ⟨8, by decide⟩) (off18 c ⟨8, by decide⟩)) (slot_eq f8M (c - ⟨8, by decide⟩) (off19 c ⟨8, by decide⟩))) $$ [HS]
  · isplitr; · iexact He
    iexact HS
  iintro HS
  iapply (s_lfar I K c (r3 := 9) ⟨8, by decide⟩ (by decide) (by decide) (off20 c ⟨8, by decide⟩)) $$ [HS]
  · isplitr; · iexact He
    iexact HS
  iintro HS
  iapply (s_lout I K c (o := 8) (by decide) (off21 c ⟨8, by decide⟩)) $$ [HS]
  · isplitr; · iexact He
    iexact HS
  iintro %v HS
  iapply (s_sout I K c (o := 8) (by decide) (off21 c ⟨8, by decide⟩) (by exact far_val I c ⟨8, by decide⟩ (Nat.le_of_ble_eq_true rfl))) $$ [HS]
  · isplitr; · iexact He
    iexact HS
  iintro HS
  iapply (wp_done c)
  iapply Hk $$ %_ HS

/-- Part 40 of the last grid point. -/
theorem part40 (v2 : BitVec 32) (k0_h7 : k0_cond7 i = 1#1) (v1239 : BitVec 32) (c16_i32_712 : BitVec 32) (c0_i32_713 : BitVec 32) {Q : (Σ' (v1270 : BitVec 32) (v1275 : BitVec 1), BitVec 32) → sProp 𝕄} :
    iprop(Env I K ∗ S15 I c 16 1 16 16 16 8 8 9 9 1) ⊢ iprop((∀ r, S15 I c 16 1 16 16 16 8 8 10 10 1 -∗ Q r) -∗ WP c (k0_part40 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) v1239 c16_i32_712 c0_i32_713) Q) := by
  rw [k0_part40_eq_skeleton]
  unfold k0_part40_skel
  simp only [Prog.lift, Prog.bind_op, Prog.bind_ret, Prog.pure_eq_ret]
  iintro ⟨#He, HS⟩ Hk
  iapply (s_wait3 I K c (r3 := 9) (by decide) (by decide) (by decide) (sem10 (c - ⟨9, by decide⟩) (off18 c ⟨9, by decide⟩)) (slot_eq f8M (c - ⟨9, by decide⟩) (off19 c ⟨9, by decide⟩))) $$ [HS]
  · isplitr; · iexact He
    iexact HS
  iintro HS
  iapply (s_lfar I K c (r3 := 10) ⟨9, by decide⟩ (by decide) (by decide) (off20 c ⟨9, by decide⟩)) $$ [HS]
  · isplitr; · iexact He
    iexact HS
  iintro HS
  iapply (s_lout I K c (o := 9) (by decide) (off21 c ⟨9, by decide⟩)) $$ [HS]
  · isplitr; · iexact He
    iexact HS
  iintro %v HS
  iapply (s_sout I K c (o := 9) (by decide) (off21 c ⟨9, by decide⟩) (far_val I c ⟨9, by decide⟩ (Nat.le_of_ble_eq_true rfl))) $$ [HS]
  · isplitr; · iexact He
    iexact HS
  iintro HS
  iapply (wp_done c)
  iapply Hk $$ %_ HS

/-- Part 41 of the last grid point. -/
theorem part41 (v2 : BitVec 32) (k0_h7 : k0_cond7 i = 1#1) (v1270 : BitVec 32) (v1275 : BitVec 1) (v1276 : BitVec 32) {Q : (BitVec 32) → sProp 𝕄} :
    iprop(Env I K ∗ S15 I c 16 1 16 16 16 8 8 10 10 1) ⊢ iprop((∀ r, S15 I c 16 1 16 16 16 8 8 11 11 1 -∗ Q r) -∗ WP c (k0_part41 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) v1270 v1275 v1276) Q) := by
  rw [k0_part41_eq_skeleton]
  unfold k0_part41_skel
  simp only [Prog.lift, Prog.bind_op, Prog.bind_ret, Prog.pure_eq_ret]
  iintro ⟨#He, HS⟩ Hk
  iapply (s_wait3 I K c (r3 := 10) (by decide) (by decide) (by decide) (sem10 (c - ⟨10, by decide⟩) (off18 c ⟨10, by decide⟩)) (slot_eq f8M (c - ⟨10, by decide⟩) (off19 c ⟨10, by decide⟩))) $$ [HS]
  · isplitr; · iexact He
    iexact HS
  iintro HS
  iapply (s_lfar I K c (r3 := 11) ⟨10, by decide⟩ (by decide) (by decide) (off20 c ⟨10, by decide⟩)) $$ [HS]
  · isplitr; · iexact He
    iexact HS
  iintro HS
  iapply (s_lout I K c (o := 10) (by decide) (off21 c ⟨10, by decide⟩)) $$ [HS]
  · isplitr; · iexact He
    iexact HS
  iintro %v HS
  iapply (s_sout I K c (o := 10) (by decide) (off21 c ⟨10, by decide⟩) (far_val I c ⟨10, by decide⟩ (Nat.le_of_ble_eq_true rfl))) $$ [HS]
  · isplitr; · iexact He
    iexact HS
  iintro HS
  iapply (wp_done c)
  iapply Hk $$ %_ HS

/-- Part 42 of the last grid point. -/
theorem part42 (v2 : BitVec 32) (k0_h7 : k0_cond7 i = 1#1) (v1305 : BitVec 32) {Q : (Σ' (v1347 : FVec F S256x512 .f32), BitVec 32) → sProp 𝕄} :
    iprop(Env I K ∗ S15 I c 16 1 16 16 16 8 8 11 11 1) ⊢ iprop((∀ r, ⌜r.1 = OB I c (c - ⟨12, by decide⟩)⌝ -∗ S15 I c 16 1 16 16 16 8 8 13 12 1 -∗ Q r) -∗ WP c (k0_part42 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) v1305) Q) := by
  rw [k0_part42_eq_skeleton]
  unfold k0_part42_skel
  simp only [Prog.lift, Prog.bind_op, Prog.bind_ret, Prog.pure_eq_ret]
  iintro ⟨#He, HS⟩ Hk
  iapply (s_wait3 I K c (r3 := 11) (by decide) (by decide) (by decide) (sem10 (c - ⟨11, by decide⟩) (off18 c ⟨11, by decide⟩)) (slot_eq f8M (c - ⟨11, by decide⟩) (off19 c ⟨11, by decide⟩))) $$ [HS]
  · isplitr; · iexact He
    iexact HS
  iintro HS
  iapply (s_lfar I K c (r3 := 12) ⟨11, by decide⟩ (by decide) (by decide) (off20 c ⟨11, by decide⟩)) $$ [HS]
  · isplitr; · iexact He
    iexact HS
  iintro HS
  iapply (s_lout I K c (o := 11) (by decide) (off21 c ⟨11, by decide⟩)) $$ [HS]
  · isplitr; · iexact He
    iexact HS
  iintro %v HS
  iapply (s_sout I K c (o := 11) (by decide) (off21 c ⟨11, by decide⟩) (far_val I c ⟨11, by decide⟩ (Nat.le_of_ble_eq_true rfl))) $$ [HS]
  · isplitr; · iexact He
    iexact HS
  iintro HS
  iapply (s_wait3 I K c (r3 := 12) (by decide) (by decide) (by decide) (sem10 (c - ⟨12, by decide⟩) (off18 c ⟨12, by decide⟩)) (slot_eq f8M (c - ⟨12, by decide⟩) (off19 c ⟨12, by decide⟩))) $$ [HS]
  · isplitr; · iexact He
    iexact HS
  iintro HS
  iapply (s_lfar I K c (r3 := 13) ⟨12, by decide⟩ (by decide) (by decide) (off20 c ⟨12, by decide⟩)) $$ [HS]
  · isplitr; · iexact He
    iexact HS
  iintro HS
  iapply (wp_done c)
  iapply Hk $$ %_ [] HS
  ipureintro; exact far_val I c ⟨12, by decide⟩ (by decide)

/-- Part 43 of the last grid point. -/
theorem part43 (v2 : BitVec 32) (k0_h7 : k0_cond7 i = 1#1) (v1347 : FVec F S256x512 .f32) (v1348 : BitVec 32) (hv : v1347 = OB I c (c - ⟨12, by decide⟩)) {Q : (Σ' (v1381 : BitVec 32) (v1382 : BitVec 32), BitVec 32) → sProp 𝕄} :
    iprop(Env I K ∗ S15 I c 16 1 16 16 16 8 8 13 12 1) ⊢ iprop((∀ r, S15 I c 16 1 16 16 16 8 8 14 14 1 -∗ Q r) -∗ WP c (k0_part43 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) v1347 v1348) Q) := by
  rw [k0_part43_eq_skeleton]
  unfold k0_part43_skel
  simp only [Prog.lift, Prog.bind_op, Prog.bind_ret, Prog.pure_eq_ret]
  iintro ⟨#He, HS⟩ Hk
  iapply (s_lout I K c (o := 12) (by decide) (off21 c ⟨12, by decide⟩)) $$ [HS]
  · isplitr; · iexact He
    iexact HS
  iintro %v HS
  iapply (s_sout I K c (o := 12) (by decide) (off21 c ⟨12, by decide⟩) hv) $$ [HS]
  · isplitr; · iexact He
    iexact HS
  iintro HS
  iapply (s_wait3 I K c (r3 := 13) (by decide) (by decide) (by decide) (sem10 (c - ⟨13, by decide⟩) (off18 c ⟨13, by decide⟩)) (slot_eq f8M (c - ⟨13, by decide⟩) (off19 c ⟨13, by decide⟩))) $$ [HS]
  · isplitr; · iexact He
    iexact HS
  iintro HS
  iapply (s_lfar I K c (r3 := 14) ⟨13, by decide⟩ (by decide) (by decide) (off20 c ⟨13, by decide⟩)) $$ [HS]
  · isplitr; · iexact He
    iexact HS
  iintro HS
  iapply (s_lout I K c (o := 13) (by decide) (off21 c ⟨13, by decide⟩)) $$ [HS]
  · isplitr; · iexact He
    iexact HS
  iintro %v HS
  iapply (s_sout I K c (o := 13) (by decide) (off21 c ⟨13, by decide⟩) (far_val I c ⟨13, by decide⟩ (Nat.le_of_ble_eq_true rfl))) $$ [HS]
  · isplitr; · iexact He
    iexact HS
  iintro HS
  iapply (wp_done c)
  iapply Hk $$ %_ HS

/-- Part 44 of the last grid point. -/
theorem part44 (v2 : BitVec 32) (k0_h7 : k0_cond7 i = 1#1) (v1381 : BitVec 32) (v1382 : BitVec 32) (c0_i32_800 : BitVec 32) {Q : (BitVec 32) → sProp 𝕄} :
    iprop(Env I K ∗ S15 I c 16 1 16 16 16 8 8 14 14 1) ⊢ iprop((∀ r, S15 I c 16 1 16 16 16 8 8 15 15 1 -∗ Q r) -∗ WP c (k0_part44 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) v1381 v1382 c0_i32_800) Q) := by
  rw [k0_part44_eq_skeleton]
  unfold k0_part44_skel
  simp only [Prog.lift, Prog.bind_op, Prog.bind_ret, Prog.pure_eq_ret]
  iintro ⟨#He, HS⟩ Hk
  iapply (s_wait3 I K c (r3 := 14) (by decide) (by decide) (by decide) (sem10 (c - ⟨14, by decide⟩) (off18 c ⟨14, by decide⟩)) (slot_eq f8M (c - ⟨14, by decide⟩) (off19 c ⟨14, by decide⟩))) $$ [HS]
  · isplitr; · iexact He
    iexact HS
  iintro HS
  iapply (s_lfar I K c (r3 := 15) ⟨14, by decide⟩ (by decide) (by decide) (off20 c ⟨14, by decide⟩)) $$ [HS]
  · isplitr; · iexact He
    iexact HS
  iintro HS
  iapply (s_lout I K c (o := 14) (by decide) (off21 c ⟨14, by decide⟩)) $$ [HS]
  · isplitr; · iexact He
    iexact HS
  iintro %v HS
  iapply (s_sout I K c (o := 14) (by decide) (off21 c ⟨14, by decide⟩) (far_val I c ⟨14, by decide⟩ (Nat.le_of_ble_eq_true rfl))) $$ [HS]
  · isplitr; · iexact He
    iexact HS
  iintro HS
  iapply (wp_done c)
  iapply Hk $$ %_ HS

/-- Part 45 of the last grid point. -/
theorem part45 (v2 : BitVec 32) (k0_h7 : k0_cond7 i = 1#1) (v1417 : BitVec 32) {Q : (PUnit) → sProp 𝕄} :
    iprop(Env I K ∗ S15 I c 16 1 16 16 16 8 8 15 15 1) ⊢ iprop((∀ r, S15 I c 16 1 16 16 16 8 8 16 16 2 -∗ Q r) -∗ WP c (k0_part45 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 (SC I) v1417) Q) := by
  rw [k0_part45_eq_skeleton]
  unfold k0_part45_skel
  simp only [Prog.lift, Prog.bind_op, Prog.bind_ret, Prog.pure_eq_ret]
  iintro ⟨#He, HS⟩ Hk
  iapply (s_wait3 I K c (r3 := 15) (by decide) (by decide) (by decide) (sem10 (c - ⟨15, by decide⟩) (off18 c ⟨15, by decide⟩)) (slot_eq f8M (c - ⟨15, by decide⟩) (off19 c ⟨15, by decide⟩))) $$ [HS]
  · isplitr; · iexact He
    iexact HS
  iintro HS
  iapply (s_lfar I K c (r3 := 16) ⟨15, by decide⟩ (by decide) (by decide) (off20 c ⟨15, by decide⟩)) $$ [HS]
  · isplitr; · iexact He
    iexact HS
  iintro HS
  iapply (s_lout I K c (o := 15) (by decide) (off21 c ⟨15, by decide⟩)) $$ [HS]
  · isplitr; · iexact He
    iexact HS
  iintro %v HS
  iapply (s_sout I K c (o := 15) (by decide) (off21 c ⟨15, by decide⟩) (far_val I c ⟨15, by decide⟩ (Nat.le_of_ble_eq_true rfl))) $$ [HS]
  · isplitr; · iexact He
    iexact HS
  iintro HS
  iapply (s_wait0 I K c (w0 := 1) (by decide) (by decide) (by decide) (sem7 (c + ⟨1, by decide⟩) (off10 c ⟨1, by decide⟩)) (slot_eq sendM (c + ⟨1, by decide⟩) (off16 c ⟨1, by decide⟩))) $$ [HS]
  · isplitr; · iexact He
    iexact HS
  iintro HS
  iapply (wp_done c)
  iapply Hk $$ %_ HS

end Cert.KernelIdeal.Ring

end
-- ==== Proof.Parts4.lean ====
module
public import proofs.«01_k».proof.Proof.Values

/-! Parts 46 to 54 of the last grid point. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD) (i : grid0.Coords) (h1 : (Memref.whole main_v9 : Memref sig .tc .smem S16 .i32).IsWhole)
  (a2 : Memref sig .tc .vmem S256x4096 .bf16) (h2 : a2.IsWhole) (a3 : Memref sig .tc .vmem S4096x512 .bf16) (h3 : a3.IsWhole)
  (h4 : outM.IsWhole) (h5 : xbM.IsWhole) (h6 : asmM.IsWhole) (h7 : f8M.IsWhole) (h8 : sendM.IsWhole) (h9 : f8sM.IsWhole) (h10 : scalM.IsWhole) (h11 : amaxM.IsWhole)

/-- Part 46 of the last grid point. -/
theorem part46 (v2 : BitVec 32) (k0_h7 : k0_cond7 i = 1#1) {Q : (Σ' (v1483 : BitVec 32) (v1484 : BitVec 32) (v1485 : BitVec 1), BitVec 32) → sProp 𝕄} :
    iprop(Env I K ∗ S15 I c 16 1 16 16 16 8 8 16 16 2) ⊢ iprop((∀ r, S15 I c 16 3 16 16 16 8 8 16 16 3 -∗ Q r) -∗ WP c (k0_part46 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7) Q) := by
  rw [k0_part46_eq_skeleton]
  unfold k0_part46_skel
  simp only [Prog.lift, Prog.bind_op, Prog.bind_ret, Prog.pure_eq_ret]
  iintro ⟨#He, HS⟩ Hk
  iapply (s_wait4 I K c (w4 := 1) (by decide) (by decide) (sem11 (c + ⟨1, by decide⟩) (off10 c ⟨1, by decide⟩)) (slot8_eq scalM c (k0_off12_eq c))) $$ [HS]
  · isplitr; · iexact He
    iexact HS
  iintro HS
  iapply (s_wait0 I K c (w0 := 2) (by decide) (by decide) (by decide) (sem7 (c + ⟨2, by decide⟩) (off10 c ⟨2, by decide⟩)) (slot_eq sendM (c + ⟨2, by decide⟩) (off16 c ⟨2, by decide⟩))) $$ [HS]
  · isplitr; · iexact He
    iexact HS
  iintro HS
  iapply (s_wait4 I K c (w4 := 2) (by decide) (by decide) (sem11 (c + ⟨2, by decide⟩) (off10 c ⟨2, by decide⟩)) (slot8_eq scalM c (k0_off12_eq c))) $$ [HS]
  · isplitr; · iexact He
    iexact HS
  iintro HS
  iapply (wp_done c)
  iapply Hk $$ %_ HS

/-- Part 47 of the last grid point. -/
theorem part47 (v2 : BitVec 32) (k0_h7 : k0_cond7 i = 1#1) (v1483 : BitVec 32) (v1484 : BitVec 32) (v1485 : BitVec 1) (c0_i32_869 : BitVec 32) {Q : (PUnit) → sProp 𝕄} :
    iprop(Env I K ∗ S15 I c 16 3 16 16 16 8 8 16 16 3) ⊢ iprop((∀ r, S15 I c 16 4 16 16 16 8 8 16 16 4 -∗ Q r) -∗ WP c (k0_part47 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v1483 v1484 v1485 c0_i32_869) Q) := by
  rw [k0_part47_eq_skeleton]
  unfold k0_part47_skel
  simp only [Prog.lift, Prog.bind_op, Prog.bind_ret, Prog.pure_eq_ret]
  iintro ⟨#He, HS⟩ Hk
  iapply (s_wait0 I K c (w0 := 3) (by decide) (by decide) (by decide) (sem7 (c + ⟨3, by decide⟩) (off10 c ⟨3, by decide⟩)) (slot_eq sendM (c + ⟨3, by decide⟩) (off16 c ⟨3, by decide⟩))) $$ [HS]
  · isplitr; · iexact He
    iexact HS
  iintro HS
  iapply (s_wait4 I K c (w4 := 3) (by decide) (by decide) (sem11 (c + ⟨3, by decide⟩) (off10 c ⟨3, by decide⟩)) (slot8_eq scalM c (k0_off12_eq c))) $$ [HS]
  · isplitr; · iexact He
    iexact HS
  iintro HS
  iapply (wp_done c)
  iapply Hk $$ %_ HS

/-- Part 48 of the last grid point. -/
theorem part48 (v2 : BitVec 32) (k0_h7 : k0_cond7 i = 1#1) {Q : (Σ' (v1550 : BitVec 32) (c16_i32_916 : BitVec 32), BitVec 1) → sProp 𝕄} :
    iprop(Env I K ∗ S15 I c 16 4 16 16 16 8 8 16 16 4) ⊢ iprop((∀ r, S15 I c 16 6 16 16 16 8 8 16 16 6 -∗ Q r) -∗ WP c (k0_part48 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7) Q) := by
  rw [k0_part48_eq_skeleton]
  unfold k0_part48_skel
  simp only [Prog.lift, Prog.bind_op, Prog.bind_ret, Prog.pure_eq_ret]
  iintro ⟨#He, HS⟩ Hk
  iapply (s_wait0 I K c (w0 := 4) (by decide) (by decide) (by decide) (sem7 (c + ⟨4, by decide⟩) (off10 c ⟨4, by decide⟩)) (slot_eq sendM (c + ⟨4, by decide⟩) (off16 c ⟨4, by decide⟩))) $$ [HS]
  · isplitr; · iexact He
    iexact HS
  iintro HS
  iapply (s_wait4 I K c (w4 := 4) (by decide) (by decide) (sem11 (c + ⟨4, by decide⟩) (off10 c ⟨4, by decide⟩)) (slot8_eq scalM c (k0_off12_eq c))) $$ [HS]
  · isplitr; · iexact He
    iexact HS
  iintro HS
  iapply (s_wait0 I K c (w0 := 5) (by decide) (by decide) (by decide) (sem7 (c + ⟨5, by decide⟩) (off10 c ⟨5, by decide⟩)) (slot_eq sendM (c + ⟨5, by decide⟩) (off16 c ⟨5, by decide⟩))) $$ [HS]
  · isplitr; · iexact He
    iexact HS
  iintro HS
  iapply (s_wait4 I K c (w4 := 5) (by decide) (by decide) (sem11 (c + ⟨5, by decide⟩) (off10 c ⟨5, by decide⟩)) (slot8_eq scalM c (k0_off12_eq c))) $$ [HS]
  · isplitr; · iexact He
    iexact HS
  iintro HS
  iapply (wp_done c)
  iapply Hk $$ %_ HS

/-- Part 49 of the last grid point. -/
theorem part49 (v2 : BitVec 32) (k0_h7 : k0_cond7 i = 1#1) (v1550 : BitVec 32) (c16_i32_916 : BitVec 32) (v1551 : BitVec 1) {Q : (PUnit) → sProp 𝕄} :
    iprop(Env I K ∗ S15 I c 16 6 16 16 16 8 8 16 16 6) ⊢ iprop((∀ r, S15 I c 16 7 16 16 16 8 8 16 16 7 -∗ Q r) -∗ WP c (k0_part49 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v1550 c16_i32_916 v1551) Q) := by
  rw [k0_part49_eq_skeleton]
  unfold k0_part49_skel
  simp only [Prog.lift, Prog.bind_op, Prog.bind_ret, Prog.pure_eq_ret]
  iintro ⟨#He, HS⟩ Hk
  iapply (s_wait0 I K c (w0 := 6) (by decide) (by decide) (by decide) (sem7 (c + ⟨6, by decide⟩) (off10 c ⟨6, by decide⟩)) (slot_eq sendM (c + ⟨6, by decide⟩) (off16 c ⟨6, by decide⟩))) $$ [HS]
  · isplitr; · iexact He
    iexact HS
  iintro HS
  iapply (s_wait4 I K c (w4 := 6) (by decide) (by decide) (sem11 (c + ⟨6, by decide⟩) (off10 c ⟨6, by decide⟩)) (slot8_eq scalM c (k0_off12_eq c))) $$ [HS]
  · isplitr; · iexact He
    iexact HS
  iintro HS
  iapply (wp_done c)
  iapply Hk $$ %_ HS

/-- Part 50 of the last grid point. -/
theorem part50 (v2 : BitVec 32) (k0_h7 : k0_cond7 i = 1#1) {Q : (PUnit) → sProp 𝕄} :
    iprop(Env I K ∗ S15 I c 16 7 16 16 16 8 8 16 16 7) ⊢ iprop((∀ r, S15 I c 16 8 16 16 16 9 8 16 16 8 -∗ Q r) -∗ WP c (k0_part50 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7) Q) := by
  rw [k0_part50_eq_skeleton]
  unfold k0_part50_skel
  simp only [Prog.lift, Prog.bind_op, Prog.bind_ret, Prog.pure_eq_ret]
  iintro ⟨#He, HS⟩ Hk
  iapply (s_wait0 I K c (w0 := 7) (by decide) (by decide) (by decide) (sem7 (c + ⟨7, by decide⟩) (off10 c ⟨7, by decide⟩)) (slot_eq sendM (c + ⟨7, by decide⟩) (off16 c ⟨7, by decide⟩))) $$ [HS]
  · isplitr; · iexact He
    iexact HS
  iintro HS
  iapply (s_wait4 I K c (w4 := 7) (by decide) (by decide) (sem11 (c + ⟨7, by decide⟩) (off10 c ⟨7, by decide⟩)) (slot8_eq scalM c (k0_off12_eq c))) $$ [HS]
  · isplitr; · iexact He
    iexact HS
  iintro HS
  iapply (s_wait2 I K c (w2 := 8) (by decide) (by decide) (sem9 (c + ⟨8, by decide⟩) (off10 c ⟨8, by decide⟩)) (slot_eq f8sM (c + ⟨8, by decide⟩) (off16 c ⟨8, by decide⟩))) $$ [HS]
  · isplitr; · iexact He
    iexact HS
  iintro HS
  iapply (wp_done c)
  iapply Hk $$ %_ HS

/-- Part 51 of the last grid point. -/
theorem part51 (v2 : BitVec 32) (k0_h7 : k0_cond7 i = 1#1) {Q : (Σ' (v1645 : BitVec 32) (v1650 : BitVec 1), BitVec 32) → sProp 𝕄} :
    iprop(Env I K ∗ S15 I c 16 8 16 16 16 9 8 16 16 8) ⊢ iprop((∀ r, S15 I c 16 10 16 16 16 10 8 16 16 8 -∗ Q r) -∗ WP c (k0_part51 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7) Q) := by
  rw [k0_part51_eq_skeleton]
  unfold k0_part51_skel
  simp only [Prog.lift, Prog.bind_op, Prog.bind_ret, Prog.pure_eq_ret]
  iintro ⟨#He, HS⟩ Hk
  iapply (s_wait4 I K c (w4 := 8) (by decide) (by decide) (sem11 (c + ⟨8, by decide⟩) (off10 c ⟨8, by decide⟩)) (slot8_eq scalM c (k0_off12_eq c))) $$ [HS]
  · isplitr; · iexact He
    iexact HS
  iintro HS
  iapply (s_wait2 I K c (w2 := 9) (by decide) (by decide) (sem9 (c + ⟨9, by decide⟩) (off10 c ⟨9, by decide⟩)) (slot_eq f8sM (c + ⟨9, by decide⟩) (off16 c ⟨9, by decide⟩))) $$ [HS]
  · isplitr; · iexact He
    iexact HS
  iintro HS
  iapply (s_wait4 I K c (w4 := 9) (by decide) (by decide) (sem11 (c + ⟨9, by decide⟩) (off10 c ⟨9, by decide⟩)) (slot8_eq scalM c (k0_off12_eq c))) $$ [HS]
  · isplitr; · iexact He
    iexact HS
  iintro HS
  iapply (wp_done c)
  iapply Hk $$ %_ HS

/-- Part 52 of the last grid point. -/
theorem part52 (v2 : BitVec 32) (k0_h7 : k0_cond7 i = 1#1) (v1645 : BitVec 32) (v1650 : BitVec 1) (v1651 : BitVec 32) {Q : (PUnit) → sProp 𝕄} :
    iprop(Env I K ∗ S15 I c 16 10 16 16 16 10 8 16 16 8) ⊢ iprop((∀ r, S15 I c 16 11 16 16 16 12 8 16 16 8 -∗ Q r) -∗ WP c (k0_part52 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v1645 v1650 v1651) Q) := by
  rw [k0_part52_eq_skeleton]
  unfold k0_part52_skel
  simp only [Prog.lift, Prog.bind_op, Prog.bind_ret, Prog.pure_eq_ret]
  iintro ⟨#He, HS⟩ Hk
  iapply (s_wait2 I K c (w2 := 10) (by decide) (by decide) (sem9 (c + ⟨10, by decide⟩) (off10 c ⟨10, by decide⟩)) (slot_eq f8sM (c + ⟨10, by decide⟩) (off16 c ⟨10, by decide⟩))) $$ [HS]
  · isplitr; · iexact He
    iexact HS
  iintro HS
  iapply (s_wait4 I K c (w4 := 10) (by decide) (by decide) (sem11 (c + ⟨10, by decide⟩) (off10 c ⟨10, by decide⟩)) (slot8_eq scalM c (k0_off12_eq c))) $$ [HS]
  · isplitr; · iexact He
    iexact HS
  iintro HS
  iapply (s_wait2 I K c (w2 := 11) (by decide) (by decide) (sem9 (c + ⟨11, by decide⟩) (off10 c ⟨11, by decide⟩)) (slot_eq f8sM (c + ⟨11, by decide⟩) (off16 c ⟨11, by decide⟩))) $$ [HS]
  · isplitr; · iexact He
    iexact HS
  iintro HS
  iapply (wp_done c)
  iapply Hk $$ %_ HS

/-- Part 53 of the last grid point. -/
theorem part53 (v2 : BitVec 32) (k0_h7 : k0_cond7 i = 1#1) {Q : (Σ' (v1713 : BitVec 32) (v1714 : BitVec 32) (v1715 : BitVec 1), BitVec 32) → sProp 𝕄} :
    iprop(Env I K ∗ S15 I c 16 11 16 16 16 12 8 16 16 8) ⊢ iprop((∀ r, S15 I c 16 13 16 16 16 13 8 16 16 8 -∗ Q r) -∗ WP c (k0_part53 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7) Q) := by
  rw [k0_part53_eq_skeleton]
  unfold k0_part53_skel
  simp only [Prog.lift, Prog.bind_op, Prog.bind_ret, Prog.pure_eq_ret]
  iintro ⟨#He, HS⟩ Hk
  iapply (s_wait4 I K c (w4 := 11) (by decide) (by decide) (sem11 (c + ⟨11, by decide⟩) (off10 c ⟨11, by decide⟩)) (slot8_eq scalM c (k0_off12_eq c))) $$ [HS]
  · isplitr; · iexact He
    iexact HS
  iintro HS
  iapply (s_wait2 I K c (w2 := 12) (by decide) (by decide) (sem9 (c + ⟨12, by decide⟩) (off10 c ⟨12, by decide⟩)) (slot_eq f8sM (c + ⟨12, by decide⟩) (off16 c ⟨12, by decide⟩))) $$ [HS]
  · isplitr; · iexact He
    iexact HS
  iintro HS
  iapply (s_wait4 I K c (w4 := 12) (by decide) (by decide) (sem11 (c + ⟨12, by decide⟩) (off10 c ⟨12, by decide⟩)) (slot8_eq scalM c (k0_off12_eq c))) $$ [HS]
  · isplitr; · iexact He
    iexact HS
  iintro HS
  iapply (wp_done c)
  iapply Hk $$ %_ HS

/-- Part 54 of the last grid point. -/
theorem part54 (v2 : BitVec 32) (k0_h7 : k0_cond7 i = 1#1) (v1713 : BitVec 32) (v1714 : BitVec 32) (v1715 : BitVec 1) (c0_i32_1039 : BitVec 32) {Q : (PUnit) → sProp 𝕄} :
    iprop(Env I K ∗ S15 I c 16 13 16 16 16 13 8 16 16 8) ⊢ iprop((∀ r, S15 I c 16 14 16 16 16 14 8 16 16 8 -∗ Q r) -∗ WP c (k0_part54 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 k0_h7 v1713 v1714 v1715 c0_i32_1039) Q) := by
  rw [k0_part54_eq_skeleton]
  unfold k0_part54_skel
  simp only [Prog.lift, Prog.bind_op, Prog.bind_ret, Prog.pure_eq_ret]
  iintro ⟨#He, HS⟩ Hk
  iapply (s_wait2 I K c (w2 := 13) (by decide) (by decide) (sem9 (c + ⟨13, by decide⟩) (off10 c ⟨13, by decide⟩)) (slot_eq f8sM (c + ⟨13, by decide⟩) (off16 c ⟨13, by decide⟩))) $$ [HS]
  · isplitr; · iexact He
    iexact HS
  iintro HS
  iapply (s_wait4 I K c (w4 := 13) (by decide) (by decide) (sem11 (c + ⟨13, by decide⟩) (off10 c ⟨13, by decide⟩)) (slot8_eq scalM c (k0_off12_eq c))) $$ [HS]
  · isplitr; · iexact He
    iexact HS
  iintro HS
  iapply (wp_done c)
  iapply Hk $$ %_ HS

end Cert.KernelIdeal.Ring

end
-- ==== Proof.Chain.lean ====
module
public import proofs.«01_k».proof.Proof.First
public import proofs.«01_k».proof.Proof.Parts1
public import proofs.«01_k».proof.Proof.Parts2
public import proofs.«01_k».proof.Proof.Parts3
public import proofs.«01_k».proof.Proof.Parts4

/-! The last grid point: its parts one after the other. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD) (i : grid0.Coords) (h1 : (Memref.whole main_v9 : Memref sig .tc .smem S16 .i32).IsWhole)
  (a2 : Memref sig .tc .vmem S256x4096 .bf16) (h2 : a2.IsWhole) (a3 : Memref sig .tc .vmem S4096x512 .bf16) (h3 : a3.IsWhole)
  (h4 : outM.IsWhole) (h5 : xbM.IsWhole) (h6 : asmM.IsWhole) (h7 : f8M.IsWhole) (h8 : sendM.IsWhole) (h9 : f8sM.IsWhole) (h10 : scalM.IsWhole) (h11 : amaxM.IsWhole)

/-- A program followed by another. -/
theorem wp_seq {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP; rw [wp_bind]

set_option maxHeartbeats 4000000 in
/-- Parts 7 to 54 and the wait after them. -/
theorem part55 (v2 : BitVec 32) (v15 : FVec F S256x512 .bf16) (hv7 : k0_pay1 v15 = BB I c c) (k0_h7 : k0_cond7 i = 1#1) {Q : PUnit → sProp 𝕄} :
    iprop(Env I K ∗ S7 I c) ⊢ iprop((∀ r, R7 I c -∗ S15 I c 16 14 16 16 16 15 8 16 16 8 -∗ Q r) -∗ WP c (k0_part55 (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12 c v2 v15 k0_h7) Q) := by
  rw [k0_part55_eq_skeleton]
  unfold k0_part55_skel
  iintro ⟨#He, HS⟩ Hk
  iapply (wp_seq c)
  iapply (part7 I K c i h1 a2 h2 a3 h3 h4 h5 h6 h7 h8 h9 h10 h11 v2 v15 hv7 k0_h7) $$ [HS]
  · isplitr; · iexact He
    iexact HS
  iintro %r HR7 HS
  obtain ⟨v70, v71⟩ := r
  dsimp only
  iapply (wp_seq c)
  iapply (part8 I K c i h1 a2 h2 a3 h3 h4 h5 h6 h7 h8 h9 h10 h11 v2 _ _ _) $$ [HS]
  · isplitr; · iexact He
    iexact HS
  iintro %r HS
  iapply (wp_seq c)
  iapply (part9 I K c i h1 a2 h2 a3 h3 h4 h5 h6 h7 h8 h9 h10 h11 v2 _) $$ [HS]
  · isplitr; · iexact He
    iexact HS
  iintro %r HS
  iapply (wp_seq c)
  iapply (part10 I K c i h1 a2 h2 a3 h3 h4 h5 h6 h7 h8 h9 h10 h11 v2 _) $$ [HS]
  · isplitr; · iexact He
    iexact HS
  iintro %r HS
  obtain ⟨v175, v176, v177, v178, c0_i32_99⟩ := r
  dsimp only
  iapply (wp_seq c)
  iapply (part11 I K c i h1 a2 h2 a3 h3 h4 h5 h6 h7 h8 h9 h10 h11 v2 _ _ _ _ _ _) $$ [HS]
  · isplitr; · iexact He
    iexact HS
  iintro %r HS
  obtain ⟨v215, c16_i32_118⟩ := r
  dsimp only
  iapply (wp_seq c)
  iapply (part12 I K c i h1 a2 h2 a3 h3 h4 h5 h6 h7 h8 h9 h10 h11 v2 _ _ _) $$ [HS]
  · isplitr; · iexact He
    iexact HS
  iintro %r HS
  iapply (wp_seq c)
  iapply (part13 I K c i h1 a2 h2 a3 h3 h4 h5 h6 h7 h8 h9 h10 h11 v2 _) $$ [HS]
  · isplitr; · iexact He
    iexact HS
  iintro %r HS
  iapply (wp_seq c)
  iapply (part14 I K c i h1 a2 h2 a3 h3 h4 h5 h6 h7 h8 h9 h10 h11 v2 _ _) $$ [HS]
  · isplitr; · iexact He
    iexact HS
  iintro %r HS
  obtain ⟨v322, v323⟩ := r
  dsimp only
  iapply (wp_seq c)
  iapply (part15 I K c i h1 a2 h2 a3 h3 h4 h5 h6 h7 h8 h9 h10 h11 v2 _ _ _) $$ [HS]
  · isplitr; · iexact He
    iexact HS
  iintro %r HS
  iapply (wp_seq c)
  iapply (part16 I K c i h1 a2 h2 a3 h3 h4 h5 h6 h7 h8 h9 h10 h11 v2 _) $$ [HS]
  · isplitr; · iexact He
    iexact HS
  iintro %r HS
  iapply (wp_seq c)
  iapply (part17 I K c i h1 a2 h2 a3 h3 h4 h5 h6 h7 h8 h9 h10 h11 v2 _) $$ [HS]
  · isplitr; · iexact He
    iexact HS
  iintro %r HS
  obtain ⟨v429, c1_i32_249⟩ := r
  dsimp only
  iapply (wp_seq c)
  iapply (part18 I K c i h1 a2 h2 a3 h3 h4 h5 h6 h7 h8 h9 h10 h11 v2 _ _ _) $$ [HS]
  · isplitr; · iexact He
    iexact HS
  iintro %r HS
  obtain ⟨v459, v460, v461, v462, c0_i32_274⟩ := r
  dsimp only
  iapply (wp_seq c)
  iapply (part19 I K c i h1 a2 h2 a3 h3 h4 h5 h6 h7 h8 h9 h10 h11 v2 _ _ _ _ _ _) $$ [HS]
  · isplitr; · iexact He
    iexact HS
  iintro %r HS
  obtain ⟨v495, v497⟩ := r
  dsimp only
  iapply (wp_seq c)
  iapply (part20 I K c i h1 a2 h2 a3 h3 h4 h5 h6 h7 h8 h9 h10 h11 v2 _ _ _) $$ [HS]
  · isplitr; · iexact He
    iexact HS
  iintro %r HS
  iapply (wp_seq c)
  iapply (part21 I K c i h1 a2 h2 a3 h3 h4 h5 h6 h7 h8 h9 h10 h11 v2 _ _) $$ [HS]
  · isplitr; · iexact He
    iexact HS
  iintro %r HS
  iapply (wp_seq c)
  iapply (part22 I K c i h1 a2 h2 a3 h3 h4 h5 h6 h7 h8 h9 h10 h11 v2 _) $$ [HS]
  · isplitr; · iexact He
    iexact HS
  iintro %r HS
  iapply (wp_seq c)
  iapply (part23 I K c i h1 a2 h2 a3 h3 h4 h5 h6 h7 h8 h9 h10 h11 v2 _) $$ [HS]
  · isplitr; · iexact He
    iexact HS
  iintro %r HS
  obtain ⟨v630, v631, v636⟩ := r
  dsimp only
  iapply (wp_seq c)
  iapply (part24 I K c i h1 a2 h2 a3 h3 h4 h5 h6 h7 h8 h9 h10 h11 v2 _ _ _ _) $$ [HS]
  · isplitr; · iexact He
    iexact HS
  iintro %r %hr HS
  obtain ⟨v652, v653, v664, cst_414, v672⟩ := r
  obtain ⟨e1, e2, hv25⟩ := hr
  dsimp only at e1 e2 hv25 ⊢
  subst e1 e2
  iapply (wp_seq c)
  iapply (part25 I K c i h1 a2 h2 a3 h3 h4 h5 h6 h7 h8 h9 h10 h11 v2 _ _ _ _ hv25) $$ [HS]
  · isplitr; · iexact He
    iexact HS
  iintro %r %hr HS
  obtain ⟨v700, v711⟩ := r
  have hv26 := hr
  clear hr
  dsimp only at hv26 ⊢
  iapply (wp_seq c)
  iapply (part26 I K c i h1 a2 h2 a3 h3 h4 h5 h6 h7 h8 h9 h10 h11 v2 _ _ _ hv26) $$ [HS]
  · isplitr; · iexact He
    iexact HS
  iintro %r %hr HS
  obtain ⟨v736, v747⟩ := r
  have hv27 := hr
  clear hr
  dsimp only at hv27 ⊢
  iapply (wp_seq c)
  iapply (part27 I K c i h1 a2 h2 a3 h3 h4 h5 h6 h7 h8 h9 h10 h11 v2 _ _ _ hv27) $$ [HS]
  · isplitr; · iexact He
    iexact HS
  iintro %r %hr HS
  obtain ⟨v772, v787⟩ := r
  have hv28 := hr
  clear hr
  dsimp only at hv28 ⊢
  iapply (wp_seq c)
  iapply (part28 I K c i h1 a2 h2 a3 h3 h4 h5 h6 h7 h8 h9 h10 h11 v2 _ _ _ hv28) $$ [HS]
  · isplitr; · iexact He
    iexact HS
  iintro %r HS
  iapply (wp_seq c)
  iapply (part29 I K c i h1 a2 h2 a3 h3 h4 h5 h6 h7 h8 h9 h10 h11 v2 _ _) $$ [HS]
  · isplitr; · iexact He
    iexact HS
  iintro %r HS
  iapply (wp_seq c)
  iapply (part30 I K c i h1 a2 h2 a3 h3 h4 h5 h6 h7 h8 h9 h10 h11 v2 _) $$ [HS]
  · isplitr; · iexact He
    iexact HS
  iintro %r HS
  iapply (wp_seq c)
  iapply (part31 I K c i h1 a2 h2 a3 h3 h4 h5 h6 h7 h8 h9 h10 h11 v2 _) $$ [HS]
  · isplitr; · iexact He
    iexact HS
  iintro %r HS
  iapply (wp_seq c)
  iapply (part32 I K c i h1 a2 h2 a3 h3 h4 h5 h6 h7 h8 h9 h10 h11 v2 _) $$ [HS]
  · isplitr; · iexact He
    iexact HS
  iintro %r HS
  iapply (wp_seq c)
  iapply (part33 I K c i h1 a2 h2 a3 h3 h4 h5 h6 h7 h8 h9 h10 h11 v2 _ _) $$ [HS]
  · isplitr; · iexact He
    iexact HS
  iintro %r HS
  iapply (wp_seq c)
  iapply (part34 I K c i h1 a2 h2 a3 h3 h4 h5 h6 h7 h8 h9 h10 h11 v2 _ _) $$ [HS]
  · isplitr; · iexact He
    iexact HS
  iintro %r HS
  iapply (wp_seq c)
  iapply (part35 I K c i h1 a2 h2 a3 h3 h4 h5 h6 h7 h8 h9 h10 h11 v2 _ _) $$ [HS]
  · isplitr; · iexact He
    iexact HS
  iintro %r %hr HS
  obtain ⟨v1077, v1089⟩ := r
  have hv36 := hr
  clear hr
  dsimp only at hv36 ⊢
  iapply (wp_seq c)
  iapply (part36 I K c i h1 a2 h2 a3 h3 h4 h5 h6 h7 h8 h9 h10 h11 v2 _ _ _ hv36) $$ [HS]
  · isplitr; · iexact He
    iexact HS
  iintro %r %hr HS
  obtain ⟨v1113, v1127, cst_652⟩ := r
  have hv37 := hr
  clear hr
  dsimp only at hv37 ⊢
  iapply (wp_seq c)
  iapply (part37 I K c i h1 a2 h2 a3 h3 h4 h5 h6 h7 h8 h9 h10 h11 v2 _ _ _ _ hv37) $$ [HS]
  · isplitr; · iexact He
    iexact HS
  iintro %r %hr HS
  obtain ⟨v1149, cst_672, v1165⟩ := r
  have hv38 := hr
  clear hr
  dsimp only at hv38 ⊢
  iapply (wp_seq c)
  iapply (part38 I K c i h1 a2 h2 a3 h3 h4 h5 h6 h7 h8 h9 h10 h11 v2 _ _ _ _ hv38) $$ [HS]
  · isplitr; · iexact He
    iexact HS
  iintro %r %hr HS
  obtain ⟨v1185, v1204⟩ := r
  have hv39 := hr
  clear hr
  dsimp only at hv39 ⊢
  iapply (wp_seq c)
  iapply (part39 I K c i h1 a2 h2 a3 h3 h4 h5 h6 h7 h8 h9 h10 h11 v2 _ _ _ hv39) $$ [HS]
  · isplitr; · iexact He
    iexact HS
  iintro %r HS
  obtain ⟨v1239, c16_i32_712, c0_i32_713⟩ := r
  dsimp only
  iapply (wp_seq c)
  iapply (part40 I K c i h1 a2 h2 a3 h3 h4 h5 h6 h7 h8 h9 h10 h11 v2 _ _ _ _) $$ [HS]
  · isplitr; · iexact He
    iexact HS
  iintro %r HS
  obtain ⟨v1270, v1275, v1276⟩ := r
  dsimp only
  iapply (wp_seq c)
  iapply (part41 I K c i h1 a2 h2 a3 h3 h4 h5 h6 h7 h8 h9 h10 h11 v2 _ _ _ _) $$ [HS]
  · isplitr; · iexact He
    iexact HS
  iintro %r HS
  iapply (wp_seq c)
  iapply (part42 I K c i h1 a2 h2 a3 h3 h4 h5 h6 h7 h8 h9 h10 h11 v2 _ _) $$ [HS]
  · isplitr; · iexact He
    iexact HS
  iintro %r %hr HS
  obtain ⟨v1347, v1348⟩ := r
  have hv43 := hr
  clear hr
  dsimp only at hv43 ⊢
  iapply (wp_seq c)
  iapply (part43 I K c i h1 a2 h2 a3 h3 h4 h5 h6 h7 h8 h9 h10 h11 v2 _ _ _ hv43) $$ [HS]
  · isplitr; · iexact He
    iexact HS
  iintro %r HS
  obtain ⟨v1381, v1382, c0_i32_800⟩ := r
  dsimp only
  iapply (wp_seq c)
  iapply (part44 I K c i h1 a2 h2 a3 h3 h4 h5 h6 h7 h8 h9 h10 h11 v2 _ _ _ _) $$ [HS]
  · isplitr; · iexact He
    iexact HS
  iintro %r HS
  iapply (wp_seq c)
  iapply (part45 I K c i h1 a2 h2 a3 h3 h4 h5 h6 h7 h8 h9 h10 h11 v2 _ _) $$ [HS]
  · isplitr; · iexact He
    iexact HS
  iintro %r HS
  iapply (wp_seq c)
  iapply (part46 I K c i h1 a2 h2 a3 h3 h4 h5 h6 h7 h8 h9 h10 h11 v2 _) $$ [HS]
  · isplitr; · iexact He
    iexact HS
  iintro %r HS
  obtain ⟨v1483, v1484, v1485, c0_i32_869⟩ := r
  dsimp only
  iapply (wp_seq c)
  iapply (part47 I K c i h1 a2 h2 a3 h3 h4 h5 h6 h7 h8 h9 h10 h11 v2 _ _ _ _ _) $$ [HS]
  · isplitr; · iexact He
    iexact HS
  iintro %r HS
  iapply (wp_seq c)
  iapply (part48 I K c i h1 a2 h2 a3 h3 h4 h5 h6 h7 h8 h9 h10 h11 v2 _) $$ [HS]
  · isplitr; · iexact He
    iexact HS
  iintro %r HS
  obtain ⟨v1550, c16_i32_916, v1551⟩ := r
  dsimp only
  iapply (wp_seq c)
  iapply (part49 I K c i h1 a2 h2 a3 h3 h4 h5 h6 h7 h8 h9 h10 h11 v2 _ _ _ _) $$ [HS]
  · isplitr; · iexact He
    iexact HS
  iintro %r HS
  iapply (wp_seq c)
  iapply (part50 I K c i h1 a2 h2 a3 h3 h4 h5 h6 h7 h8 h9 h10 h11 v2 _) $$ [HS]
  · isplitr; · iexact He
    iexact HS
  iintro %r HS
  iapply (wp_seq c)
  iapply (part51 I K c i h1 a2 h2 a3 h3 h4 h5 h6 h7 h8 h9 h10 h11 v2 _) $$ [HS]
  · isplitr; · iexact He
    iexact HS
  iintro %r HS
  obtain ⟨v1645, v1650, v1651⟩ := r
  dsimp only
  iapply (wp_seq c)
  iapply (part52 I K c i h1 a2 h2 a3 h3 h4 h5 h6 h7 h8 h9 h10 h11 v2 _ _ _ _) $$ [HS]
  · isplitr; · iexact He
    iexact HS
  iintro %r HS
  iapply (wp_seq c)
  iapply (part53 I K c i h1 a2 h2 a3 h3 h4 h5 h6 h7 h8 h9 h10 h11 v2 _) $$ [HS]
  · isplitr; · iexact He
    iexact HS
  iintro %r HS
  obtain ⟨v1713, v1714, v1715, c0_i32_1039⟩ := r
  dsimp only
  iapply (wp_seq c)
  iapply (part54 I K c i h1 a2 h2 a3 h3 h4 h5 h6 h7 h8 h9 h10 h11 v2 _ _ _ _ _) $$ [HS]
  · isplitr; · iexact He
    iexact HS
  iintro %r HS
  simp only [Prog.lift, Prog.bind_op, Prog.bind_ret, Prog.pure_eq_ret]
  iapply (s_wait2 I K c (w2 := 14) (by decide) (by decide) (sem9 (c + ⟨14, by decide⟩) (off10 c ⟨14, by decide⟩)) (slot_eq f8sM (c + ⟨14, by decide⟩) (off16 c ⟨14, by decide⟩))) $$ [HS]
  · isplitr; · iexact He
    iexact HS
  iintro HS
  iapply (wp_done c)
  iapply Hk $$ %_ HR7 HS

end Cert.KernelIdeal.Ring

end
-- ==== Proof.Points.lean ====
module
public import proofs.«01_k».proof.Proof.Mid
public import proofs.«01_k».proof.Proof.Chain

/-! The body at each grid point: the first, one of the next six, one of the eight after, and the last. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD) (i : grid0.Coords) (h1 : (Memref.whole main_v9 : Memref sig .tc .smem S16 .i32).IsWhole)
  (a2 : Memref sig .tc .vmem S256x4096 .bf16) (h2 : a2.IsWhole) (a3 : Memref sig .tc .vmem S4096x512 .bf16) (h3 : a3.IsWhole)
  (h4 : outM.IsWhole) (h5 : xbM.IsWhole) (h6 : asmM.IsWhole) (h7 : f8M.IsWhole) (h8 : sendM.IsWhole) (h9 : f8sM.IsWhole) (h10 : scalM.IsWhole) (h11 : amaxM.IsWhole)

/-! ## Buffers the body reads and writes whole -/

abbrev rectX : Rect S256x4096 := Rect.unit (s := S256x4096) ![0, 0] S256x4096.size inb_S256x4096_S256x4096_0_0
abbrev rectW : Rect S4096x512 := Rect.unit (s := S4096x512) ![0, 0] S4096x512.size inb_S4096x512_S4096x512_0_0

theorem embX (x : S256x4096.Idx) : rectX.emb x = x := by
  funext a; apply Fin.ext; fin_cases a <;> show 0 + 1 * _ = _ <;> omega
theorem embW (x : S4096x512.Idx) : rectW.emb x = x := by
  funext a; apply Fin.ext; fin_cases a <;> show 0 + 1 * _ = _ <;> omega

/-- A staging buffer that reads `X`. -/
def hasX (m : Memref sig .tc .vmem S256x4096 .bf16) (X : Vec F S256x4096 .bf16) : sProp 𝕄 :=
  iprop(∃ f, ⌜m.view.read (Elt F) f = X⌝ ∗ (m.view.loc (c : Thread nD τ) ↦[m.view.set]{fullShare} f))
def hasW (m : Memref sig .tc .vmem S4096x512 .bf16) (X : Vec F S4096x512 .bf16) : sProp 𝕄 :=
  iprop(∃ f, ⌜m.view.read (Elt F) f = X⌝ ∗ (m.view.loc (c : Thread nD τ) ↦[m.view.set]{fullShare} f))

theorem load_hasX (X : Vec F S256x4096 .bf16) {hl : a2.view.LoadsAt rectX.toLoadRect} {α : Type}
    {k : (S256x4096.Idx → Elt F .bf16) → Prog (TpuEff nD τ sig (Elt F) Λ₀ .tc) α} {Q : α → sProp 𝕄} :
    hasX c a2 X ⊢ iprop((hasX c a2 X -∗ WP c (k X) Q) -∗ WP c (.op (.load a2 rectX.toLoadRect hl) k) Q) := by
  unfold hasX
  iintro ⟨%f, %hf, H⟩ Hk
  have e : (a2.access rectX).read (Elt F) f = X := by
    rw [← hf]; funext x; show a2.view.read (Elt F) f (rectX.emb x) = _; rw [embX]
  subst e
  iapply (wp_load_rect 𝒱₀ (c : Thread nD τ) none Set.univ (m := a2) (r := rectX) (View.set_slice_subset _ _)) $$ H
  iintro H
  iapply Hk
  iexists f
  isplitr; · ipureintro; exact hf
  iexact H
theorem load_hasW (X : Vec F S4096x512 .bf16) {hl : a3.view.LoadsAt rectW.toLoadRect} {α : Type}
    {k : (S4096x512.Idx → Elt F .bf16) → Prog (TpuEff nD τ sig (Elt F) Λ₀ .tc) α} {Q : α → sProp 𝕄} :
    hasW c a3 X ⊢ iprop((hasW c a3 X -∗ WP c (k X) Q) -∗ WP c (.op (.load a3 rectW.toLoadRect hl) k) Q) := by
  unfold hasW
  iintro ⟨%f, %hf, H⟩ Hk
  have e : (a3.access rectW).read (Elt F) f = X := by
    rw [← hf]; funext x; show a3.view.read (Elt F) f (rectW.emb x) = _; rw [embW]
  subst e
  iapply (wp_load_rect 𝒱₀ (c : Thread nD τ) none Set.univ (m := a3) (r := rectW) (View.set_slice_subset _ _)) $$ H
  iintro H
  iapply Hk
  iexists f
  isplitr; · ipureintro; exact hf
  iexact H

/-- The kept copy of the row block holds `f`. -/
def XX (f : Vec F S256x4096 .bf16) : sProp 𝕄 := ptsR xbM rectX c fullShare f
theorem read_xx (f : Vec F S256x4096 .bf16) : (xbM.access rectX).read (Elt F) f = f := by
  funext x; show f (rectX.emb x) = f x; rw [embX]
theorem load_xx (f : Vec F S256x4096 .bf16) {hl : xbM.view.LoadsAt rectX.toLoadRect} {α : Type}
    {k : (S256x4096.Idx → Elt F .bf16) → Prog (TpuEff nD τ sig (Elt F) Λ₀ .tc) α} {Q : α → sProp 𝕄} :
    XX c f ⊢ iprop((XX c f -∗ WP c (k f) Q) -∗ WP c (.op (.load xbM rectX.toLoadRect hl) k) Q) := by
  unfold XX
  exact load_at c xbM rectX (read_xx f)
theorem store_xx (f g : Vec F S256x4096 .bf16) {hx : (xbM.access rectX).Stores Finset.univ} {hm : Finset.univ = Finset.univ ∨ ∀ a, rectX.stride a = 1} {α : Type}
    {k : PUnit → Prog (TpuEff nD τ sig (Elt F) Λ₀ .tc) α} {Q : α → sProp 𝕄} :
    XX c f ⊢ iprop((XX c g -∗ WP c (k ⟨⟩) Q) -∗ WP c (.op (.store xbM rectX g Finset.univ hx hm) k) Q) := by
  unfold XX
  exact store_at c xbM rectX g (read_xx g)
/-- The running maximum at some value. -/
def AX0 : sProp 𝕄 := iprop(∃ f, ptsR (F := F) amaxM rectA c fullShare f)
theorem load_ax0 {hl : amaxM.view.LoadsAt rectA.toLoadRect} {α : Type}
    {k : (S1.Idx → Elt F .f32) → Prog (TpuEff nD τ sig (Elt F) Λ₀ .tc) α} {Q : α → sProp 𝕄} :
    AX0 (F := F) c ⊢ iprop((∀ v, AX0 (F := F) c -∗ WP c (k v) Q) -∗ WP c (.op (.load amaxM rectA.toLoadRect hl) k) Q) := by
  unfold AX0
  iintro ⟨%f, H⟩ Hk
  iapply (load_at c amaxM rectA (f := f) rfl) $$ H
  iintro H
  iapply Hk
  iexists f; iexact H
theorem store_ax0 (x : Elt F .f32) {hx : (amaxM.access rectA).Stores Finset.univ} {hm : Finset.univ = Finset.univ ∨ ∀ a, rectA.stride a = 1} {α : Type}
    {k : PUnit → Prog (TpuEff nD τ sig (Elt F) Λ₀ .tc) α} {Q : α → sProp 𝕄} :
    AX0 (F := F) c ⊢ iprop((AX c x -∗ WP c (k ⟨⟩) Q) -∗ WP c (.op (.store amaxM rectA (fun _ => x) Finset.univ hx hm) k) Q) := by
  unfold AX0 AX
  iintro ⟨%f, H⟩
  iapply (store_at c amaxM rectA (f := f) (fun _ => x) rfl) $$ H
theorem AX_forget (x : Elt F .f32) : AX c x ⊢ AX0 (F := F) c := by
  unfold AX0 AX; iintro H; iexists _; iexact H

/-- The index of word `j` of the table. -/
def ix1 (j : Fin 16) : S16.Idx := fun | 0 => j
/-- The table of peers: word `j` names the device `j + 1` steps ahead. -/
def isTbl (f : main_v9.ty.Contents (Elt F)) : Prop := ∀ j : Fin 16, f (ix1 j) = BitVec.ofNat 32 (c + Fin.ofNat 16 (j.val + 1)).val
/-- The table is held at contents `f`. -/
def TB (f : main_v9.ty.Contents (Elt F)) : sProp 𝕄 := ((c : Thread nD τ).loc main_v9) ↦{fullShare} f

/-- A load of a rectangle within what is held. -/
theorem load_in {sp : CoreSpace} {s : Shape} {e : EltTy} (m : Memref sig .tc sp s e) (r : Rect s) {hl : m.view.LoadsAt r.toLoadRect}
    {S : Finset (Idx ((m.access r).loc (c : Thread nD τ)))} (hS : (m.access r).set ⊆ S)
    {q : PosShare TreeShare} {f : Buf (Elt F) ((m.access r).loc (c : Thread nD τ))} {v : r.shape.Idx → Elt F e} (hv : (m.access r).read (Elt F) f = v) {α : Type}
    {k : (r.shape.Idx → Elt F e) → Prog (TpuEff nD τ sig (Elt F) Λ₀ .tc) α} {Q : α → sProp 𝕄} :
    ((m.access r).loc (c : Thread nD τ) ↦[S]{q} f) ⊢ iprop((((m.access r).loc (c : Thread nD τ) ↦[S]{q} f) -∗ WP c (k v) Q) -∗ WP c (.op (.load m r.toLoadRect hl) k) Q) := by
  subst hv
  exact wp_load_rect 𝒱₀ (c : Thread nD τ) none Set.univ hS
theorem load_tbl {f : main_v9.ty.Contents (Elt F)} (hT : isTbl c f) {s : Fin 16} (hs : s = Fin.ofNat 16 ((i 0).val + 1))
    {inb : ∀ a, (k0_off2 i) a + S1.size a ≤ S16.size a} {hl : (Memref.whole main_v9).view.LoadsAt (Rect.unit (s := S16) (k0_off2 i) S1.size inb).toLoadRect} {α : Type}
    {k : (S1.Idx → Elt F .i32) → Prog (TpuEff nD τ sig (Elt F) Λ₀ .tc) α} {Q : α → sProp 𝕄} :
    TB c f ⊢ iprop((TB c f -∗ WP c (k fun _ => BitVec.ofNat 32 (c + s).val) Q)
      -∗ WP c (.op (.load (Memref.whole main_v9) (Rect.unit (s := S16) (k0_off2 i) S1.size inb).toLoadRect hl) k) Q) := by
  unfold TB
  have e : ((Memref.whole main_v9).access (Rect.unit (s := S16) (k0_off2 i) S1.size inb)).read (Elt F) f = fun _ => BitVec.ofNat 32 (c + s).val := by
    funext x
    rw [hs, ← hT (i 0)]
    show f ((Rect.unit (s := S16) (k0_off2 i) S1.size inb).emb x) = _
    congr 1
    funext a
    apply Fin.ext
    match a with
    | 0 =>
      have h0 : k0_off2 i 0 = (i 0).val := by rw [k0_off2_eq]; rfl
      have hx : (x 0).val = 0 := by have := (x 0).isLt; change (x 0).val < 1 at this; omega
      show k0_off2 i 0 + 1 * (x 0).val = (i 0).val
      omega
  exact load_in c (Memref.whole main_v9) _ (Finset.subset_univ _) e

theorem wp_dev {α : Type} {k : Dev nD → Prog (TpuEff nD τ sig (Elt F) Λ₀ .tc) α} {Q : α → sProp 𝕄} : WP c (k c) Q ⊢ WP c (.op .deviceId k) Q :=
  BIBase.Entails.of_eq (wp_deviceId 𝒱₀ (c : Thread nD τ) none Set.univ).symm
theorem wp_asm {P : Prop} {d : Decidable P} (h : P) {α : Type} {k : PLift P → Prog (TpuEff nD τ sig (Elt F) Λ₀ .tc) α} {Q : α → sProp 𝕄} :
    WP c (k ⟨h⟩) Q ⊢ WP c (.op (.assume P d) k) Q := wp_assume 𝒱₀ (c : Thread nD τ) none Set.univ h

/-! ## Conditions -/

theorem condA : Scalar.cmpi .ne (Scalar.extui (Scalar.cmpi .eq (BitVec.ofNat 32 (i 0).val) 0#32) : BitVec 32) 0#32 = 1#1 ↔ (i 0).val = 0 := by
  revert i; decide +kernel
theorem condB : Scalar.cmpi .ne (Scalar.extui (Scalar.cmpi .ne (BitVec.ofNat 32 (i 0).val) 0#32) : BitVec 32) 0#32 = 1#1 ↔ (i 0).val ≠ 0 := by
  revert i; decide +kernel

theorem step_z (s : Fin 16) : k0_pay1 (k0_pay38 (I.W c s) (XB I c)) = BB I c s := rfl

/-- A point among the eight that compute a far block. -/
theorem point_far {f : main_v9.ty.Contents (Elt F)} (hT : isTbl c f) (u : ℕ) (hu : (i 0).val = u + 1) (h7' : 7 ≤ (i 0).val) (h15' : (i 0).val < 15)
    (s : Fin 16) (hs : s = Fin.ofNat 16 ((i 0).val + 1)) (hsv : s.val = (i 0).val + 1) {Q : PUnit → sProp 𝕄} :
    iprop(TB c f ∗ XX c (XB I c) ∗ AX c (AM I c u) ∗ MID I c 8 s.val ∗ hasW c a3 (I.W c (c + s)))
      ⊢ iprop((iprop(TB c f ∗ XX c (XB I c) ∗ AX c (AM I c (u + 1)) ∗ MID I c 8 (s.val + 1) ∗ hasW c a3 (I.W c (c + s))) -∗ Q ⟨⟩)
        -∗ WP c (cc0_body (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12) Q) := by
  have hc1 : ¬ k0_cond1 i = 1#1 := fun h => by have := (cond1 i).mp h; omega
  have hcA := (not_congr (condA i)).mpr (by omega : ¬ (i 0).val = 0)
  have hcB := (condB i).mpr (by omega : (i 0).val ≠ 0)
  have hc5 := (cond5 i).mpr h15'
  have hc6 : ¬ k0_cond6 i = 1#1 := fun h => by have := (cond6 i).mp h; omega
  have hc7 : ¬ k0_cond7 i = 1#1 := fun h => by have := (cond7 i).mp h; omega
  rw [cc0_body_eq_skeleton]
  unfold cc0_body_skel
  rw [k0_part56_eq_skeleton]
  unfold k0_part56_skel smemLoad smemLoadElt
  simp only [Prog.lift, Prog.bind_op, Prog.bind_ret, Prog.pure_eq_ret, dif_neg hc1, dif_neg hcA, dif_pos hcB, dif_pos hc5, dif_neg hc6, dif_neg hc7]
  iintro ⟨HT, HX, HA, HM, HW⟩ Hk
  iapply (wp_dev c)
  iapply (load_tbl c i hT hs) $$ HT
  iintro HT
  iapply (wp_asm c (chk1 i (c + s)))
  iapply (load_hasW c a3 _) $$ HW
  iintro HW
  iapply (load_xx c _) $$ HX
  iintro HX
  iapply (load_ax c _) $$ HA
  iintro HA
  iapply (load_ax c _) $$ HA
  iintro HA
  ihave HA := (AX_forget c _) $$ HA
  iapply (store_ax0 c _) $$ HA
  iintro HA
  iapply (mid_far I c s (by omega) (off3 (c + s)) (off3 (c + s)) rfl) $$ HM
  iintro HM
  iapply (wp_done c)
  iapply Hk
  isplitl [HT]; · iexact HT
  isplitl [HX]; · iexact HX
  isplitl [HA]
  · rw [show AM I c (u + 1) = k0_pay40 (I.W c (c + s)) (XB I c) (AM I c u) from by rw [hs, hu]; rfl]
    iexact HA
  isplitl [HM]; · iexact HM
  iexact HW
/-- A point among the six after the first, which compute a near block and send it. -/
theorem point_near {f : main_v9.ty.Contents (Elt F)} (hT : isTbl c f) (u : ℕ) (hu : (i 0).val = u + 1) (h7' : (i 0).val < 7)
    (s : Fin 16) (hs : s = Fin.ofNat 16 ((i 0).val + 1)) (hsv : s.val = (i 0).val + 1) {Q : PUnit → sProp 𝕄} :
    iprop(Env I K ∗ TB c f ∗ XX c (XB I c) ∗ AX c (AM I c u) ∗ Ow (F := F) c (owedFrom c s.val) ∗ MID I c s.val s.val ∗ hasW c a3 (I.W c (c + s)))
      ⊢ iprop((iprop(TB c f ∗ XX c (XB I c) ∗ AX c (AM I c (u + 1)) ∗ Ow (F := F) c (owedFrom c (s.val + 1)) ∗ MID I c (s.val + 1) (s.val + 1) ∗ hasW c a3 (I.W c (c + s))) -∗ Q ⟨⟩)
        -∗ WP c (cc0_body (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12) Q) := by
  have hc1 : ¬ k0_cond1 i = 1#1 := fun h => by have := (cond1 i).mp h; omega
  have hcA := (not_congr (condA i)).mpr (by omega : ¬ (i 0).val = 0)
  have hcB := (condB i).mpr (by omega : (i 0).val ≠ 0)
  have hc5 := (cond5 i).mpr (by omega)
  have hc6 := (cond6 i).mpr h7'
  have hc7 : ¬ k0_cond7 i = 1#1 := fun h => by have := (cond7 i).mp h; omega
  rw [cc0_body_eq_skeleton]
  unfold cc0_body_skel
  rw [k0_part56_eq_skeleton]
  unfold k0_part56_skel smemLoad smemLoadElt semSignalWord semWaitWord
  simp only [Prog.lift, Prog.bind_op, Prog.bind_ret, Prog.pure_eq_ret, dif_neg hc1, dif_neg hcA, dif_pos hcB, dif_pos hc5, dif_pos hc6, dif_neg hc7]
  iintro ⟨#He, HT, HX, HA, HO, HM, HW⟩ Hk
  iapply (wp_dev c)
  iapply (load_tbl c i hT hs) $$ HT
  iintro HT
  iapply (wp_asm c (chk1 i (c + s)))
  iapply (load_hasW c a3 _) $$ HW
  iintro HW
  iapply (load_xx c _) $$ HX
  iintro HX
  iapply (load_ax c _) $$ HA
  iintro HA
  iapply (load_ax c _) $$ HA
  iintro HA
  ihave HA := (AX_forget c _) $$ HA
  iapply (store_ax0 c _) $$ HA
  iintro HA
  iapply (mid_near I K c s (by omega) (by omega) (off3 (c + s)) (off3 (c + s)) rfl (sem7 (c + s) (off4 (c + s))) (sem8 c (k0_off5_eq c))
    (Fin.ext (dev16 (c + s))) (slot_eq sendM (c + s) (off7 (c + s))) (slot_eq asmM c (k0_off6_eq c))) $$ [HO HM]
  · isplitr; · iexact He
    isplitl [HO]; · iexact HO
    iexact HM
  iintro ⟨HO, HM⟩
  iapply (wp_done c)
  iapply Hk
  isplitl [HT]; · iexact HT
  isplitl [HX]; · iexact HX
  isplitl [HA]
  · rw [show AM I c (u + 1) = k0_pay40 (I.W c (c + s)) (XB I c) (AM I c u) from by rw [hs, hu]; rfl]
    iexact HA
  isplitl [HO]; · iexact HO
  isplitl [HM]; · iexact HM
  iexact HW

/-- The first point: the handshake, the copy of the row block, and the first near block. -/
theorem point_first {f : main_v9.ty.Contents (Elt F)} (hT : isTbl c f) (h0 : (i 0).val = 0)
    (s : Fin 16) (hs : s = Fin.ofNat 16 ((i 0).val + 1)) (hsv : s.val = 1) (x : Vec F S256x4096 .bf16) {Q : PUnit → sProp 𝕄} :
    iprop(Env I K ∗ TB c f ∗ XX c x ∗ AX0 (F := F) c ∗ SG (F := F) c 1 ∗ S0 (F := F) c ∗ seg (fun s => any (F := F) sendM c (c + s)) 1 16 ∗ hasX c a2 (I.X c) ∗ hasW c a3 (I.W c (c + s)))
      ⊢ iprop((iprop(TB c f ∗ XX c (XB I c) ∗ AX c (AM I c 0) ∗ Ow (F := F) c (owedFrom c (s.val + 1)) ∗ MID I c (s.val + 1) (s.val + 1) ∗ semVal (barCell c) 0 ∗ hasX c a2 (I.X c) ∗ hasW c a3 (I.W c (c + s))) -∗ Q ⟨⟩)
        -∗ WP c (cc0_body (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12) Q) := by
  have hc1 := (cond1 i).mpr h0
  have hcA := (condA i).mpr h0
  have hcB := (not_congr (condB i)).mpr (by omega : ¬ (i 0).val ≠ 0)
  have hc5 := (cond5 i).mpr (by omega)
  have hc6 := (cond6 i).mpr (by omega)
  have hc7 : ¬ k0_cond7 i = 1#1 := fun h => by have := (cond7 i).mp h; omega
  rw [cc0_body_eq_skeleton]
  unfold cc0_body_skel
  rw [k0_part56_eq_skeleton]
  unfold k0_part56_skel smemLoad smemLoadElt semSignalWord semWaitWord
  simp only [Prog.lift, Prog.bind_op, Prog.bind_ret, Prog.pure_eq_ret, Prog.bind_assoc, dif_pos hc1, dif_pos hcA, dif_neg hcB, dif_pos hc5, dif_pos hc6, dif_neg hc7]
  unfold S0
  iintro ⟨#He, HT, HX, HA, HG, ⟨Hc, Hat, G1, G2, G3⟩, HS, HX2, HW⟩ Hk
  iapply (wp_dev c)
  iapply (load_tbl c i hT hs) $$ HT
  iintro HT
  iapply (wp_asm c (chk1 i (c + s)))
  iapply (wp_seq c)
  iapply (part1 I K c i h1 a2 h2 a3 h3 h4 h5 h6 h7 h8 h9 h10 h11 _ _) $$ [HG]
  · isplitr; · iexact He
    iexact HG
  iintro %r %hv HG
  obtain ⟨v37, v66, v67, v68, w⟩ := r
  try dsimp only at hv ⊢
  iapply (wp_seq c)
  iapply (part2 I K c i h1 a2 h2 a3 h3 h4 h5 h6 h7 h8 h9 h10 h11 _ _ _ _ _ _ _ hv) $$ [HG]
  · isplitr; · iexact He
    iexact HG
  iintro %r HG
  iapply (wp_seq c)
  iapply (part3 I K c i h1 a2 h2 a3 h3 h4 h5 h6 h7 h8 h9 h10 h11 _ _ _ hv) $$ [HG]
  · isplitr; · iexact He
    iexact HG
  iintro %r HG
  obtain ⟨v131, v132, v133, w'⟩ := r
  try dsimp only
  iapply (wp_seq c)
  iapply (part4 I K c i h1 a2 h2 a3 h3 h4 h5 h6 h7 h8 h9 h10 h11 _ _ _ _ _ _ _ hv) $$ [HG]
  · isplitr; · iexact He
    iexact HG
  iintro %r HG
  iapply (wp_seq c)
  iapply (part5 I K c i h1 a2 h2 a3 h3 h4 h5 h6 h7 h8 h9 h10 h11 _ _ _ hv) $$ [HG]
  · isplitr; · iexact He
    iexact HG
  iintro %r HG
  obtain ⟨v196, v197, v198, w''⟩ := r
  try dsimp only
  iapply (wp_seq c)
  iapply (part6 I K c i h1 a2 h2 a3 h3 h4 h5 h6 h7 h8 h9 h10 h11 _ _ _ _ _ _ _ hv) $$ [HG]
  · isplitr; · iexact He
    iexact HG
  iintro %r HG
  iapply (s_sig I K c (a := 15) (by decide) (by decide) (Fin.ext (dev15 c)) rfl hv) $$ [HG]
  · isplitr; · iexact He
    iexact HG
  iintro HG
  unfold SG
  icases HG with ⟨HO, -⟩
  rw [dues_nil, zero_add, hv]
  unfold Env
  icases He with ⟨#Hr, #Hl⟩
  iapply (step_barwait I K c rfl (owedFrom c 1) (above_owedFrom c 1)) $$ [Hc HO Hat]
  · isplitr; · iexact Hr
    isplitr; · iexact Hl
    isplitl [Hc]; · iexact Hc
    isplitl [HO]; · iexact HO
    iexact Hat
  iintro ⟨HO, Hsv, HB⟩
  ihave HM := (to_MID I c) $$ [HB G1 G2 G3 HS]
  · isplitl [HB]; · iexact HB
    isplitl [G1]; · iexact G1
    isplitl [G2]; · iexact G2
    isplitl [G3]; · iexact G3
    iexact HS
  iapply (load_hasX c a2 _) $$ HX2
  iintro HX2
  iapply (load_xx c _) $$ HX
  iintro HX
  iapply (store_xx c _ _) $$ HX
  iintro HX
  iapply (load_hasW c a3 _) $$ HW
  iintro HW
  iapply (load_xx c _) $$ HX
  iintro HX
  iapply (load_ax0 c) $$ HA
  iintro %v HA
  iapply (store_ax0 c _) $$ HA
  iintro HA
  ihave HO := (BIBase.Entails.of_eq (show Ow (F := F) c (owedFrom c 1) = Ow c (owedFrom c s.val) by rw [hsv])) $$ HO
  ihave HM := (BIBase.Entails.of_eq (show MID I c 1 1 = MID I c s.val s.val by rw [hsv])) $$ HM
  iapply (mid_near I K c s (by omega) (by omega) (off3 (c + s)) (off3 (c + s)) rfl (sem7 (c + s) (off4 (c + s))) (sem8 c (k0_off5_eq c))
    (Fin.ext (dev16 (c + s))) (slot_eq sendM (c + s) (off7 (c + s))) (slot_eq asmM c (k0_off6_eq c))) $$ [HO HM]
  · isplitr
    · unfold Env; isplitr; · iexact Hr
      iexact Hl
    isplitl [HO]; · iexact HO
    iexact HM
  iintro ⟨HO, HM⟩
  iapply (wp_done c)
  iapply Hk
  isplitl [HT]; · iexact HT
  isplitl [HX]; · iexact HX
  isplitl [HA]
  · rw [show AM I c 0 = k0_pay39 (I.W c (c + s)) (XB I c) from by rw [hs, h0]; rfl]
    iexact HA
  isplitl [HO]; · iexact HO
  isplitl [HM]; · iexact HM
  isplitl [Hsv]; · iexact Hsv
  isplitl [HX2]; · iexact HX2
  iexact HW

/-- The last point: the device's own block, the maxima, the far blocks, and the result. -/
theorem point_last {f : main_v9.ty.Contents (Elt F)} (hT : isTbl c f) (h15' : (i 0).val = 15) {Q : PUnit → sProp 𝕄} :
    iprop(Env I K ∗ TB c f ∗ XX c (XB I c) ∗ AX c (AM I c 14) ∗ Ow (F := F) c (owedFrom c 8) ∗ MID I c 8 16 ∗ RCV (F := F) c ∗ CX I c 0 ∗ hasW c a3 (I.W c (c + ⟨0, by decide⟩)))
      ⊢ iprop((iprop(TB c f ∗ XX c (XB I c) ∗ R7 I c ∗ S15 I c 16 16 16 16 16 16 8 16 16 8 ∗ hasW c a3 (I.W c (c + ⟨0, by decide⟩))) -∗ Q ⟨⟩)
        -∗ WP c (cc0_body (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12) Q) := by
  have hc1 : ¬ k0_cond1 i = 1#1 := fun h => by have := (cond1 i).mp h; omega
  have hcA := (not_congr (condA i)).mpr (by omega : ¬ (i 0).val = 0)
  have hcB := (condB i).mpr (by omega : (i 0).val ≠ 0)
  have hc5 : ¬ k0_cond5 i = 1#1 := fun h => by have := (cond5 i).mp h; omega
  have hc6 : ¬ k0_cond6 i = 1#1 := fun h => by have := (cond6 i).mp h; omega
  have hc7 := (cond7 i).mpr h15'
  have hs : (⟨0, by decide⟩ : Fin 16) = Fin.ofNat 16 ((i 0).val + 1) := by rw [h15']; rfl
  rw [cc0_body_eq_skeleton]
  unfold cc0_body_skel
  rw [k0_part56_eq_skeleton]
  unfold k0_part56_skel smemLoad smemLoadElt semSignalWord semWaitWord
  simp only [Prog.lift, Prog.bind_op, Prog.bind_ret, Prog.pure_eq_ret, Prog.bind_assoc, dif_neg hc1, dif_neg hcA, dif_pos hcB, dif_neg hc5, dif_neg hc6, dif_pos hc7]
  iintro ⟨#He, HT, HX, HA, HO, HM, HR, HC, HW⟩ Hk
  iapply (wp_dev c)
  iapply (load_tbl c i hT hs) $$ HT
  iintro HT
  iapply (wp_asm c (chk1 i _))
  iapply (load_hasW c a3 _) $$ HW
  iintro HW
  iapply (load_xx c _) $$ HX
  iintro HX
  iapply (load_ax c _) $$ HA
  iintro HA
  iapply (load_ax c _) $$ HA
  iintro HA
  ihave HA := (AX_forget c _) $$ HA
  iapply (store_ax0 c _) $$ HA
  iintro HA
  iapply (wp_seq c)
  iapply (part55 I K c i h1 a2 h2 a3 h3 h4 h5 h6 h7 h8 h9 h10 h11 _ _ (by rw [step_z, add_z]) hc7) $$ [HA HO HM HR HC]
  · isplitr; · iexact He
    iapply (to_S7 I c)
    isplitl [HO]; · iexact HO
    isplitl [HM]; · iexact HM
    isplitl [HR]; · iexact HR
    isplitl [HC]; · iexact HC
    rw [show AM I c 15 = k0_pay40 (I.W c (c + ⟨0, by decide⟩)) (XB I c) (AM I c 14) from rfl]
    iexact HA
  iintro %r H7 HS
  iapply (s_wait4 I K c (w4 := 14) (by decide) (by decide) (sem11 (c + ⟨14, by decide⟩) (off10 c ⟨14, by decide⟩)) (slot8_eq scalM c (k0_off12_eq c))) $$ [HS]
  · isplitr; · iexact He
    iexact HS
  iintro HS
  iapply (s_wait2 I K c (w2 := 15) (by decide) (by decide) (sem9 (c + ⟨15, by decide⟩) (off10 c ⟨15, by decide⟩)) (slot_eq f8sM (c + ⟨15, by decide⟩) (off16 c ⟨15, by decide⟩))) $$ [HS]
  · isplitr; · iexact He
    iexact HS
  iintro HS
  iapply (s_wait4 I K c (w4 := 15) (by decide) (by decide) (sem11 (c + ⟨15, by decide⟩) (off10 c ⟨15, by decide⟩)) (slot8_eq scalM c (k0_off12_eq c))) $$ [HS]
  · isplitr; · iexact He
    iexact HS
  iintro HS
  iapply (wp_done c)
  iapply Hk
  isplitl [HT]; · iexact HT
  isplitl [HX]; · iexact HX
  isplitl [H7]; · iexact H7
  isplitl [HS]; · iexact HS
  iexact HW

end Cert.KernelIdeal.Ring

end
-- ==== Proof.Edge.lean ====
module
public import proofs.«01_k».proof.Proof.Points

/-! What a device starts the kernel with, and what it ends it with: its buffers and cells sorted by the
steps of the ring that use them. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD)

/-! ## Steps back as steps ahead -/

theorem flip_near_set : ∀ c : Fin 16, (rg 1 8).map (subE c).toEmbedding = (rg 9 16).map (addE c).toEmbedding := by decide +kernel
theorem flip_far_set : ∀ c : Fin 16, (rg 8 16).map (subE c).toEmbedding = (rg 1 9).map (addE c).toEmbedding := by decide +kernel
/-- One to seven steps back are nine to fifteen steps ahead. -/
theorem flip_near (Φ : Fin 16 → sProp 𝕄) : seg (fun s => Φ (c - s)) 1 8 = seg (fun s => Φ (c + s)) 9 16 := by
  have e1 : bigSep ((rg 1 8).map (subE c).toEmbedding) Φ = seg (fun s => Φ (c - s)) 1 8 := bigSep_map ..
  have e2 : bigSep ((rg 9 16).map (addE c).toEmbedding) Φ = seg (fun s => Φ (c + s)) 9 16 := bigSep_map ..
  rw [← e1, ← e2, flip_near_set c]
/-- Eight to fifteen steps back are one to eight steps ahead. -/
theorem flip_far (Φ : Fin 16 → sProp 𝕄) : seg (fun s => Φ (c - s)) 8 16 = seg (fun s => Φ (c + s)) 1 9 := by
  have e1 : bigSep ((rg 8 16).map (subE c).toEmbedding) Φ = seg (fun s => Φ (c - s)) 8 16 := bigSep_map ..
  have e2 : bigSep ((rg 1 9).map (addE c).toEmbedding) Φ = seg (fun s => Φ (c + s)) 1 9 := bigSep_map ..
  rw [← e1, ← e2, flip_far_set c]
/-- The device itself. -/
theorem seg_self (Φ : Fin 16 → sProp 𝕄) : seg (fun s => Φ (c + s)) 0 1 = Φ c := by
  rw [seg_pop _ (by decide : (0 : ℕ) < 1) (by decide), seg_nil, add_z c]
  exact BI.equiv_iff.mp sep_emp

theorem cut_two (Φ : Fin 16 → sProp 𝕄) : seg (fun s => Φ (c + s)) 0 16 = iprop(Φ c ∗ seg (fun s => Φ (c + s)) 1 16) := by
  rw [seg_join (fun s => Φ (c + s)) (by decide : 0 ≤ 1) (by decide : 1 ≤ 16), seg_self c]
theorem cut_three (Φ : Fin 16 → sProp 𝕄) : seg (fun s => Φ (c + s)) 0 16 = iprop(Φ c ∗ seg (fun s => Φ (c + s)) 1 9 ∗ seg (fun s => Φ (c + s)) 9 16) := by
  rw [cut_two, seg_join (fun s => Φ (c + s)) (by decide : 1 ≤ 9) (by decide : 9 ≤ 16)]

/-! ## The whole buffers -/

theorem rectX_set : (xbM.access rectX).set = Finset.univ := by
  rw [show (xbM.access rectX).set = rectX.set.map xbM.view.emb from View.set_slice ..]
  rw [show rectX.set = Finset.univ from by
    ext i; simp only [Finset.mem_univ, iff_true]
    refine Rect.mem_set_unit.mpr fun a => ?_
    have := (i a).isLt
    fin_cases a <;> exact ⟨Nat.zero_le _, by simpa using this⟩]
  exact View.set_whole _
theorem rectA_set : (amaxM.access rectA).set = Finset.univ := by
  rw [show (amaxM.access rectA).set = rectA.set.map amaxM.view.emb from View.set_slice ..]
  rw [show rectA.set = Finset.univ from by
    ext i; simp only [Finset.mem_univ, iff_true]
    refine Rect.mem_set_unit.mpr fun a => ?_
    have := (i a).isLt
    fin_cases a <;> exact ⟨Nat.zero_le _, by simpa using this⟩]
  exact View.set_whole _

theorem xx_eq (f : Vec F S256x4096 .bf16) : XX c f = (((c : Thread nD τ).loc cc0_scratch0) ↦{fullShare} f : sProp 𝕄) := by
  unfold XX; rw [show ptsR xbM rectX c fullShare f = ((xbM.access rectX).loc (c : Thread nD τ) ↦[Finset.univ]{fullShare} f : sProp 𝕄) from by rw [← rectX_set]]
theorem ptsA_eq (f : Buf (Elt F) ((c : Thread nD τ).loc cc0_scratch6)) : ptsR amaxM rectA c fullShare f = (((c : Thread nD τ).loc cc0_scratch6) ↦{fullShare} f : sProp 𝕄) := by
  rw [show ptsR amaxM rectA c fullShare f = ((amaxM.access rectA).loc (c : Thread nD τ) ↦[Finset.univ]{fullShare} f : sProp 𝕄) from by rw [← rectA_set]]

/-- A block buffer is the sixteen slots, each at some contents, counted from the device. -/
theorem slots_in {r : Ref sig .tc} {e : EltTy} (A : Memref sig .tc .vmem S16x256x512 e) (f : Buf (Elt F) (A.view.loc (c : Thread nD τ))) :
    (A.view.loc (c : Thread nD τ) ↦[A.view.set]{fullShare} f) ⊢ seg (fun s => any (F := F) A c (c + s)) 0 16 :=
  BIBase.Entails.trans (cut3_any c A f) (BIBase.Entails.of_eq (seg_add c _))
theorem slots_out {e : EltTy} (A : Memref sig .tc .vmem S16x256x512 e) (f : Buf (Elt F) (A.view.loc (c : Thread nD τ))) :
    seg (fun s => any (F := F) A c (c + s)) 0 16 ⊢ (iprop(∃ g, A.view.loc (c : Thread nD τ) ↦[A.view.set]{fullShare} g) : sProp 𝕄) :=
  BIBase.Entails.trans (BIBase.Entails.of_eq (seg_add c (fun n => any (F := F) A c n)).symm) (uncut3 c A f)
theorem slots8_in (f : Buf (Elt F) (scalM.view.loc (c : Thread nD τ))) :
    (scalM.view.loc (c : Thread nD τ) ↦[scalM.view.set]{fullShare} f) ⊢ seg (fun s => any8 (F := F) c (c + s)) 0 16 :=
  BIBase.Entails.trans (cut8_any c f) (BIBase.Entails.of_eq (seg_add c _))
theorem slots8_out (f : Buf (Elt F) (scalM.view.loc (c : Thread nD τ))) :
    seg (fun s => any8 (F := F) c (c + s)) 0 16 ⊢ (iprop(∃ g, scalM.view.loc (c : Thread nD τ) ↦[scalM.view.set]{fullShare} g) : sProp 𝕄) :=
  BIBase.Entails.trans (BIBase.Entails.of_eq (seg_add c (fun n => any8 (F := F) c n)).symm) (uncut8 c f)

/-! ## What is handed out at the handshake -/

/-- A slot of the maxima and the right to fill it. -/
def H3 (s : Fin 16) : sProp 𝕄 := iprop(any8 (F := F) c (c + s) ∗ reached ER (dCell c 5 (c + s)) 0)
def H1 (s : Fin 16) : sProp 𝕄 := iprop(any (F := F) asmM c (c + s) ∗ reached ER (dCell c 1 (c + s)) 0)
def H2 (s : Fin 16) : sProp 𝕄 := iprop(any (F := F) f8M c (c + s) ∗ reached ER (dCell c 3 (c + s)) 0)

theorem neg_le : ∀ c s : Fin 16, 1 ≤ s.val → ((c - (c + s)).val ≤ 7 ↔ 9 ≤ s.val) := by decide +kernel

theorem bt_split : seg (BT (F := F) c) 1 16 = iprop(seg (fun s => dutyTok ER (barCell (c + s)) 0 c) 1 16 ∗ seg (H3 (F := F) c) 1 16 ∗ seg (H2 (F := F) c) 1 9 ∗ seg (H1 (F := F) c) 9 16) := by
  have e : seg (BT (F := F) c) 1 16
      = seg (fun s => iprop(dutyTok ER (barCell (c + s)) 0 c ∗ iprop(H3 (F := F) c s ∗ if 9 ≤ s.val then H1 (F := F) c s else H2 (F := F) c s))) 1 16 := by
    refine seg_congr fun s h _ => ?_
    unfold BT barPay H1 H2 H3
    simp only [neg_le c s h]
  rw [e, seg_sep, seg_sep, seg_join (fun s => if 9 ≤ s.val then H1 (F := F) c s else H2 (F := F) c s) (by decide : 1 ≤ 9) (by decide : 9 ≤ 16),
    seg_congr (a := 1) (b := 9) (Ψ := H2 (F := F) c) fun s _ h => if_neg (by omega),
    seg_congr (a := 9) (b := 16) (Ψ := H1 (F := F) c) fun s h _ => if_pos (by omega)]

/-- A semaphore of the device, at zero. -/
abbrev SV (k : Fin 6) (n : Fin 16) : sProp 𝕄 := semVal (dCell c k n) 0
/-- The cells no copy uses. -/
def IDLE : sProp 𝕄 :=
  iprop((seg (fun s => SV (F := F) c 0 (c + s)) 0 1 ∗ seg (fun s => SV (F := F) c 0 (c + s)) 8 16) ∗ seg (fun s => SV (F := F) c 1 (c + s)) 0 9
    ∗ seg (fun s => SV (F := F) c 2 (c + s)) 0 8 ∗ (seg (fun s => SV (F := F) c 3 (c + s)) 0 1 ∗ seg (fun s => SV (F := F) c 3 (c + s)) 9 16)
    ∗ seg (fun s => SV (F := F) c 4 (c + s)) 0 1 ∗ seg (fun s => SV (F := F) c 5 (c + s)) 0 1)
/-- What no step of the kernel touches. -/
def REST : sProp 𝕄 :=
  iprop(any (F := F) sendM c c ∗ seg (fun s => any (F := F) asmM c (c + s)) 1 9 ∗ (any (F := F) f8M c c ∗ seg (fun s => any (F := F) f8M c (c + s)) 9 16)
    ∗ seg (fun s => any (F := F) f8sM c (c + s)) 0 8 ∗ IDLE (F := F) c)
/-- The rights of the handshake. -/
def TK : sProp 𝕄 :=
  iprop(seg (fun s => dutyTok ER (barCell (c + s)) 0 c) 1 16 ∗ seg (fun s => reached ER (dCell c 5 (c + s)) 0) 1 16
    ∗ seg (fun s => reached ER (dCell c 1 (c + s)) 0) 9 16 ∗ seg (fun s => reached ER (dCell c 3 (c + s)) 0) 1 9)
/-- The cells to receive on. -/
def WT : sProp 𝕄 :=
  iprop(seg (fun s => Wt (F := F) c 1 (c - s)) 1 8 ∗ seg (fun s => Wt (F := F) c 3 (c - s)) 8 16 ∗ seg (fun s => Wt (F := F) c 5 (c + s)) 1 16)

/-- The scratch buffers, each at some contents. -/
def BUFS : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f))

theorem h_eq3 : seg (H3 (F := F) c) 1 16 = iprop(seg (fun s => any8 (F := F) c (c + s)) 1 16 ∗ seg (fun s => reached ER (dCell c 5 (c + s)) 0) 1 16) := seg_sep _ _ _ _
theorem h_eq1 : seg (H1 (F := F) c) 9 16 = iprop(seg (fun s => any (F := F) asmM c (c + s)) 9 16 ∗ seg (fun s => reached ER (dCell c 1 (c + s)) 0) 9 16) := seg_sep _ _ _ _
theorem h_eq2 : seg (H2 (F := F) c) 1 9 = iprop(seg (fun s => any (F := F) f8M c (c + s)) 1 9 ∗ seg (fun s => reached ER (dCell c 3 (c + s)) 0) 1 9) := seg_sep _ _ _ _

/-- The scratch buffers and the rights, sorted by use. -/
theorem enter : iprop(BUFS (F := F) c ∗ TK (F := F) c ∗ WT (F := F) c ∗ IDLE (F := F) c)
    ⊢ iprop((∃ x, XX c x) ∗ AX0 (F := F) c ∗ seg (BT (F := F) c) 1 16 ∗ seg (fun s => any (F := F) sendM c (c + s)) 1 16 ∗ RCV (F := F) c ∗ REST (F := F) c) := by
  unfold BUFS TK WT RCV REST AX0
  rw [bt_split, h_eq1, h_eq2, h_eq3]
  iintro ⟨⟨⟨%f0, B0⟩, ⟨%f1, B1⟩, ⟨%f2, B2⟩, ⟨%f3, B3⟩, ⟨%f4, B4⟩, ⟨%f5, B5⟩, ⟨%f6, B6⟩⟩, ⟨T0, T5, T1, T3⟩, ⟨W1, W3, W5⟩, HI⟩
  ihave B1 := (show (((c : Thread nD τ).loc cc0_scratch1) ↦{fullShare} f1) ⊢ seg (fun s => any (F := F) asmM c (c + s)) 0 16 from by
    have := slots_in (r := cc0_scratch1) c asmM f1; rw [show asmM.view.set = Finset.univ from View.set_whole _] at this; exact this) $$ B1
  ihave B2 := (show (((c : Thread nD τ).loc cc0_scratch2) ↦{fullShare} f2) ⊢ seg (fun s => any (F := F) f8M c (c + s)) 0 16 from by
    have := slots_in (r := cc0_scratch2) c f8M f2; rw [show f8M.view.set = Finset.univ from View.set_whole _] at this; exact this) $$ B2
  ihave B3 := (show (((c : Thread nD τ).loc cc0_scratch3) ↦{fullShare} f3) ⊢ seg (fun s => any (F := F) sendM c (c + s)) 0 16 from by
    have := slots_in (r := cc0_scratch3) c sendM f3; rw [show sendM.view.set = Finset.univ from View.set_whole _] at this; exact this) $$ B3
  ihave B4 := (show (((c : Thread nD τ).loc cc0_scratch4) ↦{fullShare} f4) ⊢ seg (fun s => any (F := F) f8sM c (c + s)) 0 16 from by
    have := slots_in (r := cc0_scratch4) c f8sM f4; rw [show f8sM.view.set = Finset.univ from View.set_whole _] at this; exact this) $$ B4
  ihave B5 := (show (((c : Thread nD τ).loc cc0_scratch5) ↦{fullShare} f5) ⊢ seg (fun s => any8 (F := F) c (c + s)) 0 16 from by
    have := slots8_in c f5; rw [show scalM.view.set = Finset.univ from View.set_whole _] at this; exact this) $$ B5
  ihave B1 := (BIBase.Entails.of_eq (cut_three c (fun n => any (F := F) asmM c n))) $$ B1
  ihave B2 := (BIBase.Entails.of_eq (cut_three c (fun n => any (F := F) f8M c n))) $$ B2
  ihave B3 := (BIBase.Entails.of_eq (cut_two c (fun n => any (F := F) sendM c n))) $$ B3
  ihave B4 := (BIBase.Entails.of_eq (seg_join (fun s => any (F := F) f8sM c (c + s)) (by decide : 0 ≤ 8) (by decide : 8 ≤ 16))) $$ B4
  ihave B5 := (BIBase.Entails.of_eq (cut_two c (fun n => any8 (F := F) c n))) $$ B5
  icases B1 with ⟨A0, A1, A9⟩
  icases B2 with ⟨E0, E1, E9⟩
  icases B3 with ⟨S0, S1⟩
  icases B4 with ⟨G0, G8⟩
  icases B5 with ⟨C0, C1⟩
  isplitl [B0]; · iexists f0; rw [xx_eq]; iexact B0
  isplitl [B6]; · iexists f6; rw [ptsA_eq]; iexact B6
  isplitl [T0 T5 T1 T3 C1 E1 A9]
  · isplitl [T0]; · iexact T0
    isplitl [C1 T5]
    · isplitl [C1]; · iexact C1
      iexact T5
    isplitl [E1 T3]
    · isplitl [E1]; · iexact E1
      iexact T3
    isplitl [A9]; · iexact A9
    iexact T1
  isplitl [S1]; · iexact S1
  isplitl [W1 W3 W5 G8 A0 C0]
  · isplitl [W1]; · iexact W1
    isplitl [W3]; · iexact W3
    isplitl [W5]; · iexact W5
    isplitl [G8]; · iexact G8
    isplitl [A0]; · iexact A0
    iexact C0
  isplitl [S0]; · iexact S0
  isplitl [A1]; · iexact A1
  isplitl [E0 E9]
  · isplitl [E0]; · iexact E0
    iexact E9
  isplitl [G0]; · iexact G0
  iexact HI

/-! ## What is left at the end -/

/-- The loops all done, without what is owed and the output. -/
def FIN : sProp 𝕄 := iprop(CS I c 16 16 ∗ CR I c 16 ∗ CP I c 16 16 16 ∗ CN I c 8 ∗ CG I c 16 ∗ CY I c 8 ∗ CA I c ∗ CB I c)

/-- All semaphores of the device's copies, at zero. -/
def SEMS : sProp 𝕄 :=
  iprop(seg (fun s => SV (F := F) c 0 (c + s)) 0 16 ∗ seg (fun s => SV (F := F) c 1 (c + s)) 0 16 ∗ seg (fun s => SV (F := F) c 2 (c + s)) 0 16
    ∗ seg (fun s => SV (F := F) c 3 (c + s)) 0 16 ∗ seg (fun s => SV (F := F) c 4 (c + s)) 0 16 ∗ seg (fun s => SV (F := F) c 5 (c + s)) 0 16)

theorem dn_0 (n : Fin 16) : Dn I c 0 n ⊢ iprop(SV (F := F) c 0 n ∗ any (F := F) sendM c n) := sep_mono_right (any_intro c sendM n (SEND I c))
theorem dn_1 (n : Fin 16) : Dn I c 1 n ⊢ iprop(SV (F := F) c 1 n ∗ any (F := F) asmM c n) := sep_mono_right (any_intro c asmM n (ASM I c))
theorem dn_2 (n : Fin 16) : Dn I c 2 n ⊢ iprop(SV (F := F) c 2 n ∗ any (F := F) f8sM c n) := sep_mono_right (any_intro c f8sM n (F8SEND I c))
theorem dn_3 (n : Fin 16) : Dn I c 3 n ⊢ iprop(SV (F := F) c 3 n ∗ any (F := F) f8M c n) := sep_mono_right (any_intro c f8M n (F8ASM I c))
theorem dn_4 (n : Fin 16) : Dn I c 4 n ⊢ iprop(SV (F := F) c 4 n ∗ pts8 c c (Transfers.shareTok fullShare 16 n) (SB I)) := .rfl
theorem dn_5 (n : Fin 16) : Dn I c 5 n ⊢ iprop(SV (F := F) c 5 n ∗ any8 (F := F) c n) := sep_mono_right (any8_intro c n (SB I))
theorem fd_out (s : Fin 16) : FD I c s ⊢ iprop(any (F := F) sendM c (c + s) ∗ (SV (F := F) c 2 (c + s) ∗ any (F := F) f8sM c (c + s))) :=
  BI.sep_mono (any_intro c sendM _ (SEND I c)) (dn_2 I c (c + s))

theorem segs_out {A B D : Fin 16 → sProp 𝕄} {a b : ℕ} (h : ∀ s, A s ⊢ iprop(B s ∗ D s)) : seg A a b ⊢ iprop(seg B a b ∗ seg D a b) := by
  rw [← seg_sep]; exact seg_mono fun s _ _ => h s

/-- The device's own maximum, whole again. -/
theorem own_max : iprop(CB I c ∗ seg (fun s => pts8 c c (Transfers.shareTok fullShare 16 (c + s)) (SB I)) 1 16 ∗ pts8 c c (Transfers.shareTok fullShare 16 c) (SB I))
    ⊢ any8 (F := F) c c := by
  unfold CB
  iintro ⟨HB, HT, H0⟩
  iapply (any8_intro c c (SB I))
  rw [show pts8 c c fullShare (SB I) = iprop(pts8 c c (Transfers.shareDrop fullShare 16) (SB I) ∗ bigSep Finset.univ fun i : Fin 16 => pts8 c c (Transfers.shareTok fullShare 16 i) (SB I)) from
      toks_eq (ℓ := (slot8 scalM c).view.loc (c : Thread nD τ)) (S := (slot8 scalM c).view.set) (SB I),
    seg_add c (fun i => pts8 c c (Transfers.shareTok fullShare 16 i) (SB I)), seg_join _ (by decide : 0 ≤ 1) (by decide : 1 ≤ 16), seg_self c (fun i => pts8 c c (Transfers.shareTok fullShare 16 i) (SB I))]
  isplitl [HB]; · iexact HB
  isplitl [H0]; · iexact H0
  iexact HT

end Cert.KernelIdeal.Ring

end
-- ==== Proof.Leave.lean ====
module
public import proofs.«01_k».proof.Proof.Edge

/-! At the end of the kernel the scratch buffers are whole again, and every semaphore of the copies is at
zero. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD)

/-- Two adjoining ranges of steps are one. -/
theorem glue (Φ : Fin 16 → sProp 𝕄) {a b d : ℕ} (h : a ≤ b) (h' : b ≤ d) : iprop(seg Φ a b ∗ seg Φ b d) ⊢ seg Φ a d :=
  BIBase.Entails.of_eq (seg_join Φ h h').symm
theorem glue_self (Φ : Fin 16 → sProp 𝕄) : iprop(Φ c ∗ seg (fun s => Φ (c + s)) 1 16) ⊢ seg (fun s => Φ (c + s)) 0 16 :=
  BIBase.Entails.of_eq (cut_two c Φ).symm
theorem glue_three (Φ : Fin 16 → sProp 𝕄) : iprop(Φ c ∗ seg (fun s => Φ (c + s)) 1 9 ∗ seg (fun s => Φ (c + s)) 9 16) ⊢ seg (fun s => Φ (c + s)) 0 16 :=
  BIBase.Entails.of_eq (cut_three c Φ).symm

theorem cn_out : CN I c 8 ⊢ iprop(seg (fun s => SV (F := F) c 1 (c + s)) 9 16 ∗ seg (fun s => any (F := F) asmM c (c + s)) 9 16) := by
  unfold CN
  iintro ⟨-, H⟩
  ihave H := (BIBase.Entails.of_eq (flip_near c (fun n => Dn I c 1 n))) $$ H
  iapply (segs_out (fun s => dn_1 I c (c + s)) (a := 9) (b := 16))
  iexact H
theorem cg_out : CG I c 16 ⊢ iprop(seg (fun s => SV (F := F) c 3 (c + s)) 1 9 ∗ seg (fun s => any (F := F) f8M c (c + s)) 1 9) := by
  unfold CG
  iintro ⟨-, H⟩
  ihave H := (BIBase.Entails.of_eq (flip_far c (fun n => Dn I c 3 n))) $$ H
  iapply (segs_out (fun s => dn_3 I c (c + s)) (a := 1) (b := 9))
  iexact H
theorem cy_out : CY I c 8 ⊢ iprop(seg (fun s => SV (F := F) c 0 (c + s)) 1 8 ∗ seg (fun s => any (F := F) sendM c (c + s)) 1 8) := by
  unfold CY
  iintro ⟨-, H⟩
  iapply (segs_out (fun s => dn_0 I c (c + s)) (a := 1) (b := 8))
  iexact H
theorem cp_out : CP I c 16 16 16 ⊢ iprop(seg (fun s => any (F := F) sendM c (c + s)) 8 16 ∗ seg (fun s => SV (F := F) c 2 (c + s)) 8 16 ∗ seg (fun s => any (F := F) f8sM c (c + s)) 8 16) := by
  unfold CP
  iintro ⟨-, -, -, H⟩
  ihave H := (segs_out (fd_out I c) (a := 8) (b := 16)) $$ H
  icases H with ⟨Ha, H⟩
  isplitl [Ha]; · iexact Ha
  rw [← seg_sep]
  iexact H
theorem cr_out : CR I c 16 ⊢ iprop(seg (fun s => SV (F := F) c 5 (c + s)) 1 16 ∗ seg (fun s => any8 (F := F) c (c + s)) 1 16) := by
  unfold CR
  iintro ⟨-, H⟩
  iapply (segs_out (fun s => dn_5 I c (c + s)) (a := 1) (b := 16))
  iexact H
theorem cs_out : CS I c 16 16 ⊢ iprop(seg (fun s => SV (F := F) c 4 (c + s)) 1 16 ∗ seg (fun s => pts8 c c (Transfers.shareTok fullShare 16 (c + s)) (SB I)) 1 16) := by
  unfold CS
  iintro ⟨-, -, H⟩
  iapply (segs_out (fun s => dn_4 I c (c + s)) (a := 1) (b := 16))
  iexact H

/-- Everything back where it was. -/
theorem leave (x : Vec F S256x4096 .bf16) : iprop(FIN I c ∗ R7 I c ∗ XX c x ∗ REST (F := F) c) ⊢ iprop(BUFS (F := F) c ∗ SEMS (F := F) c) := by
  unfold FIN R7 REST IDLE BUFS SEMS AX
  iintro ⟨⟨CS_, CR_, CP_, CN_, CG_, CY_, CA_, CB_⟩, ⟨AX_, T0⟩, X_, ⟨R0, R1, ⟨R2, R3⟩, R4, ⟨I0, I8⟩, I1, I2, ⟨I3, I9⟩, I4, I5⟩⟩
  ihave CS_ := (cs_out I c) $$ CS_
  icases CS_ with ⟨V4, T4⟩
  ihave CR_ := (cr_out I c) $$ CR_
  icases CR_ with ⟨V5, A5⟩
  ihave CP_ := (cp_out I c) $$ CP_
  icases CP_ with ⟨AS2, V2, A2⟩
  ihave CN_ := (cn_out I c) $$ CN_
  icases CN_ with ⟨V1, A1⟩
  ihave CG_ := (cg_out I c) $$ CG_
  icases CG_ with ⟨V3, A3⟩
  ihave CY_ := (cy_out I c) $$ CY_
  icases CY_ with ⟨V0, AS0⟩
  ihave CA_ := (show CA I c ⊢ any (F := F) asmM c c from any_intro c asmM c (ASM I c)) $$ CA_
  ihave Own := (own_max I c) $$ [CB_ T4 T0]
  · isplitl [CB_]; · iexact CB_
    isplitl [T4]; · iexact T4
    iexact T0
  isplitl [X_ CA_ R1 A1 R2 A3 R3 R0 AS0 AS2 R4 A2 Own A5 AX_]
  · isplitl [X_]; · iexists x; rw [← xx_eq]; iexact X_
    isplitl [CA_ R1 A1]
    · iapply (show seg (fun s => any (F := F) asmM c (c + s)) 0 16 ⊢ (iprop(∃ g : Buf (Elt F) ((c : Thread nD τ).loc cc0_scratch1), ((c : Thread nD τ).loc cc0_scratch1) ↦{fullShare} g) : sProp 𝕄) from by
        have := slots_out c asmM (ASM I c); rw [show asmM.view.set = Finset.univ from View.set_whole _] at this; exact this)
      iapply (glue_three c (fun n => any (F := F) asmM c n))
      isplitl [CA_]; · iexact CA_
      isplitl [R1]; · iexact R1
      iexact A1
    isplitl [R2 A3 R3]
    · iapply (show seg (fun s => any (F := F) f8M c (c + s)) 0 16 ⊢ (iprop(∃ g : Buf (Elt F) ((c : Thread nD τ).loc cc0_scratch2), ((c : Thread nD τ).loc cc0_scratch2) ↦{fullShare} g) : sProp 𝕄) from by
        have := slots_out c f8M (F8ASM I c); rw [show f8M.view.set = Finset.univ from View.set_whole _] at this; exact this)
      iapply (glue_three c (fun n => any (F := F) f8M c n))
      isplitl [R2]; · iexact R2
      isplitl [A3]; · iexact A3
      iexact R3
    isplitl [R0 AS0 AS2]
    · iapply (show seg (fun s => any (F := F) sendM c (c + s)) 0 16 ⊢ (iprop(∃ g : Buf (Elt F) ((c : Thread nD τ).loc cc0_scratch3), ((c : Thread nD τ).loc cc0_scratch3) ↦{fullShare} g) : sProp 𝕄) from by
        have := slots_out c sendM (SEND I c); rw [show sendM.view.set = Finset.univ from View.set_whole _] at this; exact this)
      iapply (glue_self c (fun n => any (F := F) sendM c n))
      isplitl [R0]; · iexact R0
      iapply (glue (fun s => any (F := F) sendM c (c + s)) (by decide : 1 ≤ 8) (by decide : 8 ≤ 16))
      isplitl [AS0]; · iexact AS0
      iexact AS2
    isplitl [R4 A2]
    · iapply (show seg (fun s => any (F := F) f8sM c (c + s)) 0 16 ⊢ (iprop(∃ g : Buf (Elt F) ((c : Thread nD τ).loc cc0_scratch4), ((c : Thread nD τ).loc cc0_scratch4) ↦{fullShare} g) : sProp 𝕄) from by
        have := slots_out c f8sM (F8SEND I c); rw [show f8sM.view.set = Finset.univ from View.set_whole _] at this; exact this)
      iapply (glue (fun s => any (F := F) f8sM c (c + s)) (by decide : 0 ≤ 8) (by decide : 8 ≤ 16))
      isplitl [R4]; · iexact R4
      iexact A2
    isplitl [Own A5]
    · iapply (show seg (fun s => any8 (F := F) c (c + s)) 0 16 ⊢ (iprop(∃ g : Buf (Elt F) ((c : Thread nD τ).loc cc0_scratch5), ((c : Thread nD τ).loc cc0_scratch5) ↦{fullShare} g) : sProp 𝕄) from by
        have := slots8_out c (SB I); rw [show scalM.view.set = Finset.univ from View.set_whole _] at this; exact this)
      iapply (glue_self c (fun n => any8 (F := F) c n))
      isplitl [Own]; · iexact Own
      iexact A5
    iexists (fun _ => AM I c 15)
    rw [← ptsA_eq]
    iexact AX_
  isplitl [I0 V0 I8]
  · iapply (glue (fun s => SV (F := F) c 0 (c + s)) (by decide : 0 ≤ 1) (by decide : 1 ≤ 16))
    isplitl [I0]; · iexact I0
    iapply (glue (fun s => SV (F := F) c 0 (c + s)) (by decide : 1 ≤ 8) (by decide : 8 ≤ 16))
    isplitl [V0]; · iexact V0
    iexact I8
  isplitl [I1 V1]
  · iapply (glue (fun s => SV (F := F) c 1 (c + s)) (by decide : 0 ≤ 9) (by decide : 9 ≤ 16))
    isplitl [I1]; · iexact I1
    iexact V1
  isplitl [I2 V2]
  · iapply (glue (fun s => SV (F := F) c 2 (c + s)) (by decide : 0 ≤ 8) (by decide : 8 ≤ 16))
    isplitl [I2]; · iexact I2
    iexact V2
  isplitl [I3 V3 I9]
  · iapply (glue (fun s => SV (F := F) c 3 (c + s)) (by decide : 0 ≤ 1) (by decide : 1 ≤ 16))
    isplitl [I3]; · iexact I3
    iapply (glue (fun s => SV (F := F) c 3 (c + s)) (by decide : 1 ≤ 9) (by decide : 9 ≤ 16))
    isplitl [V3]; · iexact V3
    iexact I9
  isplitl [I4 V4]
  · iapply (glue (fun s => SV (F := F) c 4 (c + s)) (by decide : 0 ≤ 1) (by decide : 1 ≤ 16))
    isplitl [I4]; · iexact I4
    iexact V4
  iapply (glue (fun s => SV (F := F) c 5 (c + s)) (by decide : 0 ≤ 1) (by decide : 1 ≤ 16))
  isplitl [I5]; · iexact I5
  iexact V5

/-- The semaphores by kind and index. -/
theorem sems_eq : SEMS (F := F) c = bigSep Finset.univ fun p : Fin 6 × Fin 16 => (semVal (dCell c p.1 p.2) 0 : sProp 𝕄) := by
  rw [bigSep_univ_prod]
  rw [bigSep_congr (Ψ := fun k : Fin 6 => seg (fun s => SV (F := F) c k (c + s)) 0 16) fun k _ => seg_add c (fun n => SV (F := F) c k n)]
  exact (bigSep_univ_eq_bigSepL [(0 : Fin 6), 1, 2, 3, 4, 5] (by decide) (by decide) (fun k : Fin 6 => seg (fun s => SV (F := F) c k (c + s)) 0 16)).symm

end Cert.KernelIdeal.Ring

end
-- ==== Proof.Credit.lean ====
module
public import proofs.«01_k».proof.Proof.Edge

/-! What the devices owe at launch, counted by cell. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

theorem dues_apply (f : Fin 16 → CellTallies nD τ sig Unit) (a b : ℕ) (g : GSem nD τ sig) : dues f a b g () = ∑ s ∈ rg a b, f s g () := by
  unfold dues
  rw [Finset.sum_apply, Finsupp.finset_sum_apply]

theorem dues_none (f : Fin 16 → CellTallies nD τ sig Unit) (a b : ℕ) (g : GSem nD τ sig) (h : ∀ s, f s g () = 0) : dues f a b g () = 0 := by
  rw [dues_apply]; exact Finset.sum_eq_zero fun s _ => h s

theorem dCell_ne {c c' : Dev nD} {k k' : Fin 6} (n n' : Fin 16) (h : k ≠ k') : dCell c k n ≠ dCell c' k' n' := fun e => by
  have e2 : (SemLoc.dma (cell k n) : SemLoc sig) = .dma (cell k' n') := congrArg Prod.snd e
  injection e2 with e2
  have := congrArg kindOf e2
  rw [kindOf_cell, kindOf_cell] at this
  exact h (Fin.ext this)
theorem dCell_eq {c c' : Dev nD} {k : Fin 6} {n n' : Fin 16} : dCell c k n = dCell c' k n' ↔ c' = c ∧ n' = n := by
  constructor
  · intro e
    have e2 : (SemLoc.dma (cell k n) : SemLoc sig) = .dma (cell k n') := congrArg Prod.snd e
    injection e2 with e2
    have := congrArg idxOf e2
    rw [idxOf_cell, idxOf_cell] at this
    exact ⟨(congrArg (fun g : GSem nD τ sig => g.1.1) e).symm, this.symm⟩
  · rintro ⟨rfl, rfl⟩; rfl
theorem bar_ne (c c' : Dev nD) (k : Fin 6) (n : Fin 16) : barCell c ≠ dCell c' k n := fun e => by
  have e2 : (SemLoc.reg barS : SemLoc sig) = .dma (cell k n) := congrArg Prod.snd e
  injection e2

theorem tally_other {g g' : GSem nD τ sig} (N : ℕ) (h : g' ≠ g) : (tallyAt g () N : CellTallies nD τ sig Unit) g' () = 0 := by
  rw [tallyAt_ne_cell h]; rfl

theorem at_bar (d c : Dev nD) : O₀ d (barCell c) () = ∑ s ∈ rg 1 16, if d + s = c then 1 else 0 := by
  unfold O₀ owedFrom
  simp only [Pi.add_apply, Finsupp.add_apply]
  rw [dues_none (nT d) 1 8 _ fun s => tally_other _ (bar_ne _ _ _ _),
    dues_none (sT d) 1 16 _ fun s => tally_other _ (bar_ne _ _ _ _),
    dues_none (fT d) 8 16 _ fun s => tally_other _ (bar_ne _ _ _ _), dues_apply]
  simp only [add_zero]
  refine Finset.sum_congr rfl fun s _ => ?_
  rw [tallyAt_apply]
  by_cases h : d + s = c
  · subst h; rw [if_pos ⟨rfl, rfl⟩, if_pos rfl]
  · rw [if_neg h, if_neg fun e => h (congrArg (fun g : GSem nD τ sig => g.1.1) e.1).symm]

theorem at_d (k : Fin 6) (N : ℕ) (a b : ℕ) (d c : Dev nD) (n : Fin 16) :
    dues (fun s => (tallyAt (dCell (d + s) k d) () N : CellTallies nD τ sig Unit)) a b (dCell c k n) () = ∑ s ∈ rg a b, if d + s = c ∧ d = n then N else 0 := by
  rw [dues_apply]
  refine Finset.sum_congr rfl fun s _ => ?_
  rw [tallyAt_apply]
  by_cases h : d + s = c ∧ d = n
  · rw [if_pos h, if_pos ⟨dCell_eq.2 h, rfl⟩]
  · rw [if_neg h, if_neg fun e => h (dCell_eq.1 e.1)]

theorem at_near (d c : Dev nD) (n : Fin 16) : O₀ d (dCell c 1 n) () = ∑ s ∈ rg 1 8, if d + s = c ∧ d = n then N16 else 0 := by
  unfold O₀ owedFrom
  simp only [Pi.add_apply, Finsupp.add_apply]
  rw [dues_none (bT d) 1 16 _ fun s => tally_other _ (bar_ne _ _ _ _).symm,
    dues_none (sT d) 1 16 _ fun s => tally_other _ (dCell_ne _ _ (by decide)),
    dues_none (fT d) 8 16 _ fun s => tally_other _ (dCell_ne _ _ (by decide)), at_d 1]
  simp only [add_zero, zero_add]
theorem at_max (d c : Dev nD) (n : Fin 16) : O₀ d (dCell c 5 n) () = ∑ s ∈ rg 1 16, if d + s = c ∧ d = n then NS else 0 := by
  unfold O₀ owedFrom
  simp only [Pi.add_apply, Finsupp.add_apply]
  rw [dues_none (bT d) 1 16 _ fun s => tally_other _ (bar_ne _ _ _ _).symm,
    dues_none (nT d) 1 8 _ fun s => tally_other _ (dCell_ne _ _ (by decide)),
    dues_none (fT d) 8 16 _ fun s => tally_other _ (dCell_ne _ _ (by decide)), at_d 5]
  simp only [add_zero, zero_add]
theorem at_far (d c : Dev nD) (n : Fin 16) : O₀ d (dCell c 3 n) () = ∑ s ∈ rg 8 16, if d + s = c ∧ d = n then N8 else 0 := by
  unfold O₀ owedFrom
  simp only [Pi.add_apply, Finsupp.add_apply]
  rw [dues_none (bT d) 1 16 _ fun s => tally_other _ (bar_ne _ _ _ _).symm,
    dues_none (nT d) 1 8 _ fun s => tally_other _ (dCell_ne _ _ (by decide)),
    dues_none (sT d) 1 16 _ fun s => tally_other _ (dCell_ne _ _ (by decide)), at_d 3]
  simp only [add_zero, zero_add]

theorem hits_bar : ∀ c : Fin 16, (∑ d : Fin 16, ∑ s ∈ rg 1 16, if d + s = c then 1 else 0) = 15 := by decide +kernel
theorem hits_near : ∀ c j : Fin 16, 1 ≤ j.val → j.val < 8 → (∑ d : Fin 16, ∑ s ∈ rg 1 8, if d + s = c ∧ d = c - j then 1 else 0) = 1 := by decide +kernel
theorem hits_far : ∀ c j : Fin 16, 8 ≤ j.val → (∑ d : Fin 16, ∑ s ∈ rg 8 16, if d + s = c ∧ d = c - j then 1 else 0) = 1 := by decide +kernel
theorem hits_max : ∀ c j : Fin 16, 1 ≤ j.val → (∑ d : Fin 16, ∑ s ∈ rg 1 16, if d + s = c ∧ d = c + j then 1 else 0) = 1 := by decide +kernel

theorem scale_hits (a b : ℕ) (c n : Fin 16) (N : ℕ) (h : (∑ d : Fin 16, ∑ s ∈ rg a b, if d + s = c ∧ d = n then 1 else 0) = 1) :
    (∑ d : Fin 16, ∑ s ∈ rg a b, if d + s = c ∧ d = n then N else 0) = N := by
  have e : (∑ d : Fin 16, ∑ s ∈ rg a b, if d + s = c ∧ d = n then N else 0) = (∑ d : Fin 16, ∑ s ∈ rg a b, if d + s = c ∧ d = n then 1 else 0) * N := by
    simp only [Finset.sum_mul, ite_mul, one_mul, zero_mul]
  rw [e, h, one_mul]

/-- The credit a cell starts with is what all devices owe it. -/
theorem credit_of (g : GSem nD τ sig) (N : ℕ) (h : (∑ d : Dev nD, O₀ d g ()) = N) :
    tallyOn g (launchCredit (Pipeline.owing O₀) 0 g) = (tallyAt g () N : CellTallies nD τ sig Unit) := by
  unfold tallyAt
  refine congrArg _ (Finsupp.ext fun u => ?_)
  cases u
  rw [Pipeline.launchCredit_owing, Finsupp.single_eq_same, h]

theorem credit_bar (c : Dev nD) : tallyOn (barCell c) (launchCredit (Pipeline.owing O₀) 0 (barCell c)) = (tallyAt (barCell c) () 15 : CellTallies nD τ sig Unit) :=
  credit_of _ _ ((Finset.sum_congr rfl fun d _ => at_bar d c).trans (hits_bar c))
theorem credit_near (c : Dev nD) (j : Fin 16) (h : 1 ≤ j.val) (h' : j.val < 8) :
    tallyOn (dCell c 1 (c - j)) (launchCredit (Pipeline.owing O₀) 0 (dCell c 1 (c - j))) = (tallyAt (dCell c 1 (c - j)) () N16 : CellTallies nD τ sig Unit) :=
  credit_of _ _ ((Finset.sum_congr rfl fun d _ => at_near d c (c - j)).trans (scale_hits 1 8 c (c - j) N16 (hits_near c j h h')))
theorem credit_far (c : Dev nD) (j : Fin 16) (h : 8 ≤ j.val) :
    tallyOn (dCell c 3 (c - j)) (launchCredit (Pipeline.owing O₀) 0 (dCell c 3 (c - j))) = (tallyAt (dCell c 3 (c - j)) () N8 : CellTallies nD τ sig Unit) :=
  credit_of _ _ ((Finset.sum_congr rfl fun d _ => at_far d c (c - j)).trans (scale_hits 8 16 c (c - j) N8 (hits_far c j h)))
theorem credit_max (c : Dev nD) (j : Fin 16) (h : 1 ≤ j.val) :
    tallyOn (dCell c 5 (c + j)) (launchCredit (Pipeline.owing O₀) 0 (dCell c 5 (c + j))) = (tallyAt (dCell c 5 (c + j)) () NS : CellTallies nD τ sig Unit) :=
  credit_of _ _ ((Finset.sum_congr rfl fun d _ => at_max d c (c + j)).trans (scale_hits 1 16 c (c + j) NS (hits_max c j h)))

end Cert.KernelIdeal.Ring

end
-- ==== Proof.Deal.lean ====
module
public import proofs.«01_k».proof.Proof.Leave
public import proofs.«01_k».proof.Proof.Credit

/-! How the rights and positions of the launch are dealt to the devices. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

/-- The token of one duty of a device: of the handshake, and of the sending and the receiving cell of each kind of copy. -/
def tk (c : Dev nD) (p : Fin 7 × Fin 16) : GSem nD τ sig × ℕ × Dev nD :=
  match p.1 with
  | 0 => (barCell (c + p.2), 0, c)
  | 1 => (dCell c 0 (c + p.2), 0, 0)
  | 2 => (dCell (c + p.2) 1 c, 0, 0)
  | 3 => (dCell c 2 (c + p.2), 0, 0)
  | 4 => (dCell (c + p.2) 3 c, 0, 0)
  | 5 => (dCell c 4 (c + p.2), 0, 0)
  | 6 => (dCell (c + p.2) 5 c, 0, 0)

/-- Whose token it is. -/
def tkOf (t : GSem nD τ sig × ℕ × Dev nD) : Fin 16 × ℕ × Fin 16 :=
  match t.1.2 with
  | .reg _ => (t.2.2, 0, t.1.1.1 - t.2.2)
  | .dma q => if kindOf q % 2 = 0 then (t.1.1.1, kindOf q + 1, idxOf q - t.1.1.1) else (idxOf q, kindOf q + 1, t.1.1.1 - idxOf q)

theorem tkOf_tk : ∀ (c : Fin 16) (j : Fin 7) (s : Fin 16), tkOf (tk c (j, s)) = (c, j.val, s) := by decide +kernel

def tkEmb : Dev nD × (Fin 7 × Fin 16) ↪ GSem nD τ sig × ℕ × Dev nD :=
  ⟨fun x => tk x.1 x.2, fun x y h => by
    obtain ⟨c, j, s⟩ := x; obtain ⟨c', j', s'⟩ := y
    have e := congrArg tkOf h
    rw [tkOf_tk, tkOf_tk] at e
    obtain ⟨rfl, e2⟩ := Prod.mk.inj e
    obtain ⟨e3, rfl⟩ := Prod.mk.inj e2
    rw [Fin.ext e3]⟩

/-- The semaphores of the copies, by kind and index. -/
def osem (p : Fin 6 × Fin 16) : SemLoc sig := .dma (cell p.1 p.2)
theorem osem_inj : Function.Injective osem := fun p q h => by
  have e : (SemLoc.dma (cell p.1 p.2) : SemLoc sig) = .dma (cell q.1 q.2) := h
  injection e with e
  have e1 := congrArg kindOf e
  have e2 := congrArg idxOf e
  rw [kindOf_cell, kindOf_cell] at e1
  rw [idxOf_cell, idxOf_cell] at e2
  exact Prod.ext (Fin.ext e1) e2

def barEmb : Dev nD ↪ GSem nD τ sig := ⟨fun c => barCell c, fun _ _ h => congrArg (fun g : GSem nD τ sig => g.1.1) h⟩
def scEmb : Dev nD × (Fin 6 × Fin 16) ↪ GSem nD τ sig :=
  ⟨fun ck => dCell ck.1 ck.2.1 ck.2.2, fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb
def toks : Finset (GSem nD τ sig × ℕ × Dev nD) := Finset.univ.map tkEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact bar_ne c ck.1 ck.2.1 ck.2.2 h.symm

variable (K : GSem nD τ sig → ℕ) (c : Dev nD)

/-- What a device is dealt: its position at the handshake, the rights to open its cells, the tokens of its duties. -/
def LIN : sProp 𝕄 :=
  iprop(atPos ER (barCell c) 0 ∅ 0 ∗ (bigSep Finset.univ fun p : Fin 6 × Fin 16 => openTok ER (dCell c p.1 p.2))
    ∗ bigSep Finset.univ fun p : Fin 7 × Fin 16 => dutyTok ER (tk c p).1 (tk c p).2.1 (tk c p).2.2)
/-- The credits of the cells others signal. -/
def CRED : sProp 𝕄 :=
  iprop(cred (tallyAt (barCell c) () 15) ∗ seg (fun s => cred (tallyAt (dCell c 1 (c - s)) () (amt 1))) 1 8
    ∗ seg (fun s => cred (tallyAt (dCell c 3 (c - s)) () (amt 3))) 8 16 ∗ seg (fun s => cred (tallyAt (dCell c 5 (c + s)) () (amt 5))) 1 16)
/-- What a device holds when it starts. -/
def START : sProp 𝕄 := iprop(∃ K, Env I K ∗ LIN (F := F) c ∗ CRED (F := F) c)

theorem recs_eq (κ : GSem nD τ sig → ℕ) :
    iprop((bigSep (barCells ∪ scCells) fun g => cellInv ER (rd I) (κ g) g) ∗ bigSep barCells fun g => reached ER g 0) ⊢ recs I κ := by
  have e : (bigSep (barCells ∪ scCells) fun g => (cellInv ER (rd I) (κ g) g : sProp 𝕄))
      = iprop((bigSep barCells fun g => cellInv ER (rd I) (κ g) g) ∗ bigSep scCells fun g => cellInv ER (rd I) (κ g) g) := bigSep_union disjoint_cells
  rw [e, bigSep_map, bigSep_map, bigSep_map]
  unfold recs
  rw [bigSep_sep']
  iintro ⟨⟨H1, H2⟩, H3⟩
  isplitl [H1 H3]
  · isplitl [H1]; · iexact H1
    iexact H3
  iexact H2

theorem start_intro (κ : GSem nD τ sig → ℕ) : iprop(Env I κ ∗ (LIN (F := F) c ∗ CRED (F := F) c)) ⊢ START I c := by
  unfold START
  iintro ⟨H1, H2, H3⟩
  iexists κ
  isplitl [H1]; · iexact H1
  isplitl [H2]; · iexact H2
  iexact H3

/-- The launch deals every device its start. -/
theorem deal : iprop((bigSep Finset.univ fun c : Dev nD => iprop(semVal (barCell c) 0 ∗ CRED (F := F) c)) ∗ BI.own (ER (launchOf barCells scCells toks)) ∗ levAts L lv)
    ⊢ (iprop(|={Set.univ}=> bigSep Finset.univ fun c : Dev nD => START I c) : sProp 𝕄) := by
  have hv : (bigSep Finset.univ fun c : Dev nD => (semVal (barCell c) 0 : sProp 𝕄)) = bigSep barCells fun g => semVal g 0 :=
    (bigSep_map (s := Finset.univ) barEmb (Φ := fun g : GSem nD τ sig => (semVal g 0 : sProp 𝕄))).symm
  have hat : (bigSep barCells fun g => (atPos ER g 0 ∅ 0 : sProp 𝕄)) = bigSep Finset.univ fun c : Dev nD => atPos ER (barCell c) 0 ∅ 0 :=
    bigSep_map (s := Finset.univ) barEmb (Φ := fun g : GSem nD τ sig => (atPos ER g 0 ∅ 0 : sProp 𝕄))
  have hop : (bigSep scCells fun g => (openTok ER g : sProp 𝕄)) = bigSep Finset.univ fun c : Dev nD => bigSep Finset.univ fun p : Fin 6 × Fin 16 => openTok ER (dCell c p.1 p.2) :=
    (bigSep_map (s := Finset.univ) scEmb (Φ := fun g : GSem nD τ sig => (openTok ER g : sProp 𝕄))).trans (bigSep_univ_prod ..)
  have htk : (bigSep toks fun x => (dutyTok ER x.1 x.2.1 x.2.2 : sProp 𝕄)) = bigSep Finset.univ fun c : Dev nD => bigSep Finset.univ fun p : Fin 7 × Fin 16 => dutyTok ER (tk c p).1 (tk c p).2.1 (tk c p).2.2 :=
    (bigSep_map (s := Finset.univ) tkEmb (Φ := fun x : GSem nD τ sig × ℕ × Dev nD => (dutyTok ER x.1 x.2.1 x.2.2 : sProp 𝕄))).trans (bigSep_univ_prod ..)
  rw [bigSep_sep', hv]
  iintro ⟨⟨Hv, Hc⟩, Hu, #Hlev⟩
  imod (Rounds.fund_launch ER (rd I) disjoint_cells (fun g _ h => h) toks) $$ [Hv Hu] with ⟨%κ, -, #Hinv, #Hr, Hat, Hopen, Htok⟩
  · isplitl [Hv] <;> iassumption
  imodintro
  ihave Hat := (BIBase.Entails.of_eq hat) $$ Hat
  ihave Hopen := (BIBase.Entails.of_eq hop) $$ Hopen
  ihave Htok := (BIBase.Entails.of_eq htk) $$ Htok
  iapply (bigSep_with_persistent (R := Env I κ) (Φ := fun c => iprop(LIN (F := F) c ∗ CRED (F := F) c)) fun c _ => start_intro I c κ)
  isplitr
  · unfold Env
    isplitr
    · iapply (recs_eq I κ)
      isplitr; · iexact Hinv
      iexact Hr
    iexact Hlev
  have e : iprop((bigSep Finset.univ fun c : Dev nD => (atPos ER (barCell c) 0 ∅ 0 : sProp 𝕄)) ∗ (bigSep Finset.univ fun c : Dev nD => bigSep Finset.univ fun p : Fin 6 × Fin 16 => openTok ER (dCell c p.1 p.2))
      ∗ (bigSep Finset.univ fun c : Dev nD => bigSep Finset.univ fun p : Fin 7 × Fin 16 => dutyTok ER (tk c p).1 (tk c p).2.1 (tk c p).2.2) ∗ bigSep Finset.univ fun c : Dev nD => CRED (F := F) c)
      ⊢ bigSep Finset.univ fun c : Dev nD => iprop(LIN (F := F) c ∗ CRED (F := F) c) := by
    unfold LIN
    rw [bigSep_sep', bigSep_sep', bigSep_sep']
    iintro ⟨H1, H2, H3, H4⟩
    isplitr [H4]
    · isplitl [H1]; · iexact H1
      isplitl [H2]; · iexact H2
      iexact H3
    iexact H4
  iapply e
  isplitl [Hat]; · iexact Hat
  isplitl [Hopen]; · iexact Hopen
  isplitl [Htok]; · iexact Htok
  iexact Hc

end Cert.KernelIdeal.Ring

end
-- ==== Proof.Open.lean ====
module
public import proofs.«01_k».proof.Proof.Deal

/-! A device opens the cells its copies use. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD)

theorem seg_take (Φ : Fin 16 → sProp 𝕄) {a b : ℕ} (h : a ≤ b) (h' : b ≤ 16) : seg Φ 0 16 ⊢ seg Φ a b := by
  rw [seg_join Φ (Nat.zero_le a) (h.trans h'), seg_join Φ h h']
  iintro ⟨-, H, -⟩; iexact H
theorem seg_cut (Φ : Fin 16 → sProp 𝕄) {a b d : ℕ} (h : a ≤ b) (h' : b ≤ d) : seg Φ a d ⊢ iprop(seg Φ a b ∗ seg Φ b d) :=
  BIBase.Entails.of_eq (seg_join Φ h h')

/-- The rights to open the cells, by kind. -/
def OPS : sProp 𝕄 :=
  iprop(seg (fun s => openTok ER (dCell c 0 (c + s))) 0 16 ∗ seg (fun s => openTok ER (dCell c 1 (c + s))) 0 16 ∗ seg (fun s => openTok ER (dCell c 2 (c + s))) 0 16
    ∗ seg (fun s => openTok ER (dCell c 3 (c + s))) 0 16 ∗ seg (fun s => openTok ER (dCell c 4 (c + s))) 0 16 ∗ seg (fun s => openTok ER (dCell c 5 (c + s))) 0 16)
theorem ops_eq : OPS (F := F) c = bigSep Finset.univ fun p : Fin 6 × Fin 16 => (openTok ER (dCell c p.1 p.2) : sProp 𝕄) := by
  rw [bigSep_univ_prod]
  rw [bigSep_congr (Ψ := fun k : Fin 6 => seg (fun s => (openTok ER (dCell c k (c + s)) : sProp 𝕄)) 0 16) fun k _ => seg_add c (fun n => openTok ER (dCell c k n))]
  exact (bigSep_univ_eq_bigSepL [(0 : Fin 6), 1, 2, 3, 4, 5] (by decide) (by decide) (fun k : Fin 6 => seg (fun s => (openTok ER (dCell c k (c + s)) : sProp 𝕄)) 0 16)).symm

/-- The tokens of a device, by kind. -/
def TOKS : sProp 𝕄 :=
  iprop(seg (fun s => dutyTok ER (barCell (c + s)) 0 c) 0 16 ∗ seg (fun s => dutyTok ER (dCell c 0 (c + s)) 0 0) 0 16 ∗ seg (fun s => dutyTok ER (dCell (c + s) 1 c) 0 0) 0 16
    ∗ seg (fun s => dutyTok ER (dCell c 2 (c + s)) 0 0) 0 16 ∗ seg (fun s => dutyTok ER (dCell (c + s) 3 c) 0 0) 0 16
    ∗ seg (fun s => dutyTok ER (dCell c 4 (c + s)) 0 0) 0 16 ∗ seg (fun s => dutyTok ER (dCell (c + s) 5 c) 0 0) 0 16)
theorem rg_univ : rg 0 16 = Finset.univ := by decide
theorem tks_eq : TOKS (F := F) c = bigSep Finset.univ fun p : Fin 7 × Fin 16 => (dutyTok ER (tk c p).1 (tk c p).2.1 (tk c p).2.2 : sProp 𝕄) := by
  rw [bigSep_univ_prod]
  refine Eq.trans ?_ (bigSep_univ_eq_bigSepL [(0 : Fin 7), 1, 2, 3, 4, 5, 6] (by decide) (by decide)
    (fun j : Fin 7 => bigSep Finset.univ fun s : Fin 16 => (dutyTok ER (tk c (j, s)).1 (tk c (j, s)).2.1 (tk c (j, s)).2.2 : sProp 𝕄))).symm
  unfold TOKS seg
  rw [rg_univ]
  rfl

/-- Opening the cells of one kind, a range of them. -/
theorem open_seg (k : Fin 6) (a b : ℕ) :
    iprop(Env I K ∗ seg (fun s => openTok ER (dCell c k (c + s))) a b ∗ seg (fun s => SV (F := F) c k (c + s)) a b)
      ⊢ (iprop(|={Set.univ}=> (seg (fun s => ATP (F := F) c k (c + s)) a b ∗ seg (fun s => reached ER (dCell c k (c + s)) 0) a b)) : sProp 𝕄) := by
  rw [← seg_sep, ← seg_sep]
  unfold seg
  refine BIBase.Entails.trans (bigSep_with_persistent (R := Env I K) (Ψ := fun s => iprop(|={Set.univ}=> (ATP (F := F) c k (c + s) ∗ reached ER (dCell c k (c + s)) 0))) fun s _ => ?_) (bigSep_fupd _ _)
  unfold Env
  iintro ⟨⟨#HR, -⟩, Ho, Hs⟩
  ihave #HC := (recs_d I K c k (c + s)) $$ HR
  imod (Rounds.cell_open ER (rd I) (g := dCell c k (c + s)) (Set.mem_univ (K (dCell c k (c + s))))) $$ [Ho Hs] with ⟨Hat, Hr⟩
  · isplitr; · iexact HC
    isplitl [Ho] <;> iassumption
  imodintro
  isplitl [Hat]; · iexact Hat
  iexact Hr

theorem m1_eq (a b : ℕ) : seg (M1 (F := F) c) a b = iprop((seg (fun s => dutyTok ER (dCell c 0 (c + s)) 0 0) a b ∗ seg (fun s => reached ER (dCell c 0 (c + s)) 0) a b
    ∗ seg (fun s => dutyTok ER (dCell (c + s) 1 c) 0 0) a b) ∗ seg (fun s => ATP (F := F) c 0 (c + s)) a b) :=
  (seg_sep _ _ _ _).trans (congrArg (fun X => iprop(X ∗ seg (fun s => ATP (F := F) c 0 (c + s)) a b)) ((seg_sep _ _ _ _).trans (congrArg (fun X => iprop(seg (fun s => dutyTok ER (dCell c 0 (c + s)) 0 0) a b ∗ X)) (seg_sep _ _ _ _))))
theorem m2_eq (a b : ℕ) : seg (M2 (F := F) c) a b = iprop((seg (fun s => dutyTok ER (dCell c 2 (c + s)) 0 0) a b ∗ seg (fun s => reached ER (dCell c 2 (c + s)) 0) a b
    ∗ seg (fun s => dutyTok ER (dCell (c + s) 3 c) 0 0) a b) ∗ seg (fun s => ATP (F := F) c 2 (c + s)) a b) :=
  (seg_sep _ _ _ _).trans (congrArg (fun X => iprop(X ∗ seg (fun s => ATP (F := F) c 2 (c + s)) a b)) ((seg_sep _ _ _ _).trans (congrArg (fun X => iprop(seg (fun s => dutyTok ER (dCell c 2 (c + s)) 0 0) a b ∗ X)) (seg_sep _ _ _ _))))
theorem m3_eq (a b : ℕ) : seg (M3 (F := F) c) a b = iprop((seg (fun s => dutyTok ER (dCell c 4 (c + s)) 0 0) a b ∗ seg (fun s => reached ER (dCell c 4 (c + s)) 0) a b
    ∗ seg (fun s => dutyTok ER (dCell (c + s) 5 c) 0 0) a b) ∗ seg (fun s => ATP (F := F) c 4 (c + s)) a b) :=
  (seg_sep _ _ _ _).trans (congrArg (fun X => iprop(X ∗ seg (fun s => ATP (F := F) c 4 (c + s)) a b)) ((seg_sep _ _ _ _).trans (congrArg (fun X => iprop(seg (fun s => dutyTok ER (dCell c 4 (c + s)) 0 0) a b ∗ X)) (seg_sep _ _ _ _))))

theorem wt_near : seg (fun s => Wt (F := F) c 1 (c - s)) 1 8 = iprop(seg (fun s => cred (tallyAt (dCell c 1 (c - s)) () (amt 1))) 1 8 ∗ seg (fun s => ATP (F := F) c 1 (c + s)) 9 16) := by
  rw [← flip_near c (fun n => ATP (F := F) c 1 n)]; exact seg_sep _ _ _ _
theorem wt_far : seg (fun s => Wt (F := F) c 3 (c - s)) 8 16 = iprop(seg (fun s => cred (tallyAt (dCell c 3 (c - s)) () (amt 3))) 8 16 ∗ seg (fun s => ATP (F := F) c 3 (c + s)) 1 9) := by
  rw [← flip_far c (fun n => ATP (F := F) c 3 n)]; exact seg_sep _ _ _ _
theorem wt_max : seg (fun s => Wt (F := F) c 5 (c + s)) 1 16 = iprop(seg (fun s => cred (tallyAt (dCell c 5 (c + s)) () (amt 5))) 1 16 ∗ seg (fun s => ATP (F := F) c 5 (c + s)) 1 16) := seg_sep _ _ _ _

/-- What a device enters the kernel with. -/
def ENT : sProp 𝕄 := iprop(∃ K, Env I K ∗ S0 (F := F) c ∗ TK (F := F) c ∗ WT (F := F) c ∗ IDLE (F := F) c)

/-- A device opens its cells and enters. -/
theorem open_all : iprop(START I c ∗ bigSep Finset.univ fun p : Fin 6 × Fin 16 => (semVal (dCell c p.1 p.2) 0 : sProp 𝕄)) ⊢ (iprop(|={Set.univ}=> ENT I c) : sProp 𝕄) := by
  rw [← sems_eq]
  unfold START LIN CRED SEMS
  iintro ⟨⟨%K, #HE, ⟨Hat, Hop, Htk⟩, Hcb, Hc1, Hc3, Hc5⟩, V0, V1, V2, V3, V4, V5⟩
  ihave Hop := (BIBase.Entails.of_eq (ops_eq (F := F) c).symm) $$ Hop
  ihave Htk := (BIBase.Entails.of_eq (tks_eq (F := F) c).symm) $$ Htk
  unfold OPS TOKS
  icases Hop with ⟨O0, O1, O2, O3, O4, O5⟩
  icases Htk with ⟨TB, T0, T1, T2, T3, T4, T5⟩
  ihave V0 := (seg_cut (fun s => SV (F := F) c 0 (c + s)) (by decide : 0 ≤ 1) (by decide : 1 ≤ 16)) $$ V0
  icases V0 with ⟨V0a, V0⟩
  ihave V0 := (seg_cut (fun s => SV (F := F) c 0 (c + s)) (by decide : 1 ≤ 8) (by decide : 8 ≤ 16)) $$ V0
  icases V0 with ⟨V0, V0b⟩
  ihave V1 := (seg_cut (fun s => SV (F := F) c 1 (c + s)) (by decide : 0 ≤ 9) (by decide : 9 ≤ 16)) $$ V1
  icases V1 with ⟨V1a, V1⟩
  ihave V2 := (seg_cut (fun s => SV (F := F) c 2 (c + s)) (by decide : 0 ≤ 8) (by decide : 8 ≤ 16)) $$ V2
  icases V2 with ⟨V2a, V2⟩
  ihave V3 := (seg_cut (fun s => SV (F := F) c 3 (c + s)) (by decide : 0 ≤ 1) (by decide : 1 ≤ 16)) $$ V3
  icases V3 with ⟨V3a, V3⟩
  ihave V3 := (seg_cut (fun s => SV (F := F) c 3 (c + s)) (by decide : 1 ≤ 9) (by decide : 9 ≤ 16)) $$ V3
  icases V3 with ⟨V3, V3b⟩
  ihave V4 := (seg_cut (fun s => SV (F := F) c 4 (c + s)) (by decide : 0 ≤ 1) (by decide : 1 ≤ 16)) $$ V4
  icases V4 with ⟨V4a, V4⟩
  ihave V5 := (seg_cut (fun s => SV (F := F) c 5 (c + s)) (by decide : 0 ≤ 1) (by decide : 1 ≤ 16)) $$ V5
  icases V5 with ⟨V5a, V5⟩
  ihave O0 := (seg_take (fun s => (openTok ER (dCell c 0 (c + s)) : sProp 𝕄)) (by decide : 1 ≤ 8) (by decide : 8 ≤ 16)) $$ O0
  imod (open_seg I K c 0 1 8) $$ [O0 V0] with ⟨A0, R0⟩
  · isplitr; · iexact HE
    isplitl [O0] <;> iassumption
  ihave O1 := (seg_take (fun s => (openTok ER (dCell c 1 (c + s)) : sProp 𝕄)) (by decide : 9 ≤ 16) (by decide : 16 ≤ 16)) $$ O1
  imod (open_seg I K c 1 9 16) $$ [O1 V1] with ⟨A1, R1⟩
  · isplitr; · iexact HE
    isplitl [O1] <;> iassumption
  ihave O2 := (seg_take (fun s => (openTok ER (dCell c 2 (c + s)) : sProp 𝕄)) (by decide : 8 ≤ 16) (by decide : 16 ≤ 16)) $$ O2
  imod (open_seg I K c 2 8 16) $$ [O2 V2] with ⟨A2, R2⟩
  · isplitr; · iexact HE
    isplitl [O2] <;> iassumption
  ihave O3 := (seg_take (fun s => (openTok ER (dCell c 3 (c + s)) : sProp 𝕄)) (by decide : 1 ≤ 9) (by decide : 9 ≤ 16)) $$ O3
  imod (open_seg I K c 3 1 9) $$ [O3 V3] with ⟨A3, R3⟩
  · isplitr; · iexact HE
    isplitl [O3] <;> iassumption
  ihave O4 := (seg_take (fun s => (openTok ER (dCell c 4 (c + s)) : sProp 𝕄)) (by decide : 1 ≤ 16) (by decide : 16 ≤ 16)) $$ O4
  imod (open_seg I K c 4 1 16) $$ [O4 V4] with ⟨A4, R4⟩
  · isplitr; · iexact HE
    isplitl [O4] <;> iassumption
  ihave O5 := (seg_take (fun s => (openTok ER (dCell c 5 (c + s)) : sProp 𝕄)) (by decide : 1 ≤ 16) (by decide : 16 ≤ 16)) $$ O5
  imod (open_seg I K c 5 1 16) $$ [O5 V5] with ⟨A5, R5⟩
  · isplitr; · iexact HE
    isplitl [O5] <;> iassumption
  ihave TB := (seg_take (fun s => (dutyTok ER (barCell (c + s)) 0 c : sProp 𝕄)) (by decide : 1 ≤ 16) (by decide : 16 ≤ 16)) $$ TB
  ihave T0 := (seg_take (fun s => (dutyTok ER (dCell c 0 (c + s)) 0 0 : sProp 𝕄)) (by decide : 1 ≤ 8) (by decide : 8 ≤ 16)) $$ T0
  ihave T1 := (seg_take (fun s => (dutyTok ER (dCell (c + s) 1 c) 0 0 : sProp 𝕄)) (by decide : 1 ≤ 8) (by decide : 8 ≤ 16)) $$ T1
  ihave T2 := (seg_take (fun s => (dutyTok ER (dCell c 2 (c + s)) 0 0 : sProp 𝕄)) (by decide : 8 ≤ 16) (by decide : 16 ≤ 16)) $$ T2
  ihave T3 := (seg_take (fun s => (dutyTok ER (dCell (c + s) 3 c) 0 0 : sProp 𝕄)) (by decide : 8 ≤ 16) (by decide : 16 ≤ 16)) $$ T3
  ihave T4 := (seg_take (fun s => (dutyTok ER (dCell c 4 (c + s)) 0 0 : sProp 𝕄)) (by decide : 1 ≤ 16) (by decide : 16 ≤ 16)) $$ T4
  ihave T5 := (seg_take (fun s => (dutyTok ER (dCell (c + s) 5 c) 0 0 : sProp 𝕄)) (by decide : 1 ≤ 16) (by decide : 16 ≤ 16)) $$ T5
  imodintro
  unfold ENT S0 TK WT IDLE
  iexists K
  isplitr; · iexact HE
  isplitl [Hcb Hat T0 R0 T1 A0 T2 R2 T3 A2 T4 R4 T5 A4]
  · isplitl [Hcb]; · iexact Hcb
    isplitl [Hat]; · iexact Hat
    isplitl [T0 R0 T1 A0]
    · iapply (BIBase.Entails.of_eq (m1_eq (F := F) c 1 8).symm)
      isplitr [A0]
      · isplitl [T0]; · iexact T0
        isplitl [R0] <;> iassumption
      iexact A0
    isplitl [T2 R2 T3 A2]
    · iapply (BIBase.Entails.of_eq (m2_eq (F := F) c 8 16).symm)
      isplitr [A2]
      · isplitl [T2]; · iexact T2
        isplitl [R2] <;> iassumption
      iexact A2
    iapply (BIBase.Entails.of_eq (m3_eq (F := F) c 1 16).symm)
    isplitr [A4]
    · isplitl [T4]; · iexact T4
      isplitl [R4] <;> iassumption
    iexact A4
  isplitl [TB R5 R1 R3]
  · isplitl [TB]; · iexact TB
    isplitl [R5]; · iexact R5
    isplitl [R1] <;> iassumption
  isplitl [Hc1 A1 Hc3 A3 Hc5 A5]
  · isplitl [Hc1 A1]
    · iapply (BIBase.Entails.of_eq (wt_near (F := F) c).symm)
      isplitl [Hc1] <;> iassumption
    isplitl [Hc3 A3]
    · iapply (BIBase.Entails.of_eq (wt_far (F := F) c).symm)
      isplitl [Hc3] <;> iassumption
    iapply (BIBase.Entails.of_eq (wt_max (F := F) c).symm)
    isplitl [Hc5] <;> iassumption
  isplitl [V0a V0b]
  · isplitl [V0a] <;> iassumption
  isplitl [V1a]; · iexact V1a
  isplitl [V2a]; · iexact V2a
  isplitl [V3a V3b]
  · isplitl [V3a] <;> iassumption
  isplitl [V4a] <;> iassumption

end Cert.KernelIdeal.Ring

end
-- ==== Proof.Table.lean ====
module
public import proofs.«01_k».proof.Proof.Points
public import proofs.«01_k».proof.Proof.Gen.KernelIdeal.Regions
public import Idealize.ShloMosaic.Lib.Claim

/-! The table the host prepares: which column block a device computes at each grid point. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open Idealize.SL.Sem
open Idealize.ShloMosaic.StableHlo

variable {F : FTy → Type} [FloatOps F]

variable (m : (ℓ : Loc nD τ sig) → Buf (Elt F) ℓ)

theorem v8_eq (c : Dev nD) : V1 m c (main_v8 : DevRef τ sig) = (addi (broadcastInDim S16 ![] bcast_S_S16 (addi (Host.remui (Host.divui (constantI S_ 32 (Dev.word c)) (constantI S_ 32 1#32)) (constantI S_ 32 16#32)) (constantI S_ 32 1#32))) (iotaInDim S16 32 0) : IVec S16 32) := by
  unfold V1
  after_results
  try rfl
theorem c2_eq (c : Dev nD) : V1 m c (main_c_2 : DevRef τ sig) = (constantI S_ 32 16#32 : IVec S_ 32) := by
  unfold V1
  after_results
  try rfl

/-- The host's remainder of a table by sixteen. -/
def hrem (a : IVec S16 32) (b : IVec S_ 32) : IVec S16 32 :=
  let d : IVec S_ 32 := select (cmpi .eq b (constantI S_ 32 0#32)) (constantI S_ 32 1#32) b
  let r : IVec S16 32 := Host.remsi a (broadcastInDim S16 ![] bcast_S_S16 d)
  let n : IVec S16 1 := cmpi .ne r (broadcastInDim S16 ![] bcast_S_S16 (constantI S_ 32 0#32))
  let l : IVec S16 1 := cmpi .slt r (broadcastInDim S16 ![] bcast_S_S16 (constantI S_ 32 0#32))
  let g : IVec S16 1 := broadcastInDim S16 ![] bcast_S_S16 (cmpi .slt d (constantI S_ 32 0#32))
  select (andi (cmpi .ne l g) n) (addi r (broadcastInDim S16 ![] bcast_S_S16 d)) r

theorem v9_eq (c : Dev nD) : V2 m c (main_v9 : DevRef τ sig) = hrem (V1 m c (main_v8 : DevRef τ sig)) (V1 m c (main_c_2 : DevRef τ sig)) := by
  unfold V2
  generalize V1 m c = V
  after_results
  simp only [TRef.ofBuf_toBuf]
  rfl

/-- The table of device `c`. -/
def tblv (c : Dev nD) : IVec S16 32 :=
  hrem (addi (broadcastInDim S16 ![] bcast_S_S16 (addi (Host.remui (Host.divui (constantI S_ 32 (Dev.word c)) (constantI S_ 32 1#32)) (constantI S_ 32 16#32)) (constantI S_ 32 1#32))) (iotaInDim S16 32 0)) (constantI S_ 32 16#32)

/-- Entry `j` of the table of device `c` is the device `j + 1` steps ahead. -/
theorem tblv_at (c : Dev nD) (j : Fin 16) : tblv c (ix1 j) = BitVec.ofNat 32 (c + Fin.ofNat 16 (j.val + 1)).val := by
  revert c j; decide +kernel

theorem tbl_is (c : Dev nD) : isTbl (F := F) c (tblv c) := tblv_at c

/-- What the host leaves in the table's buffer. -/
theorem tbl_eq (c : Dev nD) : V2 m c (main_v9 : DevRef τ sig) = tblv c := by
  rw [v9_eq, v8_eq, c2_eq]; rfl

/-- The one table the launch is given. -/
def tabs (c : Dev nD) : pre0.Contents (Elt F)
  | 0 => tblv c
  | ⟨_ + 1, h⟩ => absurd h (Nat.not_lt.2 (Nat.le_add_left _ _))

theorem tr1 (c : Dev nD) (i : grid0.Coords) : cc0_transform_1 (F := F) k0_off1_inb numel1_S1 (tabs c) i = ![0, (c + Fin.ofNat 16 ((i 0).val + 1)).val] := by
  have h0 : (Scalar.indexCast (BitVec.ofNat 32 (i 0).val)).toNat = (i 0).val := by
    generalize i 0 = x
    change Fin 16 at x
    revert x; decide
  have e : (tabs (F := F) c).at 0 (Rect.unit (s := S16) ![(Scalar.indexCast (BitVec.ofNat 32 (i 0).val)).toNat] S1.size (k0_off1_inb i)) numel1_S1
      = BitVec.ofNat 32 (c + Fin.ofNat 16 ((i 0).val + 1)).val := by
    refine (congrArg (tblv c) (funext fun a => Fin.ext ?_)).trans (tblv_at c (i 0))
    match a with
    | 0 =>
      refine Eq.trans (b := (Scalar.indexCast (BitVec.ofNat 32 (i 0).val)).toNat + 1 * 0) ?_ (by rw [h0]; rfl)
      rfl
  unfold cc0_transform_1
  dsimp only
  rw [e]
  generalize c + Fin.ofNat 16 ((i 0).val + 1) = d
  revert d; decide

theorem tbl_ok (c : Dev nD) : ok0 (F := F) (tabs c) := by
  intro i
  rw [tr1]
  generalize c + Fin.ofNat 16 ((i 0).val + 1) = d
  have h : ∀ a, ((![0, d.val] : Fin 2 → ℕ) a + 1) * S4096x512.size a ≤ S4096x8192.size a := by revert d; decide
  exact ⟨h, Or.inr (Or.inr ⟨by decide, rfl, by show 0 * 4096 = 0; rfl, rfl⟩)⟩

/-- The tables a device hands to the launch. -/
def adm (c : Dev nD) : (p : Fin 1) → (pcfgs (F := F) p).Adm := fun _ => ⟨tabs c, tbl_ok c⟩

end Cert.KernelIdeal.Ring

end
-- ==== Proof.Body.lean ====
module
public import proofs.«01_k».proof.Proof.Leave
public import proofs.«01_k».proof.Proof.Table

/-! The grid points in a row: what a device holds before each of them. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

variable (K : GSem nD τ sig → ℕ) (c : Dev nD) (i : grid0.Coords) (h1 : (Memref.whole main_v9 : Memref sig .tc .smem S16 .i32).IsWhole)
  (a2 : Memref sig .tc .vmem S256x4096 .bf16) (h2 : a2.IsWhole) (a3 : Memref sig .tc .vmem S4096x512 .bf16) (h3 : a3.IsWhole)
  (h4 : outM.IsWhole) (h5 : xbM.IsWhole) (h6 : asmM.IsWhole) (h7 : f8M.IsWhole) (h8 : sendM.IsWhole) (h9 : f8sM.IsWhole) (h10 : scalM.IsWhole) (h11 : amaxM.IsWhole)

/-- Before the first point. -/
def PA : sProp 𝕄 :=
  iprop(∃ K, Env I K ∗ TB (F := F) c (tblv c) ∗ (∃ x, XX c x) ∗ AX0 (F := F) c ∗ S0 (F := F) c ∗ seg (BT (F := F) c) 1 16 ∗ seg (fun s => any (F := F) sendM c (c + s)) 1 16
    ∗ RCV (F := F) c ∗ REST (F := F) c)
/-- Between points, with `n + 1` blocks computed. -/
def PM (n : ℕ) : sProp 𝕄 :=
  iprop(∃ K, Env I K ∗ TB (F := F) c (tblv c) ∗ XX c (XB I c) ∗ AX c (AM I c n) ∗ MID I c (min (n + 1) 7 + 1) (n + 2) ∗ semVal (barCell c) 0
    ∗ RCV (F := F) c ∗ REST (F := F) c)
/-- After the last point. -/
def PZ : sProp 𝕄 :=
  iprop(TB (F := F) c (tblv c) ∗ XX c (XB I c) ∗ R7 I c ∗ FIN I c ∗ semVal (barCell c) 0 ∗ REST (F := F) c)
/-- Before point `n`. -/
def PHI : ℕ → sProp 𝕄
  | 0 => PA I c
  | n + 1 => if n = 15 then PZ I c else PM I c n
/-- What is owed before point `n`. -/
def owedN : ℕ → CellTallies nD τ sig Unit
  | 0 => O₀ c
  | n + 1 => if n = 15 then 0 else owedFrom c (min (n + 1) 7 + 1)

theorem PHI_mid {n : ℕ} (h : n < 15) : PHI I c (n + 1) = PM I c n := if_neg (by omega)
theorem owedN_mid {n : ℕ} (h : n < 15) : owedN c (n + 1) = owedFrom c (min (n + 1) 7 + 1) := if_neg (by omega)

theorem sg_one : SG (F := F) c 1 = iprop(Ow (F := F) c (O₀ c) ∗ seg (BT (F := F) c) 1 16) := rfl

/-- The output's staging buffer at contents `X`. -/
def hasO (X : Vec F S4096x512 .f32) : sProp 𝕄 :=
  iprop(∃ f, ⌜outM.view.read (Elt F) f = X⌝ ∗ (outM.view.loc (c : Thread nD τ) ↦[outM.view.set]{fullShare} f))

theorem o_in (X : Vec F S4096x512 .f32) : hasO c X ⊢ CX I c 0 := by
  unfold hasO CX
  rw [seg_nil]
  iintro ⟨%f, -, H⟩
  isplitl [H]
  · iapply (show (outM.view.loc (c : Thread nD τ) ↦[outM.view.set]{fullShare} f) ⊢ seg (OA (F := F) c) 0 16 from by
      rw [cut outM rectO rectO_disj rectO_cover c fullShare f, seg_sub c]
      exact seg_mono fun s _ _ => by unfold OA; iintro H; iexists f; iexact H)
    iexact H
  iempintro
theorem o_out : CX I c 16 ⊢ hasO c (OUT I c) := by
  unfold hasO CX
  iintro ⟨-, H⟩
  iexists (OUT I c : Buf (Elt F) (outM.view.loc (c : Thread nD τ)))
  isplitr; · ipureintro; rfl
  iapply (show seg (OD I c) 0 16 ⊢ (outM.view.loc (c : Thread nD τ) ↦[outM.view.set]{fullShare} (OUT I c : Buf (Elt F) (outM.view.loc (c : Thread nD τ)))) from by
    rw [cut outM rectO rectO_disj rectO_cover c fullShare (OUT I c : Buf (Elt F) (outM.view.loc (c : Thread nD τ))), seg_sub c]
    exact .rfl)
  iexact H

/-- The first point. -/
theorem body_0 (h0 : (i 0).val = 0) :
    iprop(PHI I c 0 ∗ Ow (F := F) c (owedN c 0) ∗ hasX c a2 (I.X c) ∗ hasW c a3 (I.W c (c + Fin.ofNat 16 1)))
      ⊢ WP c (cc0_body (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12)
        fun _ => iprop(PHI I c 1 ∗ Ow (F := F) c (owedN c 1) ∗ hasX c a2 (I.X c) ∗ hasW c a3 (I.W c (c + Fin.ofNat 16 1))) := by
  rw [PHI_mid I c (n := 0) (by decide), owedN_mid c (n := 0) (by decide)]
  unfold PHI owedN PA
  iintro ⟨⟨%K, #HE, HT, ⟨%x, HX⟩, HA, HS0, HB, HS, HR, HREST⟩, HO, Hx, Hw⟩
  iapply (point_first I K c i h1 a2 h2 a3 h3 h4 h5 h6 h7 h8 h9 h10 h11 (tbl_is c) h0 (Fin.ofNat 16 1) (by rw [h0]) rfl x)
    $$ [HT HX HA HO HB HS0 HS Hx Hw]
  · isplitr; · iexact HE
    isplitl [HT]; · iexact HT
    isplitl [HX]; · iexact HX
    isplitl [HA]; · iexact HA
    isplitl [HO HB]
    · rw [sg_one]; isplitl [HO]; · iexact HO
      iexact HB
    isplitl [HS0]; · iexact HS0
    isplitl [HS]; · iexact HS
    isplitl [Hx]; · iexact Hx
    iexact Hw
  iintro ⟨HT, HX, HA, HO, HM, Hbar, Hx, Hw⟩
  isplitl [HT HX HA HM Hbar HR HREST]
  · unfold PM
    iexists K
    isplitr; · iexact HE
    isplitl [HT]; · iexact HT
    isplitl [HX]; · iexact HX
    isplitl [HA]; · iexact HA
    isplitl [HM]; · iexact HM
    isplitl [Hbar]; · iexact Hbar
    isplitl [HR]; · iexact HR
    iexact HREST
  isplitl [HO]; · iexact HO
  isplitl [Hx]; · iexact Hx
  iexact Hw

/-- A point whose block is sent at once. -/
theorem body_near (u : ℕ) (hi : (i 0).val = u + 1) (hu : u < 6) :
    iprop(PHI I c (u + 1) ∗ Ow (F := F) c (owedN c (u + 1)) ∗ hasW c a3 (I.W c (c + Fin.ofNat 16 (u + 2))))
      ⊢ WP c (cc0_body (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12)
        fun _ => iprop(PHI I c (u + 2) ∗ Ow (F := F) c (owedN c (u + 2)) ∗ hasW c a3 (I.W c (c + Fin.ofNat 16 (u + 2)))) := by
  have hsv : (Fin.ofNat 16 (u + 2)).val = u + 2 := Nat.mod_eq_of_lt (by omega)
  have e1 : min (u + 1) 7 + 1 = (Fin.ofNat 16 (u + 2)).val := by rw [hsv]; omega
  have e2 : min (u + 1 + 1) 7 + 1 = (Fin.ofNat 16 (u + 2)).val + 1 := by rw [hsv]; omega
  rw [PHI_mid I c (n := u) (by omega), owedN_mid c (n := u) (by omega), PHI_mid I c (n := u + 1) (by omega), owedN_mid c (n := u + 1) (by omega)]
  unfold PM
  rw [e1, e2, show u + 1 + 2 = (Fin.ofNat 16 (u + 2)).val + 1 from by rw [hsv], show MID I c (Fin.ofNat 16 (u + 2)).val (u + 2) = MID I c (Fin.ofNat 16 (u + 2)).val (Fin.ofNat 16 (u + 2)).val from by rw [hsv]]
  iintro ⟨⟨%K, #HE, HT, HX, HA, HM, Hbar, HR, HREST⟩, HO, Hw⟩
  iapply (point_near I K c i h1 a2 h2 a3 h3 h4 h5 h6 h7 h8 h9 h10 h11 (tbl_is c) u hi (by omega) (Fin.ofNat 16 (u + 2)) (by rw [hi]) (by rw [hsv, hi]))
    $$ [HT HX HA HO HM Hw]
  · isplitr; · iexact HE
    isplitl [HT]; · iexact HT
    isplitl [HX]; · iexact HX
    isplitl [HA]; · iexact HA
    isplitl [HO]; · iexact HO
    isplitl [HM]; · iexact HM
    iexact Hw
  iintro ⟨HT, HX, HA, HO, HM, Hw⟩
  isplitl [HT HX HA HM Hbar HR HREST]
  · iexists K
    isplitr; · iexact HE
    isplitl [HT]; · iexact HT
    isplitl [HX]; · iexact HX
    isplitl [HA]; · iexact HA
    isplitl [HM]; · iexact HM
    isplitl [Hbar]; · iexact Hbar
    isplitl [HR]; · iexact HR
    iexact HREST
  isplitl [HO]; · iexact HO
  iexact Hw

/-- A point whose block is kept for the last point. -/
theorem body_far (u : ℕ) (hi : (i 0).val = u + 1) (hu : 6 ≤ u) (hu' : u < 14) :
    iprop(PHI I c (u + 1) ∗ Ow (F := F) c (owedN c (u + 1)) ∗ hasW c a3 (I.W c (c + Fin.ofNat 16 (u + 2))))
      ⊢ WP c (cc0_body (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12)
        fun _ => iprop(PHI I c (u + 2) ∗ Ow (F := F) c (owedN c (u + 2)) ∗ hasW c a3 (I.W c (c + Fin.ofNat 16 (u + 2)))) := by
  have hsv : (Fin.ofNat 16 (u + 2)).val = u + 2 := Nat.mod_eq_of_lt (by omega)
  have e1 : min (u + 1) 7 + 1 = 8 := by omega
  have e2 : min (u + 1 + 1) 7 + 1 = 8 := by omega
  rw [PHI_mid I c (n := u) (by omega), owedN_mid c (n := u) (by omega), PHI_mid I c (n := u + 1) (by omega), owedN_mid c (n := u + 1) (by omega)]
  unfold PM
  rw [e1, e2, show u + 1 + 2 = (Fin.ofNat 16 (u + 2)).val + 1 from by rw [hsv], show MID I c 8 (u + 2) = MID I c 8 (Fin.ofNat 16 (u + 2)).val from by rw [hsv]]
  iintro ⟨⟨%K, #HE, HT, HX, HA, HM, Hbar, HR, HREST⟩, HO, Hw⟩
  iapply (point_far I c i h1 a2 h2 a3 h3 h4 h5 h6 h7 h8 h9 h10 h11 (tbl_is c) u hi (by omega) (by omega) (Fin.ofNat 16 (u + 2)) (by rw [hi]) (by rw [hsv, hi]))
    $$ [HT HX HA HM Hw]
  · isplitl [HT]; · iexact HT
    isplitl [HX]; · iexact HX
    isplitl [HA]; · iexact HA
    isplitl [HM]; · iexact HM
    iexact Hw
  iintro ⟨HT, HX, HA, HM, Hw⟩
  isplitl [HT HX HA HM Hbar HR HREST]
  · iexists K
    isplitr; · iexact HE
    isplitl [HT]; · iexact HT
    isplitl [HX]; · iexact HX
    isplitl [HA]; · iexact HA
    isplitl [HM]; · iexact HM
    isplitl [Hbar]; · iexact Hbar
    isplitl [HR]; · iexact HR
    iexact HREST
  isplitl [HO]; · iexact HO
  iexact Hw

theorem dues_end (f : Fin 16 → CellTallies nD τ sig Unit) : dues f 16 16 = 0 := dues_nil f 16

/-- The last point. -/
theorem body_15 (hi : (i 0).val = 15) (X : Vec F S4096x512 .f32) :
    iprop(PHI I c 15 ∗ Ow (F := F) c (owedN c 15) ∗ hasW c a3 (I.W c (c + Fin.ofNat 16 16)) ∗ hasO c X)
      ⊢ WP c (cc0_body (F := F) i (Memref.whole main_v9) h1 a2 h2 a3 h3 outM h4 xbM h5 asmM h6 f8M h7 sendM h8 f8sM h9 scalM h10 amaxM h11 cc0_scratch7 cc0_scratch8 cc0_scratch9 cc0_scratch10 cc0_scratch11 cc0_scratch12)
        fun _ => iprop(PHI I c 16 ∗ Ow (F := F) c (owedN c 16) ∗ hasW c a3 (I.W c (c + Fin.ofNat 16 16)) ∗ hasO c (OUT I c)) := by
  rw [PHI_mid I c (n := 14) (by decide), owedN_mid c (n := 14) (by decide), show PHI I c 16 = PZ I c from rfl, show owedN c 16 = 0 from rfl,
    show Fin.ofNat 16 16 = (⟨0, by decide⟩ : Fin 16) from rfl]
  unfold PM PZ FIN
  iintro ⟨⟨%K, #HE, HT, HX, HA, HM, Hbar, HR, HREST⟩, HO, Hw, Ho⟩
  ihave Ho := (o_in I c X) $$ Ho
  iapply (point_last I K c i h1 a2 h2 a3 h3 h4 h5 h6 h7 h8 h9 h10 h11 (tbl_is c) hi)
    $$ [HT HX HA HO HM HR Ho Hw]
  · isplitr; · iexact HE
    isplitl [HT]; · iexact HT
    isplitl [HX]; · iexact HX
    isplitl [HA]; · iexact HA
    isplitl [HO]; · iexact HO
    isplitl [HM]; · iexact HM
    isplitl [HR]; · iexact HR
    isplitl [Ho]; · iexact Ho
    iexact Hw
  unfold S15
  iintro ⟨HT, HX, H7, ⟨CO_, CS_, CR_, CP_, CN_, CG_, CX_, CY_, CA_, CB_⟩, Hw⟩
  ihave HO := (show CO (F := F) c 16 16 ⊢ Ow (F := F) c 0 from by unfold CO; rw [dues_end, dues_end, add_zero]) $$ CO_
  isplitl [HT HX H7 CS_ CR_ CP_ CN_ CG_ CY_ CA_ CB_ Hbar HREST]
  · isplitl [HT]; · iexact HT
    isplitl [HX]; · iexact HX
    isplitl [H7]; · iexact H7
    isplitl [CS_ CR_ CP_ CN_ CG_ CY_ CA_ CB_]
    · isplitl [CS_]; · iexact CS_
      isplitl [CR_]; · iexact CR_
      isplitl [CP_]; · iexact CP_
      isplitl [CN_]; · iexact CN_
      isplitl [CG_]; · iexact CG_
      isplitl [CY_]; · iexact CY_
      isplitl [CA_]; · iexact CA_
      iexact CB_
    isplitl [Hbar]; · iexact Hbar
    iexact HREST
  isplitl [HO]; · iexact HO
  isplitl [Hw]; · iexact Hw
  iapply (o_out I c)
  iexact CX_

end Cert.KernelIdeal.Ring

end
-- ==== Proof.Phi.lean ====
module
public import proofs.«01_k».proof.Proof.Body
public import proofs.«01_k».proof.Proof.Gen.KernelIdeal.Launch

/-! The kernel's data for the launch: what the windows hold at each point, and the invariant between the
points. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F] (I : Inp F)

local notation "𝕄" => MT nD τ sig Unit (Elt F) ℕ UU ℕ

variable (m : (ℓ : Loc nD τ sig) → Buf (Elt F) ℓ)

/-- The operands, read off the memory at launch. -/
def inpOf : Inp F where
  X c := m ((c : Thread nD τ).loc main_arg0)
  W c n := fun i => m ((c : Thread nD τ).loc main_arg1)
    (fun | 0 => (i 0 : Fin 4096) | 1 => (⟨512 * n.val + (i 1).val, by have h : (i 1).val < 512 := (i 1).isLt; omega⟩ : Fin 8192))

/-- What the pipeline is given on device `c`. -/
def dats (p : Fin 1) (c : Dev nD) : Dat τ (Elt F) Unit ℕ UU ℕ (Pipeline.pinD (pcfgs (F := F)) adm c p) c where
  A w := match w with
    | ⟨0, _⟩ => m ((c : Thread nD τ).loc main_arg0)
    | ⟨1, _⟩ => m ((c : Thread nD τ).loc main_arg1)
    | ⟨2, _⟩ => m ((c : Thread nD τ).loc main_v10)
  after w t := match w with
    | ⟨0, _⟩ => (inpOf m).X c
    | ⟨1, _⟩ => (inpOf m).W c (c + Fin.ofNat 16 (t.val + 1))
    | ⟨2, _⟩ => OUT (inpOf m) c
  Φ t := PHI (inpOf m) c t.val
  q _ := fullShare
  owed t := owedN c t.val

theorem coords_val : ∀ t : Fin grid0.N, (grid0.coords t 0).val = t.val := by decide +kernel

/-- The first operand is its own block at every point. -/
theorem blk_w0 (c : Dev nD) (t : Fin grid0.N) :
    (dats m 0 c).blockOf 0 t = (inpOf m).X c := by
  funext (j : S256x4096.Idx)
  refine congrArg (m ((c : Thread nD τ).loc main_arg0)) (funext fun (a : Fin 2) => Fin.ext ?_)
  match a with
  | 0 => exact (show 0 * 256 + 1 * (j 0).val = (j 0).val by omega)
  | 1 => exact (show 0 * 4096 + 1 * (j 1).val = (j 1).val by omega)

theorem idx_w1 (c : Dev nD) (t : Fin grid0.N) :
    ((Pipeline.pinD (pcfgs (F := F)) adm c 0).win 1).index t = ![0, (c + Fin.ofNat 16 (t.val + 1)).val] :=
  (tr1 (F := F) c (grid0.coords t)).trans (by rw [coords_val])

/-- The second operand's block index at point `t`. -/
def ixv (c : Dev nD) (t : Fin grid0.N) : Fin 2 → ℕ := ((Pipeline.pinD (pcfgs (F := F)) adm c 0).win 1).index t

theorem ixv_eq (c : Dev nD) (t : Fin grid0.N) : ixv (F := F) c t = ![0, (c + Fin.ofNat 16 (t.val + 1)).val] := idx_w1 c t

/-- The second operand's block at point `t` is the one that device `c + t + 1` is due. -/
theorem blk_w1 (c : Dev nD) (t : Fin grid0.N) :
    (dats m 0 c).blockOf 1 t = (inpOf m).W c (c + Fin.ofNat 16 (t.val + 1)) := by
  funext (j : S4096x512.Idx)
  refine congrArg (m ((c : Thread nD τ).loc main_arg1)) (funext fun (a : Fin 2) => Fin.ext ?_)
  match a with
  | 0 =>
    refine Eq.trans (b := ixv (F := F) c t 0 * 4096 + 1 * (j 0).val) rfl ?_
    rw [ixv_eq]
    exact (show 0 * 4096 + 1 * (j 0).val = (j 0).val by omega)
  | 1 =>
    refine Eq.trans (b := ixv (F := F) c t 1 * 512 + 1 * (j 1).val) rfl ?_
    rw [ixv_eq]
    exact (show (c + Fin.ofNat 16 (t.val + 1)).val * 512 + 1 * (j 1).val = 512 * (c + Fin.ofNat 16 (t.val + 1)).val + (j 1).val by omega)

theorem step_ne : ∀ (c : Dev nD) (n : Fin 16), 0 < n.val → (c + Fin.ofNat 16 (n.val + 1)).val ≠ (c + Fin.ofNat 16 (n.val - 1 + 1)).val := by
  decide +kernel

theorem fetch_w1 (c : Dev nD) (t : Fin grid0.N) :
    ((Pipeline.pinD (pcfgs (F := F)) adm c 0).win 1).fetch t = true := by
  unfold Pipeline.Window.fetch
  refine Bool.and_eq_true_iff.2 ⟨rfl, ?_⟩
  by_cases h0 : t.val = 0
  · simp [h0]
  · refine Bool.or_eq_true_iff.2 (Or.inr (decide_eq_true ⟨Nat.pos_of_ne_zero h0, fun e => ?_⟩))
    rw [idx_w1, idx_w1] at e
    exact step_ne c ⟨t.val, t.isLt⟩ (Nat.pos_of_ne_zero h0) (congrFun e 1)

theorem before_w0' (c : Dev nD) (t : Fin grid0.N) (d) : (dats m 0 c).before 0 t d = (inpOf m).X c := by
  by_cases hf : ((Pipeline.pinD (pcfgs (F := F)) adm c 0).win 0).fetch t = true
  · unfold Dat.before
    rw [if_pos hf]
    exact blk_w0 m c t
  · have h0 : t.val ≠ 0 := fun h0 => hf (Bool.and_eq_true_iff.2 ⟨rfl, Bool.or_eq_true_iff.2 (Or.inl (decide_eq_true h0))⟩)
    rw [Dat.before_of_pos _ _ _ h0 (Bool.eq_false_iff.2 hf)]
    rfl

theorem before_w1' (c : Dev nD) (t : Fin grid0.N) (d) :
    (dats m 0 c).before 1 t d = (inpOf m).W c (c + Fin.ofNat 16 (t.val + 1)) := by
  unfold Dat.before
  rw [if_pos (fetch_w1 c t)]
  exact blk_w1 m c t

theorem before_w0 (c : Dev nD) (t : Fin grid0.N) (d) : (dats m 0 c).before (0 : Fin 3) t d = (inpOf m).X c := before_w0' m c t d

theorem before_w1 (c : Dev nD) (t : Fin grid0.N) (d) :
    (dats m 0 c).before (1 : Fin 3) t d = (inpOf m).W c (c + Fin.ofNat 16 (t.val + 1)) := before_w1' m c t d

end Cert.KernelIdeal.Ring

end
-- ==== Proof.Obl.lean ====
module
public import proofs.«01_k».proof.Proof.Phi

/-! The body's obligation at every grid point. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F] (I : Inp F)

local notation "𝕄" => MT nD τ sig Unit (Elt F) ℕ UU ℕ

variable (m : (ℓ : Loc nD τ sig) → Buf (Elt F) ℓ)

theorem idle_w2 : ∀ t : Fin grid0.N, t.val < 15 → idle0 2 (grid0.coords t) = true := by decide +kernel
theorem busy_w2 : ∀ t : Fin grid0.N, t.val = 15 → idle0 2 (grid0.coords t) = false := by decide +kernel

theorem flush_w2 (c : Dev nD) (t : Fin grid0.N) (ht : t.val < 15) :
    ((Pipeline.pinD (pcfgs (F := F)) adm c 0).win 2).flush t = false := by
  unfold Pipeline.Window.flush
  refine Bool.and_eq_false_iff.2 (Or.inr (Bool.or_eq_false_iff.2 ⟨decide_eq_false fun h => ?_, decide_eq_false fun ⟨h, e⟩ => e rfl⟩))
  have := N_0
  change t.val + 1 = grid0.N at h
  omega

/-- The body at point `t` with its three windows. -/
def bodyAt (t : Fin grid0.N) (a2 : Σ' a : Memref sig .tc .vmem S256x4096 .bf16, a.IsWhole) (a3 : Σ' a : Memref sig .tc .vmem S4096x512 .bf16, a.IsWhole)
    (a4 : Σ' a : Memref sig .tc .vmem S4096x512 .f32, a.IsWhole) :=
  cc0_body (F := F) (grid0.coords t) (Memref.whole main_v9) (Memref.isWhole_whole _) a2.1 a2.2 a3.1 a3.2 a4.1 a4.2
    xbM (Memref.isWhole_whole _) asmM (Memref.isWhole_whole _) f8M (Memref.isWhole_whole _) sendM (Memref.isWhole_whole _) f8sM (Memref.isWhole_whole _) scalM (Memref.isWhole_whole _) amaxM (Memref.isWhole_whole _)
    cc0_scratch7 cc0_scratch8 cc0_scratch9 cc0_scratch10 cc0_scratch11 cc0_scratch12

theorem defs_at : (defs₀ (F := F)) .tc (0 : Fin 1) = fun a => bodyAt (F := F) a.1 ⟨spec0_0.stage (a.2 0), hstage0_0 ((a.2 0).cast nbuf0_0)⟩
    ⟨spec0_1.stage (a.2 1), hstage0_1 ((a.2 1).cast nbuf0_1)⟩ ⟨spec0_2.stage (a.2 2), hstage0_2 ((a.2 2).cast nbuf0_2)⟩ := rfl

theorem stage_w2 (j : Fin spec0_2.nbuf) : (⟨spec0_2.stage j, hstage0_2 (j.cast nbuf0_2)⟩ : Σ' a : Memref sig .tc .vmem S4096x512 .f32, a.IsWhole) = ⟨outM, Memref.isWhole_whole _⟩ := by
  obtain rfl : j = (0 : Fin 1) := Subsingleton.elim (α := Fin 1) _ _
  rfl

theorem defs_tc (a) : (defs₀ (F := F)) .tc (0 : Fin 1) a = bodyAt (F := F) a.1 ⟨spec0_0.stage (a.2 0), hstage0_0 ((a.2 0).cast nbuf0_0)⟩
    ⟨spec0_1.stage (a.2 1), hstage0_1 ((a.2 1).cast nbuf0_1)⟩ ⟨outM, Memref.isWhole_whole _⟩ :=
  (congrFun defs_at a).trans (congrArg (bodyAt _ _ _) (stage_w2 _))

theorem own_w2 (c : Dev nD) (j : Fin 1) (X : Vec F S4096x512 .f32) : owns (c : Thread nD τ) (spec0_2.stage j) fullShare X = hasO c X := by
  obtain rfl : j = 0 := Subsingleton.elim _ _
  rfl

theorem owes_in (c : Dev nD) (t : Fin grid0.N) : (dats (F := F) m 0 c).owesAt () t.castSucc ⊢ Ow (F := F) c (owedN c t.val) := by
  unfold Dat.owesAt Pipeline.owesWithin Ow
  iintro ⟨%W, -, HO⟩
  iexists W
  iexact HO
theorem owes_out (c : Dev nD) (t : Fin grid0.N) : Ow (F := F) c (owedN c (t.val + 1)) ⊢ (dats (F := F) m 0 c).owesAt () t.succ := by
  unfold Dat.owesAt Pipeline.owesWithin Ow
  iintro ⟨%W, HO⟩
  iexists W
  isplitr; · ipureintro; exact fun _ _ => Or.inl trivial
  iexact HO

theorem pick {b : Bool} (hb : b = false) (A B : sProp 𝕄) : A ⊢ (match (generalizing := false) b with | false => A | true => B) := by subst hb; exact .rfl

section
variable (c : Dev nD) (t : Fin grid0.N) (a2 : Σ' a : Memref sig .tc .vmem S256x4096 .bf16, a.IsWhole) (a3 : Σ' a : Memref sig .tc .vmem S4096x512 .bf16, a.IsWhole)

theorem ent_frame {α : Type} {p : Prog (TpuEff nD τ sig (Elt F) Λ₀ .tc) α} {A B R : sProp 𝕄} {Q Q' : α → sProp 𝕄}
    (hA : A ⊢ iprop(R ∗ B)) (h : B ⊢ WP c p Q) (hQ : ∀ a, iprop(R ∗ Q a) ⊢ Q' a) : A ⊢ WP c p Q' := by
  refine BIBase.Entails.trans hA ?_
  refine BIBase.Entails.trans (BI.sep_mono (BI.Entails.refl _) h) ?_
  unfold WP
  exact BIBase.Entails.trans (wp_frame_l _ _ _) (wp_mono _ _ _ hQ)

/-- The body at a point before the last. -/
theorem at_lt (ht : t.val < 15) :
    iprop(PHI (inpOf m) c t.val ∗ Ow (F := F) c (owedN c t.val) ∗ hasX c a2.1 ((inpOf m).X c) ∗ hasW c a3.1 ((inpOf m).W c (c + Fin.ofNat 16 (t.val + 1))))
      ⊢ WP c (bodyAt (F := F) t a2 a3 ⟨outM, Memref.isWhole_whole _⟩)
        fun _ => iprop(PHI (inpOf m) c (t.val + 1) ∗ Ow (F := F) c (owedN c (t.val + 1)) ∗ hasX c a2.1 ((inpOf m).X c) ∗ hasW c a3.1 ((inpOf m).W c (c + Fin.ofNat 16 (t.val + 1)))) := by
  have hc := coords_val t
  unfold bodyAt
  rcases Nat.eq_zero_or_pos t.val with h0 | h0
  · rw [h0] at hc ⊢
    exact body_0 (inpOf m) c (grid0.coords t) (Memref.isWhole_whole _) a2.1 a2.2 a3.1 a3.2 (Memref.isWhole_whole _) (Memref.isWhole_whole _) (Memref.isWhole_whole _) (Memref.isWhole_whole _) (Memref.isWhole_whole _) (Memref.isWhole_whole _) (Memref.isWhole_whole _) (Memref.isWhole_whole _) hc
  · obtain ⟨u, hu⟩ : ∃ u, t.val = u + 1 := ⟨t.val - 1, by omega⟩
    rw [hu] at hc ht ⊢
    by_cases h : u < 6
    · refine ent_frame c (R := hasX c a2.1 ((inpOf m).X c)) ?_ (body_near (inpOf m) c (grid0.coords t) (Memref.isWhole_whole _) a2.1 a2.2 a3.1 a3.2 (Memref.isWhole_whole _) (Memref.isWhole_whole _) (Memref.isWhole_whole _) (Memref.isWhole_whole _) (Memref.isWhole_whole _) (Memref.isWhole_whole _) (Memref.isWhole_whole _) (Memref.isWhole_whole _) u hc h) ?_
      · iintro ⟨HP, HO, Hx, Hw⟩
        isplitl [Hx]; · iexact Hx
        isplitl [HP]; · iexact HP
        isplitl [HO]; · iexact HO
        iexact Hw
      · intro _
        iintro ⟨Hx, HP, HO, Hw⟩
        isplitl [HP]; · iexact HP
        isplitl [HO]; · iexact HO
        isplitl [Hx]; · iexact Hx
        iexact Hw
    · refine ent_frame c (R := hasX c a2.1 ((inpOf m).X c)) ?_ (body_far (inpOf m) c (grid0.coords t) (Memref.isWhole_whole _) a2.1 a2.2 a3.1 a3.2 (Memref.isWhole_whole _) (Memref.isWhole_whole _) (Memref.isWhole_whole _) (Memref.isWhole_whole _) (Memref.isWhole_whole _) (Memref.isWhole_whole _) (Memref.isWhole_whole _) (Memref.isWhole_whole _) u hc (by omega) (by omega)) ?_
      · iintro ⟨HP, HO, Hx, Hw⟩
        isplitl [Hx]; · iexact Hx
        isplitl [HP]; · iexact HP
        isplitl [HO]; · iexact HO
        iexact Hw
      · intro _
        iintro ⟨Hx, HP, HO, Hw⟩
        isplitl [HP]; · iexact HP
        isplitl [HO]; · iexact HO
        isplitl [Hx]; · iexact Hx
        iexact Hw

/-- The body at the last point. -/
theorem at_last (ht : t.val = 15) (X : Vec F S4096x512 .f32) :
    iprop(PHI (inpOf m) c t.val ∗ Ow (F := F) c (owedN c t.val) ∗ hasX c a2.1 ((inpOf m).X c) ∗ hasW c a3.1 ((inpOf m).W c (c + Fin.ofNat 16 (t.val + 1))) ∗ hasO c X)
      ⊢ WP c (bodyAt (F := F) t a2 a3 ⟨outM, Memref.isWhole_whole _⟩)
        fun _ => iprop(PHI (inpOf m) c (t.val + 1) ∗ Ow (F := F) c (owedN c (t.val + 1)) ∗ hasX c a2.1 ((inpOf m).X c) ∗ hasW c a3.1 ((inpOf m).W c (c + Fin.ofNat 16 (t.val + 1)))
          ∗ hasO c (OUT (inpOf m) c)) := by
  have hc := coords_val t
  unfold bodyAt
  rw [ht] at hc ⊢
  refine ent_frame c (R := hasX c a2.1 ((inpOf m).X c)) ?_ (body_15 (inpOf m) c (grid0.coords t) (Memref.isWhole_whole _) a2.1 a2.2 a3.1 a3.2 (Memref.isWhole_whole _) (Memref.isWhole_whole _) (Memref.isWhole_whole _) (Memref.isWhole_whole _) (Memref.isWhole_whole _) (Memref.isWhole_whole _) (Memref.isWhole_whole _) (Memref.isWhole_whole _) hc X) ?_
  · iintro ⟨HP, HO, Hx, Hw, Ho⟩
    isplitl [Hx]; · iexact Hx
    isplitl [HP]; · iexact HP
    isplitl [HO]; · iexact HO
    isplitl [Hw]; · iexact Hw
    iexact Ho
  · intro _
    iintro ⟨Hx, HP, HO, Hw, Ho⟩
    isplitl [HP]; · iexact HP
    isplitl [HO]; · iexact HO
    isplitl [Hx]; · iexact Hx
    isplitl [Hw]; · iexact Hw
    iexact Ho

/-- The same in the words of the pipeline; `B` is what the body does not touch. -/
theorem obl_lt (ht : t.val < 15) (B : sProp 𝕄) :
    iprop(PHI (inpOf m) c t.val ∗ (dats m 0 c).owesAt () t.castSucc ∗ (∃ _ : Vec F S256x4096 .bf16, hasX c a2.1 ((inpOf m).X c)) ∗ (∃ _ : Vec F S4096x512 .bf16, hasW c a3.1 ((inpOf m).W c (c + Fin.ofNat 16 (t.val + 1)))) ∗ B)
      ⊢ WP c (bodyAt (F := F) t a2 a3 ⟨outM, Memref.isWhole_whole _⟩)
        fun _ => iprop(PHI (inpOf m) c (t.val + 1) ∗ (dats m 0 c).owesAt () t.succ ∗ hasX c a2.1 ((inpOf m).X c) ∗ hasW c a3.1 ((inpOf m).W c (c + Fin.ofNat 16 (t.val + 1))) ∗ B) := by
  refine ent_frame c (R := B) ?_ (at_lt m c t a2 a3 ht) ?_
  · iintro ⟨HP, HO, ⟨%_, Hx⟩, ⟨%_, Hw⟩, Ho⟩
    ihave HO := (owes_in m c t) $$ HO
    isplitl [Ho]; · iexact Ho
    isplitl [HP]; · iexact HP
    isplitl [HO]; · iexact HO
    isplitl [Hx]; · iexact Hx
    iexact Hw
  · intro _
    iintro ⟨Ho, HP, HO, Hx, Hw⟩
    ihave HO := (owes_out m c t) $$ HO
    isplitl [HP]; · iexact HP
    isplitl [HO]; · iexact HO
    isplitl [Hx]; · iexact Hx
    isplitl [Hw]; · iexact Hw
    iexact Ho

/-- The last point in the words of the pipeline. -/
theorem obl_last (ht : t.val = 15) (g : Vec F S4096x512 .f32 → Vec F S4096x512 .f32) :
    iprop(PHI (inpOf m) c t.val ∗ (dats m 0 c).owesAt () t.castSucc ∗ (∃ _ : Vec F S256x4096 .bf16, hasX c a2.1 ((inpOf m).X c)) ∗ (∃ _ : Vec F S4096x512 .bf16, hasW c a3.1 ((inpOf m).W c (c + Fin.ofNat 16 (t.val + 1))))
        ∗ (∃ d : Vec F S4096x512 .f32, hasO c (g d)))
      ⊢ WP c (bodyAt (F := F) t a2 a3 ⟨outM, Memref.isWhole_whole _⟩)
        fun _ => iprop(PHI (inpOf m) c (t.val + 1) ∗ (dats m 0 c).owesAt () t.succ ∗ hasX c a2.1 ((inpOf m).X c) ∗ hasW c a3.1 ((inpOf m).W c (c + Fin.ofNat 16 (t.val + 1)))
          ∗ hasO c (OUT (inpOf m) c)) := by
  iintro ⟨HP, HO, ⟨%_, Hx⟩, ⟨%_, Hw⟩, ⟨%d, Ho⟩⟩
  ihave HO := (owes_in m c t) $$ HO
  iapply (ent_frame c (A := iprop(PHI (inpOf m) c t.val ∗ Ow (F := F) c (owedN c t.val) ∗ hasX c a2.1 ((inpOf m).X c) ∗ hasW c a3.1 ((inpOf m).W c (c + Fin.ofNat 16 (t.val + 1))) ∗ hasO c (g d))) (R := iprop(emp)) (by
      iintro H
      isplitr; · iempintro
      iexact H) (at_last m c t a2 a3 ht (g d)) (by
      intro _
      iintro ⟨-, HP, HO, Hx, Hw, Ho⟩
      ihave HO := (owes_out m c t) $$ HO
      isplitl [HP]; · iexact HP
      isplitl [HO]; · iexact HO
      isplitl [Hx]; · iexact Hx
      isplitl [Hw]; · iexact Hw
      iexact Ho))
  isplitl [HP]; · iexact HP
  isplitl [HO]; · iexact HO
  isplitl [Hx]; · iexact Hx
  isplitl [Hw]; · iexact Hw
  iexact Ho
end

/-- The body at every point takes what the pipeline hands it to what the pipeline expects back. -/
theorem body_obligation (c : Dev nD) : BodyObligation (dats (F := F) m 0 c) (defs₀ (F := F)) 𝒱₀ () Set.univ := fun t => by
  rw [bigSep_W0, bigSep_W0]
  dsimp only
  simp only [before_w0, before_w1]
  rw [defs_tc]
  by_cases ht : t.val < 15
  · rw [show idle0 2 (((pcfgs (F := F) 0).gridAt (adm c 0).1).coords t) = true from idle_w2 t ht]
    exact BIBase.Entails.trans (obl_lt m c t ⟨_, _⟩ ⟨_, _⟩ ht _) (wp_mono _ _ _ fun _ => BI.sep_mono (BI.Entails.refl _) (BI.sep_mono (BI.Entails.refl _)
      (BI.sep_mono (BI.Entails.refl _) (BI.sep_mono (BI.Entails.refl _) (pick (flush_w2 (F := F) c t ht) _ _)))))
  · have ht : t.val = 15 := by
      have h : t.val < grid0.N := t.isLt
      have := N_0
      omega
    rw [show idle0 2 (((pcfgs (F := F) 0).gridAt (adm c 0).1).coords t) = false from busy_w2 t ht]
    have e : (Pipeline.pinD (pcfgs (F := F)) adm c 0).slots t (2 : Fin 3) = (0 : Fin 1) := Subsingleton.elim (α := Fin 1) _ _
    rw [e]
    exact obl_last m c t ⟨_, _⟩ ⟨_, _⟩ ht ((dats m 0 c).before 2 t)

end Cert.KernelIdeal.Ring

end
-- ==== Proof.Region.lean ====
module
public import proofs.«01_k».proof.Proof.Open
public import proofs.«01_k».proof.Proof.Obl

/-! The kernel's launch as one region of the program, between what a device brings and what it leaves. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

open Idealize.ShloMosaic.Pipeline (Dat Cfg BodyObligation)

variable (m : (ℓ : Loc nD τ sig) → Buf (Elt F) ℓ)

/-- What a device brings to the kernel besides its buffers. -/
def REST0 (c : Dev nD) : sProp 𝕄 := iprop(START (inpOf m) c ∗ Ow (F := F) c (O₀ c))
/-- The same at every place of the host's program. -/
def EE (_ : Fin 2) (c : Dev nD) : sProp 𝕄 := REST0 m c

theorem owes_first (c : Dev nD) : Ow (F := F) c (O₀ c) ⊢ (dats (F := F) m 0 c).owesAt () 0 := by
  unfold Dat.owesAt Pipeline.owesWithin Ow
  iintro ⟨%W, HO⟩
  iexists W
  isplitr; · ipureintro; exact fun _ _ => Or.inl trivial
  iexact HO
theorem owes_last (c : Dev nD) : (dats (F := F) m 0 c).owesAt () (Fin.last grid0.N) ⊢ (iprop(∃ W, owes (c.tc : Thread nD τ) (0 : CellTallies nD τ sig Unit) W) : sProp 𝕄) := by
  unfold Dat.owesAt Pipeline.owesWithin
  iintro ⟨%W, -, HO⟩
  iexists W
  iexact HO

theorem above_owedN (c : Dev nD) : ∀ n : ℕ, Above 0 (owedN c n)
  | 0 => above_O₀ c
  | n + 1 => by
    show Above 0 (if n = 15 then 0 else owedFrom c (min (n + 1) 7 + 1))
    by_cases h : n = 15
    · rw [if_pos h]; exact Above.zero 0
    · rw [if_neg h]; exact (above_owedFrom c _).mono (by decide)

theorem sem_low : ∀ (w : Fin 3) (s : Fin (spec0 w).nbuf), ((spec0 w).sem s).val < 4 := by decide

theorem waits (c : Dev nD) : (levAts L lv : sProp 𝕄) ⊢ Pipeline.PerCore.cellsWaits (Pipeline.pinD (pcfgs (F := F)) adm) (dats m) () 0 c :=
  Pipeline.PerCore.cellsWaits_intro _ (dats m) () 0 c fun w s t =>
    mayWait c _ 0 (by
      have h : ((spec0 w).sem s).val < 4 := sem_low w s
      show lv ((c : Thread nD τ), .dma ((spec0 w).sem s)) () ≤ 0
      unfold lv
      simp only
      rw [if_pos h]) (above_owedN c t.val)

theorem share_full (c : Dev nD) (w : Fin 3) : (dats m 0 c).share w = fullShare := (dats m 0 c).share_full (fun _ => rfl) w

theorem table_eq (c : Dev nD) : (Pipeline.prefHeld (Ix := Unit) (Name := ℕ) (U := UU) (Lvl := ℕ) (Val := Elt F) (pcfgs (F := F) 0).pre c (fun _ => fullShare) (adm (F := F) c 0).1 : sProp 𝕄) = TB c (tblv c) :=
  bigSep_univ_eq_bigSepL [(0 : Fin 1)] (by decide) (by decide) _

theorem own_eq (c : Dev nD) : (Pipeline.ownSems0 (Ix := Unit) (Name := ℕ) (U := UU) (Lvl := ℕ) (Val := Elt F) osem c : sProp 𝕄) = bigSep Finset.univ fun p : Fin 6 × Fin 16 => (semVal (dCell c p.1 p.2) 0 : sProp 𝕄) := rfl

/-- The buffers a device brings are the arrays of the kernel and its table. -/
theorem arrays_in (c : Dev nD) : (StableHlo.held (c : Thread nD τ) (Pipeline.ucRefs τ sig) (V2 m c) : sProp 𝕄)
    ⊢ iprop((dats m 0 c).arrays ((dats m 0 c).arrAt · 0) ∗ TB c (tblv c)) := by
  rw [← Pipeline.unscopedBufs_held (Ix := Unit) (Name := ℕ) (U := UU) (Lvl := ℕ) c (V2 m c)]
  refine BIBase.Entails.trans (Pipeline.PerCore.arrays_of_unscopedBufs (pcfgs (F := F)) adm (dats m) (p := 0) launch0.win launch0.arr_whole c (share_full m c) (fun b => V2 m c b) (fun w => ?_)) ?_
  · match w with
    | ⟨0, _⟩ => exact ((V2_of m c main_arg0 (by decide)).trans (V1_of m c main_arg0 (by decide))).symm
    | ⟨1, _⟩ => exact ((V2_of m c main_arg1 (by decide)).trans (V1_of m c main_arg1 (by decide))).symm
    | ⟨2, _⟩ => exact ((V2_of m c main_v10 (by decide)).trans (V1_of m c main_v10 (by decide))).symm
  · rw [Pipeline.unscopedRest_split launch0.pre c]
    have e : (Pipeline.prefHeld (Ix := Unit) (Name := ℕ) (U := UU) (Lvl := ℕ) (Val := Elt F) (pcfgs (F := F) 0).pre c (fun _ => fullShare) (fun k => V2 m c ((pcfgs (F := F) 0).pre.ref k)) : sProp 𝕄) = TB c (tblv c) := by
      rw [← tbl_eq m c]
      exact bigSep_univ_eq_bigSepL [(0 : Fin 1)] (by decide) (by decide) _
    iintro ⟨HA, HP, -⟩
    isplitl [HA]; · iexact HA
    iapply (BIBase.Entails.of_eq e); iexact HP

/-- The invariant before the first point. -/
theorem region_in (c : Dev nD) : iprop(ENT (inpOf m) c ∗ TB c (tblv c) ∗ BUFS (F := F) c) ⊢ PHI (inpOf m) c 0 := by
  show _ ⊢ PA (inpOf m) c
  unfold ENT PA
  iintro ⟨⟨%K, HE, HS, HT, HW, HI⟩, Ht, HB⟩
  ihave H := (enter (F := F) c) $$ [HB HT HW HI]
  · isplitl [HB]; · iexact HB
    isplitl [HT]; · iexact HT
    isplitl [HW] <;> iassumption
  icases H with ⟨HX, HA, HBT, Hs, HR, Hr⟩
  iexists K
  isplitl [HE]; · iexact HE
  isplitl [Ht]; · iexact Ht
  isplitl [HX]; · iexact HX
  isplitl [HA]; · iexact HA
  isplitl [HS]; · iexact HS
  isplitl [HBT]; · iexact HBT
  isplitl [Hs]; · iexact Hs
  isplitl [HR] <;> iassumption

/-- What the invariant after the last point gives back. -/
theorem region_out (c : Dev nD) : PHI (inpOf m) c 16
    ⊢ iprop(semVal (barCell c) 0 ∗ (bigSep Finset.univ fun p : Fin 6 × Fin 16 => (semVal (dCell c p.1 p.2) 0 : sProp 𝕄)) ∗ BUFS (F := F) c) := by
  rw [← sems_eq]
  show PZ (inpOf m) c ⊢ _
  unfold PZ
  iintro ⟨-, HX, H7, HF, Hb, HR⟩
  ihave H := (leave (inpOf m) c (XB (inpOf m) c)) $$ [HX H7 HF HR]
  · isplitl [HF]; · iexact HF
    isplitl [H7]; · iexact H7
    isplitl [HX] <;> iassumption
  icases H with ⟨HB, HS⟩
  isplitl [Hb]; · iexact Hb
  isplitl [HS] <;> iassumption

theorem rest_eq (c : Dev nD) : (Pipeline.scopedRest (Ix := Unit) (Name := ℕ) (U := UU) (Lvl := ℕ) (Val := Elt F) (pcfgs (F := F) 0).spec c : sProp 𝕄) = BUFS (F := F) c :=
  scopedRest0_eq c

theorem own_facts : Pipeline.OwnSemFacts spec0 osem := by decide +kernel

/-- What a device ends with. -/
def TN (c : Dev nD) : sProp 𝕄 := iprop((dats m 0 c).arrays ((dats m 0 c).arrAt · grid0.N) ∗ semVal (barCell c) 0)

set_option backward.isDefEq.respectTransparency.types false in
/-- The kernel as a region. -/
def reg : Pipeline.PerCore.RegionSeg (pcfgs (F := F)) adm (dats m) () defs₀ 𝒱₀ L lv 0 where
  win := launch0.win.to₀
  block_pos := launch0.block_pos
  stage_whole := launch0.stage_whole
  K := Fin 6 × Fin 16
  osem := osem
  ho := own_facts
  hbody c := (body_obligation m c).loose
  hwaits c := waits m c
  pre c := iprop(StableHlo.held (c : Thread nD τ) (Pipeline.ucRefs τ sig) (V2 m c) ∗ REST0 m c)
  post c := iprop(TN m c ∗ ∃ W, owes (c.tc : Thread nD τ) (0 : CellTallies nD τ sig Unit) W)
  X c := ENT (inpOf m) c
  Y c := semVal (barCell c) 0
  Z _ := iprop(emp)
  hentry c := by
    rw [own_eq, table_eq]
    unfold REST0
    iintro ⟨⟨Hh, HS, HO⟩, Hs, -⟩
    ihave H := (arrays_in m c) $$ Hh
    icases H with ⟨HA, HT⟩
    imod (open_all (inpOf m) c) $$ [HS Hs] with HX
    · isplitl [HS] <;> iassumption
    imodintro
    isplitl [HA]; · iexact HA
    isplitl [HT]; · iexact HT
    isplitl [HO]; · iapply (owes_first m c); iexact HO
    isplitl [HX]; · iexact HX
    iempintro
  hin c := by
    rw [table_eq, rest_eq]
    exact region_in m c
  hout c := by
    rw [own_eq, rest_eq]
    exact region_out m c
  hexit c := by
    unfold TN
    iintro ⟨HA, HO, HY, -⟩
    imodintro
    isplitl [HA HY]
    · isplitl [HA] <;> iassumption
    iapply (owes_last m c); iexact HO

end Cert.KernelIdeal.Ring

end
-- ==== Proof.Launch.lean ====
module
public import proofs.«01_k».proof.Proof.Region
public import Idealize.ShloMosaic.Lib.Pipeline.ValueKit
public import proofs.«01_k».proof.Proof.Gen.KernelIdeal.Regions

/-! The run of the program on all devices: it ends, with the result, the operands as they were, and every counter at zero. -/

@[expose] public section

noncomputable section

namespace Cert.KernelIdeal.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig Unit (Elt F) ℕ UU ℕ

open Idealize.ShloMosaic.Pipeline (Dat Cfg BodyObligation)

variable (m : (ℓ : Loc nD τ sig) → Buf (Elt F) ℓ) (ρ : Dev nD → PrngReg)

theorem phinj : Function.Injective (Pipeline.PerCore.cellOf (nD := nD) (τ := τ) (Pipeline.pinD (pcfgs (F := F)) adm)) :=
  Pipeline.PerCore.cellOf_injective _ (fun c p => by fin_cases p; exact (by decide : Pipeline.SpecSemsDistinct spec0))
    (fun c p p' h => absurd (Subsingleton.elim p p') h)

/-- The ghost state at launch. -/
def u₀ : UU :=
  (initOf (Pipeline.PerCore.cells (Pipeline.pinD (pcfgs (F := F)) adm) phinj) (Pipeline.PerCore.launchToks (Pipeline.pinD (pcfgs (F := F)) adm) phinj),
    launchOf barCells scCells toks)

/-- All of a resource on one device. -/
def onDev (c₀ : Dev nD) (X : sProp 𝕄) (c : Dev nD) : sProp 𝕄 := if c = c₀ then X else iprop(emp)
theorem all_onDev (c₀ : Dev nD) (X : sProp 𝕄) : bigSep Finset.univ (onDev c₀ X) = X := by
  have e : (bigSep (Finset.univ.erase c₀) (onDev c₀ X)) = (BI.emp : sProp 𝕄) := by
    rw [bigSep_congr (s := Finset.univ.erase c₀) (Ψ := fun _ => (BI.emp : sProp 𝕄))
      fun c hc => by unfold onDev; rw [if_neg (Finset.ne_of_mem_erase hc)]; rfl]
    exact BI.bigSep_emp_const ..
  rw [bigSep_univ_at _ c₀, e]
  unfold onDev
  rw [if_pos rfl]
  exact BI.equiv_iff.mp sep_emp

def G : Dev nD → sProp 𝕄 := onDev 0 (BI.own (ER (launchOf barCells scCells toks)))

theorem unscoped_eq : ∀ sm : SemLoc sig, sm.isScoped .tc = false → sm = .reg barS := by decide +kernel
theorem unscoped_one : (Finset.univ.filter fun sm : SemLoc sig => ¬ sm.isScoped .tc) = {SemLoc.reg barS} := by decide +kernel

theorem bar_sem (c : Dev nD) : (unscopedSems0 c : sProp 𝕄) = semVal (barCell c) 0 := by
  unfold unscopedSems0
  rw [unscoped_one]
  exact bigSep_singleton ..

/-- The credits of one kind of cell, out of all credits of a device. -/
def credEmb (c : Dev nD) (k : Fin 6) (f : Fin 16 ≃ Fin 16) : Fin 16 ↪ SemLoc sig :=
  ⟨fun s => .dma (cell k (f s)), fun a b h => by
    have e : (SemLoc.dma (cell k (f a)) : SemLoc sig) = .dma (cell k (f b)) := h
    injection e with e
    have e2 := congrArg idxOf e
    rw [idxOf_cell, idxOf_cell] at e2
    exact f.injective e2⟩

theorem cred_disj {k k' : Fin 6} (h : k ≠ k') (c : Dev nD) (f f' : Fin 16 ≃ Fin 16) (A B : Finset (Fin 16)) : Disjoint (A.map (credEmb c k f)) (B.map (credEmb c k' f')) := by
  rw [Finset.disjoint_left]
  rintro g h₁ h₂
  obtain ⟨a, -, rfl⟩ := Finset.mem_map.mp h₁
  obtain ⟨b, -, e⟩ := Finset.mem_map.mp h₂
  exact dCell_ne (c := c) (c' := c) (f' b) (f a) h.symm (congrArg (Prod.mk (c : Thread nD τ)) e)
theorem cred_nbar (k : Fin 6) (c : Dev nD) (f : Fin 16 ≃ Fin 16) (A : Finset (Fin 16)) : SemLoc.reg barS ∉ A.map (credEmb c k f) := fun h => by
  obtain ⟨a, -, e⟩ := Finset.mem_map.mp h
  exact bar_ne c c k (f a) (congrArg (Prod.mk (c : Thread nD τ)) e).symm

/-- The cells the other devices signal, out of all cells. -/
theorem pick_cells (c : Dev nD) (Φ : SemLoc sig → sProp 𝕄) : bigSep Finset.univ Φ
    ⊢ iprop(Φ (.reg barS) ∗ seg (fun s => Φ (credEmb c 1 (subE c) s)) 1 8 ∗ seg (fun s => Φ (credEmb c 3 (subE c) s)) 8 16 ∗ seg (fun s => Φ (credEmb c 5 (addE c) s)) 1 16) := by
  generalize hA : (rg 1 8).map (credEmb c 1 (subE c)) = A
  generalize hB : (rg 8 16).map (credEmb c 3 (subE c)) = B
  generalize hC : (rg 1 16).map (credEmb c 5 (addE c)) = C
  have hd : Disjoint B C := by rw [← hB, ← hC]; exact cred_disj (by decide) c _ _ _ _
  have hd1 : Disjoint A (B ∪ C) := by
    rw [← hA, ← hB, ← hC]
    exact Finset.disjoint_union_right.mpr ⟨cred_disj (by decide) c _ _ _ _, cred_disj (by decide) c _ _ _ _⟩
  have hb : SemLoc.reg barS ∉ A ∪ (B ∪ C) := fun h => by
    rw [← hA, ← hB, ← hC] at h
    rcases Finset.mem_union.mp h with h | h
    · exact cred_nbar _ _ _ _ h
    rcases Finset.mem_union.mp h with h | h
    · exact cred_nbar _ _ _ _ h
    · exact cred_nbar _ _ _ _ h
  have e1 : seg (fun s => Φ (credEmb c 1 (subE c) s)) 1 8 = bigSep A Φ := by rw [← hA]; exact (bigSep_map ..).symm
  have e3 : seg (fun s => Φ (credEmb c 3 (subE c) s)) 8 16 = bigSep B Φ := by rw [← hB]; exact (bigSep_map ..).symm
  have e5 : seg (fun s => Φ (credEmb c 5 (addE c) s)) 1 16 = bigSep C Φ := by rw [← hC]; exact (bigSep_map ..).symm
  have f1 : bigSep (B ∪ C) Φ = iprop(bigSep B Φ ∗ bigSep C Φ) := bigSep_union hd
  have f2 : bigSep (A ∪ (B ∪ C)) Φ = iprop(bigSep A Φ ∗ bigSep (B ∪ C) Φ) := bigSep_union hd1
  have f3 : bigSep (insert (SemLoc.reg barS) (A ∪ (B ∪ C))) Φ = iprop(Φ (SemLoc.reg barS) ∗ bigSep (A ∪ (B ∪ C)) Φ) := bigSep_insert hb
  rw [e1, e3, e5, ← f1, ← f2, ← f3]
  exact bigSep_subset (Finset.subset_univ _)

/-- The credit of a cell of a device at launch. -/
def cr (c : Dev nD) (sm : SemLoc sig) : sProp 𝕄 := cred (tallyOn ((c.tc : Thread nD τ), sm) (launchCredit (Pipeline.owing O₀) 0 ((c.tc : Thread nD τ), sm)))
theorem cr_bar (c : Dev nD) : cr (F := F) c (.reg barS) = cred (tallyAt (barCell c) () 15) := congrArg cred (credit_bar c)
theorem cr_near (c : Dev nD) (s : Fin 16) (h : 1 ≤ s.val) (h' : s.val < 8) : cr (F := F) c (.dma (cell 1 (c - s))) = cred (tallyAt (dCell c 1 (c - s)) () N16) := congrArg cred (credit_near c s h h')
theorem cr_far (c : Dev nD) (s : Fin 16) (h : 8 ≤ s.val) : cr (F := F) c (.dma (cell 3 (c - s))) = cred (tallyAt (dCell c 3 (c - s)) () N8) := congrArg cred (credit_far c s h)
theorem cr_max (c : Dev nD) (s : Fin 16) (h : 1 ≤ s.val) : cr (F := F) c (.dma (cell 5 (c + s))) = cred (tallyAt (dCell c 5 (c + s)) () NS) := congrArg cred (credit_max c s h)

/-- The credits a device has at launch. -/
theorem creds (c : Dev nD) : (Pipeline.launchCred O₀ c : sProp 𝕄) ⊢ CRED (F := F) c := by
  have e : (Pipeline.launchCred O₀ c : sProp 𝕄) = bigSep Finset.univ (cr (F := F) c) := rfl
  rw [e]
  refine BIBase.Entails.trans (pick_cells c (cr (F := F) c)) ?_
  unfold CRED
  rw [cr_bar]
  refine BI.sep_mono (BI.Entails.refl _) (BI.sep_mono ?_ (BI.sep_mono ?_ ?_))
  · exact seg_mono fun s h h' => BIBase.Entails.of_eq (cr_near c s h h')
  · exact seg_mono fun s h h' => BIBase.Entails.of_eq (cr_far c s h)
  · exact seg_mono fun s h h' => BIBase.Entails.of_eq (cr_max c s h)

/-- A device's state before the host's program. -/
def TS (c : Dev nD) : sProp 𝕄 := iprop(StableHlo.held (c : Thread nD τ) (Pipeline.ucRefs τ sig) (V0 m c) ∗ EE m 0 c)

/-- The launch makes every device's first state. -/
theorem launch_init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (iprop(|={Set.univ}=> bigSep Finset.univ (TS m)) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(StableHlo.held (c : Thread nD τ) (Pipeline.ucRefs τ sig) (V0 m c) ∗ Ow (F := F) c (O₀ c) ∗ iprop(semVal (barCell c) 0 ∗ CRED (F := F) c) ∗ G c) : sProp 𝕄) := by
    rw [show unscopedBufs c (fun b => m ((c.tc : Thread nD τ).loc b)) = StableHlo.held (c : Thread nD τ) (Pipeline.ucRefs τ sig) (V0 m c) from Pipeline.unscopedBufs_held c (V0 m c), bar_sem]
    unfold Ow
    iintro ⟨Hh, Hb, HO, Hcr, -, HG⟩
    ihave Hc := (creds (F := F) c) $$ Hcr
    isplitl [Hh]; · iexact Hh
    isplitl [HO]; · iexists ∅; iexact HO
    isplitl [Hb Hc]
    · isplitl [Hb] <;> iassumption
    iexact HG
  have hall : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c)) ∗ (bigSep Finset.univ fun c : Dev nD => Ow (F := F) c (O₀ c))
          ∗ (bigSep Finset.univ fun c : Dev nD => iprop(semVal (barCell c) 0 ∗ CRED (F := F) c)) ∗ BI.own (ER (launchOf barCells scCells toks))) : sProp 𝕄) := by
    rw [← all_onDev (F := F) 0 (BI.own (ER (launchOf barCells scCells toks)))]
    refine BIBase.Entails.trans (bigSep_mono fun c _ => hcore c) ?_
    rw [bigSep_sep', bigSep_sep', bigSep_sep']
    exact BIBase.Entails.of_eq rfl
  have hback : iprop((bigSep Finset.univ fun c : Dev nD => StableHlo.held (c : Thread nD τ) (Pipeline.ucRefs τ sig) (V0 m c)) ∗ (bigSep Finset.univ fun c : Dev nD => START (inpOf m) c)
        ∗ (bigSep Finset.univ fun c : Dev nD => Ow (F := F) c (O₀ c))) ⊢ (bigSep Finset.univ (TS m) : sProp 𝕄) := by
    rw [show TS m = fun c : Dev nD => iprop(StableHlo.held (c : Thread nD τ) (Pipeline.ucRefs τ sig) (V0 m c) ∗ START (inpOf m) c ∗ Ow (F := F) c (O₀ c)) from rfl, bigSep_sep', bigSep_sep']
  iintro ⟨H, #Hlev⟩
  ihave H := hall $$ H
  icases H with ⟨Hh, HO, Hb, Hu⟩
  imod (deal (inpOf m)) $$ [Hb Hu] with HS
  · isplitl [Hb]; · iexact Hb
    isplitl [Hu]; · iexact Hu
    iexact Hlev
  imodintro
  iapply hback
  isplitl [Hh]; · iexact Hh
  isplitl [HS] <;> iassumption

/-- The host's two stretches and the kernel. -/
def parts (c : Dev nD) : List (Pipeline.PerCore.Seg (pcfgs (F := F)) adm (dats m) () defs₀ 𝒱₀ L lv) :=
  [.host (seg0 m 𝒱₀ L lv (EE m) c), .host (seg1 m 𝒱₀ L lv (EE m)), .region (reg m)]

theorem whole_w2 (c : Dev nD) : ((Pipeline.pinD (pcfgs (F := F)) adm c 0).win 2).WholeAt t0_15 := by
  refine ⟨?_, fun t ht => ?_, fun (a : Fin 2) => ?_⟩
  · unfold Pipeline.Window.flush
    exact Bool.and_eq_true_iff.2 ⟨rfl, Bool.or_eq_true_iff.2 (Or.inl (decide_eq_true rfl))⟩
  · refine Fin.ext ?_
    have h16 : t.val < 16 := t.isLt
    by_contra hne
    have h15 : t.val < 15 := by
      have : t.val ≠ 15 := hne
      omega
    rw [flush_w2 c t h15] at ht
    exact Bool.noConfusion ht
  · match a with
    | 0 => exact ⟨rfl, rfl⟩
    | 1 => exact ⟨rfl, rfl⟩

/-- The result's array at the end. -/
theorem final_w2 (c : Dev nD) : (dats m 0 c).arrAt 2 grid0.N = OUT (inpOf m) c := by
  refine (dats m 0 c).arrAt_eq_of_after_last 2 t0_15 (whole_w2 (F := F) c) (OUT (inpOf m) c) (fun j => ?_) ((launch0 (F := F)).arr_whole 2)
  rfl

theorem final_w0 (c : Dev nD) : (dats m 0 c).arrAt 0 grid0.N = m ((c : Thread nD τ).loc main_arg0) := (dats m 0 c).arrAt_in 0 rfl _
theorem final_w1 (c : Dev nD) : (dats m 0 c).arrAt 1 grid0.N = m ((c : Thread nD τ).loc main_arg1) := (dats m 0 c).arrAt_in 1 rfl _

/-- What a device's final state shows. -/
def shows (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v10) = OUT (inpOf m) c) ∧ s.sem (barCell c) = 0

theorem read_end (c : Dev nD) (s' : Phys nD τ sig (Elt F)) : iprop(TN m c ∗ SI s') ⊢ (iprop(|={Set.univ}=> (⌜shows m c s'.mem⌝ ∗ SI s')) : sProp 𝕄) := by
  unfold TN
  iintro ⟨⟨HA, Hb⟩, HSI⟩
  icombine HSI Hb gives %hb
  ihave H := (Pipeline.PerCore.arrays_read (pcfgs (F := F)) adm (dats m) (p := 0) launch0.arr_whole c (share_full m c) (fun w => (dats m 0 c).arrAt w grid0.N) s') $$ [HA HSI]
  · isplitl [HA] <;> iassumption
  icases H with ⟨%h, HSI⟩
  imodintro
  isplitr
  · ipureintro
    exact ⟨⟨(h 0).trans (final_w0 m c), (h 1).trans (final_w1 m c), (h 2).trans (final_w2 m c)⟩, by simpa using hb⟩
  iexact HSI

set_option backward.isDefEq.respectTransparency.types false in
/-- Every weakly fair run from counters at zero ends, with the operands as they were, the result computed, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v10) = OUT (inpOf m) c) ∧ r.2.sem = fun _ => 0) := by
  refine Pipeline.PerCore.θ_run_regions_kit_sems (pcfgs (F := F)) adm (dats m) () phinj EP defs₀ 𝒱₀ L lv m ρ main (parts m)
    (fun c Q => by
      rewrite [main_chain c, Pipeline.PerCore.Seg.run_eq_chain,
        show (parts m c).map Pipeline.PerCore.Seg.prog = [
          StableHlo.seq (hostOps0 c),
          StableHlo.seq hostOps0_1,
          Prog.lift (.customCall (Pipeline.entry 0) ()) ] from rfl]
      dsimp (config := { failIfUnchanged := false }) only
      exact .rfl)
    (fun c => (by decide : [(0 : Fin 1)].Nodup)) O₀ L_of_ne (G (F := F)) (u₀ (F := F))
    (by
      unfold u₀ G
      iintro Hu
      ihave H := (ownU_pair _ _) $$ Hu
      icases H with ⟨HP, HX⟩
      imodintro
      isplitl [HP]; · iexact HP
      rw [all_onDev]; iexact HX)
    (TS m) (TN m) (fun c => ⟨.rfl, .rfl, .rfl, .rfl⟩) (launch_init m ρ) (shows m) (read_end m)
    (fun s h hs => ⟨fun c => (h c).1, sem_eq_zero hs fun c sm hsm => by
      obtain rfl := unscoped_eq sm hsm
      exact (h c).2⟩)

end Cert.KernelIdeal.Ring

end
-- ==== Proof.Frames.lean ====
module
public import proofs.«01_k».proof.Proof.Twin
public import proofs.«01_k».proof.Proof.Launch

/-! The frames of the kernel, over the machine's floats and over the extended reals. -/

@[expose] public section

noncomputable section

namespace Cert.Twin

open Idealize.ShloMosaic Idealize.SL.Sem

set_option maxHeartbeats 1000000

/-- Over the extended reals every weakly fair run of the kernel ends, its operands unchanged and its counters at zero. -/
theorem frame_ideal : Cert.quiescent_KernelIdeal := fun m ρ _ =>
  (θ_run (Cert.KernelIdeal.defs (F := Ideal)) _ _).mono (fun _ h => ⟨fun c => ⟨(h.1 c).1, (h.1 c).2.1⟩, h.2⟩)
    (Cert.KernelIdeal.Ring.run_main (F := Ideal) m ρ)

/-- Over the machine's floats likewise: the two programs have the same text. -/
theorem frame_kernel : Cert.quiescent_Kernel := by
  intro m ρ _
  rw [defs_eq, main_eq]
  exact (θ_run (Cert.KernelIdeal.defs (F := Bits)) _ _).mono (fun _ h => ⟨fun c => ⟨(h.1 c).1, (h.1 c).2.1⟩, h.2⟩)
    (Cert.KernelIdeal.Ring.run_main (F := Bits) m ρ)

end Cert.Twin

end
-- ==== Proof.Quant.lean ====
module
public import Idealize.ShloMosaic.PureOps.Ideal.Laws
public import Idealize.ShloMosaic.PureOps.Reduce

/-! The quantiser over the extended reals, and what a maximum bounds. -/

@[expose] public section

noncomputable section

namespace Cert.Quant

open Idealize.ShloMosaic

/-- The largest magnitude of the float8 format, 448. -/
theorem top_eq : Ideal.ofBits .f32 0x43E00000#32 = ((448 : ℝ) : EReal) := by
  simp [Ideal.ofBits, Ideal.ieee, -EReal.coe_mul]; norm_num

/-- The start of a maximum is the least extended real. -/
theorem bot_eq : Ideal.ofBits .f32 0xFF800000#32 = ⊥ := by
  simp [Ideal.ofBits, Ideal.ieee]

/-- Clipping `y` times 448 over the maximum and clipping `y` over (the maximum over 448) give one result after the scale
    is multiplied back, whatever the maximum is, zero and infinity among the values. -/
theorem clip_eq (d y A : EReal) (hA : 0 ≤ A) :
    min (Ideal.ofBits .f32 0x43E00000#32) (max d (y * Ideal.div (Ideal.ofBits .f32 0x43E00000#32) A)) * Ideal.div A (Ideal.ofBits .f32 0x43E00000#32)
      = min (Ideal.ofBits .f32 0x43E00000#32) (max d (Ideal.div y (Ideal.div A (Ideal.ofBits .f32 0x43E00000#32)))) * Ideal.div A (Ideal.ofBits .f32 0x43E00000#32) := by
  rw [top_eq]
  have h448 : ((448 : ℝ) : EReal) ≠ 0 := by norm_num
  induction A with
  | bot => simp at hA
  | top =>
    have e : Ideal.div ⊤ ((448 : ℝ) : EReal) = ⊤ := by
      unfold Ideal.div
      rw [if_neg h448, ← EReal.coe_inv, EReal.top_mul_coe_of_pos (by norm_num)]
    rw [e]
    unfold Ideal.div
    simp
  | coe a =>
    by_cases h : a = 0
    · subst h
      have e : Ideal.div ((0 : ℝ) : EReal) ((448 : ℝ) : EReal) = 0 := by
        unfold Ideal.div
        rw [if_neg h448]; simp
      rw [e]; simp
    · have ha : ((a : ℝ) : EReal) ≠ 0 := by simpa using h
      have e : Ideal.div ((a : ℝ) : EReal) ((448 : ℝ) : EReal) = ((a * 448⁻¹ : ℝ) : EReal) := by
        unfold Ideal.div
        rw [if_neg h448, ← EReal.coe_inv, ← EReal.coe_mul]
      have e' : Ideal.div ((448 : ℝ) : EReal) ((a : ℝ) : EReal) = (((a * 448⁻¹)⁻¹ : ℝ) : EReal) := by
        unfold Ideal.div
        rw [if_neg ha, ← EReal.coe_inv, ← EReal.coe_mul]
        congr 1
        rw [mul_inv, inv_inv, mul_comm]
      rw [e, e']
      have hs : ((a * 448⁻¹ : ℝ) : EReal) ≠ 0 := by
        rw [Ne, EReal.coe_eq_zero]; positivity
      have ey : Ideal.div y ((a * 448⁻¹ : ℝ) : EReal) = y * (((a * 448⁻¹)⁻¹ : ℝ) : EReal) := by
        unfold Ideal.div
        rw [if_neg hs, EReal.coe_inv]
      rw [ey]

/-- A magnitude is not negative. -/
theorem abs_nonneg (x : EReal) : 0 ≤ max x (-x) := by
  rcases le_total 0 x with h | h
  · exact le_max_of_le_left h
  · exact le_max_of_le_right (by simpa using EReal.neg_le_neg_iff.mpr h)

/-- A maximum over all of an array is bounded exactly by what bounds every entry. -/
theorem max_le {s t : Shape} {axes : List (Fin s.rank)} (v : FVec Ideal s .f32) (h : s.Reduces axes t) (hφ : FKind.Formats .f32)
    (hacc : (0xFF800000#32 : BitVec 32) = FKind.maximumf.neutral .f32 hφ) (j : t.Idx) (hj : ∀ i, h.drop i = j) (b : EReal) :
    multiReduction .maximumf axes t v 0xFF800000#32 h hφ hacc j ≤ b ↔ ∀ i, v i ≤ b := by
  rw [multiReduction_maximumf_eq_fold]
  have e : (Finset.univ.filter fun i => h.drop i = j) = Finset.univ := Finset.filter_true_of_mem fun i _ => hj i
  rw [e]
  refine (Finset.fold_max_le (b := Ideal.ofBits .f32 0xFF800000#32) (f := v) b).trans ?_
  rw [bot_eq]
  simp

/-- A recast array is bounded by what bounds the array. -/
theorem cast_le {s t : Shape} (v : s.Idx → EReal) (h : s.ShapeCasts t) (b : EReal) :
    (∀ i, shapeCast t v h i ≤ b) ↔ ∀ i, v i ≤ b :=
  ⟨fun H i => by simpa [shapeCast] using H ((Shape.reshapeEquiv h).symm i), fun H i => H _⟩

end Cert.Quant

end
-- ==== Proof.Product.lean ====
module
public import proofs.«01_k».proof.Proof.Quant
public import proofs.«01_k».proof.Proof.Phi
public import proofs.«01_k».proof.Proof.Gen.ReferenceIdeal.Value
public import Idealize.ShloMosaic.Lib.MatmulPlain
public import Idealize.ShloMosaic.Lib.ValueLayout

/-! The product of the operands at an entry, in the blocks of the kernel and in the reference. -/

@[expose] public section

noncomputable section

namespace Cert.Quant

open Idealize.ShloMosaic Idealize.ShloMosaic.TcCoe Idealize.ShloMosaic.ValueIdx
open Cert.KernelIdeal (nD τ main_arg0 main_arg1 S256x4096 S4096x512 S256x512 S1x256x512)
open Cert.ReferenceIdeal (S4096x4096 S4096x8192)
open scoped BigOperators

/-- Entry `(r, l)` of the product of two matrices. -/
def Y (a : FVec Ideal S4096x4096 .bf16) (w : FVec Ideal S4096x8192 .bf16) (r : Fin 4096) (l : Fin 8192) : EReal :=
  (∑ k : Fin 4096, a (ix2 r k) * w (ix2 k l) : EReal)

theorem zero_eq : Ideal.ofBits .f32 0x00000000#32 = 0 := by
  simp [Ideal.ofBits, Ideal.ieee]

/-- A product from a zero accumulator is the sum of products. -/
theorem mm_zero {M K N : ℕ} {φ ψ : FTy} (x : FVec Ideal ⟨2, ![M, K]⟩ φ) (w : FVec Ideal ⟨2, ![K, N]⟩ ψ) (r : Fin M) (c : Fin N) :
    FloatOps.matmul (DotDims.plain M K N) none x w (constant ⟨2, ![M, N]⟩ .f32 0x00000000#32) (ix2 r c)
      = (∑ k : Fin K, x (ix2 r k) * w (ix2 k c) : EReal) := by
  rw [Ideal.matmul_plain_apply]
  show Ideal.ofBits .f32 0x00000000#32 + _ = _
  rw [zero_eq, zero_add]

/-- A block of the kernel's product at an entry. -/
theorem pay38_at (w : FVec Ideal S4096x512 .bf16) (x : FVec Ideal S256x4096 .bf16) (i : Fin 256) (j : Fin 512) :
    Cert.KernelIdeal.Gen.k0_pay38 (F := Ideal) w x (ix2 i j) = (∑ k : Fin 4096, x (ix2 i k) * w (ix2 k j) : EReal) :=
  (mm_zero x (shapeCast S4096x512 w Cert.KernelIdeal.Gen.shapeCasts_S4096x512_S4096x512) i j).trans (by rw [shapeCast_self])

/-- The reference's product, before anything else is done with it. -/
def refProd (a : FVec Ideal S4096x4096 .bf16) (w : FVec Ideal S4096x8192 .bf16) : FVec Ideal S4096x8192 .f32 :=
  matmul Cert.ReferenceIdeal.dot_S4096x4096_S4096x8192_S4096x8192_1_0_0_1_n_n none
    (extf .f32 a Cert.ReferenceIdeal.Gen.bitsLt_bf16_f32) (extf .f32 w Cert.ReferenceIdeal.Gen.bitsLt_bf16_f32) (constant S4096x8192 .f32 0x00000000#32)

/-- It holds the entries of the product. -/
theorem refProd_at (a : FVec Ideal S4096x4096 .bf16) (w : FVec Ideal S4096x8192 .bf16) (r : Fin 4096) (l : Fin 8192) :
    refProd a w (ix2 r l) = Y a w r l := by
  exact mm_zero (extf .f32 a Cert.ReferenceIdeal.Gen.bitsLt_bf16_f32)
    (extf .f32 w Cert.ReferenceIdeal.Gen.bitsLt_bf16_f32) r l

/-- Row `i` of the row block of device `c`. -/
def rowOf (c : Fin 16) (i : Fin 256) : Fin 4096 := ⟨256 * c.val + i.val, by omega⟩
/-- Column `j` of column block `n`. -/
def colOf (n : Fin 16) (j : Fin 512) : Fin 8192 := ⟨512 * n.val + j.val, by omega⟩

/-- The kernel's operands are cut from the reference's: each device holds its rows of the left one and the whole of the
    right one. -/
def Cut (m : (ℓ : Loc nD τ Cert.KernelIdeal.sig) → Buf (Elt Ideal) ℓ) (a : FVec Ideal S4096x4096 .bf16) (w : FVec Ideal S4096x8192 .bf16) : Prop :=
  ∀ c : Dev nD, m (c.tc.loc main_arg0) = Layout.block ⟨2, ![256, 4096]⟩ ⟨2, ![4096, 4096]⟩ 0 16 c a ∧ m (c.tc.loc main_arg1) = w

variable {m : (ℓ : Loc nD τ Cert.KernelIdeal.sig) → Buf (Elt Ideal) ℓ} {a : FVec Ideal S4096x4096 .bf16} {w : FVec Ideal S4096x8192 .bf16}

open Cert.KernelIdeal.Ring (inpOf XB BB)

/-- The row block as kept, at an entry. -/
theorem XB_at (h : Cut m a w) (c : Dev nD) (i : Fin 256) (k : Fin 4096) :
    XB (inpOf m) c (ix2 i k) = a (ix2 (rowOf c i) k) := by
  have e : XB (inpOf m) c = m (c.tc.loc main_arg0) := by
    have h := Cert.KernelIdeal.Gen.shapeCasts_S256x4096_S256x4096
    exact (shapeCast_self (α := Ideal .bf16) (shapeCast S256x4096 (α := Ideal .bf16) (m (c.tc.loc main_arg0)) h) h).trans
      (shapeCast_self (α := Ideal .bf16) (m (c.tc.loc main_arg0)) h)
  rw [e, (h c).1]
  show a _ = a _
  congr 1
  funext b
  match b with
  | ⟨0, _⟩ => exact Fin.ext (show c.val * 256 + i.val = 256 * c.val + i.val by omega)
  | ⟨1, _⟩ => rfl

/-- The block of device `c` at column block `n` holds the product's entries. -/
theorem block_at (h : Cut m a w) (c : Dev nD) (n : Fin 16) (i : Fin 256) (j : Fin 512) :
    Cert.KernelIdeal.Gen.k0_pay38 ((inpOf m).W c n) (XB (inpOf m) c) (ix2 i j) = Y a w (rowOf c i) (colOf n j) := by
  rw [pay38_at]
  refine Finset.sum_congr rfl fun k _ => ?_
  rw [XB_at h]
  congr 1
  show m (c.tc.loc main_arg1) _ = _
  rw [(h c).2]
  congr 1
  funext b
  match b with
  | ⟨0, _⟩ => rfl
  | ⟨1, _⟩ => rfl

/-- The same as the kernel lays the block out. -/
theorem BB_at (h : Cut m a w) (c : Dev nD) (n : Fin 16) (u : Fin 1) (i : Fin 256) (j : Fin 512) :
    BB (inpOf m) c n (ix3 u i j) = Y a w (rowOf c i) (colOf n j) :=
  (shapeCast_ab_1ab_apply _ _ u i j).trans (block_at h c n i j)

/-- Every row of the product is a row of one device's block. -/
theorem row_cover (r : Fin 4096) : ∃ c i, rowOf c i = r :=
  ⟨⟨r.val / 256, by omega⟩, ⟨r.val % 256, by omega⟩, Fin.ext (show 256 * (r.val / 256) + r.val % 256 = r.val by omega)⟩

/-- Every column is a column of one column block. -/
theorem col_cover (l : Fin 8192) : ∃ n j, colOf n j = l :=
  ⟨⟨l.val / 512, by omega⟩, ⟨l.val % 512, by omega⟩, Fin.ext (show 512 * (l.val / 512) + l.val % 512 = l.val by omega)⟩

end Cert.Quant

end
-- ==== Proof.Amax.lean ====
module
public import proofs.«01_k».proof.Proof.Product

/-! The maximum the devices agree on is the maximum of the whole product. -/

@[expose] public section

noncomputable section

namespace Cert.Quant

open Idealize.ShloMosaic Idealize.ShloMosaic.TcCoe Idealize.ShloMosaic.ValueIdx
open Cert.KernelIdeal (nD τ main_arg0 main_arg1 S256x4096 S4096x512 S256x512 S1x256x512)
open Cert.ReferenceIdeal (S4096x4096 S4096x8192)
open Cert.KernelIdeal.Ring (inpOf XB BB AM SB spread8)

/-- An array of one entry has one index. -/
theorem one_index (x y : (⟨1, ![1]⟩ : Shape).Idx) : x = y := by
  funext b
  match b with
  | ⟨0, _⟩ => exact Subsingleton.elim (α := Fin 1) _ _

/-- Every index of a matrix is a pair. -/
theorem ex2 {n0 n1 : ℕ} (i : (⟨2, ![n0, n1]⟩ : Shape).Idx) : ∃ r l, i = ix2 r l := ⟨_, _, eq_ix2 i⟩

/-- The maximum of a recast array, taken out as one number, is bounded exactly by what bounds every entry. -/
theorem taken_le {s s' u : Shape} {axes : List (Fin s'.rank)} (v : FVec Ideal s .f32) (hc : s.ShapeCasts s')
    (hr : s'.Reduces axes ⟨1, ![1]⟩) (hφ : FKind.Formats .f32) (hacc : (0xFF800000#32 : BitVec 32) = FKind.maximumf.neutral .f32 hφ)
    (hu : Shape.ShapeCasts ⟨1, ![1]⟩ u) (pos : Fin u.rank → ℕ) (hp : ∀ a, pos a < u.size a) (b : EReal) :
    extractAt pos (shapeCast u (multiReduction .maximumf axes ⟨1, ![1]⟩ (shapeCast s' v hc) 0xFF800000#32 hr hφ hacc) hu) hp ≤ b
      ↔ ∀ i, v i ≤ b :=
  (max_le (shapeCast s' v hc) hr hφ hacc _ (fun _ => one_index _ _) b).trans (cast_le v hc b)

/-- The maximum of one block. -/
theorem pay39_le (w : FVec Ideal S4096x512 .bf16) (x : FVec Ideal S256x4096 .bf16) (b : EReal) :
    (Cert.KernelIdeal.Gen.k0_pay39 (F := Ideal) w x : EReal) ≤ b
      ↔ ∀ i : S256x512.Idx, max (Cert.KernelIdeal.Gen.k0_pay38 (F := Ideal) w x i : EReal) (-(Cert.KernelIdeal.Gen.k0_pay38 (F := Ideal) w x i : EReal)) ≤ b :=
  taken_le (absf (extf .f32 (Cert.KernelIdeal.Gen.k0_pay38 (F := Ideal) w x) Cert.KernelIdeal.Gen.bitsLt_bf16_f32)) _ _ _ _ _ _ _ b

/-- The maximum of the buffer of maxima. -/
theorem pay3_le (v : FVec Ideal Cert.KernelIdeal.S16x8x128 .f32) (b : EReal) :
    (Cert.KernelIdeal.Gen.k0_pay3 (F := Ideal) v : EReal) ≤ b ↔ ∀ i, v i ≤ b :=
  taken_le v _ _ _ _ _ _ _ b

/-- The reference's maximum. -/
def refMax (a : FVec Ideal S4096x4096 .bf16) (w : FVec Ideal S4096x8192 .bf16) : Ideal .f32 :=
  extractAt ![0, 0, 0] (shapeCast Cert.ReferenceIdeal.S1x1x1 (multiReduction .maximumf [1, 2] Cert.ReferenceIdeal.S1
    (shapeCast Cert.ReferenceIdeal.S1x4096x8192 (absf (refProd a w)) Cert.ReferenceIdeal.Gen.shapeCasts_S4096x8192_S1x4096x8192)
    0xFF800000#32 Cert.ReferenceIdeal.Gen.reduces_S1x4096x8192_S1 (.inl rfl) rfl) Cert.ReferenceIdeal.Gen.shapeCasts_S1_S1x1x1)
    Cert.ReferenceIdeal.Gen.inpos_S1x1x1_p0_0_0

/-- The magnitude of an entry of the product. -/
def mag (a : FVec Ideal S4096x4096 .bf16) (w : FVec Ideal S4096x8192 .bf16) (r : Fin 4096) (l : Fin 8192) : EReal :=
  max (Y a w r l) (-(Y a w r l))

theorem refMax_le (a : FVec Ideal S4096x4096 .bf16) (w : FVec Ideal S4096x8192 .bf16) (b : EReal) :
    (refMax a w : EReal) ≤ b ↔ ∀ r l, mag a w r l ≤ b := by
  refine (taken_le (absf (refProd a w)) _ _ _ _ _ _ _ b).trans ⟨fun H r l => ?_, fun H i => ?_⟩
  · have h := H (ix2 r l)
    change max (refProd a w (ix2 r l) : EReal) (-(refProd a w (ix2 r l) : EReal)) ≤ b at h
    rw [refProd_at] at h
    exact h
  · obtain ⟨r, l, rfl⟩ := ex2 i
    change max (refProd a w (ix2 r l) : EReal) (-(refProd a w (ix2 r l) : EReal)) ≤ b
    rw [refProd_at]
    exact H _ _

/-- The reference's maximum is not negative. -/
theorem refMax_nonneg (a : FVec Ideal S4096x4096 .bf16) (w : FVec Ideal S4096x8192 .bf16) : (0 : EReal) ≤ refMax a w :=
  (abs_nonneg _).trans ((refMax_le a w _).mp le_rfl ⟨0, by decide⟩ ⟨0, by decide⟩)

variable {m : (ℓ : Loc nD τ Cert.KernelIdeal.sig) → Buf (Elt Ideal) ℓ} {a : FVec Ideal S4096x4096 .bf16} {w : FVec Ideal S4096x8192 .bf16}

/-- The maximum of the block of device `c` at column block `n`. -/
theorem block_le (h : Cut m a w) (c : Dev nD) (n : Fin 16) (b : EReal) :
    (Cert.KernelIdeal.Gen.k0_pay39 (F := Ideal) ((inpOf m).W c n) (XB (inpOf m) c) : EReal) ≤ b
      ↔ ∀ i j, mag a w (rowOf c i) (colOf n j) ≤ b := by
  refine (pay39_le _ _ b).trans ⟨fun H i j => ?_, fun H i => ?_⟩
  · have h' := H (ix2 i j)
    rw [block_at h] at h'
    exact h'
  · obtain ⟨r, l, rfl⟩ := ex2 i
    rw [block_at h]
    exact H _ _

/-- One step of the running maximum. -/
theorem pay40_eq (w : FVec Ideal S4096x512 .bf16) (x : FVec Ideal S256x4096 .bf16) (v : Ideal .f32) :
    (Cert.KernelIdeal.Gen.k0_pay40 (F := Ideal) w x v : EReal) = max (v : EReal) (Cert.KernelIdeal.Gen.k0_pay39 (F := Ideal) w x : EReal) := rfl

/-- The buffer of maxima holds, in each slot, one number. -/
theorem pay2_at (v : Ideal .f32) (x : Cert.KernelIdeal.S1x8x128.Idx) : Cert.KernelIdeal.Gen.k0_pay2 (F := Ideal) v x = v := rfl

/-- The running maximum after `t + 1` blocks bounds the blocks seen so far. -/
theorem AM_le (h : Cut m a w) (c : Dev nD) (b : EReal) : ∀ t : ℕ,
    (AM (inpOf m) c t : EReal) ≤ b ↔ ∀ s ≤ t, ∀ i j, mag a w (rowOf c i) (colOf (c + Fin.ofNat 16 (s + 1)) j) ≤ b
  | 0 => by
    refine (block_le h c (c + 1) b).trans ⟨fun H s hs => ?_, fun H i j => ?_⟩
    rotate_left
    · have e0 : Fin.ofNat 16 (0 + 1) = (1 : Fin 16) := rfl
      have h' := H 0 le_rfl i j
      rw [e0] at h'
      exact h'
    have e0 : Fin.ofNat 16 (s + 1) = 1 := by
      rw [Nat.le_zero.mp hs]
      rfl
    rw [e0]
    exact H
  | t + 1 => by
    have e : AM (inpOf m) c (t + 1)
        = Cert.KernelIdeal.Gen.k0_pay40 (F := Ideal) ((inpOf m).W c (c + Fin.ofNat 16 (t + 2))) (XB (inpOf m) c) (AM (inpOf m) c t) := by
      rw [AM]
    rw [e, pay40_eq, _root_.max_le_iff, AM_le h c b t, block_le h]
    refine ⟨fun H s hs => ?_, fun H => ⟨fun s hs => H s (by omega), H (t + 1) le_rfl⟩⟩
    rcases Nat.lt_or_ge t s with h' | h'
    · obtain rfl : s = t + 1 := by omega
      exact H.2
    · exact H.1 s h'

/-- Sixteen steps from any block meet every block. -/
theorem step_cover : ∀ c n : Fin 16, ∃ s : Fin 16, c + Fin.ofNat 16 (s.val + 1) = n := by decide

/-- After the last step the running maximum bounds the device's whole row block. -/
theorem AM_last_le (h : Cut m a w) (c : Dev nD) (b : EReal) (N : ℕ) (hN : N = 15) :
    (AM (inpOf m) c N : EReal) ≤ b ↔ ∀ i l, mag a w (rowOf c i) l ≤ b := by
  refine (AM_le h c b N).trans ⟨fun H i l => ?_, fun H s _ i j => H _ _⟩
  obtain ⟨n, j, rfl⟩ := col_cover l
  obtain ⟨s, rfl⟩ := step_cover c n
  exact H s.val (by omega) i j

/-- The buffer of maxima at an index is the last running maximum of the slot's device. -/
theorem SB_at (I : Cert.KernelIdeal.Ring.Inp Ideal) (x : Cert.KernelIdeal.S16x8x128.Idx) :
    ∃ N, N = 15 ∧ SB I x = AM I (x 0) N := by
  refine ⟨15, rfl, ?_⟩
  unfold SB spread8
  exact pay2_at _ _

/-- The maximum of the maxima is the reference's maximum. -/
theorem max_eq (h : Cut m a w) : (Cert.KernelIdeal.Gen.k0_pay3 (F := Ideal) (SB (inpOf m)) : EReal) = refMax a w := by
  refine eq_of_forall_ge_iff fun b => ?_
  rw [refMax_le]
  refine (pay3_le _ b).trans ⟨fun H r l => ?_, fun H i => ?_⟩
  · obtain ⟨c, i, rfl⟩ := row_cover r
    have h' := H (ix3 c ⟨0, by decide⟩ ⟨0, by decide⟩)
    obtain ⟨N, hN, e⟩ := SB_at (inpOf m) (ix3 c ⟨0, by decide⟩ ⟨0, by decide⟩)
    rw [e] at h'
    exact (AM_last_le h c b N hN).mp h' i l
  · obtain ⟨N, hN, e⟩ := SB_at (inpOf m) i
    rw [e]
    exact (AM_last_le h _ b N hN).mpr fun i' l => H _ _

end Cert.Quant

end
-- ==== Proof.Result.lean ====
module
public import proofs.«01_k».proof.Proof.Amax

/-! The result of every device is its block of columns of the reference's result. -/

@[expose] public section

noncomputable section

namespace Cert.Quant

open Idealize.ShloMosaic Idealize.ShloMosaic.TcCoe Idealize.ShloMosaic.ValueIdx
open Cert.KernelIdeal (nD τ main_arg0 main_arg1 S256x4096 S4096x512 S256x512 S1x256x512)
open Cert.ReferenceIdeal (S4096x4096 S4096x8192)
open Cert.KernelIdeal.Ring (inpOf XB BB AM SB OB OUT SC IV F8)

/-- An entry of a block quantised where it lands, and scaled back. -/
theorem pay17_at (sc iv : Ideal .f32) (v : FVec Ideal S1x256x512 .bf16) (i : Fin 256) (j : Fin 512) :
    (Cert.KernelIdeal.Gen.k0_pay17 (F := Ideal) sc iv v (ix2 i j) : EReal)
      = min (Ideal.ofBits .f32 0x43E00000#32) (max (Ideal.ofBits .f32 0xC3E00000#32) ((v (ix3 (0 : Fin 1) i j) : EReal) * iv)) * sc := by
  have e := shapeCast_1ab_ab_apply v Cert.KernelIdeal.Gen.shapeCasts_S1x256x512_S256x512 i j
  rw [← e]
  rfl

/-- An entry of a block quantised before it is sent. -/
theorem pay12_at (iv : Ideal .f32) (v : FVec Ideal S1x256x512 .bf16) (u : Fin 1) (i : Fin 256) (j : Fin 512) :
    (Cert.KernelIdeal.Gen.k0_pay12 (F := Ideal) iv v (ix3 u i j) : EReal)
      = min (Ideal.ofBits .f32 0x43E00000#32) (max (Ideal.ofBits .f32 0xC3E00000#32) ((v (ix3 (0 : Fin 1) i j) : EReal) * iv)) := by
  dsimp only [Cert.KernelIdeal.Gen.k0_pay12]
  refine (shapeCast_ab_1ab_apply _ Cert.KernelIdeal.Gen.shapeCasts_S256x512_S1x256x512 u i j).trans ?_
  have e := shapeCast_1ab_ab_apply v Cert.KernelIdeal.Gen.shapeCasts_S1x256x512_S256x512 i j
  rw [← e]
  rfl

/-- An entry of a quantised block scaled back. -/
theorem pay29_at (sc : Ideal .f32) (v : FVec Ideal S1x256x512 .fp8e4m3) (i : Fin 256) (j : Fin 512) :
    (Cert.KernelIdeal.Gen.k0_pay29 (F := Ideal) sc v (ix2 i j) : EReal) = (v (ix3 (0 : Fin 1) i j) : EReal) * sc := by
  have e := shapeCast_1ab_ab_apply v Cert.KernelIdeal.Gen.shapeCasts_S1x256x512_S256x512 i j
  rw [← e]
  rfl

/-- An entry of the reference's result. -/
theorem ref_at (a : FVec Ideal S4096x4096 .bf16) (w : FVec Ideal S4096x8192 .bf16) (r : Fin 4096) (l : Fin 8192) :
    (Cert.ReferenceIdeal.Gen.k0_pay1 (F := Ideal) a w (ix2 r l) : EReal)
      = min (Ideal.ofBits .f32 0x43E00000#32) (max (Ideal.ofBits .f32 0xC3E00000#32)
          (Ideal.div (Y a w r l) (Ideal.div (refMax a w) (Ideal.ofBits .f32 0x43E00000#32))))
        * Ideal.div (refMax a w) (Ideal.ofBits .f32 0x43E00000#32) := by
  rw [← refProd_at a w r l]
  rfl

/-- Division of one number by another. -/
theorem sdiv_eq (x y : Ideal .f32) : (Scalar.divf x y : EReal) = Ideal.div x y := rfl

/-- The number a pattern denotes. -/
theorem snum_eq (b : BitVec 32) : (Scalar.ofBits (F := Ideal) .f32 b : EReal) = Ideal.ofBits .f32 b := rfl

/-- The scale, from the buffer of maxima. -/
theorem pay4_eq (v : FVec Ideal Cert.KernelIdeal.S16x8x128 .f32) : (Cert.KernelIdeal.Gen.k0_pay4 (F := Ideal) v : EReal)
    = Ideal.div (Cert.KernelIdeal.Gen.k0_pay3 (F := Ideal) v) (Ideal.ofBits .f32 0x43E00000#32) := by
  rw [← snum_eq]; exact sdiv_eq _ _

/-- Its inverse, from the buffer of maxima. -/
theorem pay5_eq (v : FVec Ideal Cert.KernelIdeal.S16x8x128 .f32) : (Cert.KernelIdeal.Gen.k0_pay5 (F := Ideal) v : EReal)
    = Ideal.div (Ideal.ofBits .f32 0x43E00000#32) (Cert.KernelIdeal.Gen.k0_pay3 (F := Ideal) v) := by
  rw [← snum_eq]; exact sdiv_eq _ _

variable {m : (ℓ : Loc nD τ Cert.KernelIdeal.sig) → Buf (Elt Ideal) ℓ} {a : FVec Ideal S4096x4096 .bf16} {w : FVec Ideal S4096x8192 .bf16}

/-- The common scale is the reference's maximum over 448. -/
theorem SC_eq (h : Cut m a w) : (SC (inpOf m) : EReal) = Ideal.div (refMax a w) (Ideal.ofBits .f32 0x43E00000#32) := by
  rw [← max_eq h]; exact pay4_eq _

/-- The multiplier of the kernel is 448 over the reference's maximum. -/
theorem IV_eq (h : Cut m a w) : (IV (inpOf m) : EReal) = Ideal.div (Ideal.ofBits .f32 0x43E00000#32) (refMax a w) := by
  rw [← max_eq h]; exact pay5_eq _

/-- An entry of the block that device `c` has from device `n`. -/
theorem OB_at (h : Cut m a w) (c : Dev nD) (n : Fin 16) (i : Fin 256) (j : Fin 512) :
    (OB (inpOf m) c n (ix2 i j) : EReal) = Cert.ReferenceIdeal.Gen.k0_pay1 (F := Ideal) a w (ix2 (rowOf n i) (colOf c j)) := by
  have key : (OB (inpOf m) c n (ix2 i j) : EReal) = min (Ideal.ofBits .f32 0x43E00000#32) (max (Ideal.ofBits .f32 0xC3E00000#32)
      (Y a w (rowOf n i) (colOf c j) * IV (inpOf m))) * SC (inpOf m) := by
    unfold OB
    split
    · rw [pay17_at, BB_at h]
    · rw [pay29_at]
      unfold F8
      rw [pay12_at, BB_at h]
  rw [key, ref_at, SC_eq h, IV_eq h]
  exact clip_eq _ _ _ (refMax_nonneg a w)

/-- The result of device `c` is its block of columns of the reference's result. -/
theorem OUT_eq (h : Cut m a w) (c : Dev nD) :
    OUT (inpOf m) c = Layout.block ⟨2, ![4096, 512]⟩ ⟨2, ![4096, 8192]⟩ 1 16 c (Cert.ReferenceIdeal.Gen.k0_pay1 (F := Ideal) a w) := by
  funext (x : (⟨2, ![4096, 512]⟩ : Shape).Idx)
  obtain ⟨r, l, rfl⟩ := ex2 x
  have hr : r.val / 256 < 16 := by omega
  have hi : r.val % 256 < 256 := Nat.mod_lt _ (by decide)
  have e1 : OUT (inpOf m) c (ix2 r l) = OB (inpOf m) c ⟨r.val / 256, hr⟩ (ix2 ⟨r.val % 256, hi⟩ l) := by
    unfold OUT
    congr 1
    funext b
    match b with
    | ⟨0, _⟩ => rfl
    | ⟨1, _⟩ => rfl
  rw [e1]
  refine (OB_at h c _ _ _).trans ?_
  show Cert.ReferenceIdeal.Gen.k0_pay1 (F := Ideal) a w _ = Cert.ReferenceIdeal.Gen.k0_pay1 (F := Ideal) a w _
  congr 1
  funext b
  match b with
  | ⟨0, _⟩ => exact Fin.ext (show 256 * (r.val / 256) + r.val % 256 = r.val by omega)
  | ⟨1, _⟩ => exact Fin.ext (show 512 * c.val + l.val = c.val * 512 + l.val by omega)

end Cert.Quant

end
-- ==== Proof.Final.lean ====
module
public import proofs.«01_k».proof.Proof.Result
public import proofs.«01_k».proof.Proof.Launch
public import proofs.«01_k».proof.Defs

/-! The kernel and the reference end with one result. -/

@[expose] public section

noncomputable section

namespace Cert.Quant

open Idealize.ShloMosaic Idealize.ShloMosaic.TcCoe Idealize.SL.Sem

/-- Over the extended reals the kernel and the reference end with the same result, each device holding its block. -/
theorem algebraic : Cert.algebraic_KernelIdeal_ReferenceIdeal := by
  intro m g m' g' _ hm
  have h : Cut m (m' ((0 : Dev Cert.ReferenceIdeal.nD).tc.loc Cert.ReferenceIdeal.main_arg0)) (m' ((0 : Dev Cert.ReferenceIdeal.nD).tc.loc Cert.ReferenceIdeal.main_arg1)) := hm
  refine ⟨Cert.ReferenceIdeal.Gen.k0_pay1 (F := Ideal) (m' ((0 : Dev Cert.ReferenceIdeal.nD).tc.loc Cert.ReferenceIdeal.main_arg0))
    (m' ((0 : Dev Cert.ReferenceIdeal.nD).tc.loc Cert.ReferenceIdeal.main_arg1)), ?_, ?_⟩
  · exact (θ_run (Cert.KernelIdeal.defs (F := Ideal)) _ _).mono
      (fun _ H c => ⟨(H.1 c).2.2.trans (OUT_eq h c), (H.1 c).1, (H.1 c).2.1⟩) (Cert.KernelIdeal.Ring.run_main (F := Ideal) m g)
  · exact (θ_run (Cert.ReferenceIdeal.defs (F := Ideal)) _ _).mono (fun _ H => H 0) (Cert.ReferenceIdeal.Value.run (F := Ideal) m' g')

end Cert.Quant

end
-- ==== Proof.lean ====
module

public import proofs.«01_k».proof.Defs
public import proofs.«01_k».proof.Proof.Gen.ReferenceIdeal
public import proofs.«01_k».proof.Proof.Gen.ReferenceIdeal.Frame
public import proofs.«01_k».proof.Proof.Gen.ReferenceIdeal.Value
public import proofs.«01_k».proof.Proof.Frames
public import proofs.«01_k».proof.Proof.Final

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Twin.frame_kernel, Cert.Twin.frame_ideal, fun m ρ _ => Cert.ReferenceIdeal.Gen.frame m ρ, trivial,
  Cert.Quant.algebraic⟩

end Cert.Proof

end
